-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7)
      ∧ r.2.mem ((c.tc : Thread Cert.Kernel23.nD Cert.Kernel23.τ).loc Cert.Kernel23.main_arg8) = m ((c.tc : Thread Cert.Kernel23.nD Cert.Kernel23.τ).loc Cert.Kernel23.main_arg8)
      ∧ r.2.mem ((c.tc : Thread Cert.Kernel23.nD Cert.Kernel23.τ).loc Cert.Kernel23.main_arg9) = m ((c.tc : Thread Cert.Kernel23.nD Cert.Kernel23.τ).loc Cert.Kernel23.main_arg9)
      ∧ r.2.mem ((c.tc : Thread Cert.Kernel23.nD Cert.Kernel23.τ).loc Cert.Kernel23.main_arg10) = m ((c.tc : Thread Cert.Kernel23.nD Cert.Kernel23.τ).loc Cert.Kernel23.main_arg10)
      ∧ r.2.mem ((c.tc : Thread Cert.Kernel23.nD Cert.Kernel23.τ).loc Cert.Kernel23.main_arg11) = m ((c.tc : Thread Cert.Kernel23.nD Cert.Kernel23.τ).loc Cert.Kernel23.main_arg11)
      ∧ r.2.mem ((c.tc : Thread Cert.Kernel23.nD Cert.Kernel23.τ).loc Cert.Kernel23.main_arg12) = m ((c.tc : Thread Cert.Kernel23.nD Cert.Kernel23.τ).loc Cert.Kernel23.main_arg12)
      ∧ r.2.mem ((c.tc : Thread Cert.Kernel23.nD Cert.Kernel23.τ).loc Cert.Kernel23.main_arg13) = m ((c.tc : Thread Cert.Kernel23.nD Cert.Kernel23.τ).loc Cert.Kernel23.main_arg13)
      ∧ r.2.mem ((c.tc : Thread Cert.Kernel23.nD Cert.Kernel23.τ).loc Cert.Kernel23.main_arg14) = m ((c.tc : Thread Cert.Kernel23.nD Cert.Kernel23.τ).loc Cert.Kernel23.main_arg14)
      ∧ r.2.mem ((c.tc : Thread Cert.Kernel23.nD Cert.Kernel23.τ).loc Cert.Kernel23.main_arg15) = m ((c.tc : Thread Cert.Kernel23.nD Cert.Kernel23.τ).loc Cert.Kernel23.main_arg15)
      ∧ r.2.mem ((c.tc : Thread Cert.Kernel23.nD Cert.Kernel23.τ).loc Cert.Kernel23.main_arg16) = m ((c.tc : Thread Cert.Kernel23.nD Cert.Kernel23.τ).loc Cert.Kernel23.main_arg16)
      ∧ r.2.mem ((c.tc : Thread Cert.Kernel23.nD Cert.Kernel23.τ).loc Cert.Kernel23.main_arg17) = m ((c.tc : Thread Cert.Kernel23.nD Cert.Kernel23.τ).loc Cert.Kernel23.main_arg17)
      ∧ r.2.mem ((c.tc : Thread Cert.Kernel23.nD Cert.Kernel23.τ).loc Cert.Kernel23.main_arg18) = m ((c.tc : Thread Cert.Kernel23.nD Cert.Kernel23.τ).loc Cert.Kernel23.main_arg18)
      ∧ r.2.mem ((c.tc : Thread Cert.Kernel23.nD Cert.Kernel23.τ).loc Cert.Kernel23.main_arg19) = m ((c.tc : Thread Cert.Kernel23.nD Cert.Kernel23.τ).loc Cert.Kernel23.main_arg19)
      ∧ r.2.mem ((c.tc : Thread Cert.Kernel23.nD Cert.Kernel23.τ).loc Cert.Kernel23.main_arg20) = m ((c.tc : Thread Cert.Kernel23.nD Cert.Kernel23.τ).loc Cert.Kernel23.main_arg20)
      ∧ r.2.mem ((c.tc : Thread Cert.Kernel23.nD Cert.Kernel23.τ).loc Cert.Kernel23.main_arg21) = m ((c.tc : Thread Cert.Kernel23.nD Cert.Kernel23.τ).loc Cert.Kernel23.main_arg21)
      ∧ r.2.mem ((c.tc : Thread Cert.Kernel23.nD Cert.Kernel23.τ).loc Cert.Kernel23.main_arg22) = m ((c.tc : Thread Cert.Kernel23.nD Cert.Kernel23.τ).loc Cert.Kernel23.main_arg22)
      ∧ r.2.mem ((c.tc : Thread Cert.Kernel23.nD Cert.Kernel23.τ).loc Cert.Kernel23.main_arg23) = m ((c.tc : Thread Cert.Kernel23.nD Cert.Kernel23.τ).loc Cert.Kernel23.main_arg23)
      ∧ r.2.mem ((c.tc : Thread Cert.Kernel23.nD Cert.Kernel23.τ).loc Cert.Kernel23.main_arg24) = m ((c.tc : Thread Cert.Kernel23.nD Cert.Kernel23.τ).loc Cert.Kernel23.main_arg24)
      ∧ r.2.mem ((c.tc : Thread Cert.Kernel23.nD Cert.Kernel23.τ).loc Cert.Kernel23.main_arg25) = m ((c.tc : Thread Cert.Kernel23.nD Cert.Kernel23.τ).loc Cert.Kernel23.main_arg25)
      ∧ r.2.mem ((c.tc : Thread Cert.Kernel23.nD Cert.Kernel23.τ).loc Cert.Kernel23.main_arg26) = m ((c.tc : Thread Cert.Kernel23.nD Cert.Kernel23.τ).loc Cert.Kernel23.main_arg26)
      ∧ r.2.mem ((c.tc : Thread Cert.Kernel23.nD Cert.Kernel23.τ).loc Cert.Kernel23.main_arg27) = m ((c.tc : Thread Cert.Kernel23.nD Cert.Kernel23.τ).loc Cert.Kernel23.main_arg27))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
      ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
      ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
      ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
      ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
      ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
      ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
      ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
      ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
      ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
      ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
      ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
      ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
      ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
      ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
      ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
      ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
      ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
      ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
      ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
      ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7)
      ∧ r.2.mem ((c.tc : Thread Cert.Reference23Ideal.nD Cert.Reference23Ideal.τ).loc Cert.Reference23Ideal.main_arg8) = m ((c.tc : Thread Cert.Reference23Ideal.nD Cert.Reference23Ideal.τ).loc Cert.Reference23Ideal.main_arg8)
      ∧ r.2.mem ((c.tc : Thread Cert.Reference23Ideal.nD Cert.Reference23Ideal.τ).loc Cert.Reference23Ideal.main_arg9) = m ((c.tc : Thread Cert.Reference23Ideal.nD Cert.Reference23Ideal.τ).loc Cert.Reference23Ideal.main_arg9)
      ∧ r.2.mem ((c.tc : Thread Cert.Reference23Ideal.nD Cert.Reference23Ideal.τ).loc Cert.Reference23Ideal.main_arg10) = m ((c.tc : Thread Cert.Reference23Ideal.nD Cert.Reference23Ideal.τ).loc Cert.Reference23Ideal.main_arg10)
      ∧ r.2.mem ((c.tc : Thread Cert.Reference23Ideal.nD Cert.Reference23Ideal.τ).loc Cert.Reference23Ideal.main_arg11) = m ((c.tc : Thread Cert.Reference23Ideal.nD Cert.Reference23Ideal.τ).loc Cert.Reference23Ideal.main_arg11)
      ∧ r.2.mem ((c.tc : Thread Cert.Reference23Ideal.nD Cert.Reference23Ideal.τ).loc Cert.Reference23Ideal.main_arg12) = m ((c.tc : Thread Cert.Reference23Ideal.nD Cert.Reference23Ideal.τ).loc Cert.Reference23Ideal.main_arg12)
      ∧ r.2.mem ((c.tc : Thread Cert.Reference23Ideal.nD Cert.Reference23Ideal.τ).loc Cert.Reference23Ideal.main_arg13) = m ((c.tc : Thread Cert.Reference23Ideal.nD Cert.Reference23Ideal.τ).loc Cert.Reference23Ideal.main_arg13)
      ∧ r.2.mem ((c.tc : Thread Cert.Reference23Ideal.nD Cert.Reference23Ideal.τ).loc Cert.Reference23Ideal.main_arg14) = m ((c.tc : Thread Cert.Reference23Ideal.nD Cert.Reference23Ideal.τ).loc Cert.Reference23Ideal.main_arg14)
      ∧ r.2.mem ((c.tc : Thread Cert.Reference23Ideal.nD Cert.Reference23Ideal.τ).loc Cert.Reference23Ideal.main_arg15) = m ((c.tc : Thread Cert.Reference23Ideal.nD Cert.Reference23Ideal.τ).loc Cert.Reference23Ideal.main_arg15)
      ∧ r.2.mem ((c.tc : Thread Cert.Reference23Ideal.nD Cert.Reference23Ideal.τ).loc Cert.Reference23Ideal.main_arg16) = m ((c.tc : Thread Cert.Reference23Ideal.nD Cert.Reference23Ideal.τ).loc Cert.Reference23Ideal.main_arg16)
      ∧ r.2.mem ((c.tc : Thread Cert.Reference23Ideal.nD Cert.Reference23Ideal.τ).loc Cert.Reference23Ideal.main_arg17) = m ((c.tc : Thread Cert.Reference23Ideal.nD Cert.Reference23Ideal.τ).loc Cert.Reference23Ideal.main_arg17)
      ∧ r.2.mem ((c.tc : Thread Cert.Reference23Ideal.nD Cert.Reference23Ideal.τ).loc Cert.Reference23Ideal.main_arg18) = m ((c.tc : Thread Cert.Reference23Ideal.nD Cert.Reference23Ideal.τ).loc Cert.Reference23Ideal.main_arg18)
      ∧ r.2.mem ((c.tc : Thread Cert.Reference23Ideal.nD Cert.Reference23Ideal.τ).loc Cert.Reference23Ideal.main_arg19) = m ((c.tc : Thread Cert.Reference23Ideal.nD Cert.Reference23Ideal.τ).loc Cert.Reference23Ideal.main_arg19)
      ∧ r.2.mem ((c.tc : Thread Cert.Reference23Ideal.nD Cert.Reference23Ideal.τ).loc Cert.Reference23Ideal.main_arg20) = m ((c.tc : Thread Cert.Reference23Ideal.nD Cert.Reference23Ideal.τ).loc Cert.Reference23Ideal.main_arg20)
      ∧ r.2.mem ((c.tc : Thread Cert.Reference23Ideal.nD Cert.Reference23Ideal.τ).loc Cert.Reference23Ideal.main_arg21) = m ((c.tc : Thread Cert.Reference23Ideal.nD Cert.Reference23Ideal.τ).loc Cert.Reference23Ideal.main_arg21)
      ∧ r.2.mem ((c.tc : Thread Cert.Reference23Ideal.nD Cert.Reference23Ideal.τ).loc Cert.Reference23Ideal.main_arg22) = m ((c.tc : Thread Cert.Reference23Ideal.nD Cert.Reference23Ideal.τ).loc Cert.Reference23Ideal.main_arg22)
      ∧ r.2.mem ((c.tc : Thread Cert.Reference23Ideal.nD Cert.Reference23Ideal.τ).loc Cert.Reference23Ideal.main_arg23) = m ((c.tc : Thread Cert.Reference23Ideal.nD Cert.Reference23Ideal.τ).loc Cert.Reference23Ideal.main_arg23)
      ∧ r.2.mem ((c.tc : Thread Cert.Reference23Ideal.nD Cert.Reference23Ideal.τ).loc Cert.Reference23Ideal.main_arg24) = m ((c.tc : Thread Cert.Reference23Ideal.nD Cert.Reference23Ideal.τ).loc Cert.Reference23Ideal.main_arg24)
      ∧ r.2.mem ((c.tc : Thread Cert.Reference23Ideal.nD Cert.Reference23Ideal.τ).loc Cert.Reference23Ideal.main_arg25) = m ((c.tc : Thread Cert.Reference23Ideal.nD Cert.Reference23Ideal.τ).loc Cert.Reference23Ideal.main_arg25)
      ∧ r.2.mem ((c.tc : Thread Cert.Reference23Ideal.nD Cert.Reference23Ideal.τ).loc Cert.Reference23Ideal.main_arg26) = m ((c.tc : Thread Cert.Reference23Ideal.nD Cert.Reference23Ideal.τ).loc Cert.Reference23Ideal.main_arg26)
      ∧ r.2.mem ((c.tc : Thread Cert.Reference23Ideal.nD Cert.Reference23Ideal.τ).loc Cert.Reference23Ideal.main_arg27) = m ((c.tc : Thread Cert.Reference23Ideal.nD Cert.Reference23Ideal.τ).loc Cert.Reference23Ideal.main_arg27))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7)
      ∧ r.2.mem ((c.tc : Thread Cert.Kernel24.nD Cert.Kernel24.τ).loc Cert.Kernel24.main_arg8) = m ((c.tc : Thread Cert.Kernel24.nD Cert.Kernel24.τ).loc Cert.Kernel24.main_arg8)
      ∧ r.2.mem ((c.tc : Thread Cert.Kernel24.nD Cert.Kernel24.τ).loc Cert.Kernel24.main_arg9) = m ((c.tc : Thread Cert.Kernel24.nD Cert.Kernel24.τ).loc Cert.Kernel24.main_arg9)
      ∧ r.2.mem ((c.tc : Thread Cert.Kernel24.nD Cert.Kernel24.τ).loc Cert.Kernel24.main_arg10) = m ((c.tc : Thread Cert.Kernel24.nD Cert.Kernel24.τ).loc Cert.Kernel24.main_arg10)
      ∧ r.2.mem ((c.tc : Thread Cert.Kernel24.nD Cert.Kernel24.τ).loc Cert.Kernel24.main_arg11) = m ((c.tc : Thread Cert.Kernel24.nD Cert.Kernel24.τ).loc Cert.Kernel24.main_arg11)
      ∧ r.2.mem ((c.tc : Thread Cert.Kernel24.nD Cert.Kernel24.τ).loc Cert.Kernel24.main_arg12) = m ((c.tc : Thread Cert.Kernel24.nD Cert.Kernel24.τ).loc Cert.Kernel24.main_arg12)
      ∧ r.2.mem ((c.tc : Thread Cert.Kernel24.nD Cert.Kernel24.τ).loc Cert.Kernel24.main_arg13) = m ((c.tc : Thread Cert.Kernel24.nD Cert.Kernel24.τ).loc Cert.Kernel24.main_arg13)
      ∧ r.2.mem ((c.tc : Thread Cert.Kernel24.nD Cert.Kernel24.τ).loc Cert.Kernel24.main_arg14) = m ((c.tc : Thread Cert.Kernel24.nD Cert.Kernel24.τ).loc Cert.Kernel24.main_arg14)
      ∧ r.2.mem ((c.tc : Thread Cert.Kernel24.nD Cert.Kernel24.τ).loc Cert.Kernel24.main_arg15) = m ((c.tc : Thread Cert.Kernel24.nD Cert.Kernel24.τ).loc Cert.Kernel24.main_arg15)
      ∧ r.2.mem ((c.tc : Thread Cert.Kernel24.nD Cert.Kernel24.τ).loc Cert.Kernel24.main_arg16) = m ((c.tc : Thread Cert.Kernel24.nD Cert.Kernel24.τ).loc Cert.Kernel24.main_arg16)
      ∧ r.2.mem ((c.tc : Thread Cert.Kernel24.nD Cert.Kernel24.τ).loc Cert.Kernel24.main_arg17) = m ((c.tc : Thread Cert.Kernel24.nD Cert.Kernel24.τ).loc Cert.Kernel24.main_arg17)
      ∧ r.2.mem ((c.tc : Thread Cert.Kernel24.nD Cert.Kernel24.τ).loc Cert.Kernel24.main_arg18) = m ((c.tc : Thread Cert.Kernel24.nD Cert.Kernel24.τ).loc Cert.Kernel24.main_arg18)
      ∧ r.2.mem ((c.tc : Thread Cert.Kernel24.nD Cert.Kernel24.τ).loc Cert.Kernel24.main_arg19) = m ((c.tc : Thread Cert.Kernel24.nD Cert.Kernel24.τ).loc Cert.Kernel24.main_arg19)
      ∧ r.2.mem ((c.tc : Thread Cert.Kernel24.nD Cert.Kernel24.τ).loc Cert.Kernel24.main_arg20) = m ((c.tc : Thread Cert.Kernel24.nD Cert.Kernel24.τ).loc Cert.Kernel24.main_arg20)
      ∧ r.2.mem ((c.tc : Thread Cert.Kernel24.nD Cert.Kernel24.τ).loc Cert.Kernel24.main_arg21) = m ((c.tc : Thread Cert.Kernel24.nD Cert.Kernel24.τ).loc Cert.Kernel24.main_arg21)
      ∧ r.2.mem ((c.tc : Thread Cert.Kernel24.nD Cert.Kernel24.τ).loc Cert.Kernel24.main_arg22) = m ((c.tc : Thread Cert.Kernel24.nD Cert.Kernel24.τ).loc Cert.Kernel24.main_arg22)
      ∧ r.2.mem ((c.tc : Thread Cert.Kernel24.nD Cert.Kernel24.τ).loc Cert.Kernel24.main_arg23) = m ((c.tc : Thread Cert.Kernel24.nD Cert.Kernel24.τ).loc Cert.Kernel24.main_arg23)
      ∧ r.2.mem ((c.tc : Thread Cert.Kernel24.nD Cert.Kernel24.τ).loc Cert.Kernel24.main_arg24) = m ((c.tc : Thread Cert.Kernel24.nD Cert.Kernel24.τ).loc Cert.Kernel24.main_arg24)
      ∧ r.2.mem ((c.tc : Thread Cert.Kernel24.nD Cert.Kernel24.τ).loc Cert.Kernel24.main_arg25) = m ((c.tc : Thread Cert.Kernel24.nD Cert.Kernel24.τ).loc Cert.Kernel24.main_arg25)
      ∧ r.2.mem ((c.tc : Thread Cert.Kernel24.nD Cert.Kernel24.τ).loc Cert.Kernel24.main_arg26) = m ((c.tc : Thread Cert.Kernel24.nD Cert.Kernel24.τ).loc Cert.Kernel24.main_arg26)
      ∧ r.2.mem ((c.tc : Thread Cert.Kernel24.nD Cert.Kernel24.τ).loc Cert.Kernel24.main_arg27) = m ((c.tc : Thread Cert.Kernel24.nD Cert.Kernel24.τ).loc Cert.Kernel24.main_arg27)
      ∧ r.2.mem ((c.tc : Thread Cert.Kernel24.nD Cert.Kernel24.τ).loc Cert.Kernel24.main_arg28) = m ((c.tc : Thread Cert.Kernel24.nD Cert.Kernel24.τ).loc Cert.Kernel24.main_arg28)
      ∧ r.2.mem ((c.tc : Thread Cert.Kernel24.nD Cert.Kernel24.τ).loc Cert.Kernel24.main_arg29) = m ((c.tc : Thread Cert.Kernel24.nD Cert.Kernel24.τ).loc Cert.Kernel24.main_arg29)
      ∧ r.2.mem ((c.tc : Thread Cert.Kernel24.nD Cert.Kernel24.τ).loc Cert.Kernel24.main_arg30) = m ((c.tc : Thread Cert.Kernel24.nD Cert.Kernel24.τ).loc Cert.Kernel24.main_arg30))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
      ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
      ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
      ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
      ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
      ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
      ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
      ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
      ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
      ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
      ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
      ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
      ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
      ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
      ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
      ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
      ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
      ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
      ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
      ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
      ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27)
      ∧ r.2.mem ((c.tc : Thread Cert.Kernel24Ideal.nD Cert.Kernel24Ideal.τ).loc Cert.Kernel24Ideal.main_arg28) = m ((c.tc : Thread Cert.Kernel24Ideal.nD Cert.Kernel24Ideal.τ).loc Cert.Kernel24Ideal.main_arg28)
      ∧ r.2.mem ((c.tc : Thread Cert.Kernel24Ideal.nD Cert.Kernel24Ideal.τ).loc Cert.Kernel24Ideal.main_arg29) = m ((c.tc : Thread Cert.Kernel24Ideal.nD Cert.Kernel24Ideal.τ).loc Cert.Kernel24Ideal.main_arg29)
      ∧ r.2.mem ((c.tc : Thread Cert.Kernel24Ideal.nD Cert.Kernel24Ideal.τ).loc Cert.Kernel24Ideal.main_arg30) = m ((c.tc : Thread Cert.Kernel24Ideal.nD Cert.Kernel24Ideal.τ).loc Cert.Kernel24Ideal.main_arg30))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7)
      ∧ r.2.mem ((c.tc : Thread Cert.Reference24Ideal.nD Cert.Reference24Ideal.τ).loc Cert.Reference24Ideal.main_arg8) = m ((c.tc : Thread Cert.Reference24Ideal.nD Cert.Reference24Ideal.τ).loc Cert.Reference24Ideal.main_arg8)
      ∧ r.2.mem ((c.tc : Thread Cert.Reference24Ideal.nD Cert.Reference24Ideal.τ).loc Cert.Reference24Ideal.main_arg9) = m ((c.tc : Thread Cert.Reference24Ideal.nD Cert.Reference24Ideal.τ).loc Cert.Reference24Ideal.main_arg9)
      ∧ r.2.mem ((c.tc : Thread Cert.Reference24Ideal.nD Cert.Reference24Ideal.τ).loc Cert.Reference24Ideal.main_arg10) = m ((c.tc : Thread Cert.Reference24Ideal.nD Cert.Reference24Ideal.τ).loc Cert.Reference24Ideal.main_arg10)
      ∧ r.2.mem ((c.tc : Thread Cert.Reference24Ideal.nD Cert.Reference24Ideal.τ).loc Cert.Reference24Ideal.main_arg11) = m ((c.tc : Thread Cert.Reference24Ideal.nD Cert.Reference24Ideal.τ).loc Cert.Reference24Ideal.main_arg11)
      ∧ r.2.mem ((c.tc : Thread Cert.Reference24Ideal.nD Cert.Reference24Ideal.τ).loc Cert.Reference24Ideal.main_arg12) = m ((c.tc : Thread Cert.Reference24Ideal.nD Cert.Reference24Ideal.τ).loc Cert.Reference24Ideal.main_arg12)
      ∧ r.2.mem ((c.tc : Thread Cert.Reference24Ideal.nD Cert.Reference24Ideal.τ).loc Cert.Reference24Ideal.main_arg13) = m ((c.tc : Thread Cert.Reference24Ideal.nD Cert.Reference24Ideal.τ).loc Cert.Reference24Ideal.main_arg13)
      ∧ r.2.mem ((c.tc : Thread Cert.Reference24Ideal.nD Cert.Reference24Ideal.τ).loc Cert.Reference24Ideal.main_arg14) = m ((c.tc : Thread Cert.Reference24Ideal.nD Cert.Reference24Ideal.τ).loc Cert.Reference24Ideal.main_arg14)
      ∧ r.2.mem ((c.tc : Thread Cert.Reference24Ideal.nD Cert.Reference24Ideal.τ).loc Cert.Reference24Ideal.main_arg15) = m ((c.tc : Thread Cert.Reference24Ideal.nD Cert.Reference24Ideal.τ).loc Cert.Reference24Ideal.main_arg15)
      ∧ r.2.mem ((c.tc : Thread Cert.Reference24Ideal.nD Cert.Reference24Ideal.τ).loc Cert.Reference24Ideal.main_arg16) = m ((c.tc : Thread Cert.Reference24Ideal.nD Cert.Reference24Ideal.τ).loc Cert.Reference24Ideal.main_arg16)
      ∧ r.2.mem ((c.tc : Thread Cert.Reference24Ideal.nD Cert.Reference24Ideal.τ).loc Cert.Reference24Ideal.main_arg17) = m ((c.tc : Thread Cert.Reference24Ideal.nD Cert.Reference24Ideal.τ).loc Cert.Reference24Ideal.main_arg17)
      ∧ r.2.mem ((c.tc : Thread Cert.Reference24Ideal.nD Cert.Reference24Ideal.τ).loc Cert.Reference24Ideal.main_arg18) = m ((c.tc : Thread Cert.Reference24Ideal.nD Cert.Reference24Ideal.τ).loc Cert.Reference24Ideal.main_arg18)
      ∧ r.2.mem ((c.tc : Thread Cert.Reference24Ideal.nD Cert.Reference24Ideal.τ).loc Cert.Reference24Ideal.main_arg19) = m ((c.tc : Thread Cert.Reference24Ideal.nD Cert.Reference24Ideal.τ).loc Cert.Reference24Ideal.main_arg19)
      ∧ r.2.mem ((c.tc : Thread Cert.Reference24Ideal.nD Cert.Reference24Ideal.τ).loc Cert.Reference24Ideal.main_arg20) = m ((c.tc : Thread Cert.Reference24Ideal.nD Cert.Reference24Ideal.τ).loc Cert.Reference24Ideal.main_arg20)
      ∧ r.2.mem ((c.tc : Thread Cert.Reference24Ideal.nD Cert.Reference24Ideal.τ).loc Cert.Reference24Ideal.main_arg21) = m ((c.tc : Thread Cert.Reference24Ideal.nD Cert.Reference24Ideal.τ).loc Cert.Reference24Ideal.main_arg21)
      ∧ r.2.mem ((c.tc : Thread Cert.Reference24Ideal.nD Cert.Reference24Ideal.τ).loc Cert.Reference24Ideal.main_arg22) = m ((c.tc : Thread Cert.Reference24Ideal.nD Cert.Reference24Ideal.τ).loc Cert.Reference24Ideal.main_arg22)
      ∧ r.2.mem ((c.tc : Thread Cert.Reference24Ideal.nD Cert.Reference24Ideal.τ).loc Cert.Reference24Ideal.main_arg23) = m ((c.tc : Thread Cert.Reference24Ideal.nD Cert.Reference24Ideal.τ).loc Cert.Reference24Ideal.main_arg23)
      ∧ r.2.mem ((c.tc : Thread Cert.Reference24Ideal.nD Cert.Reference24Ideal.τ).loc Cert.Reference24Ideal.main_arg24) = m ((c.tc : Thread Cert.Reference24Ideal.nD Cert.Reference24Ideal.τ).loc Cert.Reference24Ideal.main_arg24)
      ∧ r.2.mem ((c.tc : Thread Cert.Reference24Ideal.nD Cert.Reference24Ideal.τ).loc Cert.Reference24Ideal.main_arg25) = m ((c.tc : Thread Cert.Reference24Ideal.nD Cert.Reference24Ideal.τ).loc Cert.Reference24Ideal.main_arg25)
      ∧ r.2.mem ((c.tc : Thread Cert.Reference24Ideal.nD Cert.Reference24Ideal.τ).loc Cert.Reference24Ideal.main_arg26) = m ((c.tc : Thread Cert.Reference24Ideal.nD Cert.Reference24Ideal.τ).loc Cert.Reference24Ideal.main_arg26)
      ∧ r.2.mem ((c.tc : Thread Cert.Reference24Ideal.nD Cert.Reference24Ideal.τ).loc Cert.Reference24Ideal.main_arg27) = m ((c.tc : Thread Cert.Reference24Ideal.nD Cert.Reference24Ideal.τ).loc Cert.Reference24Ideal.main_arg27)
      ∧ r.2.mem ((c.tc : Thread Cert.Reference24Ideal.nD Cert.Reference24Ideal.τ).loc Cert.Reference24Ideal.main_arg28) = m ((c.tc : Thread Cert.Reference24Ideal.nD Cert.Reference24Ideal.τ).loc Cert.Reference24Ideal.main_arg28)
      ∧ r.2.mem ((c.tc : Thread Cert.Reference24Ideal.nD Cert.Reference24Ideal.τ).loc Cert.Reference24Ideal.main_arg29) = m ((c.tc : Thread Cert.Reference24Ideal.nD Cert.Reference24Ideal.τ).loc Cert.Reference24Ideal.main_arg29)
      ∧ r.2.mem ((c.tc : Thread Cert.Reference24Ideal.nD Cert.Reference24Ideal.τ).loc Cert.Reference24Ideal.main_arg30) = m ((c.tc : Thread Cert.Reference24Ideal.nD Cert.Reference24Ideal.τ).loc Cert.Reference24Ideal.main_arg30))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)) (v3 : (c : Dev Cert.KernelIdeal.nD) → Buf (Elt Ideal) ((c.tc : Thread Cert.KernelIdeal.nD Cert.KernelIdeal.τ).loc Cert.KernelIdeal.main_v65_3)) (v4 : (c : Dev Cert.KernelIdeal.nD) → Buf (Elt Ideal) ((c.tc : Thread Cert.KernelIdeal.nD Cert.KernelIdeal.τ).loc Cert.KernelIdeal.main_v65_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_v65_3) = v3 c
          ∧ r.2.mem ((c.tc : Thread Cert.KernelIdeal.nD Cert.KernelIdeal.τ).loc Cert.KernelIdeal.main_v65_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v439) = v0 c
          ∧ r.2.mem ((c.tc : Thread Cert.ReferenceIdeal.nD Cert.ReferenceIdeal.τ).loc Cert.ReferenceIdeal.main_v443) = v1 c
          ∧ r.2.mem ((c.tc : Thread Cert.ReferenceIdeal.nD Cert.ReferenceIdeal.τ).loc Cert.ReferenceIdeal.main_v447) = v2 c
          ∧ r.2.mem ((c.tc : Thread Cert.ReferenceIdeal.nD Cert.ReferenceIdeal.τ).loc Cert.ReferenceIdeal.main_v451) = v3 c
          ∧ r.2.mem ((c.tc : Thread Cert.ReferenceIdeal.nD Cert.ReferenceIdeal.τ).loc Cert.ReferenceIdeal.main_v452) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v10) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v45) = v0 c
          ∧ r.2.mem ((c.tc : Thread Cert.Reference15Ideal.nD Cert.Reference15Ideal.τ).loc Cert.Reference15Ideal.main_v46) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v18) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_v25) = v1 c
          ∧ r.2.mem ((c.tc : Thread Cert.Reference21Ideal.nD Cert.Reference21Ideal.τ).loc Cert.Reference21Ideal.main_v6) = v2 c
          ∧ r.2.mem ((c.tc : Thread Cert.Reference21Ideal.nD Cert.Reference21Ideal.τ).loc Cert.Reference21Ideal.main_v12) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)) →
    ∃ (v0 : (c : Dev Cert.Kernel22Ideal.nD) → Buf (Elt Ideal) ((c.tc : Thread Cert.Kernel22Ideal.nD Cert.Kernel22Ideal.τ).loc Cert.Kernel22Ideal.main_v24_0)) (v1 : (c : Dev Cert.Kernel22Ideal.nD) → Buf (Elt Ideal) ((c.tc : Thread Cert.Kernel22Ideal.nD Cert.Kernel22Ideal.τ).loc Cert.Kernel22Ideal.main_v24_1)) (v2 : (c : Dev Cert.Kernel22Ideal.nD) → Buf (Elt Ideal) ((c.tc : Thread Cert.Kernel22Ideal.nD Cert.Kernel22Ideal.τ).loc Cert.Kernel22Ideal.main_v24_2)) (v3 : (c : Dev Cert.Kernel22Ideal.nD) → Buf (Elt Ideal) ((c.tc : Thread Cert.Kernel22Ideal.nD Cert.Kernel22Ideal.τ).loc Cert.Kernel22Ideal.main_v24_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v24_0) = v0 c
          ∧ r.2.mem ((c.tc : Thread Cert.Kernel22Ideal.nD Cert.Kernel22Ideal.τ).loc Cert.Kernel22Ideal.main_v24_1) = v1 c
          ∧ r.2.mem ((c.tc : Thread Cert.Kernel22Ideal.nD Cert.Kernel22Ideal.τ).loc Cert.Kernel22Ideal.main_v24_2) = v2 c
          ∧ r.2.mem ((c.tc : Thread Cert.Kernel22Ideal.nD Cert.Kernel22Ideal.τ).loc Cert.Kernel22Ideal.main_v24_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v24) = v0 c
          ∧ r.2.mem ((c.tc : Thread Cert.Reference22Ideal.nD Cert.Reference22Ideal.τ).loc Cert.Reference22Ideal.main_v48) = v1 c
          ∧ r.2.mem ((c.tc : Thread Cert.Reference22Ideal.nD Cert.Reference22Ideal.τ).loc Cert.Reference22Ideal.main_v29) = v2 c
          ∧ r.2.mem ((c.tc : Thread Cert.Reference22Ideal.nD Cert.Reference22Ideal.τ).loc Cert.Reference22Ideal.main_v35) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)
      ∧ m' ((c.tc : Thread Cert.Reference23Ideal.nD Cert.Reference23Ideal.τ).loc Cert.Reference23Ideal.main_arg8) = m ((c.tc : Thread Cert.Kernel23Ideal.nD Cert.Kernel23Ideal.τ).loc Cert.Kernel23Ideal.main_arg8)
      ∧ m' ((c.tc : Thread Cert.Reference23Ideal.nD Cert.Reference23Ideal.τ).loc Cert.Reference23Ideal.main_arg9) = m ((c.tc : Thread Cert.Kernel23Ideal.nD Cert.Kernel23Ideal.τ).loc Cert.Kernel23Ideal.main_arg9)
      ∧ m' ((c.tc : Thread Cert.Reference23Ideal.nD Cert.Reference23Ideal.τ).loc Cert.Reference23Ideal.main_arg10) = m ((c.tc : Thread Cert.Kernel23Ideal.nD Cert.Kernel23Ideal.τ).loc Cert.Kernel23Ideal.main_arg10)
      ∧ m' ((c.tc : Thread Cert.Reference23Ideal.nD Cert.Reference23Ideal.τ).loc Cert.Reference23Ideal.main_arg11) = m ((c.tc : Thread Cert.Kernel23Ideal.nD Cert.Kernel23Ideal.τ).loc Cert.Kernel23Ideal.main_arg11)
      ∧ m' ((c.tc : Thread Cert.Reference23Ideal.nD Cert.Reference23Ideal.τ).loc Cert.Reference23Ideal.main_arg12) = m ((c.tc : Thread Cert.Kernel23Ideal.nD Cert.Kernel23Ideal.τ).loc Cert.Kernel23Ideal.main_arg12)
      ∧ m' ((c.tc : Thread Cert.Reference23Ideal.nD Cert.Reference23Ideal.τ).loc Cert.Reference23Ideal.main_arg13) = m ((c.tc : Thread Cert.Kernel23Ideal.nD Cert.Kernel23Ideal.τ).loc Cert.Kernel23Ideal.main_arg13)
      ∧ m' ((c.tc : Thread Cert.Reference23Ideal.nD Cert.Reference23Ideal.τ).loc Cert.Reference23Ideal.main_arg14) = m ((c.tc : Thread Cert.Kernel23Ideal.nD Cert.Kernel23Ideal.τ).loc Cert.Kernel23Ideal.main_arg14)
      ∧ m' ((c.tc : Thread Cert.Reference23Ideal.nD Cert.Reference23Ideal.τ).loc Cert.Reference23Ideal.main_arg15) = m ((c.tc : Thread Cert.Kernel23Ideal.nD Cert.Kernel23Ideal.τ).loc Cert.Kernel23Ideal.main_arg15)
      ∧ m' ((c.tc : Thread Cert.Reference23Ideal.nD Cert.Reference23Ideal.τ).loc Cert.Reference23Ideal.main_arg16) = m ((c.tc : Thread Cert.Kernel23Ideal.nD Cert.Kernel23Ideal.τ).loc Cert.Kernel23Ideal.main_arg16)
      ∧ m' ((c.tc : Thread Cert.Reference23Ideal.nD Cert.Reference23Ideal.τ).loc Cert.Reference23Ideal.main_arg17) = m ((c.tc : Thread Cert.Kernel23Ideal.nD Cert.Kernel23Ideal.τ).loc Cert.Kernel23Ideal.main_arg17)
      ∧ m' ((c.tc : Thread Cert.Reference23Ideal.nD Cert.Reference23Ideal.τ).loc Cert.Reference23Ideal.main_arg18) = m ((c.tc : Thread Cert.Kernel23Ideal.nD Cert.Kernel23Ideal.τ).loc Cert.Kernel23Ideal.main_arg18)
      ∧ m' ((c.tc : Thread Cert.Reference23Ideal.nD Cert.Reference23Ideal.τ).loc Cert.Reference23Ideal.main_arg19) = m ((c.tc : Thread Cert.Kernel23Ideal.nD Cert.Kernel23Ideal.τ).loc Cert.Kernel23Ideal.main_arg19)
      ∧ m' ((c.tc : Thread Cert.Reference23Ideal.nD Cert.Reference23Ideal.τ).loc Cert.Reference23Ideal.main_arg20) = m ((c.tc : Thread Cert.Kernel23Ideal.nD Cert.Kernel23Ideal.τ).loc Cert.Kernel23Ideal.main_arg20)
      ∧ m' ((c.tc : Thread Cert.Reference23Ideal.nD Cert.Reference23Ideal.τ).loc Cert.Reference23Ideal.main_arg21) = m ((c.tc : Thread Cert.Kernel23Ideal.nD Cert.Kernel23Ideal.τ).loc Cert.Kernel23Ideal.main_arg21)
      ∧ m' ((c.tc : Thread Cert.Reference23Ideal.nD Cert.Reference23Ideal.τ).loc Cert.Reference23Ideal.main_arg22) = m ((c.tc : Thread Cert.Kernel23Ideal.nD Cert.Kernel23Ideal.τ).loc Cert.Kernel23Ideal.main_arg22)
      ∧ m' ((c.tc : Thread Cert.Reference23Ideal.nD Cert.Reference23Ideal.τ).loc Cert.Reference23Ideal.main_arg23) = m ((c.tc : Thread Cert.Kernel23Ideal.nD Cert.Kernel23Ideal.τ).loc Cert.Kernel23Ideal.main_arg23)
      ∧ m' ((c.tc : Thread Cert.Reference23Ideal.nD Cert.Reference23Ideal.τ).loc Cert.Reference23Ideal.main_arg24) = m ((c.tc : Thread Cert.Kernel23Ideal.nD Cert.Kernel23Ideal.τ).loc Cert.Kernel23Ideal.main_arg24)
      ∧ m' ((c.tc : Thread Cert.Reference23Ideal.nD Cert.Reference23Ideal.τ).loc Cert.Reference23Ideal.main_arg25) = m ((c.tc : Thread Cert.Kernel23Ideal.nD Cert.Kernel23Ideal.τ).loc Cert.Kernel23Ideal.main_arg25)
      ∧ m' ((c.tc : Thread Cert.Reference23Ideal.nD Cert.Reference23Ideal.τ).loc Cert.Reference23Ideal.main_arg26) = m ((c.tc : Thread Cert.Kernel23Ideal.nD Cert.Kernel23Ideal.τ).loc Cert.Kernel23Ideal.main_arg26)
      ∧ m' ((c.tc : Thread Cert.Reference23Ideal.nD Cert.Reference23Ideal.τ).loc Cert.Reference23Ideal.main_arg27) = m ((c.tc : Thread Cert.Kernel23Ideal.nD Cert.Kernel23Ideal.τ).loc Cert.Kernel23Ideal.main_arg27)) →
    ∃ (v0 : (c : Dev Cert.Kernel23Ideal.nD) → Buf (Elt Ideal) ((c.tc : Thread Cert.Kernel23Ideal.nD Cert.Kernel23Ideal.τ).loc Cert.Kernel23Ideal.main_v15_0)) (v1 : (c : Dev Cert.Kernel23Ideal.nD) → Buf (Elt Ideal) ((c.tc : Thread Cert.Kernel23Ideal.nD Cert.Kernel23Ideal.τ).loc Cert.Kernel23Ideal.main_v15_1)) (v2 : (c : Dev Cert.Kernel23Ideal.nD) → Buf (Elt Ideal) ((c.tc : Thread Cert.Kernel23Ideal.nD Cert.Kernel23Ideal.τ).loc Cert.Kernel23Ideal.main_v15_2)) (v3 : (c : Dev Cert.Kernel23Ideal.nD) → Buf (Elt Ideal) ((c.tc : Thread Cert.Kernel23Ideal.nD Cert.Kernel23Ideal.τ).loc Cert.Kernel23Ideal.main_v15_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v15_0) = v0 c
          ∧ r.2.mem ((c.tc : Thread Cert.Kernel23Ideal.nD Cert.Kernel23Ideal.τ).loc Cert.Kernel23Ideal.main_v15_1) = v1 c
          ∧ r.2.mem ((c.tc : Thread Cert.Kernel23Ideal.nD Cert.Kernel23Ideal.τ).loc Cert.Kernel23Ideal.main_v15_2) = v2 c
          ∧ r.2.mem ((c.tc : Thread Cert.Kernel23Ideal.nD Cert.Kernel23Ideal.τ).loc Cert.Kernel23Ideal.main_v15_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7)
          ∧ r.2.mem ((c.tc : Thread Cert.Kernel23Ideal.nD Cert.Kernel23Ideal.τ).loc Cert.Kernel23Ideal.main_arg8) = m ((c.tc : Thread Cert.Kernel23Ideal.nD Cert.Kernel23Ideal.τ).loc Cert.Kernel23Ideal.main_arg8)
          ∧ r.2.mem ((c.tc : Thread Cert.Kernel23Ideal.nD Cert.Kernel23Ideal.τ).loc Cert.Kernel23Ideal.main_arg9) = m ((c.tc : Thread Cert.Kernel23Ideal.nD Cert.Kernel23Ideal.τ).loc Cert.Kernel23Ideal.main_arg9)
          ∧ r.2.mem ((c.tc : Thread Cert.Kernel23Ideal.nD Cert.Kernel23Ideal.τ).loc Cert.Kernel23Ideal.main_arg10) = m ((c.tc : Thread Cert.Kernel23Ideal.nD Cert.Kernel23Ideal.τ).loc Cert.Kernel23Ideal.main_arg10)
          ∧ r.2.mem ((c.tc : Thread Cert.Kernel23Ideal.nD Cert.Kernel23Ideal.τ).loc Cert.Kernel23Ideal.main_arg11) = m ((c.tc : Thread Cert.Kernel23Ideal.nD Cert.Kernel23Ideal.τ).loc Cert.Kernel23Ideal.main_arg11)
          ∧ r.2.mem ((c.tc : Thread Cert.Kernel23Ideal.nD Cert.Kernel23Ideal.τ).loc Cert.Kernel23Ideal.main_arg12) = m ((c.tc : Thread Cert.Kernel23Ideal.nD Cert.Kernel23Ideal.τ).loc Cert.Kernel23Ideal.main_arg12)
          ∧ r.2.mem ((c.tc : Thread Cert.Kernel23Ideal.nD Cert.Kernel23Ideal.τ).loc Cert.Kernel23Ideal.main_arg13) = m ((c.tc : Thread Cert.Kernel23Ideal.nD Cert.Kernel23Ideal.τ).loc Cert.Kernel23Ideal.main_arg13)
          ∧ r.2.mem ((c.tc : Thread Cert.Kernel23Ideal.nD Cert.Kernel23Ideal.τ).loc Cert.Kernel23Ideal.main_arg14) = m ((c.tc : Thread Cert.Kernel23Ideal.nD Cert.Kernel23Ideal.τ).loc Cert.Kernel23Ideal.main_arg14)
          ∧ r.2.mem ((c.tc : Thread Cert.Kernel23Ideal.nD Cert.Kernel23Ideal.τ).loc Cert.Kernel23Ideal.main_arg15) = m ((c.tc : Thread Cert.Kernel23Ideal.nD Cert.Kernel23Ideal.τ).loc Cert.Kernel23Ideal.main_arg15)
          ∧ r.2.mem ((c.tc : Thread Cert.Kernel23Ideal.nD Cert.Kernel23Ideal.τ).loc Cert.Kernel23Ideal.main_arg16) = m ((c.tc : Thread Cert.Kernel23Ideal.nD Cert.Kernel23Ideal.τ).loc Cert.Kernel23Ideal.main_arg16)
          ∧ r.2.mem ((c.tc : Thread Cert.Kernel23Ideal.nD Cert.Kernel23Ideal.τ).loc Cert.Kernel23Ideal.main_arg17) = m ((c.tc : Thread Cert.Kernel23Ideal.nD Cert.Kernel23Ideal.τ).loc Cert.Kernel23Ideal.main_arg17)
          ∧ r.2.mem ((c.tc : Thread Cert.Kernel23Ideal.nD Cert.Kernel23Ideal.τ).loc Cert.Kernel23Ideal.main_arg18) = m ((c.tc : Thread Cert.Kernel23Ideal.nD Cert.Kernel23Ideal.τ).loc Cert.Kernel23Ideal.main_arg18)
          ∧ r.2.mem ((c.tc : Thread Cert.Kernel23Ideal.nD Cert.Kernel23Ideal.τ).loc Cert.Kernel23Ideal.main_arg19) = m ((c.tc : Thread Cert.Kernel23Ideal.nD Cert.Kernel23Ideal.τ).loc Cert.Kernel23Ideal.main_arg19)
          ∧ r.2.mem ((c.tc : Thread Cert.Kernel23Ideal.nD Cert.Kernel23Ideal.τ).loc Cert.Kernel23Ideal.main_arg20) = m ((c.tc : Thread Cert.Kernel23Ideal.nD Cert.Kernel23Ideal.τ).loc Cert.Kernel23Ideal.main_arg20)
          ∧ r.2.mem ((c.tc : Thread Cert.Kernel23Ideal.nD Cert.Kernel23Ideal.τ).loc Cert.Kernel23Ideal.main_arg21) = m ((c.tc : Thread Cert.Kernel23Ideal.nD Cert.Kernel23Ideal.τ).loc Cert.Kernel23Ideal.main_arg21)
          ∧ r.2.mem ((c.tc : Thread Cert.Kernel23Ideal.nD Cert.Kernel23Ideal.τ).loc Cert.Kernel23Ideal.main_arg22) = m ((c.tc : Thread Cert.Kernel23Ideal.nD Cert.Kernel23Ideal.τ).loc Cert.Kernel23Ideal.main_arg22)
          ∧ r.2.mem ((c.tc : Thread Cert.Kernel23Ideal.nD Cert.Kernel23Ideal.τ).loc Cert.Kernel23Ideal.main_arg23) = m ((c.tc : Thread Cert.Kernel23Ideal.nD Cert.Kernel23Ideal.τ).loc Cert.Kernel23Ideal.main_arg23)
          ∧ r.2.mem ((c.tc : Thread Cert.Kernel23Ideal.nD Cert.Kernel23Ideal.τ).loc Cert.Kernel23Ideal.main_arg24) = m ((c.tc : Thread Cert.Kernel23Ideal.nD Cert.Kernel23Ideal.τ).loc Cert.Kernel23Ideal.main_arg24)
          ∧ r.2.mem ((c.tc : Thread Cert.Kernel23Ideal.nD Cert.Kernel23Ideal.τ).loc Cert.Kernel23Ideal.main_arg25) = m ((c.tc : Thread Cert.Kernel23Ideal.nD Cert.Kernel23Ideal.τ).loc Cert.Kernel23Ideal.main_arg25)
          ∧ r.2.mem ((c.tc : Thread Cert.Kernel23Ideal.nD Cert.Kernel23Ideal.τ).loc Cert.Kernel23Ideal.main_arg26) = m ((c.tc : Thread Cert.Kernel23Ideal.nD Cert.Kernel23Ideal.τ).loc Cert.Kernel23Ideal.main_arg26)
          ∧ r.2.mem ((c.tc : Thread Cert.Kernel23Ideal.nD Cert.Kernel23Ideal.τ).loc Cert.Kernel23Ideal.main_arg27) = m ((c.tc : Thread Cert.Kernel23Ideal.nD Cert.Kernel23Ideal.τ).loc Cert.Kernel23Ideal.main_arg27))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v15) = v0 c
          ∧ r.2.mem ((c.tc : Thread Cert.Reference23Ideal.nD Cert.Reference23Ideal.τ).loc Cert.Reference23Ideal.main_v39) = v1 c
          ∧ r.2.mem ((c.tc : Thread Cert.Reference23Ideal.nD Cert.Reference23Ideal.τ).loc Cert.Reference23Ideal.main_v20) = v2 c
          ∧ r.2.mem ((c.tc : Thread Cert.Reference23Ideal.nD Cert.Reference23Ideal.τ).loc Cert.Reference23Ideal.main_v26) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7)
          ∧ r.2.mem ((c.tc : Thread Cert.Reference23Ideal.nD Cert.Reference23Ideal.τ).loc Cert.Reference23Ideal.main_arg8) = m' ((c.tc : Thread Cert.Reference23Ideal.nD Cert.Reference23Ideal.τ).loc Cert.Reference23Ideal.main_arg8)
          ∧ r.2.mem ((c.tc : Thread Cert.Reference23Ideal.nD Cert.Reference23Ideal.τ).loc Cert.Reference23Ideal.main_arg9) = m' ((c.tc : Thread Cert.Reference23Ideal.nD Cert.Reference23Ideal.τ).loc Cert.Reference23Ideal.main_arg9)
          ∧ r.2.mem ((c.tc : Thread Cert.Reference23Ideal.nD Cert.Reference23Ideal.τ).loc Cert.Reference23Ideal.main_arg10) = m' ((c.tc : Thread Cert.Reference23Ideal.nD Cert.Reference23Ideal.τ).loc Cert.Reference23Ideal.main_arg10)
          ∧ r.2.mem ((c.tc : Thread Cert.Reference23Ideal.nD Cert.Reference23Ideal.τ).loc Cert.Reference23Ideal.main_arg11) = m' ((c.tc : Thread Cert.Reference23Ideal.nD Cert.Reference23Ideal.τ).loc Cert.Reference23Ideal.main_arg11)
          ∧ r.2.mem ((c.tc : Thread Cert.Reference23Ideal.nD Cert.Reference23Ideal.τ).loc Cert.Reference23Ideal.main_arg12) = m' ((c.tc : Thread Cert.Reference23Ideal.nD Cert.Reference23Ideal.τ).loc Cert.Reference23Ideal.main_arg12)
          ∧ r.2.mem ((c.tc : Thread Cert.Reference23Ideal.nD Cert.Reference23Ideal.τ).loc Cert.Reference23Ideal.main_arg13) = m' ((c.tc : Thread Cert.Reference23Ideal.nD Cert.Reference23Ideal.τ).loc Cert.Reference23Ideal.main_arg13)
          ∧ r.2.mem ((c.tc : Thread Cert.Reference23Ideal.nD Cert.Reference23Ideal.τ).loc Cert.Reference23Ideal.main_arg14) = m' ((c.tc : Thread Cert.Reference23Ideal.nD Cert.Reference23Ideal.τ).loc Cert.Reference23Ideal.main_arg14)
          ∧ r.2.mem ((c.tc : Thread Cert.Reference23Ideal.nD Cert.Reference23Ideal.τ).loc Cert.Reference23Ideal.main_arg15) = m' ((c.tc : Thread Cert.Reference23Ideal.nD Cert.Reference23Ideal.τ).loc Cert.Reference23Ideal.main_arg15)
          ∧ r.2.mem ((c.tc : Thread Cert.Reference23Ideal.nD Cert.Reference23Ideal.τ).loc Cert.Reference23Ideal.main_arg16) = m' ((c.tc : Thread Cert.Reference23Ideal.nD Cert.Reference23Ideal.τ).loc Cert.Reference23Ideal.main_arg16)
          ∧ r.2.mem ((c.tc : Thread Cert.Reference23Ideal.nD Cert.Reference23Ideal.τ).loc Cert.Reference23Ideal.main_arg17) = m' ((c.tc : Thread Cert.Reference23Ideal.nD Cert.Reference23Ideal.τ).loc Cert.Reference23Ideal.main_arg17)
          ∧ r.2.mem ((c.tc : Thread Cert.Reference23Ideal.nD Cert.Reference23Ideal.τ).loc Cert.Reference23Ideal.main_arg18) = m' ((c.tc : Thread Cert.Reference23Ideal.nD Cert.Reference23Ideal.τ).loc Cert.Reference23Ideal.main_arg18)
          ∧ r.2.mem ((c.tc : Thread Cert.Reference23Ideal.nD Cert.Reference23Ideal.τ).loc Cert.Reference23Ideal.main_arg19) = m' ((c.tc : Thread Cert.Reference23Ideal.nD Cert.Reference23Ideal.τ).loc Cert.Reference23Ideal.main_arg19)
          ∧ r.2.mem ((c.tc : Thread Cert.Reference23Ideal.nD Cert.Reference23Ideal.τ).loc Cert.Reference23Ideal.main_arg20) = m' ((c.tc : Thread Cert.Reference23Ideal.nD Cert.Reference23Ideal.τ).loc Cert.Reference23Ideal.main_arg20)
          ∧ r.2.mem ((c.tc : Thread Cert.Reference23Ideal.nD Cert.Reference23Ideal.τ).loc Cert.Reference23Ideal.main_arg21) = m' ((c.tc : Thread Cert.Reference23Ideal.nD Cert.Reference23Ideal.τ).loc Cert.Reference23Ideal.main_arg21)
          ∧ r.2.mem ((c.tc : Thread Cert.Reference23Ideal.nD Cert.Reference23Ideal.τ).loc Cert.Reference23Ideal.main_arg22) = m' ((c.tc : Thread Cert.Reference23Ideal.nD Cert.Reference23Ideal.τ).loc Cert.Reference23Ideal.main_arg22)
          ∧ r.2.mem ((c.tc : Thread Cert.Reference23Ideal.nD Cert.Reference23Ideal.τ).loc Cert.Reference23Ideal.main_arg23) = m' ((c.tc : Thread Cert.Reference23Ideal.nD Cert.Reference23Ideal.τ).loc Cert.Reference23Ideal.main_arg23)
          ∧ r.2.mem ((c.tc : Thread Cert.Reference23Ideal.nD Cert.Reference23Ideal.τ).loc Cert.Reference23Ideal.main_arg24) = m' ((c.tc : Thread Cert.Reference23Ideal.nD Cert.Reference23Ideal.τ).loc Cert.Reference23Ideal.main_arg24)
          ∧ r.2.mem ((c.tc : Thread Cert.Reference23Ideal.nD Cert.Reference23Ideal.τ).loc Cert.Reference23Ideal.main_arg25) = m' ((c.tc : Thread Cert.Reference23Ideal.nD Cert.Reference23Ideal.τ).loc Cert.Reference23Ideal.main_arg25)
          ∧ r.2.mem ((c.tc : Thread Cert.Reference23Ideal.nD Cert.Reference23Ideal.τ).loc Cert.Reference23Ideal.main_arg26) = m' ((c.tc : Thread Cert.Reference23Ideal.nD Cert.Reference23Ideal.τ).loc Cert.Reference23Ideal.main_arg26)
          ∧ r.2.mem ((c.tc : Thread Cert.Reference23Ideal.nD Cert.Reference23Ideal.τ).loc Cert.Reference23Ideal.main_arg27) = m' ((c.tc : Thread Cert.Reference23Ideal.nD Cert.Reference23Ideal.τ).loc Cert.Reference23Ideal.main_arg27))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)
      ∧ m' ((c.tc : Thread Cert.Reference24Ideal.nD Cert.Reference24Ideal.τ).loc Cert.Reference24Ideal.main_arg8) = m ((c.tc : Thread Cert.Kernel24Ideal.nD Cert.Kernel24Ideal.τ).loc Cert.Kernel24Ideal.main_arg8)
      ∧ m' ((c.tc : Thread Cert.Reference24Ideal.nD Cert.Reference24Ideal.τ).loc Cert.Reference24Ideal.main_arg9) = m ((c.tc : Thread Cert.Kernel24Ideal.nD Cert.Kernel24Ideal.τ).loc Cert.Kernel24Ideal.main_arg9)
      ∧ m' ((c.tc : Thread Cert.Reference24Ideal.nD Cert.Reference24Ideal.τ).loc Cert.Reference24Ideal.main_arg10) = m ((c.tc : Thread Cert.Kernel24Ideal.nD Cert.Kernel24Ideal.τ).loc Cert.Kernel24Ideal.main_arg10)
      ∧ m' ((c.tc : Thread Cert.Reference24Ideal.nD Cert.Reference24Ideal.τ).loc Cert.Reference24Ideal.main_arg11) = m ((c.tc : Thread Cert.Kernel24Ideal.nD Cert.Kernel24Ideal.τ).loc Cert.Kernel24Ideal.main_arg11)
      ∧ m' ((c.tc : Thread Cert.Reference24Ideal.nD Cert.Reference24Ideal.τ).loc Cert.Reference24Ideal.main_arg12) = m ((c.tc : Thread Cert.Kernel24Ideal.nD Cert.Kernel24Ideal.τ).loc Cert.Kernel24Ideal.main_arg12)
      ∧ m' ((c.tc : Thread Cert.Reference24Ideal.nD Cert.Reference24Ideal.τ).loc Cert.Reference24Ideal.main_arg13) = m ((c.tc : Thread Cert.Kernel24Ideal.nD Cert.Kernel24Ideal.τ).loc Cert.Kernel24Ideal.main_arg13)
      ∧ m' ((c.tc : Thread Cert.Reference24Ideal.nD Cert.Reference24Ideal.τ).loc Cert.Reference24Ideal.main_arg14) = m ((c.tc : Thread Cert.Kernel24Ideal.nD Cert.Kernel24Ideal.τ).loc Cert.Kernel24Ideal.main_arg14)
      ∧ m' ((c.tc : Thread Cert.Reference24Ideal.nD Cert.Reference24Ideal.τ).loc Cert.Reference24Ideal.main_arg15) = m ((c.tc : Thread Cert.Kernel24Ideal.nD Cert.Kernel24Ideal.τ).loc Cert.Kernel24Ideal.main_arg15)
      ∧ m' ((c.tc : Thread Cert.Reference24Ideal.nD Cert.Reference24Ideal.τ).loc Cert.Reference24Ideal.main_arg16) = m ((c.tc : Thread Cert.Kernel24Ideal.nD Cert.Kernel24Ideal.τ).loc Cert.Kernel24Ideal.main_arg16)
      ∧ m' ((c.tc : Thread Cert.Reference24Ideal.nD Cert.Reference24Ideal.τ).loc Cert.Reference24Ideal.main_arg17) = m ((c.tc : Thread Cert.Kernel24Ideal.nD Cert.Kernel24Ideal.τ).loc Cert.Kernel24Ideal.main_arg17)
      ∧ m' ((c.tc : Thread Cert.Reference24Ideal.nD Cert.Reference24Ideal.τ).loc Cert.Reference24Ideal.main_arg18) = m ((c.tc : Thread Cert.Kernel24Ideal.nD Cert.Kernel24Ideal.τ).loc Cert.Kernel24Ideal.main_arg18)
      ∧ m' ((c.tc : Thread Cert.Reference24Ideal.nD Cert.Reference24Ideal.τ).loc Cert.Reference24Ideal.main_arg19) = m ((c.tc : Thread Cert.Kernel24Ideal.nD Cert.Kernel24Ideal.τ).loc Cert.Kernel24Ideal.main_arg19)
      ∧ m' ((c.tc : Thread Cert.Reference24Ideal.nD Cert.Reference24Ideal.τ).loc Cert.Reference24Ideal.main_arg20) = m ((c.tc : Thread Cert.Kernel24Ideal.nD Cert.Kernel24Ideal.τ).loc Cert.Kernel24Ideal.main_arg20)
      ∧ m' ((c.tc : Thread Cert.Reference24Ideal.nD Cert.Reference24Ideal.τ).loc Cert.Reference24Ideal.main_arg21) = m ((c.tc : Thread Cert.Kernel24Ideal.nD Cert.Kernel24Ideal.τ).loc Cert.Kernel24Ideal.main_arg21)
      ∧ m' ((c.tc : Thread Cert.Reference24Ideal.nD Cert.Reference24Ideal.τ).loc Cert.Reference24Ideal.main_arg22) = m ((c.tc : Thread Cert.Kernel24Ideal.nD Cert.Kernel24Ideal.τ).loc Cert.Kernel24Ideal.main_arg22)
      ∧ m' ((c.tc : Thread Cert.Reference24Ideal.nD Cert.Reference24Ideal.τ).loc Cert.Reference24Ideal.main_arg23) = m ((c.tc : Thread Cert.Kernel24Ideal.nD Cert.Kernel24Ideal.τ).loc Cert.Kernel24Ideal.main_arg23)
      ∧ m' ((c.tc : Thread Cert.Reference24Ideal.nD Cert.Reference24Ideal.τ).loc Cert.Reference24Ideal.main_arg24) = m ((c.tc : Thread Cert.Kernel24Ideal.nD Cert.Kernel24Ideal.τ).loc Cert.Kernel24Ideal.main_arg24)
      ∧ m' ((c.tc : Thread Cert.Reference24Ideal.nD Cert.Reference24Ideal.τ).loc Cert.Reference24Ideal.main_arg25) = m ((c.tc : Thread Cert.Kernel24Ideal.nD Cert.Kernel24Ideal.τ).loc Cert.Kernel24Ideal.main_arg25)
      ∧ m' ((c.tc : Thread Cert.Reference24Ideal.nD Cert.Reference24Ideal.τ).loc Cert.Reference24Ideal.main_arg26) = m ((c.tc : Thread Cert.Kernel24Ideal.nD Cert.Kernel24Ideal.τ).loc Cert.Kernel24Ideal.main_arg26)
      ∧ m' ((c.tc : Thread Cert.Reference24Ideal.nD Cert.Reference24Ideal.τ).loc Cert.Reference24Ideal.main_arg27) = m ((c.tc : Thread Cert.Kernel24Ideal.nD Cert.Kernel24Ideal.τ).loc Cert.Kernel24Ideal.main_arg27)
      ∧ m' ((c.tc : Thread Cert.Reference24Ideal.nD Cert.Reference24Ideal.τ).loc Cert.Reference24Ideal.main_arg28) = m ((c.tc : Thread Cert.Kernel24Ideal.nD Cert.Kernel24Ideal.τ).loc Cert.Kernel24Ideal.main_arg28)
      ∧ m' ((c.tc : Thread Cert.Reference24Ideal.nD Cert.Reference24Ideal.τ).loc Cert.Reference24Ideal.main_arg29) = m ((c.tc : Thread Cert.Kernel24Ideal.nD Cert.Kernel24Ideal.τ).loc Cert.Kernel24Ideal.main_arg29)
      ∧ m' ((c.tc : Thread Cert.Reference24Ideal.nD Cert.Reference24Ideal.τ).loc Cert.Reference24Ideal.main_arg30) = m ((c.tc : Thread Cert.Kernel24Ideal.nD Cert.Kernel24Ideal.τ).loc Cert.Kernel24Ideal.main_arg30)) →
    ∃ (v0 : (c : Dev Cert.Kernel24Ideal.nD) → Buf (Elt Ideal) ((c.tc : Thread Cert.Kernel24Ideal.nD Cert.Kernel24Ideal.τ).loc Cert.Kernel24Ideal.main_v9_0)) (v1 : (c : Dev Cert.Kernel24Ideal.nD) → Buf (Elt Ideal) ((c.tc : Thread Cert.Kernel24Ideal.nD Cert.Kernel24Ideal.τ).loc Cert.Kernel24Ideal.main_v9_1)) (v2 : (c : Dev Cert.Kernel24Ideal.nD) → Buf (Elt Ideal) ((c.tc : Thread Cert.Kernel24Ideal.nD Cert.Kernel24Ideal.τ).loc Cert.Kernel24Ideal.main_v9_2)) (v3 : (c : Dev Cert.Kernel24Ideal.nD) → Buf (Elt Ideal) ((c.tc : Thread Cert.Kernel24Ideal.nD Cert.Kernel24Ideal.τ).loc Cert.Kernel24Ideal.main_v9_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v9_0) = v0 c
          ∧ r.2.mem ((c.tc : Thread Cert.Kernel24Ideal.nD Cert.Kernel24Ideal.τ).loc Cert.Kernel24Ideal.main_v9_1) = v1 c
          ∧ r.2.mem ((c.tc : Thread Cert.Kernel24Ideal.nD Cert.Kernel24Ideal.τ).loc Cert.Kernel24Ideal.main_v9_2) = v2 c
          ∧ r.2.mem ((c.tc : Thread Cert.Kernel24Ideal.nD Cert.Kernel24Ideal.τ).loc Cert.Kernel24Ideal.main_v9_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7)
          ∧ r.2.mem ((c.tc : Thread Cert.Kernel24Ideal.nD Cert.Kernel24Ideal.τ).loc Cert.Kernel24Ideal.main_arg8) = m ((c.tc : Thread Cert.Kernel24Ideal.nD Cert.Kernel24Ideal.τ).loc Cert.Kernel24Ideal.main_arg8)
          ∧ r.2.mem ((c.tc : Thread Cert.Kernel24Ideal.nD Cert.Kernel24Ideal.τ).loc Cert.Kernel24Ideal.main_arg9) = m ((c.tc : Thread Cert.Kernel24Ideal.nD Cert.Kernel24Ideal.τ).loc Cert.Kernel24Ideal.main_arg9)
          ∧ r.2.mem ((c.tc : Thread Cert.Kernel24Ideal.nD Cert.Kernel24Ideal.τ).loc Cert.Kernel24Ideal.main_arg10) = m ((c.tc : Thread Cert.Kernel24Ideal.nD Cert.Kernel24Ideal.τ).loc Cert.Kernel24Ideal.main_arg10)
          ∧ r.2.mem ((c.tc : Thread Cert.Kernel24Ideal.nD Cert.Kernel24Ideal.τ).loc Cert.Kernel24Ideal.main_arg11) = m ((c.tc : Thread Cert.Kernel24Ideal.nD Cert.Kernel24Ideal.τ).loc Cert.Kernel24Ideal.main_arg11)
          ∧ r.2.mem ((c.tc : Thread Cert.Kernel24Ideal.nD Cert.Kernel24Ideal.τ).loc Cert.Kernel24Ideal.main_arg12) = m ((c.tc : Thread Cert.Kernel24Ideal.nD Cert.Kernel24Ideal.τ).loc Cert.Kernel24Ideal.main_arg12)
          ∧ r.2.mem ((c.tc : Thread Cert.Kernel24Ideal.nD Cert.Kernel24Ideal.τ).loc Cert.Kernel24Ideal.main_arg13) = m ((c.tc : Thread Cert.Kernel24Ideal.nD Cert.Kernel24Ideal.τ).loc Cert.Kernel24Ideal.main_arg13)
          ∧ r.2.mem ((c.tc : Thread Cert.Kernel24Ideal.nD Cert.Kernel24Ideal.τ).loc Cert.Kernel24Ideal.main_arg14) = m ((c.tc : Thread Cert.Kernel24Ideal.nD Cert.Kernel24Ideal.τ).loc Cert.Kernel24Ideal.main_arg14)
          ∧ r.2.mem ((c.tc : Thread Cert.Kernel24Ideal.nD Cert.Kernel24Ideal.τ).loc Cert.Kernel24Ideal.main_arg15) = m ((c.tc : Thread Cert.Kernel24Ideal.nD Cert.Kernel24Ideal.τ).loc Cert.Kernel24Ideal.main_arg15)
          ∧ r.2.mem ((c.tc : Thread Cert.Kernel24Ideal.nD Cert.Kernel24Ideal.τ).loc Cert.Kernel24Ideal.main_arg16) = m ((c.tc : Thread Cert.Kernel24Ideal.nD Cert.Kernel24Ideal.τ).loc Cert.Kernel24Ideal.main_arg16)
          ∧ r.2.mem ((c.tc : Thread Cert.Kernel24Ideal.nD Cert.Kernel24Ideal.τ).loc Cert.Kernel24Ideal.main_arg17) = m ((c.tc : Thread Cert.Kernel24Ideal.nD Cert.Kernel24Ideal.τ).loc Cert.Kernel24Ideal.main_arg17)
          ∧ r.2.mem ((c.tc : Thread Cert.Kernel24Ideal.nD Cert.Kernel24Ideal.τ).loc Cert.Kernel24Ideal.main_arg18) = m ((c.tc : Thread Cert.Kernel24Ideal.nD Cert.Kernel24Ideal.τ).loc Cert.Kernel24Ideal.main_arg18)
          ∧ r.2.mem ((c.tc : Thread Cert.Kernel24Ideal.nD Cert.Kernel24Ideal.τ).loc Cert.Kernel24Ideal.main_arg19) = m ((c.tc : Thread Cert.Kernel24Ideal.nD Cert.Kernel24Ideal.τ).loc Cert.Kernel24Ideal.main_arg19)
          ∧ r.2.mem ((c.tc : Thread Cert.Kernel24Ideal.nD Cert.Kernel24Ideal.τ).loc Cert.Kernel24Ideal.main_arg20) = m ((c.tc : Thread Cert.Kernel24Ideal.nD Cert.Kernel24Ideal.τ).loc Cert.Kernel24Ideal.main_arg20)
          ∧ r.2.mem ((c.tc : Thread Cert.Kernel24Ideal.nD Cert.Kernel24Ideal.τ).loc Cert.Kernel24Ideal.main_arg21) = m ((c.tc : Thread Cert.Kernel24Ideal.nD Cert.Kernel24Ideal.τ).loc Cert.Kernel24Ideal.main_arg21)
          ∧ r.2.mem ((c.tc : Thread Cert.Kernel24Ideal.nD Cert.Kernel24Ideal.τ).loc Cert.Kernel24Ideal.main_arg22) = m ((c.tc : Thread Cert.Kernel24Ideal.nD Cert.Kernel24Ideal.τ).loc Cert.Kernel24Ideal.main_arg22)
          ∧ r.2.mem ((c.tc : Thread Cert.Kernel24Ideal.nD Cert.Kernel24Ideal.τ).loc Cert.Kernel24Ideal.main_arg23) = m ((c.tc : Thread Cert.Kernel24Ideal.nD Cert.Kernel24Ideal.τ).loc Cert.Kernel24Ideal.main_arg23)
          ∧ r.2.mem ((c.tc : Thread Cert.Kernel24Ideal.nD Cert.Kernel24Ideal.τ).loc Cert.Kernel24Ideal.main_arg24) = m ((c.tc : Thread Cert.Kernel24Ideal.nD Cert.Kernel24Ideal.τ).loc Cert.Kernel24Ideal.main_arg24)
          ∧ r.2.mem ((c.tc : Thread Cert.Kernel24Ideal.nD Cert.Kernel24Ideal.τ).loc Cert.Kernel24Ideal.main_arg25) = m ((c.tc : Thread Cert.Kernel24Ideal.nD Cert.Kernel24Ideal.τ).loc Cert.Kernel24Ideal.main_arg25)
          ∧ r.2.mem ((c.tc : Thread Cert.Kernel24Ideal.nD Cert.Kernel24Ideal.τ).loc Cert.Kernel24Ideal.main_arg26) = m ((c.tc : Thread Cert.Kernel24Ideal.nD Cert.Kernel24Ideal.τ).loc Cert.Kernel24Ideal.main_arg26)
          ∧ r.2.mem ((c.tc : Thread Cert.Kernel24Ideal.nD Cert.Kernel24Ideal.τ).loc Cert.Kernel24Ideal.main_arg27) = m ((c.tc : Thread Cert.Kernel24Ideal.nD Cert.Kernel24Ideal.τ).loc Cert.Kernel24Ideal.main_arg27)
          ∧ r.2.mem ((c.tc : Thread Cert.Kernel24Ideal.nD Cert.Kernel24Ideal.τ).loc Cert.Kernel24Ideal.main_arg28) = m ((c.tc : Thread Cert.Kernel24Ideal.nD Cert.Kernel24Ideal.τ).loc Cert.Kernel24Ideal.main_arg28)
          ∧ r.2.mem ((c.tc : Thread Cert.Kernel24Ideal.nD Cert.Kernel24Ideal.τ).loc Cert.Kernel24Ideal.main_arg29) = m ((c.tc : Thread Cert.Kernel24Ideal.nD Cert.Kernel24Ideal.τ).loc Cert.Kernel24Ideal.main_arg29)
          ∧ r.2.mem ((c.tc : Thread Cert.Kernel24Ideal.nD Cert.Kernel24Ideal.τ).loc Cert.Kernel24Ideal.main_arg30) = m ((c.tc : Thread Cert.Kernel24Ideal.nD Cert.Kernel24Ideal.τ).loc Cert.Kernel24Ideal.main_arg30))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_v33) = v1 c
          ∧ r.2.mem ((c.tc : Thread Cert.Reference24Ideal.nD Cert.Reference24Ideal.τ).loc Cert.Reference24Ideal.main_v14) = v2 c
          ∧ r.2.mem ((c.tc : Thread Cert.Reference24Ideal.nD Cert.Reference24Ideal.τ).loc Cert.Reference24Ideal.main_v20) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7)
          ∧ r.2.mem ((c.tc : Thread Cert.Reference24Ideal.nD Cert.Reference24Ideal.τ).loc Cert.Reference24Ideal.main_arg8) = m' ((c.tc : Thread Cert.Reference24Ideal.nD Cert.Reference24Ideal.τ).loc Cert.Reference24Ideal.main_arg8)
          ∧ r.2.mem ((c.tc : Thread Cert.Reference24Ideal.nD Cert.Reference24Ideal.τ).loc Cert.Reference24Ideal.main_arg9) = m' ((c.tc : Thread Cert.Reference24Ideal.nD Cert.Reference24Ideal.τ).loc Cert.Reference24Ideal.main_arg9)
          ∧ r.2.mem ((c.tc : Thread Cert.Reference24Ideal.nD Cert.Reference24Ideal.τ).loc Cert.Reference24Ideal.main_arg10) = m' ((c.tc : Thread Cert.Reference24Ideal.nD Cert.Reference24Ideal.τ).loc Cert.Reference24Ideal.main_arg10)
          ∧ r.2.mem ((c.tc : Thread Cert.Reference24Ideal.nD Cert.Reference24Ideal.τ).loc Cert.Reference24Ideal.main_arg11) = m' ((c.tc : Thread Cert.Reference24Ideal.nD Cert.Reference24Ideal.τ).loc Cert.Reference24Ideal.main_arg11)
          ∧ r.2.mem ((c.tc : Thread Cert.Reference24Ideal.nD Cert.Reference24Ideal.τ).loc Cert.Reference24Ideal.main_arg12) = m' ((c.tc : Thread Cert.Reference24Ideal.nD Cert.Reference24Ideal.τ).loc Cert.Reference24Ideal.main_arg12)
          ∧ r.2.mem ((c.tc : Thread Cert.Reference24Ideal.nD Cert.Reference24Ideal.τ).loc Cert.Reference24Ideal.main_arg13) = m' ((c.tc : Thread Cert.Reference24Ideal.nD Cert.Reference24Ideal.τ).loc Cert.Reference24Ideal.main_arg13)
          ∧ r.2.mem ((c.tc : Thread Cert.Reference24Ideal.nD Cert.Reference24Ideal.τ).loc Cert.Reference24Ideal.main_arg14) = m' ((c.tc : Thread Cert.Reference24Ideal.nD Cert.Reference24Ideal.τ).loc Cert.Reference24Ideal.main_arg14)
          ∧ r.2.mem ((c.tc : Thread Cert.Reference24Ideal.nD Cert.Reference24Ideal.τ).loc Cert.Reference24Ideal.main_arg15) = m' ((c.tc : Thread Cert.Reference24Ideal.nD Cert.Reference24Ideal.τ).loc Cert.Reference24Ideal.main_arg15)
          ∧ r.2.mem ((c.tc : Thread Cert.Reference24Ideal.nD Cert.Reference24Ideal.τ).loc Cert.Reference24Ideal.main_arg16) = m' ((c.tc : Thread Cert.Reference24Ideal.nD Cert.Reference24Ideal.τ).loc Cert.Reference24Ideal.main_arg16)
          ∧ r.2.mem ((c.tc : Thread Cert.Reference24Ideal.nD Cert.Reference24Ideal.τ).loc Cert.Reference24Ideal.main_arg17) = m' ((c.tc : Thread Cert.Reference24Ideal.nD Cert.Reference24Ideal.τ).loc Cert.Reference24Ideal.main_arg17)
          ∧ r.2.mem ((c.tc : Thread Cert.Reference24Ideal.nD Cert.Reference24Ideal.τ).loc Cert.Reference24Ideal.main_arg18) = m' ((c.tc : Thread Cert.Reference24Ideal.nD Cert.Reference24Ideal.τ).loc Cert.Reference24Ideal.main_arg18)
          ∧ r.2.mem ((c.tc : Thread Cert.Reference24Ideal.nD Cert.Reference24Ideal.τ).loc Cert.Reference24Ideal.main_arg19) = m' ((c.tc : Thread Cert.Reference24Ideal.nD Cert.Reference24Ideal.τ).loc Cert.Reference24Ideal.main_arg19)
          ∧ r.2.mem ((c.tc : Thread Cert.Reference24Ideal.nD Cert.Reference24Ideal.τ).loc Cert.Reference24Ideal.main_arg20) = m' ((c.tc : Thread Cert.Reference24Ideal.nD Cert.Reference24Ideal.τ).loc Cert.Reference24Ideal.main_arg20)
          ∧ r.2.mem ((c.tc : Thread Cert.Reference24Ideal.nD Cert.Reference24Ideal.τ).loc Cert.Reference24Ideal.main_arg21) = m' ((c.tc : Thread Cert.Reference24Ideal.nD Cert.Reference24Ideal.τ).loc Cert.Reference24Ideal.main_arg21)
          ∧ r.2.mem ((c.tc : Thread Cert.Reference24Ideal.nD Cert.Reference24Ideal.τ).loc Cert.Reference24Ideal.main_arg22) = m' ((c.tc : Thread Cert.Reference24Ideal.nD Cert.Reference24Ideal.τ).loc Cert.Reference24Ideal.main_arg22)
          ∧ r.2.mem ((c.tc : Thread Cert.Reference24Ideal.nD Cert.Reference24Ideal.τ).loc Cert.Reference24Ideal.main_arg23) = m' ((c.tc : Thread Cert.Reference24Ideal.nD Cert.Reference24Ideal.τ).loc Cert.Reference24Ideal.main_arg23)
          ∧ r.2.mem ((c.tc : Thread Cert.Reference24Ideal.nD Cert.Reference24Ideal.τ).loc Cert.Reference24Ideal.main_arg24) = m' ((c.tc : Thread Cert.Reference24Ideal.nD Cert.Reference24Ideal.τ).loc Cert.Reference24Ideal.main_arg24)
          ∧ r.2.mem ((c.tc : Thread Cert.Reference24Ideal.nD Cert.Reference24Ideal.τ).loc Cert.Reference24Ideal.main_arg25) = m' ((c.tc : Thread Cert.Reference24Ideal.nD Cert.Reference24Ideal.τ).loc Cert.Reference24Ideal.main_arg25)
          ∧ r.2.mem ((c.tc : Thread Cert.Reference24Ideal.nD Cert.Reference24Ideal.τ).loc Cert.Reference24Ideal.main_arg26) = m' ((c.tc : Thread Cert.Reference24Ideal.nD Cert.Reference24Ideal.τ).loc Cert.Reference24Ideal.main_arg26)
          ∧ r.2.mem ((c.tc : Thread Cert.Reference24Ideal.nD Cert.Reference24Ideal.τ).loc Cert.Reference24Ideal.main_arg27) = m' ((c.tc : Thread Cert.Reference24Ideal.nD Cert.Reference24Ideal.τ).loc Cert.Reference24Ideal.main_arg27)
          ∧ r.2.mem ((c.tc : Thread Cert.Reference24Ideal.nD Cert.Reference24Ideal.τ).loc Cert.Reference24Ideal.main_arg28) = m' ((c.tc : Thread Cert.Reference24Ideal.nD Cert.Reference24Ideal.τ).loc Cert.Reference24Ideal.main_arg28)
          ∧ r.2.mem ((c.tc : Thread Cert.Reference24Ideal.nD Cert.Reference24Ideal.τ).loc Cert.Reference24Ideal.main_arg29) = m' ((c.tc : Thread Cert.Reference24Ideal.nD Cert.Reference24Ideal.τ).loc Cert.Reference24Ideal.main_arg29)
          ∧ r.2.mem ((c.tc : Thread Cert.Reference24Ideal.nD Cert.Reference24Ideal.τ).loc Cert.Reference24Ideal.main_arg30) = m' ((c.tc : Thread Cert.Reference24Ideal.nD Cert.Reference24Ideal.τ).loc Cert.Reference24Ideal.main_arg30))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Kernel.lean ====
abbrev S4352x8192 : Shape := ⟨2, ![4352, 8192]⟩
abbrev S1024 : Shape := ⟨1, ![1024]⟩
abbrev S4352x2048 : Shape := ⟨2, ![4352, 2048]⟩
abbrev S1x1024 : Shape := ⟨2, ![1, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S2176 : Shape := ⟨1, ![2176]⟩
abbrev S2176x1 : Shape := ⟨2, ![2176, 1]⟩
abbrev S2176x128 : Shape := ⟨2, ![2176, 128]⟩
abbrev S4352x1024 : Shape := ⟨2, ![4352, 1024]⟩
abbrev S2176x256 : Shape := ⟨2, ![2176, 256]⟩
abbrev S1x256 : Shape := ⟨2, ![1, 256]⟩
abbrev S1x128x1 : Shape := ⟨3, ![1, 128, 1]⟩
abbrev S1x1x1 : Shape := ⟨3, ![1, 1, 1]⟩
abbrev S17x256x256 : Shape := ⟨3, ![17, 256, 256]⟩
abbrev S256x256 : Shape := ⟨2, ![256, 256]⟩
abbrev S1x1 : Shape := ⟨2, ![1, 1]⟩
abbrev S1x256x256 : Shape := ⟨3, ![1, 256, 256]⟩
abbrev S128x256 : Shape := ⟨2, ![128, 256]⟩
abbrev S256 : Shape := ⟨1, ![256]⟩

abbrev nBuf : Space → Nat
  | .hbm => 88
  | .vmem => 34
  | .smem => 0
  | _ => 0

abbrev bufTy : (tb : Table) → Fin (tcTables nBuf tb) → BufTy
  | .hbm, ⟨0, _⟩ => ⟨S4352x8192, .f32⟩
  | .hbm, ⟨1, _⟩ => ⟨S1024, .f32⟩
  | .hbm, ⟨2, _⟩ => ⟨S4352x2048, .bf16⟩
  | .hbm, ⟨3, _⟩ => ⟨S1x1024, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S4x1x1, .f32⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S_, .f32⟩
  | .hbm, ⟨34, _⟩ => ⟨S4x128x128, .i1⟩
  | .hbm, ⟨35, _⟩ => ⟨S4x128x128, .f32⟩
  | .hbm, ⟨36, _⟩ => ⟨S4x128x128, .f32⟩
  | .hbm, ⟨37, _⟩ => ⟨S4x1, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S1x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128x1, .f32⟩
  | .hbm, ⟨47, _⟩ => ⟨S4x1, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128x1, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4x1x1, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S2176, .f32⟩
  | .hbm, ⟨73, _⟩ => ⟨S_, .f32⟩
  | .hbm, ⟨74, _⟩ => ⟨S2176, .f32⟩
  | .hbm, ⟨75, _⟩ => ⟨S2176, .f32⟩
  | .hbm, ⟨76, _⟩ => ⟨S2176x1, .f32⟩
  | .hbm, ⟨77, _⟩ => ⟨S1x128, .f32⟩
  | .hbm, ⟨78, _⟩ => ⟨S2176x128, .f32⟩
  | .hbm, ⟨79, _⟩ => ⟨S2176x128, .f32⟩
  | .hbm, ⟨80, _⟩ => ⟨S2176x128, .f32⟩
  | .hbm, ⟨81, _⟩ => ⟨S2176x128, .f32⟩
  | .hbm, ⟨82, _⟩ => ⟨S2176x128, .f32⟩
  | .hbm, ⟨83, _⟩ => ⟨S4352x1024, .bf16⟩
  | .hbm, ⟨84, _⟩ => ⟨S4352x1024, .bf16⟩
  | .hbm, ⟨85, _⟩ => ⟨S4352x1024, .bf16⟩
  | .hbm, ⟨86, _⟩ => ⟨S4352x1024, .bf16⟩
  | .hbm, ⟨87, _⟩ => ⟨S1x1024, .f32⟩
  | .local _ .vmem, ⟨0, _⟩ => ⟨S2176x256, .f32⟩
  | .local _ .vmem, ⟨1, _⟩ => ⟨S2176x256, .f32⟩
  | .local _ .vmem, ⟨2, _⟩ => ⟨S2176x256, .f32⟩
  | .local _ .vmem, ⟨3, _⟩ => ⟨S2176x256, .f32⟩
  | .local _ .vmem, ⟨4, _⟩ => ⟨S2176x256, .f32⟩
  | .local _ .vmem, ⟨5, _⟩ => ⟨S2176x256, .f32⟩
  | .local _ .vmem, ⟨6, _⟩ => ⟨S2176x256, .f32⟩
  | .local _ .vmem, ⟨7, _⟩ => ⟨S2176x256, .f32⟩
  | .local _ .vmem, ⟨8, _⟩ => ⟨S1x256, .f32⟩
  | .local _ .vmem, ⟨9, _⟩ => ⟨S1x256, .f32⟩
  | .local _ .vmem, ⟨10, _⟩ => ⟨S2176x128, .f32⟩
  | .local _ .vmem, ⟨11, _⟩ => ⟨S2176x128, .f32⟩
  | .local _ .vmem, ⟨12, _⟩ => ⟨S1x128x128, .f32⟩
  | .local _ .vmem, ⟨13, _⟩ => ⟨S1x128x128, .f32⟩
  | .local _ .vmem, ⟨14, _⟩ => ⟨S1x128x1, .f32⟩
  | .local _ .vmem, ⟨15, _⟩ => ⟨S1x128x1, .f32⟩
  | .local _ .vmem, ⟨16, _⟩ => ⟨S1x128x1, .f32⟩
  | .local _ .vmem, ⟨17, _⟩ => ⟨S1x128x1, .f32⟩
  | .local _ .vmem, ⟨18, _⟩ => ⟨S1x1x1, .f32⟩
  | .local _ .vmem, ⟨19, _⟩ => ⟨S1x1x1, .f32⟩
  | .local _ .vmem, ⟨20, _⟩ => ⟨S2176x256, .bf16⟩
  | .local _ .vmem, ⟨21, _⟩ => ⟨S2176x256, .bf16⟩
  | .local _ .vmem, ⟨22, _⟩ => ⟨S2176x256, .bf16⟩
  | .local _ .vmem, ⟨23, _⟩ => ⟨S2176x256, .bf16⟩
  | .local _ .vmem, ⟨24, _⟩ => ⟨S2176x256, .bf16⟩
  | .local _ .vmem, ⟨25, _⟩ => ⟨S2176x256, .bf16⟩
  | .local _ .vmem, ⟨26, _⟩ => ⟨S2176x256, .bf16⟩
  | .local _ .vmem, ⟨27, _⟩ => ⟨S2176x256, .bf16⟩
  | .local _ .vmem, ⟨28, _⟩ => ⟨S2176x256, .bf16⟩
  | .local _ .vmem, ⟨29, _⟩ => ⟨S2176x256, .bf16⟩
  | .local _ .vmem, ⟨30, _⟩ => ⟨S1x256, .f32⟩
  | .local _ .vmem, ⟨31, _⟩ => ⟨S1x256, .f32⟩
  | .local _ .vmem, ⟨32, _⟩ => ⟨S17x256x256, .f32⟩
  | .local _ .vmem, ⟨33, _⟩ => ⟨S256x256, .f32⟩
  | _, _ => ⟨S4352x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65_0 : Ref sig .tc := ⟨.hbm, 83, rfl⟩
abbrev main_v65_1 : Ref sig .tc := ⟨.hbm, 84, rfl⟩
abbrev main_v65_2 : Ref sig .tc := ⟨.hbm, 85, rfl⟩
abbrev main_v65_3 : Ref sig .tc := ⟨.hbm, 86, rfl⟩
abbrev main_v65_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c17_i32 : BitVec 32 := 17#32
  let v4 : BitVec 32 := Scalar.addi c0_i32 c17_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c128_i32 : BitVec 32 := 128#32
  let v13 : BitVec 32 := Scalar.muli arg21 c128_i32
  v13
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v13 : BitVec 32 := Scalar.muli arg21 c128_i32
  let v14 : BitVec 32 := v13
  let v15 : Index := Scalar.indexCast v14
  let c0_11 : Index := 0#32
  ![v15.toNat, 0]
def k0_off2 (k0_t1 : Fin k0_t1_loop.trips) : Fin 3 → Nat :=
  let c0_i32 : BitVec 32 := 0#32
  let c1_i32 : BitVec 32 := 1#32
  let arg21 : BitVec 32 := Scf.iv c0_i32 c1_i32 k0_t1
  let v45 : Index := Scalar.indexCast arg21
  let c0_30 : Index := 0#32
  let c0_31 : Index := 0#32
  ![v45.toNat, 0, 0]
def k0_off3 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v13 : BitVec 32 := Scalar.muli arg21 c128_i32
  let v14 : BitVec 32 := v13
  let v49 : Index := Scalar.indexCast v14
  let c0_32 : Index := 0#32
  ![v49.toNat, 0]
@[reducible] def k0_t2_loop : Scf.Loop 32 :=
  let c0_i32_7 : BitVec 32 := 0#32
  let c17_i32_8 : BitVec 32 := 17#32
  let v12 : BitVec 32 := Scalar.addi c0_i32_7 c17_i32_8
  let c1_i32_9 : BitVec 32 := 1#32
  ⟨c0_i32_7, v12, c1_i32_9⟩
def k0_mult2 (k0_t2 : Fin k0_t2_loop.trips) : BitVec 32 :=
  let c16_i32 : BitVec 32 := 16#32
  let c0_i32_7 : BitVec 32 := 0#32
  let c1_i32_9 : BitVec 32 := 1#32
  let arg21 : BitVec 32 := Scf.iv c0_i32_7 c1_i32_9 k0_t2
  let v13 : BitVec 32 := Scalar.subi c16_i32 arg21
  let c128_i32 : BitVec 32 := 128#32
  let v14 : BitVec 32 := Scalar.muli v13 c128_i32
  v14
def k0_off4 (k0_t2 : Fin k0_t2_loop.trips) : Fin 2 → Nat :=
  let c16_i32 : BitVec 32 := 16#32
  let c0_i32_7 : BitVec 32 := 0#32
  let c1_i32_9 : BitVec 32 := 1#32
  let arg21 : BitVec 32 := Scf.iv c0_i32_7 c1_i32_9 k0_t2
  let v13 : BitVec 32 := Scalar.subi c16_i32 arg21
  let c128_i32 : BitVec 32 := 128#32
  let v14 : BitVec 32 := Scalar.muli v13 c128_i32
  let v15 : BitVec 32 := v14
  let v16 : Index := Scalar.indexCast v15
  let c0_11 : Index := 0#32
  ![v16.toNat, 0]
def k0_off5 (k0_t2 : Fin k0_t2_loop.trips) : Fin 2 → Nat :=
  let c16_i32 : BitVec 32 := 16#32
  let c0_i32_7 : BitVec 32 := 0#32
  let c1_i32_9 : BitVec 32 := 1#32
  let arg21 : BitVec 32 := Scf.iv c0_i32_7 c1_i32_9 k0_t2
  let v13 : BitVec 32 := Scalar.subi c16_i32 arg21
  let c128_i32 : BitVec 32 := 128#32
  let v14 : BitVec 32 := Scalar.muli v13 c128_i32
  let v15 : BitVec 32 := v14
  let v49 : Index := Scalar.indexCast v15
  let c0_34 : Index := 0#32
  ![v49.toNat, 0]
def k0_off6 (k0_t2 : Fin k0_t2_loop.trips) : Fin 3 → Nat :=
  let c16_i32 : BitVec 32 := 16#32
  let c0_i32_7 : BitVec 32 := 0#32
  let c1_i32_9 : BitVec 32 := 1#32
  let arg21 : BitVec 32 := Scf.iv c0_i32_7 c1_i32_9 k0_t2
  let v13 : BitVec 32 := Scalar.subi c16_i32 arg21
  let v59 : Index := Scalar.indexCast v13
  let c0_40 : Index := 0#32
  let c0_41 : Index := 0#32
  ![v59.toNat, 0, 0]
def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2176x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2176x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2176x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2176x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2176x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2176x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2176x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S4352x8192 : Shape := ⟨2, ![4352, 8192]⟩
abbrev S1024 : Shape := ⟨1, ![1024]⟩
abbrev S4352x2048 : Shape := ⟨2, ![4352, 2048]⟩
abbrev S2x2176x8192 : Shape := ⟨3, ![2, 2176, 8192]⟩
abbrev S2x2064x1024 : Shape := ⟨3, ![2, 2064, 1024]⟩
abbrev S2064 : Shape := ⟨1, ![2064]⟩
abbrev S2x2064x4x256 : Shape := ⟨4, ![2, 2064, 4, 256]⟩
abbrev S128 : Shape := ⟨1, ![128]⟩
abbrev S_ : Shape := ⟨0, ![]⟩
abbrev S2064x1 : Shape := ⟨2, ![2064, 1]⟩
abbrev S1x128 : Shape := ⟨2, ![1, 128]⟩
abbrev S2064x128 : Shape := ⟨2, ![2064, 128]⟩
abbrev S1x2064x1x128 : Shape := ⟨4, ![1, 2064, 1, 128]⟩
abbrev S2x2064x4x128 : Shape := ⟨4, ![2, 2064, 4, 128]⟩
abbrev S2x112x4x256 : Shape := ⟨4, ![2, 112, 4, 256]⟩
abbrev S2x2176x4x256 : Shape := ⟨4, ![2, 2176, 4, 256]⟩
abbrev S2x17x128x4x256 : Shape := ⟨5, ![2, 17, 128, 4, 256]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S2x4x17x128x128 : Shape := ⟨5, ![2, 4, 17, 128, 128]⟩
abbrev S1x4x1x128x128 : Shape := ⟨5, ![1, 4, 1, 128, 128]⟩
abbrev S2x17x4x256x128 : Shape := ⟨5, ![2, 17, 4, 256, 128]⟩
abbrev S1x4 : Shape := ⟨2, ![1, 4]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x17x4x256x256 : Shape := ⟨5, ![2, 17, 4, 256, 256]⟩
abbrev S1x4x1x1 : Shape := ⟨4, ![1, 4, 1, 1]⟩
abbrev S2x1x4x256x256 : Shape := ⟨5, ![2, 1, 4, 256, 256]⟩
abbrev S2x16x4x256x256 : Shape := ⟨5, ![2, 16, 4, 256, 256]⟩
abbrev S1x1x4x1x1 : Shape := ⟨5, ![1, 1, 4, 1, 1]⟩
abbrev S2x2064x4 : Shape := ⟨3, ![2, 2064, 4]⟩
abbrev S2x2064x4x1 : Shape := ⟨4, ![2, 2064, 4, 1]⟩
abbrev S1x1x1024 : Shape := ⟨3, ![1, 1, 1024]⟩
abbrev S2x2176x2048 : Shape := ⟨3, ![2, 2176, 2048]⟩
abbrev S2x17x4x128x256 : Shape := ⟨5, ![2, 17, 4, 128, 256]⟩
abbrev S2x17x4x128x128 : Shape := ⟨5, ![2, 17, 4, 128, 128]⟩
abbrev S2x4x17x128x256 : Shape := ⟨5, ![2, 4, 17, 128, 256]⟩
abbrev S2x112x1024 : Shape := ⟨3, ![2, 112, 1024]⟩
abbrev S2x2176x1024 : Shape := ⟨3, ![2, 2176, 1024]⟩
abbrev S4352x1024 : Shape := ⟨2, ![4352, 1024]⟩
abbrev S1x1024 : Shape := ⟨2, ![1, 1024]⟩

abbrev nBuf : Space → Nat
  | .hbm => 523
  | .vmem => 0
  | .smem => 0
  | _ => 0

abbrev hbmTy0_0 (i : Nat) : BufTy := match i % 128 with
  | 0 => ⟨S4352x8192, .f32⟩
  | 1 => ⟨S1024, .f32⟩
  | 2 => ⟨S4352x2048, .bf16⟩
  | 3 => ⟨S2x2176x8192, .f32⟩
  | 4 => ⟨S2x2064x1024, .f32⟩
  | 5 => ⟨S2x2176x8192, .f32⟩
  | 6 => ⟨S2x2064x1024, .f32⟩
  | 7 => ⟨S2x2176x8192, .f32⟩
  | 8 => ⟨S2x2064x1024, .f32⟩
  | 9 => ⟨S2x2176x8192, .f32⟩
  | 10 => ⟨S2x2064x1024, .f32⟩
  | 11 => ⟨S2064, .f32⟩
  | 12 => ⟨S2x2064x4x256, .f32⟩
  | 13 => ⟨S128, .f32⟩
  | 14 => ⟨S_, .f32⟩
  | 15 => ⟨S128, .f32⟩
  | 16 => ⟨S128, .f32⟩
  | 17 => ⟨S_, .f32⟩
  | 18 => ⟨S128, .f32⟩
  | 19 => ⟨S128, .f32⟩
  | 20 => ⟨S_, .f32⟩
  | 21 => ⟨S128, .f32⟩
  | 22 => ⟨S128, .f32⟩
  | 23 => ⟨S2064x1, .f32⟩
  | 24 => ⟨S1x128, .f32⟩
  | 25 => ⟨S2064x128, .f32⟩
  | 26 => ⟨S2064x128, .f32⟩
  | 27 => ⟨S2064x128, .f32⟩
  | 28 => ⟨S2064x128, .f32⟩
  | 29 => ⟨S1x2064x1x128, .f32⟩
  | 30 => ⟨S2064x128, .f32⟩
  | 31 => ⟨S1x2064x1x128, .f32⟩
  | 32 => ⟨S2x2064x4x128, .f32⟩
  | 33 => ⟨S2x2064x4x128, .f32⟩
  | 34 => ⟨S2x2064x4x128, .f32⟩
  | 35 => ⟨S2x2064x4x128, .f32⟩
  | 36 => ⟨S2x2064x4x128, .f32⟩
  | 37 => ⟨S2x2064x4x128, .f32⟩
  | 38 => ⟨S2x2064x4x128, .f32⟩
  | 39 => ⟨S2x2064x4x128, .f32⟩
  | 40 => ⟨S2x2064x4x128, .f32⟩
  | 41 => ⟨S2x2064x4x128, .f32⟩
  | 42 => ⟨S2x2064x4x128, .f32⟩
  | 43 => ⟨S2x2064x4x128, .f32⟩
  | 44 => ⟨S2x2064x4x256, .f32⟩
  | 45 => ⟨S2x2064x4x256, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S2064x1, .f32⟩
  | 57 => ⟨S1x128, .f32⟩
  | 58 => ⟨S2064x128, .f32⟩
  | 59 => ⟨S2064x128, .f32⟩
  | 60 => ⟨S2064x128, .f32⟩
  | 61 => ⟨S2064x128, .f32⟩
  | 62 => ⟨S1x2064x1x128, .f32⟩
  | 63 => ⟨S2064x128, .f32⟩
  | 64 => ⟨S1x2064x1x128, .f32⟩
  | 65 => ⟨S2x2064x4x128, .f32⟩
  | 66 => ⟨S2x2064x4x128, .f32⟩
  | 67 => ⟨S2x2064x4x128, .f32⟩
  | 68 => ⟨S2x2064x4x128, .f32⟩
  | 69 => ⟨S2x2064x4x128, .f32⟩
  | 70 => ⟨S2x2064x4x128, .f32⟩
  | 71 => ⟨S2x2064x4x128, .f32⟩
  | 72 => ⟨S2x2064x4x128, .f32⟩
  | 73 => ⟨S2x2064x4x128, .f32⟩
  | 74 => ⟨S2x2064x4x128, .f32⟩
  | 75 => ⟨S2x2064x4x128, .f32⟩
  | 76 => ⟨S2x2064x4x128, .f32⟩
  | 77 => ⟨S2x2064x4x256, .f32⟩
  | 78 => ⟨S_, .f32⟩
  | 79 => ⟨S2x2064x4x256, .f32⟩
  | 80 => ⟨S2x2064x4x256, .f32⟩
  | 81 => ⟨S2x2064x4x256, .f32⟩
  | 82 => ⟨S_, .f32⟩
  | 83 => ⟨S2x112x4x256, .f32⟩
  | 84 => ⟨S2x2176x4x256, .f32⟩
  | 85 => ⟨S_, .f32⟩
  | 86 => ⟨S2x112x4x256, .f32⟩
  | 87 => ⟨S2x17x128x4x256, .f32⟩
  | 88 => ⟨S_, .f32⟩
  | 89 => ⟨S2x112x4x256, .f32⟩
  | 90 => ⟨S2x2176x4x256, .f32⟩
  | 91 => ⟨S_, .f32⟩
  | 92 => ⟨S2x112x4x256, .f32⟩
  | 93 => ⟨S2x17x128x4x256, .f32⟩
  | 94 => ⟨S_, .f32⟩
  | 95 => ⟨S2x112x4x256, .f32⟩
  | 96 => ⟨S2x2176x4x256, .f32⟩
  | 97 => ⟨S_, .f32⟩
  | 98 => ⟨S2x112x4x256, .f32⟩
  | 99 => ⟨S2x17x128x4x256, .f32⟩
  | 100 => ⟨S4, .f32⟩
  | 101 => ⟨S_, .f32⟩
  | 102 => ⟨S4, .f32⟩
  | 103 => ⟨S4, .f32⟩
  | 104 => ⟨S_, .f32⟩
  | 105 => ⟨S4, .f32⟩
  | 106 => ⟨S4, .f32⟩
  | 107 => ⟨S4, .f32⟩
  | 108 => ⟨S4, .f32⟩
  | 109 => ⟨S4, .f32⟩
  | 110 => ⟨S128, .f32⟩
  | 111 => ⟨S128x1, .f32⟩
  | 112 => ⟨S1x128, .f32⟩
  | 113 => ⟨S128x128, .f32⟩
  | 114 => ⟨S128x128, .f32⟩
  | 115 => ⟨S128x128, .f32⟩
  | 116 => ⟨S_, .f32⟩
  | 117 => ⟨S128x128, .f32⟩
  | 118 => ⟨S128x128, .i1⟩
  | 119 => ⟨S4x1x1, .f32⟩
  | 120 => ⟨S_, .f32⟩
  | 121 => ⟨S128x128, .f32⟩
  | 122 => ⟨S128x128, .f32⟩
  | 123 => ⟨S1x128x128, .f32⟩
  | 124 => ⟨S4x128x128, .f32⟩
  | 125 => ⟨S4x128x128, .f32⟩
  | 126 => ⟨S4x128x128, .f32⟩
  | 127 => ⟨S4x128x128, .f32⟩
  | _ => ⟨S4352x8192, .f32⟩

abbrev hbmTy0_1 (i : Nat) : BufTy := match i % 128 with
  | 0 => ⟨S_, .f32⟩
  | 1 => ⟨S_, .f32⟩
  | 2 => ⟨S4x128x128, .i1⟩
  | 3 => ⟨S4x128x128, .f32⟩
  | 4 => ⟨S4x128x128, .f32⟩
  | 5 => ⟨S2x4x17x128x128, .f32⟩
  | 6 => ⟨S1x4x1x128x128, .f32⟩
  | 7 => ⟨S2x4x17x128x128, .f32⟩
  | 8 => ⟨S2x4x17x128x128, .f32⟩
  | 9 => ⟨S2x17x4x256x128, .f32⟩
  | 10 => ⟨S2x17x128x4x256, .f32⟩
  | 11 => ⟨S1x4, .f32⟩
  | 12 => ⟨S_, .f32⟩
  | 13 => ⟨S128, .f32⟩
  | 14 => ⟨S128, .f32⟩
  | 15 => ⟨S128x1, .f32⟩
  | 16 => ⟨S128x4, .f32⟩
  | 17 => ⟨S128x4, .f32⟩
  | 18 => ⟨S128x4, .f32⟩
  | 19 => ⟨S128x4, .f32⟩
  | 20 => ⟨S128x4x1, .f32⟩
  | 21 => ⟨S1x1x128x4x1, .f32⟩
  | 22 => ⟨S2x17x128x4x256, .f32⟩
  | 23 => ⟨S2x17x128x4x256, .f32⟩
  | 24 => ⟨S2x17x4x256x256, .f32⟩
  | 25 => ⟨S_, .f32⟩
  | 26 => ⟨S4, .f32⟩
  | 27 => ⟨S4, .f32⟩
  | 28 => ⟨S4, .f32⟩
  | 29 => ⟨S1x4x1x1, .f32⟩
  | 30 => ⟨S2x1x4x256x256, .f32⟩
  | 31 => ⟨S_, .f32⟩
  | 32 => ⟨S2x1x4x256x256, .f32⟩
  | 33 => ⟨S2x16x4x256x256, .f32⟩
  | 34 => ⟨S2x1x4x256x256, .f32⟩
  | 35 => ⟨S2x1x4x256x256, .f32⟩
  | 36 => ⟨S2x1x4x256x256, .f32⟩
  | 37 => ⟨S2x1x4x256x256, .f32⟩
  | 38 => ⟨S2x1x4x256x256, .f32⟩
  | 39 => ⟨S2x1x4x256x256, .f32⟩
  | 40 => ⟨S2x1x4x256x256, .f32⟩
  | 41 => ⟨S2x1x4x256x256, .f32⟩
  | 42 => ⟨S2x1x4x256x256, .f32⟩
  | 43 => ⟨S2x1x4x256x256, .f32⟩
  | 44 => ⟨S2x1x4x256x256, .f32⟩
  | 45 => ⟨S2x1x4x256x256, .f32⟩
  | 46 => ⟨S2x1x4x256x256, .f32⟩
  | 47 => ⟨S2x1x4x256x256, .f32⟩
  | 48 => ⟨S2x1x4x256x256, .f32⟩
  | 49 => ⟨S2x1x4x256x256, .f32⟩
  | 50 => ⟨S1x1x4x1x1, .f32⟩
  | 51 => ⟨S2x1x4x256x256, .f32⟩
  | 52 => ⟨S2x1x4x256x256, .f32⟩
  | 53 => ⟨S2x1x4x256x256, .f32⟩
  | 54 => ⟨S1x1x4x1x1, .f32⟩
  | 55 => ⟨S2x1x4x256x256, .f32⟩
  | 56 => ⟨S2x1x4x256x256, .f32⟩
  | 57 => ⟨S2x1x4x256x256, .f32⟩
  | 58 => ⟨S1x1x4x1x1, .f32⟩
  | 59 => ⟨S2x1x4x256x256, .f32⟩
  | 60 => ⟨S2x1x4x256x256, .f32⟩
  | 61 => ⟨S2x1x4x256x256, .f32⟩
  | 62 => ⟨S1x1x4x1x1, .f32⟩
  | 63 => ⟨S2x1x4x256x256, .f32⟩
  | 64 => ⟨S2x1x4x256x256, .f32⟩
  | 65 => ⟨S2x1x4x256x256, .f32⟩
  | 66 => ⟨S1x1x4x1x1, .f32⟩
  | 67 => ⟨S2x1x4x256x256, .f32⟩
  | 68 => ⟨S2x1x4x256x256, .f32⟩
  | 69 => ⟨S2x1x4x256x256, .f32⟩
  | 70 => ⟨S1x1x4x1x1, .f32⟩
  | 71 => ⟨S2x1x4x256x256, .f32⟩
  | 72 => ⟨S2x1x4x256x256, .f32⟩
  | 73 => ⟨S2x1x4x256x256, .f32⟩
  | 74 => ⟨S1x1x4x1x1, .f32⟩
  | 75 => ⟨S2x1x4x256x256, .f32⟩
  | 76 => ⟨S2x1x4x256x256, .f32⟩
  | 77 => ⟨S2x1x4x256x256, .f32⟩
  | 78 => ⟨S1x1x4x1x1, .f32⟩
  | 79 => ⟨S2x1x4x256x256, .f32⟩
  | 80 => ⟨S2x1x4x256x256, .f32⟩
  | 81 => ⟨S2x1x4x256x256, .f32⟩
  | 82 => ⟨S1x1x4x1x1, .f32⟩
  | 83 => ⟨S2x1x4x256x256, .f32⟩
  | 84 => ⟨S2x1x4x256x256, .f32⟩
  | 85 => ⟨S2x1x4x256x256, .f32⟩
  | 86 => ⟨S1x1x4x1x1, .f32⟩
  | 87 => ⟨S2x1x4x256x256, .f32⟩
  | 88 => ⟨S2x1x4x256x256, .f32⟩
  | 89 => ⟨S2x1x4x256x256, .f32⟩
  | 90 => ⟨S1x1x4x1x1, .f32⟩
  | 91 => ⟨S2x1x4x256x256, .f32⟩
  | 92 => ⟨S2x1x4x256x256, .f32⟩
  | 93 => ⟨S2x1x4x256x256, .f32⟩
  | 94 => ⟨S1x1x4x1x1, .f32⟩
  | 95 => ⟨S2x1x4x256x256, .f32⟩
  | 96 => ⟨S2x1x4x256x256, .f32⟩
  | 97 => ⟨S2x1x4x256x256, .f32⟩
  | 98 => ⟨S1x1x4x1x1, .f32⟩
  | 99 => ⟨S2x1x4x256x256, .f32⟩
  | 100 => ⟨S2x1x4x256x256, .f32⟩
  | 101 => ⟨S2x1x4x256x256, .f32⟩
  | 102 => ⟨S1x1x4x1x1, .f32⟩
  | 103 => ⟨S2x1x4x256x256, .f32⟩
  | 104 => ⟨S2x1x4x256x256, .f32⟩
  | 105 => ⟨S2x1x4x256x256, .f32⟩
  | 106 => ⟨S1x1x4x1x1, .f32⟩
  | 107 => ⟨S2x1x4x256x256, .f32⟩
  | 108 => ⟨S2x1x4x256x256, .f32⟩
  | 109 => ⟨S2x1x4x256x256, .f32⟩
  | 110 => ⟨S1x1x4x1x1, .f32⟩
  | 111 => ⟨S2x1x4x256x256, .f32⟩
  | 112 => ⟨S2x1x4x256x256, .f32⟩
  | 113 => ⟨S2x1x4x256x256, .f32⟩
  | 114 => ⟨S2x16x4x256x256, .f32⟩
  | 115 => ⟨S_, .f32⟩
  | 116 => ⟨S2x1x4x256x256, .f32⟩
  | 117 => ⟨S2x17x4x256x256, .f32⟩
  | 118 => ⟨S_, .f32⟩
  | 119 => ⟨S2x1x4x256x256, .f32⟩
  | 120 => ⟨S1x4, .f32⟩
  | 121 => ⟨S_, .f32⟩
  | 122 => ⟨S128, .f32⟩
  | 123 => ⟨S128, .f32⟩
  | 124 => ⟨S128x1, .f32⟩
  | 125 => ⟨S128x4, .f32⟩
  | 126 => ⟨S128x4, .f32⟩
  | 127 => ⟨S128x4, .f32⟩
  | _ => ⟨S4352x8192, .f32⟩

abbrev hbmTy0_2 (i : Nat) : BufTy := match i % 128 with
  | 0 => ⟨S128x4, .f32⟩
  | 1 => ⟨S2x17x4x256x128, .f32⟩
  | 2 => ⟨S2x17x128x4x256, .f32⟩
  | 3 => ⟨S128x4x1, .f32⟩
  | 4 => ⟨S1x1x128x4x1, .f32⟩
  | 5 => ⟨S2x17x128x4x256, .f32⟩
  | 6 => ⟨S2x17x128x4x256, .f32⟩
  | 7 => ⟨S2x17x128x4x256, .f32⟩
  | 8 => ⟨S2x2176x4x256, .f32⟩
  | 9 => ⟨S2x2064x4x256, .f32⟩
  | 10 => ⟨S_, .f32⟩
  | 11 => ⟨S2x2064x4, .f32⟩
  | 12 => ⟨S2x2064x4x1, .f32⟩
  | 13 => ⟨S_, .f32⟩
  | 14 => ⟨S2x2064x4x1, .f32⟩
  | 15 => ⟨S2x2064x4x1, .f32⟩
  | 16 => ⟨S2x2064x4x256, .f32⟩
  | 17 => ⟨S2x2064x4x256, .f32⟩
  | 18 => ⟨S2x2064x4x256, .f32⟩
  | 19 => ⟨S_, .f32⟩
  | 20 => ⟨S2x2064x4, .f32⟩
  | 21 => ⟨S2x2064x4x1, .f32⟩
  | 22 => ⟨S_, .f32⟩
  | 23 => ⟨S2x2064x4x1, .f32⟩
  | 24 => ⟨S2x2064x4x1, .f32⟩
  | 25 => ⟨S_, .f32⟩
  | 26 => ⟨S2x2064x4x1, .f32⟩
  | 27 => ⟨S2x2064x4x1, .f32⟩
  | 28 => ⟨S2x2064x4x1, .f32⟩
  | 29 => ⟨S2x2064x4x1, .f32⟩
  | 30 => ⟨S_, .f32⟩
  | 31 => ⟨S2x2064x4x1, .f32⟩
  | 32 => ⟨S2x2064x4x1, .f32⟩
  | 33 => ⟨S2x2064x4x256, .f32⟩
  | 34 => ⟨S2x2064x4x256, .f32⟩
  | 35 => ⟨S2x2064x1024, .f32⟩
  | 36 => ⟨S1x1x1024, .f32⟩
  | 37 => ⟨S2x2064x1024, .f32⟩
  | 38 => ⟨S2x2064x1024, .f32⟩
  | 39 => ⟨S2x2064x1024, .f32⟩
  | 40 => ⟨S2x2064x1024, .f32⟩
  | 41 => ⟨S_, .f32⟩
  | 42 => ⟨S2x2064x1024, .f32⟩
  | 43 => ⟨S2x2064x1024, .f32⟩
  | 44 => ⟨S_, .f32⟩
  | 45 => ⟨S2x2064x1024, .f32⟩
  | 46 => ⟨S2x2064x1024, .f32⟩
  | 47 => ⟨S_, .f32⟩
  | 48 => ⟨S2x2064x1024, .f32⟩
  | 49 => ⟨S2x2064x1024, .f32⟩
  | 50 => ⟨S2x2064x1024, .f32⟩
  | 51 => ⟨S2x2064x1024, .f32⟩
  | 52 => ⟨S2x2064x1024, .f32⟩
  | 53 => ⟨S4352x2048, .f32⟩
  | 54 => ⟨S2x2176x2048, .f32⟩
  | 55 => ⟨S2x2064x1024, .f32⟩
  | 56 => ⟨S2x2064x1024, .f32⟩
  | 57 => ⟨S2x2064x1024, .f32⟩
  | 58 => ⟨S2x2064x1024, .f32⟩
  | 59 => ⟨S2x2064x1024, .f32⟩
  | 60 => ⟨S2x2064x1024, .f32⟩
  | 61 => ⟨S2x2064x1024, .f32⟩
  | 62 => ⟨S2x2064x1024, .f32⟩
  | 63 => ⟨S_, .f32⟩
  | 64 => ⟨S1024, .f32⟩
  | 65 => ⟨S1x1x1024, .f32⟩
  | 66 => ⟨S2x2064x1024, .f32⟩
  | 67 => ⟨S2x2064x1024, .f32⟩
  | 68 => ⟨S_, .f32⟩
  | 69 => ⟨S1024, .f32⟩
  | 70 => ⟨S2x2064x4x256, .f32⟩
  | 71 => ⟨S2x2064x4x256, .f32⟩
  | 72 => ⟨S_, .f32⟩
  | 73 => ⟨S2x2064x4, .f32⟩
  | 74 => ⟨S2x2064x4x1, .f32⟩
  | 75 => ⟨S2x2064x4x256, .f32⟩
  | 76 => ⟨S2x2064x4x256, .f32⟩
  | 77 => ⟨S2x2064x4x1, .f32⟩
  | 78 => ⟨S_, .f32⟩
  | 79 => ⟨S2x2064x4x1, .f32⟩
  | 80 => ⟨S2x2064x4x1, .f32⟩
  | 81 => ⟨S_, .f32⟩
  | 82 => ⟨S2x2064x4, .f32⟩
  | 83 => ⟨S2x2064x4x256, .f32⟩
  | 84 => ⟨S2x2064x4x256, .f32⟩
  | 85 => ⟨S2x2064x4x256, .f32⟩
  | 86 => ⟨S2x2064x4x256, .f32⟩
  | 87 => ⟨S2x2064x4x256, .f32⟩
  | 88 => ⟨S2x2064x4x256, .f32⟩
  | 89 => ⟨S_, .f32⟩
  | 90 => ⟨S2x2064x4, .f32⟩
  | 91 => ⟨S2x2064x4x1, .f32⟩
  | 92 => ⟨S_, .f32⟩
  | 93 => ⟨S2x2064x4x1, .f32⟩
  | 94 => ⟨S2x2064x4x1, .f32⟩
  | 95 => ⟨S_, .f32⟩
  | 96 => ⟨S2x2064x4, .f32⟩
  | 97 => ⟨S2x2064x4x256, .f32⟩
  | 98 => ⟨S2x2064x4x256, .f32⟩
  | 99 => ⟨S_, .f32⟩
  | 100 => ⟨S2x2176x4x256, .f32⟩
  | 101 => ⟨S2x17x128x4x256, .f32⟩
  | 102 => ⟨S2x17x128x4x256, .f32⟩
  | 103 => ⟨S2x17x128x4x256, .f32⟩
  | 104 => ⟨S2x17x4x256x128, .f32⟩
  | 105 => ⟨S2x17x4x128x256, .f32⟩
  | 106 => ⟨S2x17x128x4x256, .f32⟩
  | 107 => ⟨S2x17x4x256x256, .f32⟩
  | 108 => ⟨S2x17x4x256x256, .f32⟩
  | 109 => ⟨S2x1x4x256x256, .f32⟩
  | 110 => ⟨S2x16x4x256x256, .f32⟩
  | 111 => ⟨S2x1x4x256x256, .f32⟩
  | 112 => ⟨S2x1x4x256x256, .f32⟩
  | 113 => ⟨S2x1x4x256x256, .f32⟩
  | 114 => ⟨S2x1x4x256x256, .f32⟩
  | 115 => ⟨S2x1x4x256x256, .f32⟩
  | 116 => ⟨S2x1x4x256x256, .f32⟩
  | 117 => ⟨S2x1x4x256x256, .f32⟩
  | 118 => ⟨S2x1x4x256x256, .f32⟩
  | 119 => ⟨S2x1x4x256x256, .f32⟩
  | 120 => ⟨S2x1x4x256x256, .f32⟩
  | 121 => ⟨S2x1x4x256x256, .f32⟩
  | 122 => ⟨S2x1x4x256x256, .f32⟩
  | 123 => ⟨S2x1x4x256x256, .f32⟩
  | 124 => ⟨S2x1x4x256x256, .f32⟩
  | 125 => ⟨S2x1x4x256x256, .f32⟩
  | 126 => ⟨S2x1x4x256x256, .f32⟩
  | 127 => ⟨S2x1x4x256x256, .f32⟩
  | _ => ⟨S4352x8192, .f32⟩

abbrev hbmTy0_3 (i : Nat) : BufTy := match i % 128 with
  | 0 => ⟨S2x1x4x256x256, .f32⟩
  | 1 => ⟨S2x1x4x256x256, .f32⟩
  | 2 => ⟨S2x1x4x256x256, .f32⟩
  | 3 => ⟨S2x1x4x256x256, .f32⟩
  | 4 => ⟨S2x1x4x256x256, .f32⟩
  | 5 => ⟨S2x1x4x256x256, .f32⟩
  | 6 => ⟨S2x1x4x256x256, .f32⟩
  | 7 => ⟨S2x1x4x256x256, .f32⟩
  | 8 => ⟨S2x1x4x256x256, .f32⟩
  | 9 => ⟨S2x1x4x256x256, .f32⟩
  | 10 => ⟨S2x1x4x256x256, .f32⟩
  | 11 => ⟨S2x1x4x256x256, .f32⟩
  | 12 => ⟨S2x1x4x256x256, .f32⟩
  | 13 => ⟨S2x1x4x256x256, .f32⟩
  | 14 => ⟨S2x1x4x256x256, .f32⟩
  | 15 => ⟨S2x1x4x256x256, .f32⟩
  | 16 => ⟨S2x1x4x256x256, .f32⟩
  | 17 => ⟨S2x1x4x256x256, .f32⟩
  | 18 => ⟨S2x1x4x256x256, .f32⟩
  | 19 => ⟨S2x1x4x256x256, .f32⟩
  | 20 => ⟨S2x1x4x256x256, .f32⟩
  | 21 => ⟨S2x1x4x256x256, .f32⟩
  | 22 => ⟨S2x1x4x256x256, .f32⟩
  | 23 => ⟨S2x1x4x256x256, .f32⟩
  | 24 => ⟨S2x1x4x256x256, .f32⟩
  | 25 => ⟨S2x1x4x256x256, .f32⟩
  | 26 => ⟨S2x1x4x256x256, .f32⟩
  | 27 => ⟨S2x1x4x256x256, .f32⟩
  | 28 => ⟨S2x1x4x256x256, .f32⟩
  | 29 => ⟨S2x1x4x256x256, .f32⟩
  | 30 => ⟨S2x1x4x256x256, .f32⟩
  | 31 => ⟨S2x1x4x256x256, .f32⟩
  | 32 => ⟨S2x1x4x256x256, .f32⟩
  | 33 => ⟨S2x1x4x256x256, .f32⟩
  | 34 => ⟨S2x1x4x256x256, .f32⟩
  | 35 => ⟨S2x1x4x256x256, .f32⟩
  | 36 => ⟨S2x1x4x256x256, .f32⟩
  | 37 => ⟨S2x1x4x256x256, .f32⟩
  | 38 => ⟨S2x1x4x256x256, .f32⟩
  | 39 => ⟨S2x1x4x256x256, .f32⟩
  | 40 => ⟨S2x1x4x256x256, .f32⟩
  | 41 => ⟨S2x1x4x256x256, .f32⟩
  | 42 => ⟨S2x1x4x256x256, .f32⟩
  | 43 => ⟨S2x1x4x256x256, .f32⟩
  | 44 => ⟨S2x16x4x256x256, .f32⟩
  | 45 => ⟨S_, .f32⟩
  | 46 => ⟨S2x17x4x256x256, .f32⟩
  | 47 => ⟨S2x17x4x256x128, .f32⟩
  | 48 => ⟨S2x17x128x4x256, .f32⟩
  | 49 => ⟨S2x17x4x256x128, .f32⟩
  | 50 => ⟨S2x17x128x4x256, .f32⟩
  | 51 => ⟨S2x17x128x4x256, .f32⟩
  | 52 => ⟨S2x17x128x4x256, .f32⟩
  | 53 => ⟨S2x17x4x256x128, .f32⟩
  | 54 => ⟨S2x17x4x128x128, .f32⟩
  | 55 => ⟨S2x4x17x128x128, .f32⟩
  | 56 => ⟨S2x17x4x256x128, .f32⟩
  | 57 => ⟨S2x17x128x4x256, .f32⟩
  | 58 => ⟨S2x17x128x4x256, .f32⟩
  | 59 => ⟨S2x4x17x128x128, .f32⟩
  | 60 => ⟨S2x4x17x128x128, .f32⟩
  | 61 => ⟨S2x4x17x128x256, .f32⟩
  | 62 => ⟨S2x17x128x4x256, .f32⟩
  | 63 => ⟨S2x17x128x4x256, .f32⟩
  | 64 => ⟨S2x4x17x128x256, .f32⟩
  | 65 => ⟨S2x17x128x4x256, .f32⟩
  | 66 => ⟨S2x17x128x4x256, .f32⟩
  | 67 => ⟨S2x2176x4x256, .f32⟩
  | 68 => ⟨S2x112x4x256, .f32⟩
  | 69 => ⟨S2x2064x4x256, .f32⟩
  | 70 => ⟨S2x2176x4x256, .f32⟩
  | 71 => ⟨S2x112x4x256, .f32⟩
  | 72 => ⟨S2x2064x4x256, .f32⟩
  | 73 => ⟨S2x2176x4x256, .f32⟩
  | 74 => ⟨S2x112x4x256, .f32⟩
  | 75 => ⟨S2x2064x4x256, .f32⟩
  | 76 => ⟨S2x2064x1024, .f32⟩
  | 77 => ⟨S_, .f32⟩
  | 78 => ⟨S2x2064x4x256, .f32⟩
  | 79 => ⟨S2x2064x4x256, .f32⟩
  | 80 => ⟨S2x2064x4x128, .f32⟩
  | 81 => ⟨S2x2064x4x128, .f32⟩
  | 82 => ⟨S2x2064x4x128, .f32⟩
  | 83 => ⟨S2x2064x4x128, .f32⟩
  | 84 => ⟨S2x2064x4x128, .f32⟩
  | 85 => ⟨S2x2064x4x128, .f32⟩
  | 86 => ⟨S2x2064x4x128, .f32⟩
  | 87 => ⟨S2x2064x4x128, .f32⟩
  | 88 => ⟨S2x2064x4x128, .f32⟩
  | 89 => ⟨S2x2064x4x128, .f32⟩
  | 90 => ⟨S2x2064x4x128, .f32⟩
  | 91 => ⟨S2x2064x4x128, .f32⟩
  | 92 => ⟨S2x2064x4x128, .f32⟩
  | 93 => ⟨S_, .f32⟩
  | 94 => ⟨S2x2064x4x256, .f32⟩
  | 95 => ⟨S_, .f32⟩
  | 96 => ⟨S2x2064x4x256, .f32⟩
  | 97 => ⟨S2x2064x4x256, .f32⟩
  | 98 => ⟨S2x2064x1024, .f32⟩
  | 99 => ⟨S2x2064x4x128, .f32⟩
  | 100 => ⟨S2x2064x4x128, .f32⟩
  | 101 => ⟨S2x2064x4x128, .f32⟩
  | 102 => ⟨S2x2064x4x128, .f32⟩
  | 103 => ⟨S2x2064x4x128, .f32⟩
  | 104 => ⟨S2x2064x4x128, .f32⟩
  | 105 => ⟨S2x2064x4x128, .f32⟩
  | 106 => ⟨S2x2064x4x128, .f32⟩
  | 107 => ⟨S2x2064x4x128, .f32⟩
  | 108 => ⟨S2x2064x4x128, .f32⟩
  | 109 => ⟨S2x2064x4x128, .f32⟩
  | 110 => ⟨S2x2064x4x128, .f32⟩
  | 111 => ⟨S2x2064x4x128, .f32⟩
  | 112 => ⟨S_, .f32⟩
  | 113 => ⟨S2x2064x4x256, .f32⟩
  | 114 => ⟨S_, .f32⟩
  | 115 => ⟨S2x2064x4x256, .f32⟩
  | 116 => ⟨S2x2064x4x256, .f32⟩
  | 117 => ⟨S2x2064x1024, .f32⟩
  | 118 => ⟨S_, .f32⟩
  | 119 => ⟨S2x112x1024, .f32⟩
  | 120 => ⟨S2x2176x1024, .f32⟩
  | 121 => ⟨S4352x1024, .f32⟩
  | 122 => ⟨S4352x1024, .bf16⟩
  | 123 => ⟨S_, .f32⟩
  | 124 => ⟨S2x112x1024, .f32⟩
  | 125 => ⟨S2x2176x1024, .f32⟩
  | 126 => ⟨S4352x1024, .f32⟩
  | 127 => ⟨S4352x1024, .bf16⟩
  | _ => ⟨S4352x8192, .f32⟩

abbrev hbmTy0_4 (i : Nat) : BufTy := match i % 128 with
  | 0 => ⟨S_, .f32⟩
  | 1 => ⟨S2x112x1024, .f32⟩
  | 2 => ⟨S2x2176x1024, .f32⟩
  | 3 => ⟨S4352x1024, .f32⟩
  | 4 => ⟨S4352x1024, .bf16⟩
  | 5 => ⟨S_, .f32⟩
  | 6 => ⟨S2x112x1024, .f32⟩
  | 7 => ⟨S2x2176x1024, .f32⟩
  | 8 => ⟨S4352x1024, .f32⟩
  | 9 => ⟨S4352x1024, .bf16⟩
  | 10 => ⟨S1x1024, .f32⟩
  | _ => ⟨S4352x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4352x8192, .f32⟩

abbrev bufTy : (tb : Table) → Fin (tcTables nBuf tb) → BufTy
  | .hbm, ⟨i, _⟩ => hbmTy i
  | _, _ => ⟨S4352x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst_5 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_6 : Ref sig .tc := ⟨.hbm, 82, rfl⟩
abbrev main_v72 : Ref sig .tc := ⟨.hbm, 83, rfl⟩
abbrev main_v73 : Ref sig .tc := ⟨.hbm, 84, rfl⟩
abbrev main_cst_7 : Ref sig .tc := ⟨.hbm, 85, rfl⟩
abbrev main_v74 : Ref sig .tc := ⟨.hbm, 86, rfl⟩
abbrev main_v75 : Ref sig .tc := ⟨.hbm, 87, rfl⟩
abbrev main_cst_8 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_cst_10 : Ref sig .tc := ⟨.hbm, 94, rfl⟩
abbrev main_v80 : Ref sig .tc := ⟨.hbm, 95, rfl⟩
abbrev main_v81 : Ref sig .tc := ⟨.hbm, 96, rfl⟩
abbrev main_cst_11 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_cst_13 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_cst_14 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_15 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_16 : Ref sig .tc := ⟨.hbm, 128, rfl⟩
abbrev main_call0_v0 : Ref sig .tc := ⟨.hbm, 129, rfl⟩
abbrev main_call0_v1 : Ref sig .tc := ⟨.hbm, 130, rfl⟩
abbrev main_call0_v2 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_cst_17 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_18 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_19 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_cst_20 : Ref sig .tc := ⟨.hbm, 243, rfl⟩
abbrev main_v216 : Ref sig .tc := ⟨.hbm, 244, rfl⟩
abbrev main_v217 : Ref sig .tc := ⟨.hbm, 245, rfl⟩
abbrev main_cst_21 : Ref sig .tc := ⟨.hbm, 246, rfl⟩
abbrev main_v218 : Ref sig .tc := ⟨.hbm, 247, rfl⟩
abbrev main_v219 : Ref sig .tc := ⟨.hbm, 248, rfl⟩
abbrev main_cst_22 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_v228 : Ref sig .tc := ⟨.hbm, 258, rfl⟩
abbrev main_v229 : Ref sig .tc := ⟨.hbm, 259, rfl⟩
abbrev main_v230 : Ref sig .tc := ⟨.hbm, 260, rfl⟩
abbrev main_v231 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_cst_23 : Ref sig .tc := ⟨.hbm, 266, rfl⟩
abbrev main_v236 : Ref sig .tc := ⟨.hbm, 267, rfl⟩
abbrev main_v237 : Ref sig .tc := ⟨.hbm, 268, rfl⟩
abbrev main_cst_24 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_cst_25 : Ref sig .tc := ⟨.hbm, 275, rfl⟩
abbrev main_v243 : Ref sig .tc := ⟨.hbm, 276, rfl⟩
abbrev main_v244 : Ref sig .tc := ⟨.hbm, 277, rfl⟩
abbrev main_cst_26 : Ref sig .tc := ⟨.hbm, 278, rfl⟩
abbrev main_v245 : Ref sig .tc := ⟨.hbm, 279, rfl⟩
abbrev main_v246 : Ref sig .tc := ⟨.hbm, 280, rfl⟩
abbrev main_cst_27 : Ref sig .tc := ⟨.hbm, 281, rfl⟩
abbrev main_v247 : Ref sig .tc := ⟨.hbm, 282, rfl⟩
abbrev main_v248 : Ref sig .tc := ⟨.hbm, 283, rfl⟩
abbrev main_v249 : Ref sig .tc := ⟨.hbm, 284, rfl⟩
abbrev main_v250 : Ref sig .tc := ⟨.hbm, 285, rfl⟩
abbrev main_cst_28 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_v259_2 : Ref sig .tc := ⟨.hbm, 302, rfl⟩
abbrev main_call1_cst_1 : Ref sig .tc := ⟨.hbm, 303, rfl⟩
abbrev main_call1_v6 : Ref sig .tc := ⟨.hbm, 304, rfl⟩
abbrev main_call1_v7 : Ref sig .tc := ⟨.hbm, 305, rfl⟩
abbrev main_v259_1 : Ref sig .tc := ⟨.hbm, 306, rfl⟩
abbrev main_v259_0 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_v266 : Ref sig .tc := ⟨.hbm, 317, rfl⟩
abbrev main_v267 : Ref sig .tc := ⟨.hbm, 318, rfl⟩
abbrev main_cst_29 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_cst_30 : Ref sig .tc := ⟨.hbm, 324, rfl⟩
abbrev main_v272 : Ref sig .tc := ⟨.hbm, 325, rfl⟩
abbrev main_v273 : Ref sig .tc := ⟨.hbm, 326, rfl⟩
abbrev main_v274 : Ref sig .tc := ⟨.hbm, 327, rfl⟩
abbrev main_cst_31 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_cst_32 : Ref sig .tc := ⟨.hbm, 334, rfl⟩
abbrev main_v280 : Ref sig .tc := ⟨.hbm, 335, rfl⟩
abbrev main_v281 : Ref sig .tc := ⟨.hbm, 336, rfl⟩
abbrev main_cst_33 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_cst_34 : Ref sig .tc := ⟨.hbm, 345, rfl⟩
abbrev main_v289 : Ref sig .tc := ⟨.hbm, 346, rfl⟩
abbrev main_v290 : Ref sig .tc := ⟨.hbm, 347, rfl⟩
abbrev main_cst_35 : Ref sig .tc := ⟨.hbm, 348, rfl⟩
abbrev main_v291 : Ref sig .tc := ⟨.hbm, 349, rfl⟩
abbrev main_v292 : Ref sig .tc := ⟨.hbm, 350, rfl⟩
abbrev main_cst_36 : Ref sig .tc := ⟨.hbm, 351, rfl⟩
abbrev main_v293 : Ref sig .tc := ⟨.hbm, 352, rfl⟩
abbrev main_v294 : Ref sig .tc := ⟨.hbm, 353, rfl⟩
abbrev main_v295 : Ref sig .tc := ⟨.hbm, 354, rfl⟩
abbrev main_cst_37 : Ref sig .tc := ⟨.hbm, 355, rfl⟩
abbrev main_v296 : Ref sig .tc := ⟨.hbm, 356, rfl⟩
abbrev main_v297 : Ref sig .tc := ⟨.hbm, 357, rfl⟩
abbrev main_v298 : Ref sig .tc := ⟨.hbm, 358, rfl⟩
abbrev main_v299 : Ref sig .tc := ⟨.hbm, 359, rfl⟩
abbrev main_v300 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_v320 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_v349 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_v357 : Ref sig .tc := ⟨.hbm, 417, rfl⟩
abbrev main_v358 : Ref sig .tc := ⟨.hbm, 418, rfl⟩
abbrev main_v359 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_cst_38 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_v380 : Ref sig .tc := ⟨.hbm, 441, rfl⟩
abbrev main_v381 : Ref sig .tc := ⟨.hbm, 442, rfl⟩
abbrev main_v382 : Ref sig .tc := ⟨.hbm, 443, rfl⟩
abbrev main_v383 : Ref sig .tc := ⟨.hbm, 444, rfl⟩
abbrev main_v384 : Ref sig .tc := ⟨.hbm, 445, rfl⟩
abbrev main_v385 : Ref sig .tc := ⟨.hbm, 446, rfl⟩
abbrev main_v386 : Ref sig .tc := ⟨.hbm, 447, rfl⟩
abbrev main_v387 : Ref sig .tc := ⟨.hbm, 448, rfl⟩
abbrev main_v388 : Ref sig .tc := ⟨.hbm, 449, rfl⟩
abbrev main_v389 : Ref sig .tc := ⟨.hbm, 450, rfl⟩
abbrev main_v390 : Ref sig .tc := ⟨.hbm, 451, rfl⟩
abbrev main_v391 : Ref sig .tc := ⟨.hbm, 452, rfl⟩
abbrev main_v392 : Ref sig .tc := ⟨.hbm, 453, rfl⟩
abbrev main_v393 : Ref sig .tc := ⟨.hbm, 454, rfl⟩
abbrev main_v394 : Ref sig .tc := ⟨.hbm, 455, rfl⟩
abbrev main_v395 : Ref sig .tc := ⟨.hbm, 456, rfl⟩
abbrev main_v396 : Ref sig .tc := ⟨.hbm, 457, rfl⟩
abbrev main_v397 : Ref sig .tc := ⟨.hbm, 458, rfl⟩
abbrev main_v398 : Ref sig .tc := ⟨.hbm, 459, rfl⟩
abbrev main_v399 : Ref sig .tc := ⟨.hbm, 460, rfl⟩
abbrev main_cst_39 : Ref sig .tc := ⟨.hbm, 461, rfl⟩
abbrev main_v400 : Ref sig .tc := ⟨.hbm, 462, rfl⟩
abbrev main_v401 : Ref sig .tc := ⟨.hbm, 463, rfl⟩
abbrev main_v402 : Ref sig .tc := ⟨.hbm, 464, rfl⟩
abbrev main_v403 : Ref sig .tc := ⟨.hbm, 465, rfl⟩
abbrev main_v404 : Ref sig .tc := ⟨.hbm, 466, rfl⟩
abbrev main_v405 : Ref sig .tc := ⟨.hbm, 467, rfl⟩
abbrev main_v406 : Ref sig .tc := ⟨.hbm, 468, rfl⟩
abbrev main_v407 : Ref sig .tc := ⟨.hbm, 469, rfl⟩
abbrev main_v408 : Ref sig .tc := ⟨.hbm, 470, rfl⟩
abbrev main_v409 : Ref sig .tc := ⟨.hbm, 471, rfl⟩
abbrev main_v410 : Ref sig .tc := ⟨.hbm, 472, rfl⟩
abbrev main_v411 : Ref sig .tc := ⟨.hbm, 473, rfl⟩
abbrev main_v412 : Ref sig .tc := ⟨.hbm, 474, rfl⟩
abbrev main_v413 : Ref sig .tc := ⟨.hbm, 475, rfl⟩
abbrev main_v414 : Ref sig .tc := ⟨.hbm, 476, rfl⟩
abbrev main_cst_40 : Ref sig .tc := ⟨.hbm, 477, rfl⟩
abbrev main_v415 : Ref sig .tc := ⟨.hbm, 478, rfl⟩
abbrev main_cst_41 : Ref sig .tc := ⟨.hbm, 479, rfl⟩
abbrev main_v416 : Ref sig .tc := ⟨.hbm, 480, rfl⟩
abbrev main_v417 : Ref sig .tc := ⟨.hbm, 481, rfl⟩
abbrev main_v418 : Ref sig .tc := ⟨.hbm, 482, rfl⟩
abbrev main_v419 : Ref sig .tc := ⟨.hbm, 483, rfl⟩
abbrev main_v420 : Ref sig .tc := ⟨.hbm, 484, rfl⟩
abbrev main_v421 : Ref sig .tc := ⟨.hbm, 485, rfl⟩
abbrev main_v422 : Ref sig .tc := ⟨.hbm, 486, rfl⟩
abbrev main_v423 : Ref sig .tc := ⟨.hbm, 487, rfl⟩
abbrev main_v424 : Ref sig .tc := ⟨.hbm, 488, rfl⟩
abbrev main_v425 : Ref sig .tc := ⟨.hbm, 489, rfl⟩
abbrev main_v426 : Ref sig .tc := ⟨.hbm, 490, rfl⟩
abbrev main_v427 : Ref sig .tc := ⟨.hbm, 491, rfl⟩
abbrev main_v428 : Ref sig .tc := ⟨.hbm, 492, rfl⟩
abbrev main_v429 : Ref sig .tc := ⟨.hbm, 493, rfl⟩
abbrev main_v430 : Ref sig .tc := ⟨.hbm, 494, rfl⟩
abbrev main_v431 : Ref sig .tc := ⟨.hbm, 495, rfl⟩
abbrev main_cst_42 : Ref sig .tc := ⟨.hbm, 496, rfl⟩
abbrev main_v432 : Ref sig .tc := ⟨.hbm, 497, rfl⟩
abbrev main_cst_43 : Ref sig .tc := ⟨.hbm, 498, rfl⟩
abbrev main_v433 : Ref sig .tc := ⟨.hbm, 499, rfl⟩
abbrev main_v434 : Ref sig .tc := ⟨.hbm, 500, rfl⟩
abbrev main_v435 : Ref sig .tc := ⟨.hbm, 501, rfl⟩
abbrev main_cst_44 : Ref sig .tc := ⟨.hbm, 502, rfl⟩
abbrev main_v436 : Ref sig .tc := ⟨.hbm, 503, rfl⟩
abbrev main_v437 : Ref sig .tc := ⟨.hbm, 504, rfl⟩
abbrev main_v438 : Ref sig .tc := ⟨.hbm, 505, rfl⟩
abbrev main_v439 : Ref sig .tc := ⟨.hbm, 506, rfl⟩
abbrev main_cst_45 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_cst_46 : Ref sig .tc := ⟨.hbm, 512, rfl⟩
abbrev main_v444 : Ref sig .tc := ⟨.hbm, 513, rfl⟩
abbrev main_v445 : Ref sig .tc := ⟨.hbm, 514, rfl⟩
abbrev main_v446 : Ref sig .tc := ⟨.hbm, 515, rfl⟩
abbrev main_v447 : Ref sig .tc := ⟨.hbm, 516, rfl⟩
abbrev main_cst_47 : Ref sig .tc := ⟨.hbm, 517, rfl⟩
abbrev main_v448 : Ref sig .tc := ⟨.hbm, 518, rfl⟩
abbrev main_v449 : Ref sig .tc := ⟨.hbm, 519, rfl⟩
abbrev main_v450 : Ref sig .tc := ⟨.hbm, 520, rfl⟩
abbrev main_v451 : Ref sig .tc := ⟨.hbm, 521, rfl⟩
abbrev main_v452 : Ref sig .tc := ⟨.hbm, 522, rfl⟩

abbrev nD : Nat := 1
abbrev τ : Topo := Topo.v7x

variable {F : FTy → Type} [FloatOps F]
-- ==== Kernel2.lean ====
abbrev S4352x1024 : Shape := ⟨2, ![4352, 1024]⟩
abbrev S4352x5632 : Shape := ⟨2, ![4352, 5632]⟩
abbrev S1024x5632 : Shape := ⟨2, ![1024, 5632]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S1024x5632, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x1024 : Shape := ⟨2, ![4352, 1024]⟩
abbrev S4352x5632 : Shape := ⟨2, ![4352, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S_, .f32⟩
  | .hbm, ⟨3, _⟩ => ⟨S1024x5632, .f32⟩
  | .hbm, ⟨4, _⟩ => ⟨S4352x1024, .f32⟩
  | .hbm, ⟨5, _⟩ => ⟨S4352x5632, .f32⟩
  | .hbm, ⟨6, _⟩ => ⟨S4352x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4352x2816 : Shape := ⟨2, ![4352, 2816]⟩
abbrev S4352x1024 : Shape := ⟨2, ![4352, 1024]⟩
abbrev S2816x1024 : Shape := ⟨2, ![2816, 1024]⟩
abbrev S4352x256 : Shape := ⟨2, ![4352, 256]⟩
abbrev S4352x512 : Shape := ⟨2, ![4352, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S2816x1024, .bf16⟩
  | .local _ .vmem, ⟨0, _⟩ => ⟨S4352x256, .bf16⟩
  | .local _ .vmem, ⟨1, _⟩ => ⟨S4352x256, .bf16⟩
  | .local _ .vmem, ⟨2, _⟩ => ⟨S4352x512, .f32⟩
  | .local _ .vmem, ⟨3, _⟩ => ⟨S4352x512, .f32⟩
  | .local _ .vmem, ⟨4, _⟩ => ⟨S256x512, .bf16⟩
  | .local _ .vmem, ⟨5, _⟩ => ⟨S256x512, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .f32⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4352x2048 : Shape := ⟨2, ![4352, 2048]⟩
abbrev S4352x1024 : Shape := ⟨2, ![4352, 1024]⟩
abbrev S2048x1024 : Shape := ⟨2, ![2048, 1024]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .f32⟩
  | .hbm, ⟨2, _⟩ => ⟨S2048x1024, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .f32⟩
  | .local _ .vmem, ⟨3, _⟩ => ⟨S4352x512, .f32⟩
  | .local _ .vmem, ⟨4, _⟩ => ⟨S512x512, .bf16⟩
  | .local _ .vmem, ⟨5, _⟩ => ⟨S512x512, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .f32⟩
  | .hbm, ⟨2, _⟩ => ⟨S_, .f32⟩
  | .hbm, ⟨3, _⟩ => ⟨S2048x1024, .f32⟩
  | .hbm, ⟨4, _⟩ => ⟨S4352x2048, .f32⟩
  | .hbm, ⟨5, _⟩ => ⟨S4352x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x1024 : Shape := ⟨2, ![4352, 1024]⟩
abbrev S4352x5120 : Shape := ⟨2, ![4352, 5120]⟩
abbrev S1024x5120 : Shape := ⟨2, ![1024, 5120]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x5120, .bf16⟩
  | .hbm, ⟨2, _⟩ => ⟨S1024x5120, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x1024 : Shape := ⟨2, ![4352, 1024]⟩
abbrev S4352x5120 : Shape := ⟨2, ![4352, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5120, .bf16⟩
  | .hbm, ⟨2, _⟩ => ⟨S_, .f32⟩
  | .hbm, ⟨3, _⟩ => ⟨S1024x5120, .f32⟩
  | .hbm, ⟨4, _⟩ => ⟨S4352x1024, .f32⟩
  | .hbm, ⟨5, _⟩ => ⟨S4352x5120, .f32⟩
  | .hbm, ⟨6, _⟩ => ⟨S4352x5120, .f32⟩
  | .hbm, ⟨7, _⟩ => ⟨S5120x1024, .f32⟩
  | .hbm, ⟨8, _⟩ => ⟨S1024x5120, .f32⟩
  | .hbm, ⟨9, _⟩ => ⟨S1024x5120, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x1024 : Shape := ⟨2, ![4352, 1024]⟩
abbrev S4352x8192 : Shape := ⟨2, ![4352, 8192]⟩
abbrev S1024x8192 : Shape := ⟨2, ![1024, 8192]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S1024x8192, .bf16⟩
  | .local _ .vmem, ⟨0, _⟩ => ⟨S4352x512, .bf16⟩
  | .local _ .vmem, ⟨1, _⟩ => ⟨S4352x512, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x1024 : Shape := ⟨2, ![4352, 1024]⟩
abbrev S4352x8192 : Shape := ⟨2, ![4352, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x8192, .bf16⟩
  | .hbm, ⟨2, _⟩ => ⟨S_, .f32⟩
  | .hbm, ⟨3, _⟩ => ⟨S1024x8192, .f32⟩
  | .hbm, ⟨4, _⟩ => ⟨S4352x1024, .f32⟩
  | .hbm, ⟨5, _⟩ => ⟨S4352x8192, .f32⟩
  | .hbm, ⟨6, _⟩ => ⟨S4352x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x1024 : Shape := ⟨2, ![4352, 1024]⟩
abbrev S2816x1024 : Shape := ⟨2, ![2816, 1024]⟩
abbrev S4352x2816 : Shape := ⟨2, ![4352, 2816]⟩
abbrev S2176x1024 : Shape := ⟨2, ![2176, 1024]⟩
abbrev S256x1024 : Shape := ⟨2, ![256, 1024]⟩
abbrev S2176x256 : Shape := ⟨2, ![2176, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S2816x1024, .bf16⟩
  | .hbm, ⟨2, _⟩ => ⟨S4352x2816, .bf16⟩
  | .local _ .vmem, ⟨0, _⟩ => ⟨S2176x1024, .f32⟩
  | .local _ .vmem, ⟨1, _⟩ => ⟨S2176x1024, .f32⟩
  | .local _ .vmem, ⟨2, _⟩ => ⟨S256x1024, .bf16⟩
  | .local _ .vmem, ⟨3, _⟩ => ⟨S256x1024, .bf16⟩
  | .local _ .vmem, ⟨4, _⟩ => ⟨S2176x256, .bf16⟩
  | .local _ .vmem, ⟨5, _⟩ => ⟨S2176x256, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x1024 : Shape := ⟨2, ![4352, 1024]⟩
abbrev S2816x1024 : Shape := ⟨2, ![2816, 1024]⟩
abbrev S_ : Shape := ⟨0, ![]⟩
abbrev S4352x2816 : Shape := ⟨2, ![4352, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2816x1024, .bf16⟩
  | .hbm, ⟨2, _⟩ => ⟨S_, .f32⟩
  | .hbm, ⟨3, _⟩ => ⟨S4352x2816, .f32⟩
  | .hbm, ⟨4, _⟩ => ⟨S2816x1024, .f32⟩
  | .hbm, ⟨5, _⟩ => ⟨S4352x1024, .f32⟩
  | .hbm, ⟨6, _⟩ => ⟨S4352x2816, .f32⟩
  | .hbm, ⟨7, _⟩ => ⟨S4352x2816, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4352x1024 : Shape := ⟨2, ![4352, 1024]⟩
abbrev S2048x1024 : Shape := ⟨2, ![2048, 1024]⟩
abbrev S4352x2048 : Shape := ⟨2, ![4352, 2048]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S2048x1024, .bf16⟩
  | .hbm, ⟨2, _⟩ => ⟨S4352x2048, .bf16⟩
  | .local _ .vmem, ⟨0, _⟩ => ⟨S2176x1024, .f32⟩
  | .local _ .vmem, ⟨1, _⟩ => ⟨S2176x1024, .f32⟩
  | .local _ .vmem, ⟨2, _⟩ => ⟨S1024x1024, .bf16⟩
  | .local _ .vmem, ⟨3, _⟩ => ⟨S1024x1024, .bf16⟩
  | .local _ .vmem, ⟨4, _⟩ => ⟨S2176x1024, .bf16⟩
  | .local _ .vmem, ⟨5, _⟩ => ⟨S2176x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x1024 : Shape := ⟨2, ![4352, 1024]⟩
abbrev S2048x1024 : Shape := ⟨2, ![2048, 1024]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S2048x1024, .bf16⟩
  | .hbm, ⟨2, _⟩ => ⟨S_, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S4352x2048, .f32⟩
  | .hbm, ⟨7, _⟩ => ⟨S4352x2048, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4352x5632 : Shape := ⟨2, ![4352, 5632]⟩
abbrev S1024x5632 : Shape := ⟨2, ![1024, 5632]⟩
abbrev S4352x1024 : Shape := ⟨2, ![4352, 1024]⟩
abbrev S256x2816 : Shape := ⟨2, ![256, 2816]⟩
abbrev S1024x2816 : Shape := ⟨2, ![1024, 2816]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5632, .bf16⟩
  | .hbm, ⟨1, _⟩ => ⟨S1024x5632, .bf16⟩
  | .hbm, ⟨2, _⟩ => ⟨S4352x1024, .f32⟩
  | .local _ .vmem, ⟨0, _⟩ => ⟨S256x2816, .bf16⟩
  | .local _ .vmem, ⟨1, _⟩ => ⟨S256x2816, .bf16⟩
  | .local _ .vmem, ⟨2, _⟩ => ⟨S1024x2816, .bf16⟩
  | .local _ .vmem, ⟨3, _⟩ => ⟨S1024x2816, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x5632 : Shape := ⟨2, ![4352, 5632]⟩
abbrev S1024x5632 : Shape := ⟨2, ![1024, 5632]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S1024x5632, .bf16⟩
  | .hbm, ⟨2, _⟩ => ⟨S_, .f32⟩
  | .hbm, ⟨3, _⟩ => ⟨S4352x1024, .f32⟩
  | .hbm, ⟨4, _⟩ => ⟨S1024x5632, .f32⟩
  | .hbm, ⟨5, _⟩ => ⟨S4352x5632, .f32⟩
  | .hbm, ⟨6, _⟩ => ⟨S4352x5632, .f32⟩
  | .hbm, ⟨7, _⟩ => ⟨S4352x1024, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4352x5120 : Shape := ⟨2, ![4352, 5120]⟩
abbrev S1024x5120 : Shape := ⟨2, ![1024, 5120]⟩
abbrev S4352x1024 : Shape := ⟨2, ![4352, 1024]⟩
abbrev S256x2560 : Shape := ⟨2, ![256, 2560]⟩
abbrev S1024x2560 : Shape := ⟨2, ![1024, 2560]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x5120, .bf16⟩
  | .hbm, ⟨1, _⟩ => ⟨S1024x5120, .bf16⟩
  | .hbm, ⟨2, _⟩ => ⟨S4352x1024, .f32⟩
  | .local _ .vmem, ⟨0, _⟩ => ⟨S256x2560, .bf16⟩
  | .local _ .vmem, ⟨1, _⟩ => ⟨S256x2560, .bf16⟩
  | .local _ .vmem, ⟨2, _⟩ => ⟨S1024x2560, .bf16⟩
  | .local _ .vmem, ⟨3, _⟩ => ⟨S1024x2560, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4352x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![17, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x5120 : Shape := ⟨2, ![4352, 5120]⟩
abbrev S1024x5120 : Shape := ⟨2, ![1024, 5120]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x5120, .bf16⟩
  | .hbm, ⟨1, _⟩ => ⟨S1024x5120, .bf16⟩
  | .hbm, ⟨2, _⟩ => ⟨S_, .f32⟩
  | .hbm, ⟨3, _⟩ => ⟨S4352x1024, .f32⟩
  | .hbm, ⟨4, _⟩ => ⟨S1024x5120, .f32⟩
  | .hbm, ⟨5, _⟩ => ⟨S4352x5120, .f32⟩
  | .hbm, ⟨6, _⟩ => ⟨S4352x5120, .f32⟩
  | .hbm, ⟨7, _⟩ => ⟨S4352x1024, .f32⟩
  | _, _ => ⟨S4352x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4352x1024 : Shape := ⟨2, ![4352, 1024]⟩
abbrev S1024x5632 : Shape := ⟨2, ![1024, 5632]⟩
abbrev S4352x5632 : Shape := ⟨2, ![4352, 5632]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x5632, .f32⟩
  | .local _ .vmem, ⟨0, _⟩ => ⟨S2176x1024, .bf16⟩
  | .local _ .vmem, ⟨1, _⟩ => ⟨S2176x1024, .bf16⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x1024 : Shape := ⟨2, ![4352, 1024]⟩
abbrev S1024x5632 : Shape := ⟨2, ![1024, 5632]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x1024, .f32⟩
  | .hbm, ⟨3, _⟩ => ⟨S1024x5632, .f32⟩
  | .hbm, ⟨4, _⟩ => ⟨S4352x5632, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4352x1024 : Shape := ⟨2, ![4352, 1024]⟩
abbrev S1024x5120 : Shape := ⟨2, ![1024, 5120]⟩
abbrev S4352x5120 : Shape := ⟨2, ![4352, 5120]⟩
abbrev S2176x1024 : Shape := ⟨2, ![2176, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x5120, .bf16⟩
  | .hbm, ⟨2, _⟩ => ⟨S4352x5120, .f32⟩
  | .local _ .vmem, ⟨0, _⟩ => ⟨S2176x1024, .bf16⟩
  | .local _ .vmem, ⟨1, _⟩ => ⟨S2176x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2176x1024, .f32⟩
  | .local _ .vmem, ⟨5, _⟩ => ⟨S2176x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x1024 : Shape := ⟨2, ![4352, 1024]⟩
abbrev S1024x5120 : Shape := ⟨2, ![1024, 5120]⟩
abbrev S4352x5120 : Shape := ⟨2, ![4352, 5120]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5120, .bf16⟩
  | .hbm, ⟨2, _⟩ => ⟨S4352x1024, .f32⟩
  | .hbm, ⟨3, _⟩ => ⟨S1024x5120, .f32⟩
  | .hbm, ⟨4, _⟩ => ⟨S4352x5120, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4352x2048 : Shape := ⟨2, ![4352, 2048]⟩
abbrev S2048x1024 : Shape := ⟨2, ![2048, 1024]⟩
abbrev S4352x1024 : Shape := ⟨2, ![4352, 1024]⟩
abbrev S256x2048 : Shape := ⟨2, ![256, 2048]⟩
abbrev S256x1024 : Shape := ⟨2, ![256, 1024]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S4352x1024, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S4352x2048 : Shape := ⟨2, ![4352, 2048]⟩
abbrev S2048x1024 : Shape := ⟨2, ![2048, 1024]⟩
abbrev S4352x1024 : Shape := ⟨2, ![4352, 1024]⟩
abbrev S2x2176x1024 : Shape := ⟨3, ![2, 2176, 1024]⟩
abbrev S2x2176x2048 : Shape := ⟨3, ![2, 2176, 2048]⟩
abbrev S2x2064x1024 : Shape := ⟨3, ![2, 2064, 1024]⟩
abbrev S2x2064x2048 : Shape := ⟨3, ![2, 2064, 2048]⟩
abbrev S2x112x1024 : Shape := ⟨3, ![2, 112, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .f32⟩
  | .hbm, ⟨3, _⟩ => ⟨S2x2176x1024, .f32⟩
  | .hbm, ⟨4, _⟩ => ⟨S4352x2048, .f32⟩
  | .hbm, ⟨5, _⟩ => ⟨S2x2176x2048, .f32⟩
  | .hbm, ⟨6, _⟩ => ⟨S2x2064x1024, .f32⟩
  | .hbm, ⟨7, _⟩ => ⟨S2x2064x2048, .f32⟩
  | .hbm, ⟨8, _⟩ => ⟨S2048x1024, .f32⟩
  | .hbm, ⟨9, _⟩ => ⟨S2x2064x1024, .f32⟩
  | .hbm, ⟨10, _⟩ => ⟨S2x2064x1024, .f32⟩
  | .hbm, ⟨11, _⟩ => ⟨S2x112x1024, .f32⟩
  | .hbm, ⟨12, _⟩ => ⟨S2x2176x1024, .f32⟩
  | .hbm, ⟨13, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel14.lean ====
abbrev S4352x2816 : Shape := ⟨2, ![4352, 2816]⟩
abbrev S2816x1024 : Shape := ⟨2, ![2816, 1024]⟩
abbrev S4352x1024 : Shape := ⟨2, ![4352, 1024]⟩
abbrev S256x2816 : Shape := ⟨2, ![256, 2816]⟩
abbrev S256x1024 : Shape := ⟨2, ![256, 1024]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S4352x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![17, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4352x2816 : Shape := ⟨2, ![4352, 2816]⟩
abbrev S2816x1024 : Shape := ⟨2, ![2816, 1024]⟩
abbrev S4352x1024 : Shape := ⟨2, ![4352, 1024]⟩
abbrev S2x2176x1024 : Shape := ⟨3, ![2, 2176, 1024]⟩
abbrev S2x2176x2816 : Shape := ⟨3, ![2, 2176, 2816]⟩
abbrev S2x2064x1024 : Shape := ⟨3, ![2, 2064, 1024]⟩
abbrev S2x2064x2816 : Shape := ⟨3, ![2, 2064, 2816]⟩
abbrev S2x112x1024 : Shape := ⟨3, ![2, 112, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .hbm, ⟨3, _⟩ => ⟨S2x2176x1024, .f32⟩
  | .hbm, ⟨4, _⟩ => ⟨S4352x2816, .f32⟩
  | .hbm, ⟨5, _⟩ => ⟨S2x2176x2816, .f32⟩
  | .hbm, ⟨6, _⟩ => ⟨S2x2064x1024, .f32⟩
  | .hbm, ⟨7, _⟩ => ⟨S2x2064x2816, .f32⟩
  | .hbm, ⟨8, _⟩ => ⟨S2816x1024, .f32⟩
  | .hbm, ⟨9, _⟩ => ⟨S2x2064x1024, .f32⟩
  | .hbm, ⟨10, _⟩ => ⟨S2x2064x1024, .f32⟩
  | .hbm, ⟨11, _⟩ => ⟨S2x112x1024, .f32⟩
  | .hbm, ⟨12, _⟩ => ⟨S2x2176x1024, .f32⟩
  | .hbm, ⟨13, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel15.lean ====
abbrev S4352x1024 : Shape := ⟨2, ![4352, 1024]⟩
abbrev S1024 : Shape := ⟨1, ![1024]⟩
abbrev S1x1024 : Shape := ⟨2, ![1, 1024]⟩
abbrev S544x1024 : Shape := ⟨2, ![544, 1024]⟩
abbrev S544x1 : Shape := ⟨2, ![544, 1]⟩
abbrev S544 : Shape := ⟨1, ![544]⟩

abbrev nBuf : Space → Nat
  | .hbm => 7
  | .vmem => 10
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S4352x1024, .f32⟩
  | .hbm, ⟨3, _⟩ => ⟨S4352x1024, .f32⟩
  | .hbm, ⟨4, _⟩ => ⟨S1x1024, .f32⟩
  | .hbm, ⟨5, _⟩ => ⟨S4352x1024, .f32⟩
  | .hbm, ⟨6, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S1x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S4352x1024 : Shape := ⟨2, ![4352, 1024]⟩
abbrev S1024 : Shape := ⟨1, ![1024]⟩
abbrev S2x2176x1024 : Shape := ⟨3, ![2, 2176, 1024]⟩
abbrev S2x2064x1024 : Shape := ⟨3, ![2, 2064, 1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x112x1024 : Shape := ⟨3, ![2, 112, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S4352x1024, .f32⟩
  | .hbm, ⟨3, _⟩ => ⟨S4352x1024, .f32⟩
  | .hbm, ⟨4, _⟩ => ⟨S2x2176x1024, .f32⟩
  | .hbm, ⟨5, _⟩ => ⟨S2x2176x1024, .f32⟩
  | .hbm, ⟨6, _⟩ => ⟨S2x2176x1024, .f32⟩
  | .hbm, ⟨7, _⟩ => ⟨S2x2064x1024, .f32⟩
  | .hbm, ⟨8, _⟩ => ⟨S2x2064x1024, .f32⟩
  | .hbm, ⟨9, _⟩ => ⟨S_, .f32⟩
  | .hbm, ⟨10, _⟩ => ⟨S2x2064, .f32⟩
  | .hbm, ⟨11, _⟩ => ⟨S2x2064x1, .f32⟩
  | .hbm, ⟨12, _⟩ => ⟨S_, .f32⟩
  | .hbm, ⟨13, _⟩ => ⟨S2x2064x1, .f32⟩
  | .hbm, ⟨14, _⟩ => ⟨S2x2064x1, .f32⟩
  | .hbm, ⟨15, _⟩ => ⟨S_, .f32⟩
  | .hbm, ⟨16, _⟩ => ⟨S2x2064x1, .f32⟩
  | .hbm, ⟨17, _⟩ => ⟨S2x2064x1, .f32⟩
  | .hbm, ⟨18, _⟩ => ⟨S2x2064x1, .f32⟩
  | .hbm, ⟨19, _⟩ => ⟨S2x2064x1, .f32⟩
  | .hbm, ⟨20, _⟩ => ⟨S_, .f32⟩
  | .hbm, ⟨21, _⟩ => ⟨S2x2064x1, .f32⟩
  | .hbm, ⟨22, _⟩ => ⟨S2x2064x1, .f32⟩
  | .hbm, ⟨23, _⟩ => ⟨S2x2064x1024, .f32⟩
  | .hbm, ⟨24, _⟩ => ⟨S2x2064x1024, .f32⟩
  | .hbm, ⟨25, _⟩ => ⟨S1x1x1024, .f32⟩
  | .hbm, ⟨26, _⟩ => ⟨S2x2064x1024, .f32⟩
  | .hbm, ⟨27, _⟩ => ⟨S2x2064x1024, .f32⟩
  | .hbm, ⟨28, _⟩ => ⟨S2x2064x1024, .f32⟩
  | .hbm, ⟨29, _⟩ => ⟨S2x2064x1024, .f32⟩
  | .hbm, ⟨30, _⟩ => ⟨S2x2064x1024, .f32⟩
  | .hbm, ⟨31, _⟩ => ⟨S_, .f32⟩
  | .hbm, ⟨32, _⟩ => ⟨S1024, .f32⟩
  | .hbm, ⟨33, _⟩ => ⟨S1x1x1024, .f32⟩
  | .hbm, ⟨34, _⟩ => ⟨S2x2064x1024, .f32⟩
  | .hbm, ⟨35, _⟩ => ⟨S2x2064x1024, .f32⟩
  | .hbm, ⟨36, _⟩ => ⟨S_, .f32⟩
  | .hbm, ⟨37, _⟩ => ⟨S1024, .f32⟩
  | .hbm, ⟨38, _⟩ => ⟨S2x2064x1024, .f32⟩
  | .hbm, ⟨39, _⟩ => ⟨S_, .f32⟩
  | .hbm, ⟨40, _⟩ => ⟨S2x2064, .f32⟩
  | .hbm, ⟨41, _⟩ => ⟨S2x2064x1, .f32⟩
  | .hbm, ⟨42, _⟩ => ⟨S2x2064x1024, .f32⟩
  | .hbm, ⟨43, _⟩ => ⟨S2x2064x1024, .f32⟩
  | .hbm, ⟨44, _⟩ => ⟨S2x2064x1024, .f32⟩
  | .hbm, ⟨45, _⟩ => ⟨S2x2064x1, .f32⟩
  | .hbm, ⟨46, _⟩ => ⟨S_, .f32⟩
  | .hbm, ⟨47, _⟩ => ⟨S2x2064x1, .f32⟩
  | .hbm, ⟨48, _⟩ => ⟨S2x2064x1, .f32⟩
  | .hbm, ⟨49, _⟩ => ⟨S_, .f32⟩
  | .hbm, ⟨50, _⟩ => ⟨S2x2064, .f32⟩
  | .hbm, ⟨51, _⟩ => ⟨S2x2064x1024, .f32⟩
  | .hbm, ⟨52, _⟩ => ⟨S2x2064x1024, .f32⟩
  | .hbm, ⟨53, _⟩ => ⟨S2x2064x1024, .f32⟩
  | .hbm, ⟨54, _⟩ => ⟨S2x2064x1024, .f32⟩
  | .hbm, ⟨55, _⟩ => ⟨S2x2064x1024, .f32⟩
  | .hbm, ⟨56, _⟩ => ⟨S2x112x1024, .f32⟩
  | .hbm, ⟨57, _⟩ => ⟨S2x2176x1024, .f32⟩
  | .hbm, ⟨58, _⟩ => ⟨S4352x1024, .f32⟩
  | .hbm, ⟨59, _⟩ => ⟨S1x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Kernel16.lean ====
abbrev S4352x1024 : Shape := ⟨2, ![4352, 1024]⟩
abbrev S1024 : Shape := ⟨1, ![1024]⟩
abbrev S1x1024 : Shape := ⟨2, ![1, 1024]⟩
abbrev S544x1024 : Shape := ⟨2, ![544, 1024]⟩
abbrev S544x1 : Shape := ⟨2, ![544, 1]⟩
abbrev S544 : Shape := ⟨1, ![544]⟩

abbrev nBuf : Space → Nat
  | .hbm => 4
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S1x1024, .f32⟩
  | .hbm, ⟨3, _⟩ => ⟨S4352x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x1024, .bf16⟩
  | .local _ .vmem, ⟨4, _⟩ => ⟨S544x1024, .bf16⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference16Ideal.lean ====
abbrev S4352x1024 : Shape := ⟨2, ![4352, 1024]⟩
abbrev S1024 : Shape := ⟨1, ![1024]⟩
abbrev S2x2176x1024 : Shape := ⟨3, ![2, 2176, 1024]⟩
abbrev S2x2064x1024 : Shape := ⟨3, ![2, 2064, 1024]⟩
abbrev S_ : Shape := ⟨0, ![]⟩
abbrev S2x2064 : Shape := ⟨2, ![2, 2064]⟩
abbrev S2x2064x1 : Shape := ⟨3, ![2, 2064, 1]⟩
abbrev S1x1x1024 : Shape := ⟨3, ![1, 1, 1024]⟩
abbrev S2x112x1024 : Shape := ⟨3, ![2, 112, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024, .f32⟩
  | .hbm, ⟨2, _⟩ => ⟨S2x2176x1024, .f32⟩
  | .hbm, ⟨3, _⟩ => ⟨S2x2064x1024, .f32⟩
  | .hbm, ⟨4, _⟩ => ⟨S2x2064x1024, .f32⟩
  | .hbm, ⟨5, _⟩ => ⟨S_, .f32⟩
  | .hbm, ⟨6, _⟩ => ⟨S2x2064, .f32⟩
  | .hbm, ⟨7, _⟩ => ⟨S2x2064x1, .f32⟩
  | .hbm, ⟨8, _⟩ => ⟨S_, .f32⟩
  | .hbm, ⟨9, _⟩ => ⟨S2x2064x1, .f32⟩
  | .hbm, ⟨10, _⟩ => ⟨S2x2064x1, .f32⟩
  | .hbm, ⟨11, _⟩ => ⟨S_, .f32⟩
  | .hbm, ⟨12, _⟩ => ⟨S2x2064x1, .f32⟩
  | .hbm, ⟨13, _⟩ => ⟨S2x2064x1, .f32⟩
  | .hbm, ⟨14, _⟩ => ⟨S2x2064x1, .f32⟩
  | .hbm, ⟨15, _⟩ => ⟨S2x2064x1024, .f32⟩
  | .hbm, ⟨16, _⟩ => ⟨S2x2064x1024, .f32⟩
  | .hbm, ⟨17, _⟩ => ⟨S1x1x1024, .f32⟩
  | .hbm, ⟨18, _⟩ => ⟨S2x2064x1024, .f32⟩
  | .hbm, ⟨19, _⟩ => ⟨S2x2064x1024, .f32⟩
  | .hbm, ⟨20, _⟩ => ⟨S_, .f32⟩
  | .hbm, ⟨21, _⟩ => ⟨S2x112x1024, .f32⟩
  | .hbm, ⟨22, _⟩ => ⟨S2x2176x1024, .f32⟩
  | .hbm, ⟨23, _⟩ => ⟨S4352x1024, .f32⟩
  | .hbm, ⟨24, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel17.lean ====
abbrev S8x1024x898 : Shape := ⟨3, ![8, 1024, 898]⟩
abbrev S1024x898 : Shape := ⟨2, ![1024, 898]⟩
abbrev S8x256x898 : Shape := ⟨3, ![8, 256, 898]⟩
abbrev S256x898 : Shape := ⟨2, ![256, 898]⟩
abbrev S1x256x898 : Shape := ⟨3, ![1, 256, 898]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x898, .bf16⟩
  | .hbm, ⟨1, _⟩ => ⟨S1024x898, .f32⟩
  | .hbm, ⟨2, _⟩ => ⟨S1024x898, .f32⟩
  | .hbm, ⟨3, _⟩ => ⟨S1024x898, .f32⟩
  | .hbm, ⟨4, _⟩ => ⟨S1024x898, .f32⟩
  | .hbm, ⟨5, _⟩ => ⟨S1024x898, .f32⟩
  | .hbm, ⟨6, _⟩ => ⟨S1024x898, .f32⟩
  | .hbm, ⟨7, _⟩ => ⟨S1024x898, .f32⟩
  | .local _ .vmem, ⟨0, _⟩ => ⟨S8x256x898, .bf16⟩
  | .local _ .vmem, ⟨1, _⟩ => ⟨S8x256x898, .bf16⟩
  | .local _ .vmem, ⟨2, _⟩ => ⟨S256x898, .f32⟩
  | .local _ .vmem, ⟨3, _⟩ => ⟨S256x898, .f32⟩
  | .local _ .vmem, ⟨4, _⟩ => ⟨S256x898, .f32⟩
  | .local _ .vmem, ⟨5, _⟩ => ⟨S256x898, .f32⟩
  | .local _ .vmem, ⟨6, _⟩ => ⟨S256x898, .f32⟩
  | .local _ .vmem, ⟨7, _⟩ => ⟨S256x898, .f32⟩
  | .local _ .vmem, ⟨8, _⟩ => ⟨S256x898, .f32⟩
  | .local _ .vmem, ⟨9, _⟩ => ⟨S256x898, .f32⟩
  | .local _ .vmem, ⟨10, _⟩ => ⟨S256x898, .f32⟩
  | .local _ .vmem, ⟨11, _⟩ => ⟨S256x898, .f32⟩
  | .local _ .vmem, ⟨12, _⟩ => ⟨S256x898, .f32⟩
  | .local _ .vmem, ⟨13, _⟩ => ⟨S256x898, .f32⟩
  | .local _ .vmem, ⟨14, _⟩ => ⟨S256x898, .f32⟩
  | .local _ .vmem, ⟨15, _⟩ => ⟨S256x898, .f32⟩
  | _, _ => ⟨S8x1024x898, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x898 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x898 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x898 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x898 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x898 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x898 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x898 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x898 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x1024x898 : Shape := ⟨3, ![8, 1024, 898]⟩
abbrev S1024x898 : Shape := ⟨2, ![1024, 898]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x898, .bf16⟩
  | .hbm, ⟨1, _⟩ => ⟨S1024x898, .f32⟩
  | .hbm, ⟨2, _⟩ => ⟨S1024x898, .f32⟩
  | .hbm, ⟨3, _⟩ => ⟨S1024x898, .f32⟩
  | .hbm, ⟨4, _⟩ => ⟨S8x1024x898, .f32⟩
  | .hbm, ⟨5, _⟩ => ⟨S_, .f32⟩
  | .hbm, ⟨6, _⟩ => ⟨S1024x898, .f32⟩
  | .hbm, ⟨7, _⟩ => ⟨S_, .f32⟩
  | .hbm, ⟨8, _⟩ => ⟨S1024x898, .f32⟩
  | .hbm, ⟨9, _⟩ => ⟨S1024x898, .f32⟩
  | .hbm, ⟨10, _⟩ => ⟨S_, .f32⟩
  | .hbm, ⟨11, _⟩ => ⟨S1024x898, .f32⟩
  | .hbm, ⟨12, _⟩ => ⟨S1024x898, .f32⟩
  | .hbm, ⟨13, _⟩ => ⟨S1024x898, .f32⟩
  | .hbm, ⟨14, _⟩ => ⟨S_, .f32⟩
  | .hbm, ⟨15, _⟩ => ⟨S1024x898, .f32⟩
  | .hbm, ⟨16, _⟩ => ⟨S1024x898, .f32⟩
  | .hbm, ⟨17, _⟩ => ⟨S1024x898, .f32⟩
  | .hbm, ⟨18, _⟩ => ⟨S_, .f32⟩
  | .hbm, ⟨19, _⟩ => ⟨S1024x898, .f32⟩
  | .hbm, ⟨20, _⟩ => ⟨S1024x898, .f32⟩
  | .hbm, ⟨21, _⟩ => ⟨S1024x898, .f32⟩
  | .hbm, ⟨22, _⟩ => ⟨S_, .f32⟩
  | .hbm, ⟨23, _⟩ => ⟨S1024x898, .f32⟩
  | .hbm, ⟨24, _⟩ => ⟨S1024x898, .f32⟩
  | .hbm, ⟨25, _⟩ => ⟨S_, .f32⟩
  | .hbm, ⟨26, _⟩ => ⟨S1024x898, .f32⟩
  | .hbm, ⟨27, _⟩ => ⟨S1024x898, .f32⟩
  | .hbm, ⟨28, _⟩ => ⟨S1024x898, .f32⟩
  | .hbm, ⟨29, _⟩ => ⟨S_, .f32⟩
  | .hbm, ⟨30, _⟩ => ⟨S1024x898, .f32⟩
  | .hbm, ⟨31, _⟩ => ⟨S1024x898, .f32⟩
  | .hbm, ⟨32, _⟩ => ⟨S1024x898, .f32⟩
  | .hbm, ⟨33, _⟩ => ⟨S_, .f32⟩
  | .hbm, ⟨34, _⟩ => ⟨S1024x898, .f32⟩
  | .hbm, ⟨35, _⟩ => ⟨S1024x898, .f32⟩
  | .hbm, ⟨36, _⟩ => ⟨S1024x898, .f32⟩
  | .hbm, ⟨37, _⟩ => ⟨S_, .f32⟩
  | .hbm, ⟨38, _⟩ => ⟨S1024x898, .f32⟩
  | .hbm, ⟨39, _⟩ => ⟨S1024x898, .f32⟩
  | _, _ => ⟨S8x1024x898, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x1024x704 : Shape := ⟨3, ![8, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x704 : Shape := ⟨3, ![8, 1024, 704]⟩
abbrev S1024x704 : Shape := ⟨2, ![1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x1024x640 : Shape := ⟨3, ![8, 1024, 640]⟩
abbrev S1024x640 : Shape := ⟨2, ![1024, 640]⟩
abbrev S8x256x640 : Shape := ⟨3, ![8, 256, 640]⟩
abbrev S256x640 : Shape := ⟨2, ![256, 640]⟩
abbrev S1x256x640 : Shape := ⟨3, ![1, 256, 640]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .local _ .vmem, ⟨0, _⟩ => ⟨S8x256x640, .bf16⟩
  | .local _ .vmem, ⟨1, _⟩ => ⟨S8x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S8x1024x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x1024x640 : Shape := ⟨3, ![8, 1024, 640]⟩
abbrev S1024x640 : Shape := ⟨2, ![1024, 640]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x640, .bf16⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S8x1024x640, .f32⟩
  | .hbm, ⟨5, _⟩ => ⟨S_, .f32⟩
  | .hbm, ⟨6, _⟩ => ⟨S1024x640, .f32⟩
  | .hbm, ⟨7, _⟩ => ⟨S_, .f32⟩
  | .hbm, ⟨8, _⟩ => ⟨S1024x640, .f32⟩
  | .hbm, ⟨9, _⟩ => ⟨S1024x640, .f32⟩
  | .hbm, ⟨10, _⟩ => ⟨S_, .f32⟩
  | .hbm, ⟨11, _⟩ => ⟨S1024x640, .f32⟩
  | .hbm, ⟨12, _⟩ => ⟨S1024x640, .f32⟩
  | .hbm, ⟨13, _⟩ => ⟨S1024x640, .f32⟩
  | .hbm, ⟨14, _⟩ => ⟨S_, .f32⟩
  | .hbm, ⟨15, _⟩ => ⟨S1024x640, .f32⟩
  | .hbm, ⟨16, _⟩ => ⟨S1024x640, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S1024x640, .f32⟩
  | .hbm, ⟨22, _⟩ => ⟨S_, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S1024x640, .f32⟩
  | .hbm, ⟨37, _⟩ => ⟨S_, .f32⟩
  | .hbm, ⟨38, _⟩ => ⟨S1024x640, .f32⟩
  | .hbm, ⟨39, _⟩ => ⟨S1024x640, .f32⟩
  | _, _ => ⟨S8x1024x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel22.lean ====
abbrev S8x256x128 : Shape := ⟨3, ![8, 256, 128]⟩
abbrev S16x128 : Shape := ⟨2, ![16, 128]⟩
abbrev S4x256 : Shape := ⟨2, ![4, 256]⟩
abbrev S3x704 : Shape := ⟨2, ![3, 704]⟩
abbrev S4x128 : Shape := ⟨2, ![4, 128]⟩
abbrev S2048 : Shape := ⟨1, ![2048]⟩
abbrev S1024 : Shape := ⟨1, ![1024]⟩
abbrev S2112 : Shape := ⟨1, ![2112]⟩
abbrev S512 : Shape := ⟨1, ![512]⟩
abbrev S7808 : Shape := ⟨1, ![7808]⟩
abbrev S_ : Shape := ⟨0, ![]⟩
abbrev S32768 : Shape := ⟨1, ![32768]⟩
abbrev S256x128 : Shape := ⟨2, ![256, 128]⟩
abbrev S1x256x128 : Shape := ⟨3, ![1, 256, 128]⟩

abbrev nBuf : Space → Nat
  | .hbm => 50
  | .vmem => 8
  | .smem => 0
  | _ => 0

abbrev bufTy : (tb : Table) → Fin (tcTables nBuf tb) → BufTy
  | .hbm, ⟨0, _⟩ => ⟨S8x256x128, .f32⟩
  | .hbm, ⟨1, _⟩ => ⟨S16x128, .f32⟩
  | .hbm, ⟨2, _⟩ => ⟨S4x256, .f32⟩
  | .hbm, ⟨3, _⟩ => ⟨S3x704, .f32⟩
  | .hbm, ⟨4, _⟩ => ⟨S4x128, .f32⟩
  | .hbm, ⟨5, _⟩ => ⟨S3x704, .f32⟩
  | .hbm, ⟨6, _⟩ => ⟨S16x128, .f32⟩
  | .hbm, ⟨7, _⟩ => ⟨S4x256, .f32⟩
  | .hbm, ⟨8, _⟩ => ⟨S3x704, .f32⟩
  | .hbm, ⟨9, _⟩ => ⟨S4x128, .f32⟩
  | .hbm, ⟨10, _⟩ => ⟨S3x704, .f32⟩
  | .hbm, ⟨11, _⟩ => ⟨S16x128, .f32⟩
  | .hbm, ⟨12, _⟩ => ⟨S4x256, .f32⟩
  | .hbm, ⟨13, _⟩ => ⟨S3x704, .f32⟩
  | .hbm, ⟨14, _⟩ => ⟨S4x128, .f32⟩
  | .hbm, ⟨15, _⟩ => ⟨S3x704, .f32⟩
  | .hbm, ⟨16, _⟩ => ⟨S2048, .f32⟩
  | .hbm, ⟨17, _⟩ => ⟨S1024, .f32⟩
  | .hbm, ⟨18, _⟩ => ⟨S2112, .f32⟩
  | .hbm, ⟨19, _⟩ => ⟨S512, .f32⟩
  | .hbm, ⟨20, _⟩ => ⟨S2112, .f32⟩
  | .hbm, ⟨21, _⟩ => ⟨S7808, .f32⟩
  | .hbm, ⟨22, _⟩ => ⟨S_, .i32⟩
  | .hbm, ⟨23, _⟩ => ⟨S_, .f32⟩
  | .hbm, ⟨24, _⟩ => ⟨S32768, .f32⟩
  | .hbm, ⟨25, _⟩ => ⟨S256x128, .f32⟩
  | .hbm, ⟨26, _⟩ => ⟨S2048, .f32⟩
  | .hbm, ⟨27, _⟩ => ⟨S1024, .f32⟩
  | .hbm, ⟨28, _⟩ => ⟨S2112, .f32⟩
  | .hbm, ⟨29, _⟩ => ⟨S512, .f32⟩
  | .hbm, ⟨30, _⟩ => ⟨S2112, .f32⟩
  | .hbm, ⟨31, _⟩ => ⟨S7808, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S2048, .f32⟩
  | .hbm, ⟨37, _⟩ => ⟨S1024, .f32⟩
  | .hbm, ⟨38, _⟩ => ⟨S2112, .f32⟩
  | .hbm, ⟨39, _⟩ => ⟨S512, .f32⟩
  | .hbm, ⟨40, _⟩ => ⟨S2112, .f32⟩
  | .hbm, ⟨41, _⟩ => ⟨S7808, .f32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S256x128, .f32⟩
  | .hbm, ⟨49, _⟩ => ⟨S256x128, .f32⟩
  | .local _ .vmem, ⟨0, _⟩ => ⟨S8x256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_v24_2 : Ref sig .tc := ⟨.hbm, 48, rfl⟩
abbrev main_v24_3 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference22Ideal.lean ====
abbrev S8x256x128 : Shape := ⟨3, ![8, 256, 128]⟩
abbrev S16x128 : Shape := ⟨2, ![16, 128]⟩
abbrev S4x256 : Shape := ⟨2, ![4, 256]⟩
abbrev S3x704 : Shape := ⟨2, ![3, 704]⟩
abbrev S4x128 : Shape := ⟨2, ![4, 128]⟩
abbrev S2048 : Shape := ⟨1, ![2048]⟩
abbrev S1024 : Shape := ⟨1, ![1024]⟩
abbrev S2112 : Shape := ⟨1, ![2112]⟩
abbrev S512 : Shape := ⟨1, ![512]⟩
abbrev S7808 : Shape := ⟨1, ![7808]⟩
abbrev S_ : Shape := ⟨0, ![]⟩
abbrev S32768 : Shape := ⟨1, ![32768]⟩
abbrev S256x128 : Shape := ⟨2, ![256, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S16x128, .f32⟩
  | .hbm, ⟨2, _⟩ => ⟨S4x256, .f32⟩
  | .hbm, ⟨3, _⟩ => ⟨S3x704, .f32⟩
  | .hbm, ⟨4, _⟩ => ⟨S4x128, .f32⟩
  | .hbm, ⟨5, _⟩ => ⟨S3x704, .f32⟩
  | .hbm, ⟨6, _⟩ => ⟨S16x128, .f32⟩
  | .hbm, ⟨7, _⟩ => ⟨S4x256, .f32⟩
  | .hbm, ⟨8, _⟩ => ⟨S3x704, .f32⟩
  | .hbm, ⟨9, _⟩ => ⟨S4x128, .f32⟩
  | .hbm, ⟨10, _⟩ => ⟨S3x704, .f32⟩
  | .hbm, ⟨11, _⟩ => ⟨S16x128, .f32⟩
  | .hbm, ⟨12, _⟩ => ⟨S4x256, .f32⟩
  | .hbm, ⟨13, _⟩ => ⟨S3x704, .f32⟩
  | .hbm, ⟨14, _⟩ => ⟨S4x128, .f32⟩
  | .hbm, ⟨15, _⟩ => ⟨S3x704, .f32⟩
  | .hbm, ⟨16, _⟩ => ⟨S2048, .f32⟩
  | .hbm, ⟨17, _⟩ => ⟨S1024, .f32⟩
  | .hbm, ⟨18, _⟩ => ⟨S2112, .f32⟩
  | .hbm, ⟨19, _⟩ => ⟨S512, .f32⟩
  | .hbm, ⟨20, _⟩ => ⟨S2112, .f32⟩
  | .hbm, ⟨21, _⟩ => ⟨S7808, .f32⟩
  | .hbm, ⟨22, _⟩ => ⟨S_, .i32⟩
  | .hbm, ⟨23, _⟩ => ⟨S_, .f32⟩
  | .hbm, ⟨24, _⟩ => ⟨S32768, .f32⟩
  | .hbm, ⟨25, _⟩ => ⟨S256x128, .f32⟩
  | .hbm, ⟨26, _⟩ => ⟨S2048, .f32⟩
  | .hbm, ⟨27, _⟩ => ⟨S1024, .f32⟩
  | .hbm, ⟨28, _⟩ => ⟨S2112, .f32⟩
  | .hbm, ⟨29, _⟩ => ⟨S512, .f32⟩
  | .hbm, ⟨30, _⟩ => ⟨S2112, .f32⟩
  | .hbm, ⟨31, _⟩ => ⟨S7808, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S2048, .f32⟩
  | .hbm, ⟨37, _⟩ => ⟨S1024, .f32⟩
  | .hbm, ⟨38, _⟩ => ⟨S2112, .f32⟩
  | .hbm, ⟨39, _⟩ => ⟨S512, .f32⟩
  | .hbm, ⟨40, _⟩ => ⟨S2112, .f32⟩
  | .hbm, ⟨41, _⟩ => ⟨S7808, .f32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S256x128, .f32⟩
  | .hbm, ⟨46, _⟩ => ⟨S_, .f32⟩
  | .hbm, ⟨47, _⟩ => ⟨S256x128, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S_, .f32⟩
  | .hbm, ⟨52, _⟩ => ⟨S256x128, .f32⟩
  | .hbm, ⟨53, _⟩ => ⟨S256x128, .f32⟩
  | .hbm, ⟨54, _⟩ => ⟨S256x128, .f32⟩
  | .hbm, ⟨55, _⟩ => ⟨S_, .f32⟩
  | .hbm, ⟨56, _⟩ => ⟨S256x128, .f32⟩
  | .hbm, ⟨57, _⟩ => ⟨S256x128, .f32⟩
  | .hbm, ⟨58, _⟩ => ⟨S256x128, .f32⟩
  | .hbm, ⟨59, _⟩ => ⟨S_, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S_, .f32⟩
  | .hbm, ⟨67, _⟩ => ⟨S256x128, .f32⟩
  | .hbm, ⟨68, _⟩ => ⟨S256x128, .f32⟩
  | .hbm, ⟨69, _⟩ => ⟨S256x128, .f32⟩
  | .hbm, ⟨70, _⟩ => ⟨S_, .f32⟩
  | .hbm, ⟨71, _⟩ => ⟨S256x128, .f32⟩
  | .hbm, ⟨72, _⟩ => ⟨S256x128, .f32⟩
  | .hbm, ⟨73, _⟩ => ⟨S256x128, .f32⟩
  | .hbm, ⟨74, _⟩ => ⟨S_, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S256x128, .f32⟩
  | .hbm, ⟨80, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_call2_v0 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_cst_3 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩

abbrev nD : Nat := 1
abbrev τ : Topo := Topo.v7x

variable {F : FTy → Type} [FloatOps F]
-- ==== Kernel23.lean ====
abbrev S8x2304x128 : Shape := ⟨3, ![8, 2304, 128]⟩
abbrev S1024 : Shape := ⟨1, ![1024]⟩
abbrev S5632 : Shape := ⟨1, ![5632]⟩
abbrev S8x128x128 : Shape := ⟨3, ![8, 128, 128]⟩
abbrev S131072 : Shape := ⟨1, ![131072]⟩
abbrev S273920 : Shape := ⟨1, ![273920]⟩
abbrev S_ : Shape := ⟨0, ![]⟩
abbrev S294912 : Shape := ⟨1, ![294912]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 53
  | .vmem => 16
  | .smem => 0
  | _ => 0

abbrev bufTy : (tb : Table) → Fin (tcTables nBuf tb) → BufTy
  | .hbm, ⟨0, _⟩ => ⟨S8x2304x128, .f32⟩
  | .hbm, ⟨1, _⟩ => ⟨S1024, .f32⟩
  | .hbm, ⟨2, _⟩ => ⟨S1024, .f32⟩
  | .hbm, ⟨3, _⟩ => ⟨S5632, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S5632, .f32⟩
  | .hbm, ⟨13, _⟩ => ⟨S1024, .f32⟩
  | .hbm, ⟨14, _⟩ => ⟨S8x128x128, .f32⟩
  | .hbm, ⟨15, _⟩ => ⟨S1024, .f32⟩
  | .hbm, ⟨16, _⟩ => ⟨S8x128x128, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S5632, .f32⟩
  | .hbm, ⟨22, _⟩ => ⟨S1024, .f32⟩
  | .hbm, ⟨23, _⟩ => ⟨S8x128x128, .f32⟩
  | .hbm, ⟨24, _⟩ => ⟨S1024, .f32⟩
  | .hbm, ⟨25, _⟩ => ⟨S8x128x128, .f32⟩
  | .hbm, ⟨26, _⟩ => ⟨S1024, .f32⟩
  | .hbm, ⟨27, _⟩ => ⟨S1024, .f32⟩
  | .hbm, ⟨28, _⟩ => ⟨S131072, .f32⟩
  | .hbm, ⟨29, _⟩ => ⟨S131072, .f32⟩
  | .hbm, ⟨30, _⟩ => ⟨S273920, .f32⟩
  | .hbm, ⟨31, _⟩ => ⟨S_, .i32⟩
  | .hbm, ⟨32, _⟩ => ⟨S_, .f32⟩
  | .hbm, ⟨33, _⟩ => ⟨S294912, .f32⟩
  | .hbm, ⟨34, _⟩ => ⟨S2304x128, .f32⟩
  | .hbm, ⟨35, _⟩ => ⟨S131072, .f32⟩
  | .hbm, ⟨36, _⟩ => ⟨S131072, .f32⟩
  | .hbm, ⟨37, _⟩ => ⟨S273920, .f32⟩
  | .hbm, ⟨38, _⟩ => ⟨S_, .i32⟩
  | .hbm, ⟨39, _⟩ => ⟨S_, .f32⟩
  | .hbm, ⟨40, _⟩ => ⟨S294912, .f32⟩
  | .hbm, ⟨41, _⟩ => ⟨S2304x128, .f32⟩
  | .hbm, ⟨42, _⟩ => ⟨S131072, .f32⟩
  | .hbm, ⟨43, _⟩ => ⟨S131072, .f32⟩
  | .hbm, ⟨44, _⟩ => ⟨S273920, .f32⟩
  | .hbm, ⟨45, _⟩ => ⟨S_, .i32⟩
  | .hbm, ⟨46, _⟩ => ⟨S_, .f32⟩
  | .hbm, ⟨47, _⟩ => ⟨S294912, .f32⟩
  | .hbm, ⟨48, _⟩ => ⟨S2304x128, .f32⟩
  | .hbm, ⟨49, _⟩ => ⟨S2304x128, .f32⟩
  | .hbm, ⟨50, _⟩ => ⟨S2304x128, .f32⟩
  | .hbm, ⟨51, _⟩ => ⟨S2304x128, .f32⟩
  | .hbm, ⟨52, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c : Ref sig .tc := ⟨.hbm, 31, rfl⟩
abbrev main_call0_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_c_0 : Ref sig .tc := ⟨.hbm, 38, rfl⟩
abbrev main_call1_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_call2_v0 : Ref sig .tc := ⟨.hbm, 46, rfl⟩
abbrev main_v13 : Ref sig .tc := ⟨.hbm, 47, rfl⟩
abbrev main_v14 : Ref sig .tc := ⟨.hbm, 48, rfl⟩
abbrev main_v15_0 : Ref sig .tc := ⟨.hbm, 49, rfl⟩
abbrev main_v15_1 : Ref sig .tc := ⟨.hbm, 50, rfl⟩
abbrev main_v15_2 : Ref sig .tc := ⟨.hbm, 51, rfl⟩
abbrev main_v15_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2304x128 : Shape := ⟨3, ![8, 2304, 128]⟩
abbrev S1024 : Shape := ⟨1, ![1024]⟩
abbrev S5632 : Shape := ⟨1, ![5632]⟩
abbrev S8x128x128 : Shape := ⟨3, ![8, 128, 128]⟩
abbrev S131072 : Shape := ⟨1, ![131072]⟩
abbrev S273920 : Shape := ⟨1, ![273920]⟩
abbrev S_ : Shape := ⟨0, ![]⟩
abbrev S294912 : Shape := ⟨1, ![294912]⟩
abbrev S2304x128 : Shape := ⟨2, ![2304, 128]⟩

abbrev nBuf : Space → Nat
  | .hbm => 84
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S1024, .f32⟩
  | .hbm, ⟨2, _⟩ => ⟨S1024, .f32⟩
  | .hbm, ⟨3, _⟩ => ⟨S5632, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S5632, .f32⟩
  | .hbm, ⟨13, _⟩ => ⟨S1024, .f32⟩
  | .hbm, ⟨14, _⟩ => ⟨S8x128x128, .f32⟩
  | .hbm, ⟨15, _⟩ => ⟨S1024, .f32⟩
  | .hbm, ⟨16, _⟩ => ⟨S8x128x128, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S5632, .f32⟩
  | .hbm, ⟨22, _⟩ => ⟨S1024, .f32⟩
  | .hbm, ⟨23, _⟩ => ⟨S8x128x128, .f32⟩
  | .hbm, ⟨24, _⟩ => ⟨S1024, .f32⟩
  | .hbm, ⟨25, _⟩ => ⟨S8x128x128, .f32⟩
  | .hbm, ⟨26, _⟩ => ⟨S1024, .f32⟩
  | .hbm, ⟨27, _⟩ => ⟨S1024, .f32⟩
  | .hbm, ⟨28, _⟩ => ⟨S131072, .f32⟩
  | .hbm, ⟨29, _⟩ => ⟨S131072, .f32⟩
  | .hbm, ⟨30, _⟩ => ⟨S273920, .f32⟩
  | .hbm, ⟨31, _⟩ => ⟨S_, .i32⟩
  | .hbm, ⟨32, _⟩ => ⟨S_, .f32⟩
  | .hbm, ⟨33, _⟩ => ⟨S294912, .f32⟩
  | .hbm, ⟨34, _⟩ => ⟨S2304x128, .f32⟩
  | .hbm, ⟨35, _⟩ => ⟨S131072, .f32⟩
  | .hbm, ⟨36, _⟩ => ⟨S131072, .f32⟩
  | .hbm, ⟨37, _⟩ => ⟨S273920, .f32⟩
  | .hbm, ⟨38, _⟩ => ⟨S_, .i32⟩
  | .hbm, ⟨39, _⟩ => ⟨S_, .f32⟩
  | .hbm, ⟨40, _⟩ => ⟨S294912, .f32⟩
  | .hbm, ⟨41, _⟩ => ⟨S2304x128, .f32⟩
  | .hbm, ⟨42, _⟩ => ⟨S131072, .f32⟩
  | .hbm, ⟨43, _⟩ => ⟨S131072, .f32⟩
  | .hbm, ⟨44, _⟩ => ⟨S273920, .f32⟩
  | .hbm, ⟨45, _⟩ => ⟨S_, .i32⟩
  | .hbm, ⟨46, _⟩ => ⟨S_, .f32⟩
  | .hbm, ⟨47, _⟩ => ⟨S294912, .f32⟩
  | .hbm, ⟨48, _⟩ => ⟨S2304x128, .f32⟩
  | .hbm, ⟨49, _⟩ => ⟨S_, .f32⟩
  | .hbm, ⟨50, _⟩ => ⟨S2304x128, .f32⟩
  | .hbm, ⟨51, _⟩ => ⟨S_, .f32⟩
  | .hbm, ⟨52, _⟩ => ⟨S2304x128, .f32⟩
  | .hbm, ⟨53, _⟩ => ⟨S2304x128, .f32⟩
  | .hbm, ⟨54, _⟩ => ⟨S_, .f32⟩
  | .hbm, ⟨55, _⟩ => ⟨S2304x128, .f32⟩
  | .hbm, ⟨56, _⟩ => ⟨S2304x128, .f32⟩
  | .hbm, ⟨57, _⟩ => ⟨S2304x128, .f32⟩
  | .hbm, ⟨58, _⟩ => ⟨S_, .f32⟩
  | .hbm, ⟨59, _⟩ => ⟨S2304x128, .f32⟩
  | .hbm, ⟨60, _⟩ => ⟨S2304x128, .f32⟩
  | .hbm, ⟨61, _⟩ => ⟨S2304x128, .f32⟩
  | .hbm, ⟨62, _⟩ => ⟨S_, .f32⟩
  | .hbm, ⟨63, _⟩ => ⟨S2304x128, .f32⟩
  | .hbm, ⟨64, _⟩ => ⟨S2304x128, .f32⟩
  | .hbm, ⟨65, _⟩ => ⟨S2304x128, .f32⟩
  | .hbm, ⟨66, _⟩ => ⟨S_, .f32⟩
  | .hbm, ⟨67, _⟩ => ⟨S2304x128, .f32⟩
  | .hbm, ⟨68, _⟩ => ⟨S2304x128, .f32⟩
  | .hbm, ⟨69, _⟩ => ⟨S_, .f32⟩
  | .hbm, ⟨70, _⟩ => ⟨S2304x128, .f32⟩
  | .hbm, ⟨71, _⟩ => ⟨S2304x128, .f32⟩
  | .hbm, ⟨72, _⟩ => ⟨S2304x128, .f32⟩
  | .hbm, ⟨73, _⟩ => ⟨S_, .f32⟩
  | .hbm, ⟨74, _⟩ => ⟨S2304x128, .f32⟩
  | .hbm, ⟨75, _⟩ => ⟨S2304x128, .f32⟩
  | .hbm, ⟨76, _⟩ => ⟨S2304x128, .f32⟩
  | .hbm, ⟨77, _⟩ => ⟨S_, .f32⟩
  | .hbm, ⟨78, _⟩ => ⟨S2304x128, .f32⟩
  | .hbm, ⟨79, _⟩ => ⟨S2304x128, .f32⟩
  | .hbm, ⟨80, _⟩ => ⟨S2304x128, .f32⟩
  | .hbm, ⟨81, _⟩ => ⟨S_, .f32⟩
  | .hbm, ⟨82, _⟩ => ⟨S2304x128, .f32⟩
  | .hbm, ⟨83, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_c : Ref sig .tc := ⟨.hbm, 31, rfl⟩
abbrev main_call0_v0 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_c_0 : Ref sig .tc := ⟨.hbm, 38, rfl⟩
abbrev main_call1_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_1 : Ref sig .tc := ⟨.hbm, 45, rfl⟩
abbrev main_call2_v0 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_cst_2 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_4 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_5 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_6 : Ref sig .tc := ⟨.hbm, 66, rfl⟩
abbrev main_v27 : Ref sig .tc := ⟨.hbm, 67, rfl⟩
abbrev main_v28 : Ref sig .tc := ⟨.hbm, 68, rfl⟩
abbrev main_cst_7 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_8 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_cst_9 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_10 : Ref sig .tc := ⟨.hbm, 81, rfl⟩
abbrev main_v38 : Ref sig .tc := ⟨.hbm, 82, rfl⟩
abbrev main_v39 : Ref sig .tc := ⟨.hbm, 83, rfl⟩

abbrev nD : Nat := 1
abbrev τ : Topo := Topo.v7x

variable {F : FTy → Type} [FloatOps F]
-- ==== Kernel24.lean ====
abbrev S8x256x128 : Shape := ⟨3, ![8, 256, 128]⟩
abbrev S1024 : Shape := ⟨1, ![1024]⟩
abbrev S2048 : Shape := ⟨1, ![2048]⟩
abbrev S16 : Shape := ⟨1, ![16]⟩
abbrev S5632 : Shape := ⟨1, ![5632]⟩
abbrev S12848 : Shape := ⟨1, ![12848]⟩
abbrev S_ : Shape := ⟨0, ![]⟩
abbrev S32768 : Shape := ⟨1, ![32768]⟩
abbrev S256x128 : Shape := ⟨2, ![256, 128]⟩
abbrev S1x256x128 : Shape := ⟨3, ![1, 256, 128]⟩

abbrev nBuf : Space → Nat
  | .hbm => 50
  | .vmem => 8
  | .smem => 0
  | _ => 0

abbrev bufTy : (tb : Table) → Fin (tcTables nBuf tb) → BufTy
  | .hbm, ⟨0, _⟩ => ⟨S8x256x128, .f32⟩
  | .hbm, ⟨1, _⟩ => ⟨S1024, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S5632, .f32⟩
  | .hbm, ⟨10, _⟩ => ⟨S1024, .f32⟩
  | .hbm, ⟨11, _⟩ => ⟨S1024, .f32⟩
  | .hbm, ⟨12, _⟩ => ⟨S2048, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S5632, .f32⟩
  | .hbm, ⟨20, _⟩ => ⟨S1024, .f32⟩
  | .hbm, ⟨21, _⟩ => ⟨S1024, .f32⟩
  | .hbm, ⟨22, _⟩ => ⟨S2048, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S5632, .f32⟩
  | .hbm, ⟨30, _⟩ => ⟨S1024, .f32⟩
  | .hbm, ⟨31, _⟩ => ⟨S12848, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S12848, .f32⟩
  | .hbm, ⟨37, _⟩ => ⟨S_, .i32⟩
  | .hbm, ⟨38, _⟩ => ⟨S_, .f32⟩
  | .hbm, ⟨39, _⟩ => ⟨S32768, .f32⟩
  | .hbm, ⟨40, _⟩ => ⟨S256x128, .f32⟩
  | .hbm, ⟨41, _⟩ => ⟨S12848, .f32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S256x128, .f32⟩
  | .hbm, ⟨46, _⟩ => ⟨S256x128, .f32⟩
  | .hbm, ⟨47, _⟩ => ⟨S256x128, .f32⟩
  | .hbm, ⟨48, _⟩ => ⟨S256x128, .f32⟩
  | .hbm, ⟨49, _⟩ => ⟨S256x128, .f32⟩
  | .local _ .vmem, ⟨0, _⟩ => ⟨S8x256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_call0_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c_0 : Ref sig .tc := ⟨.hbm, 37, rfl⟩
abbrev main_call1_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_call2_v0 : Ref sig .tc := ⟨.hbm, 43, rfl⟩
abbrev main_v7 : Ref sig .tc := ⟨.hbm, 44, rfl⟩
abbrev main_v8 : Ref sig .tc := ⟨.hbm, 45, rfl⟩
abbrev main_v9_0 : Ref sig .tc := ⟨.hbm, 46, rfl⟩
abbrev main_v9_1 : Ref sig .tc := ⟨.hbm, 47, rfl⟩
abbrev main_v9_2 : Ref sig .tc := ⟨.hbm, 48, rfl⟩
abbrev main_v9_3 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S8x256x128 : Shape := ⟨3, ![8, 256, 128]⟩
abbrev S1024 : Shape := ⟨1, ![1024]⟩
abbrev S2048 : Shape := ⟨1, ![2048]⟩
abbrev S16 : Shape := ⟨1, ![16]⟩
abbrev S5632 : Shape := ⟨1, ![5632]⟩
abbrev S12848 : Shape := ⟨1, ![12848]⟩
abbrev S_ : Shape := ⟨0, ![]⟩
abbrev S32768 : Shape := ⟨1, ![32768]⟩
abbrev S256x128 : Shape := ⟨2, ![256, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S1024, .f32⟩
  | .hbm, ⟨2, _⟩ => ⟨S2048, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S5632, .f32⟩
  | .hbm, ⟨10, _⟩ => ⟨S1024, .f32⟩
  | .hbm, ⟨11, _⟩ => ⟨S1024, .f32⟩
  | .hbm, ⟨12, _⟩ => ⟨S2048, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S5632, .f32⟩
  | .hbm, ⟨20, _⟩ => ⟨S1024, .f32⟩
  | .hbm, ⟨21, _⟩ => ⟨S1024, .f32⟩
  | .hbm, ⟨22, _⟩ => ⟨S2048, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S5632, .f32⟩
  | .hbm, ⟨30, _⟩ => ⟨S1024, .f32⟩
  | .hbm, ⟨31, _⟩ => ⟨S12848, .f32⟩
  | .hbm, ⟨32, _⟩ => ⟨S_, .i32⟩
  | .hbm, ⟨33, _⟩ => ⟨S_, .f32⟩
  | .hbm, ⟨34, _⟩ => ⟨S32768, .f32⟩
  | .hbm, ⟨35, _⟩ => ⟨S256x128, .f32⟩
  | .hbm, ⟨36, _⟩ => ⟨S12848, .f32⟩
  | .hbm, ⟨37, _⟩ => ⟨S_, .i32⟩
  | .hbm, ⟨38, _⟩ => ⟨S_, .f32⟩
  | .hbm, ⟨39, _⟩ => ⟨S32768, .f32⟩
  | .hbm, ⟨40, _⟩ => ⟨S256x128, .f32⟩
  | .hbm, ⟨41, _⟩ => ⟨S12848, .f32⟩
  | .hbm, ⟨42, _⟩ => ⟨S_, .i32⟩
  | .hbm, ⟨43, _⟩ => ⟨S_, .f32⟩
  | .hbm, ⟨44, _⟩ => ⟨S32768, .f32⟩
  | .hbm, ⟨45, _⟩ => ⟨S256x128, .f32⟩
  | .hbm, ⟨46, _⟩ => ⟨S_, .f32⟩
  | .hbm, ⟨47, _⟩ => ⟨S256x128, .f32⟩
  | .hbm, ⟨48, _⟩ => ⟨S_, .f32⟩
  | .hbm, ⟨49, _⟩ => ⟨S256x128, .f32⟩
  | .hbm, ⟨50, _⟩ => ⟨S256x128, .f32⟩
  | .hbm, ⟨51, _⟩ => ⟨S_, .f32⟩
  | .hbm, ⟨52, _⟩ => ⟨S256x128, .f32⟩
  | .hbm, ⟨53, _⟩ => ⟨S256x128, .f32⟩
  | .hbm, ⟨54, _⟩ => ⟨S256x128, .f32⟩
  | .hbm, ⟨55, _⟩ => ⟨S_, .f32⟩
  | .hbm, ⟨56, _⟩ => ⟨S256x128, .f32⟩
  | .hbm, ⟨57, _⟩ => ⟨S256x128, .f32⟩
  | .hbm, ⟨58, _⟩ => ⟨S256x128, .f32⟩
  | .hbm, ⟨59, _⟩ => ⟨S_, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S_, .f32⟩
  | .hbm, ⟨67, _⟩ => ⟨S256x128, .f32⟩
  | .hbm, ⟨68, _⟩ => ⟨S256x128, .f32⟩
  | .hbm, ⟨69, _⟩ => ⟨S256x128, .f32⟩
  | .hbm, ⟨70, _⟩ => ⟨S_, .f32⟩
  | .hbm, ⟨71, _⟩ => ⟨S256x128, .f32⟩
  | .hbm, ⟨72, _⟩ => ⟨S256x128, .f32⟩
  | .hbm, ⟨73, _⟩ => ⟨S256x128, .f32⟩
  | .hbm, ⟨74, _⟩ => ⟨S_, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S256x128, .f32⟩
  | .hbm, ⟨80, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_call0_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_c_0 : Ref sig .tc := ⟨.hbm, 37, rfl⟩
abbrev main_call1_v0 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_c_1 : Ref sig .tc := ⟨.hbm, 42, rfl⟩
abbrev main_call2_v0 : Ref sig .tc := ⟨.hbm, 43, rfl⟩
abbrev main_v7 : Ref sig .tc := ⟨.hbm, 44, rfl⟩
abbrev main_v8 : Ref sig .tc := ⟨.hbm, 45, rfl⟩
abbrev main_cst : Ref sig .tc := ⟨.hbm, 46, rfl⟩
abbrev main_v9 : Ref sig .tc := ⟨.hbm, 47, rfl⟩
abbrev main_cst_2 : Ref sig .tc := ⟨.hbm, 48, rfl⟩
abbrev main_v10 : Ref sig .tc := ⟨.hbm, 49, rfl⟩
abbrev main_v11 : Ref sig .tc := ⟨.hbm, 50, rfl⟩
abbrev main_cst_3 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_5 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_6 : Ref sig .tc := ⟨.hbm, 63, rfl⟩
abbrev main_v21 : Ref sig .tc := ⟨.hbm, 64, rfl⟩
abbrev main_v22 : Ref sig .tc := ⟨.hbm, 65, rfl⟩
abbrev main_cst_7 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_8 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_cst_9 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_cst_10 : Ref sig .tc := ⟨.hbm, 78, rfl⟩
abbrev main_v32 : Ref sig .tc := ⟨.hbm, 79, rfl⟩
abbrev main_v33 : Ref sig .tc := ⟨.hbm, 80, rfl⟩

abbrev nD : Nat := 1
abbrev τ : Topo := Topo.v7x

variable {F : FTy → Type} [FloatOps F]
-- ==== Proof.Chunk.lean ====
/- One chunk of the retention group as the kernel computes it: the forward step of the state, and the chunk's
   gradients, as functions of the values the body loads. -/
module

public import proofs.«01_k».proof.Proof.Gen.KernelIdeal.Frame
public import proofs.«01_k».proof.Proof.Gen.KernelIdeal.Skeleton
public import Idealize.ShloMosaic.Lib.ValueIdx
public import Idealize.ShloMosaic.Lib.ValueLayout

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The staged blocks of one grid point: one head of one batch. -/
structure Blk (F : FTy → Type) where
  (q k v g : Vec F S2176x256 .f32)
  ng : Vec F S1x256 .f32
  (cs sn : Vec F S2176x128 .f32)
  de : Vec F S1x128x128 .f32
  (zt xi : Vec F S1x128x1 .f32)
  cd : Vec F S1x1x1 .f32
  dy : Vec F S2176x256 .bf16

/-- What the body loads for one chunk of the backward loop. -/
structure Ci (F : FTy → Type) where
  (q k v g : Vec F S128x256 .f32)
  ng : Vec F S1x256 .f32
  (cs sn : Vec F S128x128 .f32)
  de : Vec F S1x128x128 .f32
  (zt xi : Vec F S1x128x1 .f32)
  cd : Vec F S1x1x1 .f32
  R : Vec F S1x256x256 .f32
  dy : Vec F S128x256 .bf16
  dR : Vec F S256x256 .f32

/-- Rows of chunk `k` (counted from the last one) of a block of 256 columns. -/
abbrev rowsR (k : Fin k0_t2_loop.trips) : Rect S2176x256 := Rect.unit (s := S2176x256) (k0_off5 k) S128x256.size (k0_off5_inb k)
abbrev rowsH (k : Fin k0_t2_loop.trips) : Rect S2176x128 := Rect.unit (s := S2176x128) (k0_off4 k) S128x128.size (k0_off4_inb k)
abbrev rowsF (k : Fin k0_t1_loop.trips) : Rect S2176x256 := Rect.unit (s := S2176x256) (k0_off3 k) S128x256.size (k0_off3_inb k)
abbrev rowsFH (k : Fin k0_t1_loop.trips) : Rect S2176x128 := Rect.unit (s := S2176x128) (k0_off1 k) S128x128.size (k0_off1_inb k)
abbrev slabF (k : Fin k0_t1_loop.trips) : Rect S17x256x256 := Rect.unit (s := S17x256x256) (k0_off2 k) S1x256x256.size (k0_off2_inb k)
abbrev slabR (k : Fin k0_t2_loop.trips) : Rect S17x256x256 := Rect.unit (s := S17x256x256) (k0_off6 k) S1x256x256.size (k0_off6_inb k)
abbrev fullM : Rect S256x256 := Rect.unit (s := S256x256) ![0, 0] S256x256.size inb_S256x256_S256x256_0_0
abbrev fullN : Rect S1x256 := Rect.unit (s := S1x256) ![0, 0] S1x256.size inb_S1x256_S1x256_0_0
abbrev fullD : Rect S1x128x128 := Rect.unit (s := S1x128x128) ![0, 0, 0] S1x128x128.size inb_S1x128x128_S1x128x128_0_0_0
abbrev fullZ : Rect S1x128x1 := Rect.unit (s := S1x128x1) ![0, 0, 0] S1x128x1.size inb_S1x128x1_S1x128x1_0_0_0
abbrev fullC : Rect S1x1x1 := Rect.unit (s := S1x1x1) ![0, 0, 0] S1x1x1.size inb_S1x1x1_S1x1x1_0_0_0

/-- The state after one chunk, from the state before it. -/
def Blk.next (b : Blk F) (k : Fin k0_t1_loop.trips) (R : FVec F S256x256 .f32) : FVec F S256x256 .f32 :=
  k0_pay2 (k0_pay10 (View.ld b.cs (rowsFH k))) (k0_pay11 (View.ld b.sn (rowsFH k))) (k0_pay12 (F := F) 0#32 1#32 k)
    (k0_pay13 (View.ld b.zt fullZ)) (k0_pay14 (View.ld b.cd fullC)) (View.ld b.k (rowsF k)) (View.ld b.v (rowsF k)) R

/-- The state before chunk `n`. -/
def Blk.st (b : Blk F) : ℕ → FVec F S256x256 .f32
  | 0 => k0_pay1
  | n + 1 => if h : n < k0_t1_loop.trips then b.next ⟨n, h⟩ (b.st n) else b.st n

/-- The scratch array of the states, one per chunk. -/
def Blk.sts (b : Blk F) : Vec F S17x256x256 .f32 :=
  fun y => b.st (y 0).val (ix2 (y 1 : Fin 256) (y 2 : Fin 256))

/-- What is loaded for chunk `k` of the backward loop, the states at `S` and the state's gradient at `dR`. -/
def Blk.ci (b : Blk F) (S : Vec F S17x256x256 .f32) (k : Fin k0_t2_loop.trips) (dR : Vec F S256x256 .f32) : Ci F where
  q := View.ld b.q (rowsR k)
  k := View.ld b.k (rowsR k)
  v := View.ld b.v (rowsR k)
  g := View.ld b.g (rowsR k)
  ng := View.ld b.ng fullN
  cs := View.ld b.cs (rowsH k)
  sn := View.ld b.sn (rowsH k)
  de := View.ld b.de fullD
  zt := View.ld b.zt fullZ
  xi := View.ld b.xi fullZ
  cd := View.ld b.cd fullC
  R := View.ld S (slabR k)
  dy := View.ld b.dy (rowsR k)
  dR := View.ld dR fullM

namespace Ci

variable (n : Fin k0_t2_loop.trips) (x : Ci F)

def v40 (x : Ci F) : FVec F S128x1 .f32 := k0_pay18 (F := F) 0#32 1#32 n
def v18 : FVec F S128x128 .f32 := k0_pay16 x.cs
def v21 : FVec F S128x128 .f32 := k0_pay17 x.sn
def v42 : FVec F S128x128 .f32 := k0_pay19 x.de
def v44 : FVec F S128x1 .f32 := k0_pay20 x.zt
def v46 : FVec F S128x1 .f32 := k0_pay21 x.xi
def v48 : FVec F S1x1 .f32 := k0_pay22 x.cd
def v58 : FVec F S1x256 .f32 := k0_pay23 x.ng
def v61 : FVec F S256x256 .f32 := k0_pay24 x.R
def v72 : FVec F S128x256 .f32 := k0_pay25 (v18 x) (v21 x) (v40 n x) x.q
def v85 : FVec F S128x256 .f32 := k0_pay26 (v18 x) (v21 x) (v40 n x) x.k
def v87 : FVec F S128x256 .f32 := k0_pay27 (v40 n x) x.v
def v91 : FVec F S128x128 .f32 := k0_pay28 (v18 x) (v21 x) (v40 n x) (v42 x) x.q x.k
def v94 : FVec F S128x256 .f32 := k0_pay29 (v18 x) (v21 x) (v40 n x) (v42 x) x.q x.k x.v
def v96 : FVec F S128x256 .f32 := k0_pay30 (v44 x) (v85 n x)
def v108 : FVec F S128x256 .f32 := k0_pay31 (v46 x) (v61 x) (v72 n x) (v94 n x)
def v116 : FVec F S128x1 .f32 := k0_pay33 (v46 x) (v61 x) (v72 n x) (v94 n x)
def v119 : FVec F S128x1 .f32 := k0_pay34 (v46 x) (v61 x) (v72 n x) (v94 n x)
def v122 : FVec F S128x256 .f32 := k0_pay36 x.g
def v125 : FVec F S128x256 .f32 := k0_pay37 x.g
def v134 : FVec F S256x256 .f32 := k0_pay39 x.dR
def v136 : FVec F S256x256 .f32 := k0_pay40 (v48 x) x.dR
def v137 : FVec F S128x256 .f32 := k0_pay41 x.g x.dy
def v138 : FVec F S128x256 .f32 := k0_pay42 (v46 x) (v58 x) (v61 x) (v72 n x) (v94 n x) x.dy
def v141 : FVec F S1x256 .f32 := k0_pay43 (v46 x) x.g (v61 x) (v72 n x) (v94 n x) x.dy
def v142 : FVec F S128x256 .f32 := k0_pay44 (v58 x)
def v147 : FVec F S128x256 .f32 := k0_pay45 x.g (v122 x) (v125 x) (v138 n x)
def v177 : FVec F S128x256 .f32 := k0_pay48 (v46 x) (v61 x) (v108 n x) (v116 n x) (v119 n x) (v137 x) (v142 x)
def v180 : FVec F S256x256 .f32 := k0_pay49 (v46 x) (v72 n x) (v108 n x) (v116 n x) (v119 n x) (v136 x) (v137 x) (v142 x)
def v185 : FVec F S128x256 .f32 := k0_pay51 (v96 n x) (v134 x)
def v187 : FVec F S128x256 .f32 := k0_pay52 (v44 x) (v87 n x) (v134 x)
def v188 : FVec F S128x256 .bf16 := k0_pay53 (v108 n x) (v116 n x) (v119 n x) (v137 x) (v142 x)
def v190 : FVec F S128x128 .f32 := k0_pay54 (v87 n x) (v108 n x) (v116 n x) (v119 n x) (v137 x) (v142 x)
def v203 : FVec F S128x256 .f32 := k0_pay56 (v40 n x) (v91 n x) (v185 n x) (v188 n x)
def v222 : FVec F S128x256 .f32 := k0_pay57 (v18 x) (v21 x) (v40 n x) (v42 x) (v72 n x) (v187 n x) (v190 n x)
def v240 : FVec F S128x256 .bf16 := k0_pay58 (v18 x) (v21 x) (v40 n x) (v42 x) (v85 n x) (v177 n x) (v190 n x)

/-- The chunk's gradients of queries, keys, values and gate, its part of the norm scale's gradient added to `d`, and the
    gradient of the state before it. -/
def dq : FVec F S128x256 .bf16 := v240 n x
def dk : FVec F S128x256 .bf16 := k0_pay5 (v222 n x)
def dv : FVec F S128x256 .bf16 := k0_pay6 (v203 n x)
def dg : FVec F S128x256 .bf16 := k0_pay7 (v147 n x)
def dng (d : Vec F S1x256 .f32) : FVec F S1x256 .f32 := k0_pay8 (v141 n x) (View.ld d fullN)
def dRn : FVec F S256x256 .f32 := k0_pay9 (v180 n x)

end Ci

/-- The gradient of the state after chunk `16 - k`, going down the chunks. -/
def Blk.dR (b : Blk F) (S : Vec F S17x256x256 .f32) (z : Vec F S256x256 .f32) : ℕ → Vec F S256x256 .f32
  | 0 => z
  | k + 1 => if h : k < k0_t2_loop.trips then Ci.dRn ⟨k, h⟩ (b.ci S ⟨k, h⟩ (b.dR S z k)) else b.dR S z k

/-- What is loaded at chunk `k` of the backward loop. -/
def Blk.at (b : Blk F) (S : Vec F S17x256x256 .f32) (z : Vec F S256x256 .f32) (k : Fin k0_t2_loop.trips) : Ci F :=
  b.ci S k (b.dR S z k.val)

/-- The norm scale's gradient after `k` chunks. -/
def Blk.ngs (b : Blk F) (S : Vec F S17x256x256 .f32) (z : Vec F S256x256 .f32) (d : Vec F S1x256 .f32) : ℕ → Vec F S1x256 .f32
  | 0 => d
  | k + 1 => if h : k < k0_t2_loop.trips then Ci.dng ⟨k, h⟩ (b.at S z ⟨k, h⟩) (b.ngs S z d k) else b.ngs S z d k

/-- The row blocks stored by the first `k` trips, last first. -/
def rowsL (f : Fin k0_t2_loop.trips → Vec F S128x256 .bf16) : ℕ → List (View.Piece (Elt F) S2176x256 .bf16)
  | 0 => []
  | k + 1 => if h : k < k0_t2_loop.trips then ⟨rowsR ⟨k, h⟩, f ⟨k, h⟩⟩ :: rowsL f k else rowsL f k

end Cert.Proof.Ret
end
-- ==== Proof.Trip.lean ====
/- One trip of the backward loop, run once at a symbolic trip number, and the loop's invariant. -/
module

public import proofs.«01_k».proof.Proof.Chunk
public import proofs.«01_k».proof.Proof.Gen.KernelIdeal.Frame
public import proofs.«01_k».proof.Proof.Gen.KernelIdeal.Skeleton
public import Idealize.ShloMosaic.Lib.ValueIdx
public import Idealize.ShloMosaic.Lib.ValueLayout
public import proofs.«01_k».proof.Proof.Gen.KernelIdeal.Loops
public import Idealize.ShloMosaic.Lib.WritesUnit
public import Idealize.ShloMosaic.Lib.VecWindow

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

section
variable (𝒱 : Variants) (c : Dev nD) (bd : Option 𝒱.V) (E : Set ℕ) (i : grid0.Coords)
  (arg2 : Memref sig .tc .vmem S2176x256 .f32) (harg2 : arg2.IsWhole)
  (arg3 : Memref sig .tc .vmem S2176x256 .f32) (harg3 : arg3.IsWhole)
  (arg4 : Memref sig .tc .vmem S2176x256 .f32) (harg4 : arg4.IsWhole)
  (arg5 : Memref sig .tc .vmem S2176x256 .f32) (harg5 : arg5.IsWhole)
  (arg6 : Memref sig .tc .vmem S1x256 .f32) (harg6 : arg6.IsWhole)
  (arg7 : Memref sig .tc .vmem S2176x128 .f32) (harg7 : arg7.IsWhole)
  (arg8 : Memref sig .tc .vmem S2176x128 .f32) (harg8 : arg8.IsWhole)
  (arg9 : Memref sig .tc .vmem S1x128x128 .f32) (harg9 : arg9.IsWhole)
  (arg10 : Memref sig .tc .vmem S1x128x1 .f32) (harg10 : arg10.IsWhole)
  (arg11 : Memref sig .tc .vmem S1x128x1 .f32) (harg11 : arg11.IsWhole)
  (arg12 : Memref sig .tc .vmem S1x1x1 .f32) (harg12 : arg12.IsWhole)
  (arg13 : Memref sig .tc .vmem S2176x256 .bf16) (harg13 : arg13.IsWhole)
  (arg14 : Memref sig .tc .vmem S2176x256 .bf16) (harg14 : arg14.IsWhole)
  (arg15 : Memref sig .tc .vmem S2176x256 .bf16) (harg15 : arg15.IsWhole)
  (arg16 : Memref sig .tc .vmem S2176x256 .bf16) (harg16 : arg16.IsWhole)
  (arg17 : Memref sig .tc .vmem S2176x256 .bf16) (harg17 : arg17.IsWhole)
  (arg18 : Memref sig .tc .vmem S1x256 .f32) (harg18 : arg18.IsWhole)
  (arg19 : Memref sig .tc .vmem S17x256x256 .f32) (harg19 : arg19.IsWhole)
  (arg20 : Memref sig .tc .vmem S256x256 .f32) (harg20 : arg20.IsWhole)

/-- What one trip of the backward loop touches: the memrefs it reads at `X·`, those it writes at `f·`. -/
abbrev Trip (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X19 : BufTy.Contents (Elt F) arg19.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f20 : BufTy.Contents (Elt F) arg20.view.ty) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg19.view.loc (c : Thread nD τ) ↦[arg19.view.set]{fullShare} X19) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20))

/-- The staged blocks as the memrefs read. -/
abbrev blkOf (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) : Blk F where
  q := arg2.view.read (Elt F) X2
  k := arg3.view.read (Elt F) X3
  v := arg4.view.read (Elt F) X4
  g := arg5.view.read (Elt F) X5
  ng := arg6.view.read (Elt F) X6
  cs := arg7.view.read (Elt F) X7
  sn := arg8.view.read (Elt F) X8
  de := arg9.view.read (Elt F) X9
  zt := arg10.view.read (Elt F) X10
  xi := arg11.view.read (Elt F) X11
  cd := arg12.view.read (Elt F) X12
  dy := arg13.view.read (Elt F) X13

set_option maxHeartbeats 4000000 in
/-- One trip, on any contents. -/
theorem trip_run (k : Fin k0_t2_loop.trips) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X19 : BufTy.Contents (Elt F) arg19.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f20 : BufTy.Contents (Elt F) arg20.view.ty) :
    Trip (F := F) c arg2 arg3 arg4 arg5 arg6 arg7 arg8 arg9 arg10 arg11 arg12 arg13 arg14 arg15 arg16 arg17 arg18 arg19 arg20 X2 X3 X4 X5 X6 X7 X8 X9 X10 X11 X12 X13 X19 f14 f15 f16 f17 f18 f20 ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k PUnit.unit)
      (fun _ => Trip (F := F) c arg2 arg3 arg4 arg5 arg6 arg7 arg8 arg9 arg10 arg11 arg12 arg13 arg14 arg15 arg16 arg17 arg18 arg19 arg20 X2 X3 X4 X5 X6 X7 X8 X9 X10 X11 X12 X13 X19
        (arg14.view.writes (Elt F) f14 [⟨rowsR k, Ci.dq k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20))⟩])
        (arg15.view.writes (Elt F) f15 [⟨rowsR k, Ci.dk k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20))⟩])
        (arg16.view.writes (Elt F) f16 [⟨rowsR k, Ci.dv k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20))⟩])
        (arg17.view.writes (Elt F) f17 [⟨rowsR k, Ci.dg k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20))⟩])
        (arg18.view.writes (Elt F) f18 [⟨fullN, Ci.dng k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20)) (arg18.view.read (Elt F) f18)⟩])
        (arg20.view.writes (Elt F) f20 [⟨fullM, Ci.dRn k ((blkOf arg2 arg3 arg4 arg5 arg6 arg7 arg8 arg9 arg10 arg11 arg12 arg13 X2 X3 X4 X5 X6 X7 X8 X9 X10 X11 X12 X13).ci (arg19.view.read (Elt F) X19) k (arg20.view.read (Elt F) f20))⟩])) := by
  have hk : k.val < 17 := Nat.lt_of_lt_of_le k.isLt k0_t2_abs.2.1
  unfold k0_t2_body
  iintro ⟨H2, H3, H4, H5, H6, H7, H8, H9, H10, H11, H12, H13, H19, H14, H15, H16, H17, H18, H20⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H19]; · iexact H19
  isplitl [H14]; · iexact H14
  isplitl [H15]; · iexact H15
  isplitl [H16]; · iexact H16
  isplitl [H17]; · iexact H17
  isplitl [H18]; · iexact H18
  iexact H20

/-- Before trip `k`: the memrefs read are as they were, each output holds the row blocks of the trips before, the norm
    scale's gradient and the state's gradient are what those trips left. -/
abbrev inv2 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X19 : BufTy.Contents (Elt F) arg19.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G20 : BufTy.Contents (Elt F) arg20.view.ty) (k : ℕ) (_ : Unit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg19.view.loc (c : Thread nD τ) ↦[arg19.view.set]{fullShare} X19) ∗ (∃ f, (arg14.view.loc (c : Thread nD τ) ↦[arg14.view.set]{fullShare} f) ∗ ⌜f = arg14.view.writes (Elt F) G14 (rowsL (fun j => Ci.dq j ((blkOf arg2 arg3 arg4 arg5 arg6 arg7 arg8 arg9 arg10 arg11 arg12 arg13 X2 X3 X4 X5 X6 X7 X8 X9 X10 X11 X12 X13).at (arg19.view.read (Elt F) X19) (arg20.view.read (Elt F) G20) j)) k)⌝) ∗ (∃ f, (arg15.view.loc (c : Thread nD τ) ↦[arg15.view.set]{fullShare} f) ∗ ⌜f = arg15.view.writes (Elt F) G15 (rowsL (fun j => Ci.dk j ((blkOf arg2 arg3 arg4 arg5 arg6 arg7 arg8 arg9 arg10 arg11 arg12 arg13 X2 X3 X4 X5 X6 X7 X8 X9 X10 X11 X12 X13).at (arg19.view.read (Elt F) X19) (arg20.view.read (Elt F) G20) j)) k)⌝) ∗ (∃ f, (arg16.view.loc (c : Thread nD τ) ↦[arg16.view.set]{fullShare} f) ∗ ⌜f = arg16.view.writes (Elt F) G16 (rowsL (fun j => Ci.dv j ((blkOf arg2 arg3 arg4 arg5 arg6 arg7 arg8 arg9 arg10 arg11 arg12 arg13 X2 X3 X4 X5 X6 X7 X8 X9 X10 X11 X12 X13).at (arg19.view.read (Elt F) X19) (arg20.view.read (Elt F) G20) j)) k)⌝) ∗ (∃ f, (arg17.view.loc (c : Thread nD τ) ↦[arg17.view.set]{fullShare} f) ∗ ⌜f = arg17.view.writes (Elt F) G17 (rowsL (fun j => Ci.dg j ((blkOf arg2 arg3 arg4 arg5 arg6 arg7 arg8 arg9 arg10 arg11 arg12 arg13 X2 X3 X4 X5 X6 X7 X8 X9 X10 X11 X12 X13).at (arg19.view.read (Elt F) X19) (arg20.view.read (Elt F) G20) j)) k)⌝) ∗ (∃ f, (arg18.view.loc (c : Thread nD τ) ↦[arg18.view.set]{fullShare} f) ∗ ⌜arg18.view.read (Elt F) f = (blkOf arg2 arg3 arg4 arg5 arg6 arg7 arg8 arg9 arg10 arg11 arg12 arg13 X2 X3 X4 X5 X6 X7 X8 X9 X10 X11 X12 X13).ngs (arg19.view.read (Elt F) X19) (arg20.view.read (Elt F) G20) (arg18.view.read (Elt F) G18) k⌝) ∗ (∃ f, (arg20.view.loc (c : Thread nD τ) ↦[arg20.view.set]{fullShare} f) ∗ ⌜arg20.view.read (Elt F) f = (blkOf arg2 arg3 arg4 arg5 arg6 arg7 arg8 arg9 arg10 arg11 arg12 arg13 X2 X3 X4 X5 X6 X7 X8 X9 X10 X11 X12 X13).dR (arg19.view.read (Elt F) X19) (arg20.view.read (Elt F) G20) k⌝))

set_option maxHeartbeats 4000000 in
set_option warn.classDefReducibility false in
/-- The backward loop by its invariant. -/
@[sl_loop] def loopInv2 (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X19 : BufTy.Contents (Elt F) arg19.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G20 : BufTy.Contents (Elt F) arg20.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 where
  inv := inv2 c arg2 arg3 arg4 arg5 arg6 arg7 arg8 arg9 arg10 arg11 arg12 arg13 arg14 arg15 arg16 arg17 arg18 arg19 arg20 X2 X3 X4 X5 X6 X7 X8 X9 X10 X11 X12 X13 X19 G14 G15 G16 G17 G18 G20
  step k acc := by
    iintro ⟨H2, H3, H4, H5, H6, H7, H8, H9, H10, H11, H12, H13, H19, ⟨%f14, H14, %h14⟩, ⟨%f15, H15, %h15⟩, ⟨%f16, H16, %h16⟩, ⟨%f17, H17, %h17⟩, ⟨%f18, H18, %h18⟩, ⟨%f20, H20, %h20⟩⟩
    iapply (wp_wand_r Idealize.ShloMosaic.frame (wpE (defs₀ (F := F)) 𝒱 (c : Thread nD τ) bd) E)
    isplitl [H2 H3 H4 H5 H6 H7 H8 H9 H10 H11 H12 H13 H19 H14 H15 H16 H17 H18 H20]
    · iapply (trip_run (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k X2 X3 X4 X5 X6 X7 X8 X9 X10 X11 X12 X13 X19 f14 f15 f16 f17 f18 f20)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H19]; · iexact H19
      isplitl [H14]; · iexact H14
      isplitl [H15]; · iexact H15
      isplitl [H16]; · iexact H16
      isplitl [H17]; · iexact H17
      isplitl [H18]; · iexact H18
      iexact H20
    · iintro %_ ⟨H2, H3, H4, H5, H6, H7, H8, H9, H10, H11, H12, H13, H19, H14, H15, H16, H17, H18, H20⟩
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H19]; · iexact H19
      isplitl [H14]
      · iexists _; isplitl [H14]
        · iexact H14
        ipureintro; subst h14; rw [← View.writes_append, rowsL, dif_pos k.isLt, Blk.at, ← h20]; rfl
      isplitl [H15]
      · iexists _; isplitl [H15]
        · iexact H15
        ipureintro; subst h15; rw [← View.writes_append, rowsL, dif_pos k.isLt, Blk.at, ← h20]; rfl
      isplitl [H16]
      · iexists _; isplitl [H16]
        · iexact H16
        ipureintro; subst h16; rw [← View.writes_append, rowsL, dif_pos k.isLt, Blk.at, ← h20]; rfl
      isplitl [H17]
      · iexists _; isplitl [H17]
        · iexact H17
        ipureintro; subst h17; rw [← View.writes_append, rowsL, dif_pos k.isLt, Blk.at, ← h20]; rfl
      isplitl [H18]
      · iexists _; isplitl [H18]
        · iexact H18
        ipureintro; rw [View.read_writes_full, h18, Blk.ngs, dif_pos k.isLt, Blk.at, ← h20]
      iexists _; isplitl [H20]
      · iexact H20
      ipureintro; rw [View.read_writes_full, Blk.dR, dif_pos k.isLt, ← h20]
end
end Cert.Proof.Ret
end
-- ==== Proof.Loops.lean ====
/- What the arrays hold after the two loops, and the body's triple. -/
module

public import proofs.«01_k».proof.Proof.Trip

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

theorem trips1 : k0_t1_loop.trips = 17 := by decide +kernel
theorem trips2 : k0_t2_loop.trips = 17 := by decide +kernel

theorem ld_fullM (x : Vec F S256x256 .f32) : View.ld x fullM = x := by
  funext y
  exact congrArg x (funext fun a => Fin.ext (by
    show (![0, 0] : Fin 2 → ℕ) a + 1 * (y a).val = (y a).val
    match a with
    | ⟨0, _⟩ => exact (Nat.zero_add _).trans (Nat.one_mul _)
    | ⟨1, _⟩ => exact (Nat.zero_add _).trans (Nat.one_mul _)))

/-- A row-block index from a row of the whole array. -/
abbrev rowIx (y : S2176x256.Idx) : S128x256.Idx :=
  ix2 (⟨(y 0).val % 128, Nat.mod_lt _ (by decide)⟩ : Fin 128) (⟨(y 1).val, (y 1).isLt⟩ : Fin 256)

/-- The trip that stores a row: the trips go down the chunks. -/
abbrev tripOf (y : S2176x256.Idx) : Fin k0_t2_loop.trips := ⟨16 - (y 0).val / 128, by rw [trips2]; omega⟩

/-- The whole array of the row blocks. -/
def rowsOut (f : Fin k0_t2_loop.trips → Vec F S128x256 .bf16) : Vec F S2176x256 .bf16 :=
  fun y => f (tripOf y) (rowIx y)

theorem read_rowsL {κ : Kind} {sp : Space} (v : View sig κ sp S2176x256 .bf16) (G : v.ty.Contents (Elt F))
    (f : Fin k0_t2_loop.trips → Vec F S128x256 .bf16) (y : S2176x256.Idx) :
    ∀ k ≤ 17, 2176 ≤ (y 0).val + 128 * k → v.read (Elt F) (v.writes (Elt F) G (rowsL f k)) y = rowsOut f y := by
  have hy : (y 0).val < 2176 := (y 0).isLt
  intro k
  induction k with
  | zero => intro _ h; omega
  | succ k ih =>
    intro hk h
    rw [rowsL, dif_pos (show k < k0_t2_loop.trips by rw [trips2]; omega)]
    by_cases hr : (y 0).val < 2176 - 128 * k
    · have hq : (y 0).val / 128 = 16 - k := by omega
      have ht : tripOf y = ⟨k, by rw [trips2]; omega⟩ := Fin.ext (by show 16 - (y 0).val / 128 = k; omega)
      refine (View.read_writes_cons_rows_of_mem (o := 2048 - 128 * k) v G _ _ _ y (rowIx y) (k0_off5_eq _) ?_ rfl).trans ?_
      · show (y 0).val = 2048 - 128 * k + (y 0).val % 128
        omega
      · unfold rowsOut; rw [ht]
    · refine (View.read_writes_cons_rows_of_not_mem (o := 2048 - 128 * k) (W := 128) v G _ _ _ y (k0_off5_eq _) rfl ?_).trans
        (ih (by omega) (by omega))
      omega

/-- What the body leaves in the output blocks. -/
def Blk.z : Vec F S256x256 .f32 := k0_pay3
def Blk.oq (b : Blk F) : Vec F S2176x256 .bf16 := rowsOut fun j => Ci.dq j (b.at b.sts k0_pay3 j)
def Blk.ok (b : Blk F) : Vec F S2176x256 .bf16 := rowsOut fun j => Ci.dk j (b.at b.sts k0_pay3 j)
def Blk.ov (b : Blk F) : Vec F S2176x256 .bf16 := rowsOut fun j => Ci.dv j (b.at b.sts k0_pay3 j)
def Blk.og (b : Blk F) : Vec F S2176x256 .bf16 := rowsOut fun j => Ci.dg j (b.at b.sts k0_pay3 j)
def Blk.ong (b : Blk F) (d : Vec F S1x256 .f32) : Vec F S1x256 .f32 := b.ngs b.sts k0_pay3 d 17

section
variable (𝒱 : Variants) (c : Dev nD) (bd : Option 𝒱.V) (E : Set ℕ) (i : grid0.Coords)
  (arg2 : Memref sig .tc .vmem S2176x256 .f32) (harg2 : arg2.IsWhole)
  (arg3 : Memref sig .tc .vmem S2176x256 .f32) (harg3 : arg3.IsWhole)
  (arg4 : Memref sig .tc .vmem S2176x256 .f32) (harg4 : arg4.IsWhole)
  (arg5 : Memref sig .tc .vmem S2176x256 .f32) (harg5 : arg5.IsWhole)
  (arg6 : Memref sig .tc .vmem S1x256 .f32) (harg6 : arg6.IsWhole)
  (arg7 : Memref sig .tc .vmem S2176x128 .f32) (harg7 : arg7.IsWhole)
  (arg8 : Memref sig .tc .vmem S2176x128 .f32) (harg8 : arg8.IsWhole)
  (arg9 : Memref sig .tc .vmem S1x128x128 .f32) (harg9 : arg9.IsWhole)
  (arg10 : Memref sig .tc .vmem S1x128x1 .f32) (harg10 : arg10.IsWhole)
  (arg11 : Memref sig .tc .vmem S1x128x1 .f32) (harg11 : arg11.IsWhole)
  (arg12 : Memref sig .tc .vmem S1x1x1 .f32) (harg12 : arg12.IsWhole)
  (arg13 : Memref sig .tc .vmem S2176x256 .bf16) (harg13 : arg13.IsWhole)
  (arg14 : Memref sig .tc .vmem S2176x256 .bf16) (harg14 : arg14.IsWhole)
  (arg15 : Memref sig .tc .vmem S2176x256 .bf16) (harg15 : arg15.IsWhole)
  (arg16 : Memref sig .tc .vmem S2176x256 .bf16) (harg16 : arg16.IsWhole)
  (arg17 : Memref sig .tc .vmem S2176x256 .bf16) (harg17 : arg17.IsWhole)
  (arg18 : Memref sig .tc .vmem S1x256 .f32) (harg18 : arg18.IsWhole)
  (arg19 : Memref sig .tc .vmem S17x256x256 .f32) (harg19 : arg19.IsWhole)
  (arg20 : Memref sig .tc .vmem S256x256 .f32) (harg20 : arg20.IsWhole)

variable (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty)

theorem tripL_eq (k : Fin k0_t1_loop.trips) (f19 : BufTy.Contents (Elt F) arg19.view.ty) (f20 : BufTy.Contents (Elt F) arg20.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 k f19 f20
      = ([⟨slabF k, k0_pay15 (View.ld (arg20.view.read (Elt F) f20) fullM)⟩],
         [⟨fullM, (blkOf arg2 arg3 arg4 arg5 arg6 arg7 arg8 arg9 arg10 arg11 arg12 arg13 X2 X3 X4 X5 X6 X7 X8 X9 X10 X11 X12 X13).next k (View.ld (arg20.view.read (Elt F) f20) fullM)⟩]) := by
  unfold tripL_k0_t1 trip_k0_t1; rfl

variable (G19 : BufTy.Contents (Elt F) arg19.view.ty) (G20 : BufTy.Contents (Elt F) arg20.view.ty)

/-- The state's scratch before trip `k`. -/
theorem read_st (h0 : arg20.view.read (Elt F) G20 = k0_pay1) : ∀ k ≤ 17,
    arg20.view.read (Elt F) (arg20.view.writes (Elt F) G20 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 G19 G20 k).2) = (blkOf arg2 arg3 arg4 arg5 arg6 arg7 arg8 arg9 arg10 arg11 arg12 arg13 X2 X3 X4 X5 X6 X7 X8 X9 X10 X11 X12 X13).st k := by
  intro k
  induction k with
  | zero => intro _; exact h0
  | succ k ih =>
    intro hk
    have hlt : k < k0_t1_loop.trips := by rw [trips1]; omega
    have h := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 G19 G20 ⟨k, hlt⟩
    rw [tripL_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13] at h
    rw [show k + 1 = (⟨k, hlt⟩ : Fin k0_t1_loop.trips).val + 1 from rfl, h]
    refine (View.read_writes_full _ _ _ _ _).trans ?_
    rw [Blk.st, dif_pos hlt, ld_fullM]
    exact congrArg _ (ih (by omega))

/-- The states' scratch: the state before each chunk gone through. -/
theorem read_sts (h0 : arg20.view.read (Elt F) G20 = k0_pay1) (y : S17x256x256.Idx) : ∀ k ≤ 17, (y 0).val < k →
    arg19.view.read (Elt F) (arg19.view.writes (Elt F) G19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 G19 G20 k).1) y = (blkOf arg2 arg3 arg4 arg5 arg6 arg7 arg8 arg9 arg10 arg11 arg12 arg13 X2 X3 X4 X5 X6 X7 X8 X9 X10 X11 X12 X13).sts y := by
  intro k
  induction k with
  | zero => intro _ h; omega
  | succ k ih =>
    intro hk hy
    have hlt : k < k0_t1_loop.trips := by rw [trips1]; omega
    have h := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 G19 G20 ⟨k, hlt⟩
    rw [tripL_eq (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13] at h
    rw [show k + 1 = (⟨k, hlt⟩ : Fin k0_t1_loop.trips).val + 1 from rfl, h]
    by_cases hr : (y 0).val = k
    · refine (View.read_writes_cons_unit_of_mem _ _ _ _ _ y
        (ix3 (0 : Fin 1) (y 1 : Fin 256) (y 2 : Fin 256))
        (k0_off2_eq ⟨k, hlt⟩) ?_).trans ?_
      · intro a
        match a with
        | ⟨0, _⟩ => exact hr
        | ⟨1, _⟩ => exact (Nat.zero_add _).symm
        | ⟨2, _⟩ => exact (Nat.zero_add _).symm
      · rw [ld_fullM, read_st (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 G19 G20 h0 k (by omega)]
        unfold Blk.sts; rw [hr]
        unfold k0_pay15
        exact shapeCast_ab_1ab_apply _ _ _ _ _
    · refine (View.read_writes_cons_unit_of_not_mem _ _ _ _ _ y (k0_off2_eq ⟨k, hlt⟩) 0 (Or.inl ?_)).trans
        (ih (by omega) (by omega))
      show (y 0).val < k
      omega

/-- After the last trip it holds the state before every chunk. -/
theorem sts_eq (h0 : arg20.view.read (Elt F) G20 = k0_pay1) :
    arg19.view.read (Elt F) (arg19.view.writes (Elt F) G19 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X7 X8 X10 X12 G19 G20 17).1) = (blkOf arg2 arg3 arg4 arg5 arg6 arg7 arg8 arg9 arg10 arg11 arg12 arg13 X2 X3 X4 X5 X6 X7 X8 X9 X10 X11 X12 X13).sts :=
  funext fun y => read_sts (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 X13 G19 G20 h0 y 17 le_rfl (y 0).isLt
end
end Cert.Proof.Ret
end
-- ==== Proof.Body.lean ====
/- The body's triple at a grid point of the first batch, and at one of a later batch. -/
module

public import proofs.«01_k».proof.Proof.Loops

@[expose] public section

set_option maxRecDepth 16384

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- The grid point is of the first batch, as the body tests it. -/
abbrev firstB (i : grid0.Coords) : Prop :=
  Scalar.cmpi .ne (Scalar.extui (Scalar.cmpi .eq (BitVec.ofNat 32 (i 1).val) 0#32) : BitVec 32) 0#32 = 1#1

section
variable (c : Dev nD) (E : Set ℕ) (i : grid0.Coords)
  (arg2 : Memref sig .tc .vmem S2176x256 .f32) (harg2 : arg2.IsWhole)
  (arg3 : Memref sig .tc .vmem S2176x256 .f32) (harg3 : arg3.IsWhole)
  (arg4 : Memref sig .tc .vmem S2176x256 .f32) (harg4 : arg4.IsWhole)
  (arg5 : Memref sig .tc .vmem S2176x256 .f32) (harg5 : arg5.IsWhole)
  (arg6 : Memref sig .tc .vmem S1x256 .f32) (harg6 : arg6.IsWhole)
  (arg7 : Memref sig .tc .vmem S2176x128 .f32) (harg7 : arg7.IsWhole)
  (arg8 : Memref sig .tc .vmem S2176x128 .f32) (harg8 : arg8.IsWhole)
  (arg9 : Memref sig .tc .vmem S1x128x128 .f32) (harg9 : arg9.IsWhole)
  (arg10 : Memref sig .tc .vmem S1x128x1 .f32) (harg10 : arg10.IsWhole)
  (arg11 : Memref sig .tc .vmem S1x128x1 .f32) (harg11 : arg11.IsWhole)
  (arg12 : Memref sig .tc .vmem S1x1x1 .f32) (harg12 : arg12.IsWhole)
  (arg13 : Memref sig .tc .vmem S2176x256 .bf16) (harg13 : arg13.IsWhole)
  (arg14 : Memref sig .tc .vmem S2176x256 .bf16) (harg14 : arg14.IsWhole)
  (arg15 : Memref sig .tc .vmem S2176x256 .bf16) (harg15 : arg15.IsWhole)
  (arg16 : Memref sig .tc .vmem S2176x256 .bf16) (harg16 : arg16.IsWhole)
  (arg17 : Memref sig .tc .vmem S2176x256 .bf16) (harg17 : arg17.IsWhole)
  (arg18 : Memref sig .tc .vmem S1x256 .f32) (harg18 : arg18.IsWhole)
  (arg19 : Memref sig .tc .vmem S17x256x256 .f32) (harg19 : arg19.IsWhole)
  (arg20 : Memref sig .tc .vmem S256x256 .f32) (harg20 : arg20.IsWhole)
  (x2 : Vec F S2176x256 .f32) (x3 : Vec F S2176x256 .f32) (x4 : Vec F S2176x256 .f32) (x5 : Vec F S2176x256 .f32) (x6 : Vec F S1x256 .f32) (x7 : Vec F S2176x128 .f32) (x8 : Vec F S2176x128 .f32) (x9 : Vec F S1x128x128 .f32) (x10 : Vec F S1x128x1 .f32) (x11 : Vec F S1x128x1 .f32) (x12 : Vec F S1x1x1 .f32) (x13 : Vec F S2176x256 .bf16)

set_option maxHeartbeats 4000000 in
/-- At a grid point of the first batch the norm scale's gradient starts from zero. -/
theorem sound_first (hc : firstB i) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (Blk.oq ⟨x2, x3, x4, x5, x6, x7, x8, x9, x10, x11, x12, x13⟩) ∗ owns (c : Thread nD τ) arg15 fullShare (Blk.ok ⟨x2, x3, x4, x5, x6, x7, x8, x9, x10, x11, x12, x13⟩) ∗ owns (c : Thread nD τ) arg16 fullShare (Blk.ov ⟨x2, x3, x4, x5, x6, x7, x8, x9, x10, x11, x12, x13⟩) ∗ owns (c : Thread nD τ) arg17 fullShare (Blk.og ⟨x2, x3, x4, x5, x6, x7, x8, x9, x10, x11, x12, x13⟩) ∗ owns (c : Thread nD τ) arg18 fullShare (Blk.ong ⟨x2, x3, x4, x5, x6, x7, x8, x9, x10, x11, x12, x13⟩ k0_pay4) ∗ (∃ d, owns (c : Thread nD τ) arg19 fullShare d) ∗ (∃ d, owns (c : Thread nD τ) arg20 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ret_bwd_eq_skeleton]; unfold cc0_ret_bwd_skel
  unfold owns
  have e1 : Scf.trips k0_t1_loop.lb k0_t1_loop.ub k0_t1_loop.st = 17 := trips1
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf2 hf3 hf4 hf5 hf6 hf7 hf8 hf9 hf10 hf11 hf12 hf13
  sl_exec (disch := sl_exact hc)
  sl_step
  iapply Hk
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H15]
  · iexists _; isplitr
    swap; · iexact H15
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H16]
  · iexists _; isplitr
    swap; · iexact H16
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H17]
  · iexists _; isplitr
    swap; · iexact H17
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H18]
  · iexists _; isplitr
    swap; · iexact H18
    ipureintro
    refine (by assumption : arg18.view.read (Elt F) _ = _).trans ?_
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · exact congrArg (fun e => Blk.ngs _ _ _ e 17) (View.read_writes_full _ _ _ _ _)
    exact View.read_writes_full _ _ _ _ _
  isplitl [H19]
  · iexists _; iexists _; isplitr
    swap; · iexact H19
    ipureintro; rfl
  iexists _; iexists _; isplitr
  swap; · iexact H20
  ipureintro; rfl

set_option maxHeartbeats 4000000 in
/-- At a grid point of a later batch it goes on from what the block holds. -/
theorem sound_next (hc : ¬ firstB i) (d : Vec F S1x256 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare d ∗ (∃ d, owns (c : Thread nD τ) arg19 fullShare d) ∗ (∃ d, owns (c : Thread nD τ) arg20 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (Blk.oq ⟨x2, x3, x4, x5, x6, x7, x8, x9, x10, x11, x12, x13⟩) ∗ owns (c : Thread nD τ) arg15 fullShare (Blk.ok ⟨x2, x3, x4, x5, x6, x7, x8, x9, x10, x11, x12, x13⟩) ∗ owns (c : Thread nD τ) arg16 fullShare (Blk.ov ⟨x2, x3, x4, x5, x6, x7, x8, x9, x10, x11, x12, x13⟩) ∗ owns (c : Thread nD τ) arg17 fullShare (Blk.og ⟨x2, x3, x4, x5, x6, x7, x8, x9, x10, x11, x12, x13⟩) ∗ owns (c : Thread nD τ) arg18 fullShare (Blk.ong ⟨x2, x3, x4, x5, x6, x7, x8, x9, x10, x11, x12, x13⟩ d) ∗ (∃ d, owns (c : Thread nD τ) arg19 fullShare d) ∗ (∃ d, owns (c : Thread nD τ) arg20 fullShare d)) -∗ K ⟨⟩))
      ⊢ wp frame (wpE (defs₀ (F := F)) Variants.none c none) E (cc0_ret_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_ret_bwd_eq_skeleton]; unfold cc0_ret_bwd_skel
  unfold owns
  have e1 : Scf.trips k0_t1_loop.lb k0_t1_loop.ub k0_t1_loop.st = 17 := trips1
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%f18, %hf18, H18⟩, ⟨%d19, %f19, -, H19⟩, ⟨%d20, %f20, -, H20⟩, Hk⟩
  subst hf2 hf3 hf4 hf5 hf6 hf7 hf8 hf9 hf10 hf11 hf12 hf13 hf18
  sl_exec (disch := sl_exact hc)
  sl_step
  iapply Hk
  isplitl [H2]
  · iexists f2; isplitr
    · ipureintro; rfl
    iexact H2
  isplitl [H3]
  · iexists f3; isplitr
    · ipureintro; rfl
    iexact H3
  isplitl [H4]
  · iexists f4; isplitr
    · ipureintro; rfl
    iexact H4
  isplitl [H5]
  · iexists f5; isplitr
    · ipureintro; rfl
    iexact H5
  isplitl [H6]
  · iexists f6; isplitr
    · ipureintro; rfl
    iexact H6
  isplitl [H7]
  · iexists f7; isplitr
    · ipureintro; rfl
    iexact H7
  isplitl [H8]
  · iexists f8; isplitr
    · ipureintro; rfl
    iexact H8
  isplitl [H9]
  · iexists f9; isplitr
    · ipureintro; rfl
    iexact H9
  isplitl [H10]
  · iexists f10; isplitr
    · ipureintro; rfl
    iexact H10
  isplitl [H11]
  · iexists f11; isplitr
    · ipureintro; rfl
    iexact H11
  isplitl [H12]
  · iexists f12; isplitr
    · ipureintro; rfl
    iexact H12
  isplitl [H13]
  · iexists f13; isplitr
    · ipureintro; rfl
    iexact H13
  isplitl [H14]
  · iexists _; isplitr
    swap; · iexact H14
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H15]
  · iexists _; isplitr
    swap; · iexact H15
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H16]
  · iexists _; isplitr
    swap; · iexact H16
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H17]
  · iexists _; isplitr
    swap; · iexact H17
    ipureintro
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · funext y
      exact read_rowsL _ _ _ y 17 le_rfl (by omega)
    exact View.read_writes_full _ _ _ _ _
  isplitl [H18]
  · iexists _; isplitr
    swap; · iexact H18
    ipureintro
    refine (by assumption : arg18.view.read (Elt F) _ = _).trans ?_
    rw [e1]
    rw [sts_eq (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 f2 f3 f4 f5 f6 f7 f8 f9 f10 f11 f12 f13 _ _ ?h, View.read_writes_full]
    · rfl
    exact View.read_writes_full _ _ _ _ _
  isplitl [H19]
  · iexists _; iexists _; isplitr
    swap; · iexact H19
    ipureintro; rfl
  iexists _; iexists _; isplitr
  swap; · iexact H20
  ipureintro; rfl
end
end Cert.Proof.Ret
end
-- ==== Proof.Pass.lean ====
/- The pipeline's proof data, the body obligation, the run of @main, and the frame. -/
module

public import proofs.«01_k».proof.Proof.Body
public import proofs.«01_k».proof.Proof.Gen.KernelIdeal.Frame
public import Idealize.ShloMosaic.Lib.Claim

@[expose] public section

noncomputable section

namespace Cert.Proof.Ret

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the input windows hold at a grid point. -/
def bk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- The grid point before. -/
abbrev prv (t : Fin cfg0.N) : Fin cfg0.N := ⟨t.val - 1, Nat.lt_of_le_of_lt (Nat.sub_le _ _) t.isLt⟩

/-- The norm scale's gradient after the body: the second batch adds to what the first left. -/
def ngAt (c : Dev nD) (t : Fin cfg0.N) : Vec F S1x256 .f32 :=
  if t.val % 2 = 0 then Blk.ong (bk m c t) k0_pay4 else Blk.ong (bk m c t) (Blk.ong (bk m c (prv t)) k0_pay4)

/-- The proof data of the pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => Blk.oq (bk m c t)
    | ⟨13, _⟩ => Blk.ok (bk m c t)
    | ⟨14, _⟩ => Blk.ov (bk m c t)
    | ⟨15, _⟩ => Blk.og (bk m c t)
    | ⟨16, _⟩ => ngAt m c t
    | ⟨n + 17, h⟩ => (Nat.not_lt.mpr (Nat.le_add_left 17 n) h).elim
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = Blk.oq (bk m c t) := by dsimp only [dats]
theorem after0_13 (c : Dev nD) (t : Fin cfg0.N) : (dats m 0 c).after 13 t = Blk.ok (bk m c t) := by dsimp only [dats]
theorem after0_14 (c : Dev nD) (t : Fin cfg0.N) : (dats m 0 c).after 14 t = Blk.ov (bk m c t) := by dsimp only [dats]
theorem after0_15 (c : Dev nD) (t : Fin cfg0.N) : (dats m 0 c).after 15 t = Blk.og (bk m c t) := by dsimp only [dats]
theorem after0_16 (c : Dev nD) (t : Fin cfg0.N) : (dats m 0 c).after 16 t = ngAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The body's test on the batch coordinate is the parity of the point. -/
theorem first_iff : ∀ t : Fin cfg0.N, firstB (grid0.coords t) ↔ t.val % 2 = 0 :=
  (by decide +kernel : ∀ t : Fin grid0.N, firstB (grid0.coords t) ↔ t.val % 2 = 0)

/-- At a point of the second batch the scale's gradient is what the first batch left. -/
theorem before0_16 (c : Dev nD) (t : Fin cfg0.N) (h : ¬ t.val % 2 = 0) (d) :
    (dats m 0 c).before 16 t d = Blk.ong (bk m c (prv t)) k0_pay4 := by
  have hfl : (cfg0.win 16).flush (prv t) = false := by
    rw [Bool.eq_false_iff]
    intro hh
    have := (flush0_16 (prv t)).mp hh
    simp only [prv] at this
    omega
  rw [(dats m 0 c).before_out_kept 16 rfl t (by omega) hfl (fun _ => rfl) (fun _ _ => rfl) d]
  rw [after0_16, ngAt, if_pos (show (t.val - 1) % 2 = 0 by omega)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

/-- The scratch buffers and the generator register out of the invariant, and back. -/
theorem phi_eq (c : Dev nD) : (Pipeline.ΦA spec0 c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ ∃ r, prngReg c r) := by
  unfold Pipeline.ΦA
  rw [scopedRest0_eq]

set_option maxHeartbeats 1000000 in
theorem sound_body_first (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, ngAt, if_pos h,
    show (dats m 0 c).Φ t.castSucc = Pipeline.ΦA spec0 c from rfl, phi_eq]
  iintro ⟨⟨⟨⟨%d19, H19⟩, ⟨%d20, H20⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_first c Set.univ (grid0.coords t) _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((first_iff t).mpr h) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H19]; · iexists d19; rw [owns_whole]; iexact H19
  isplitl [H20]; · iexists d20; rw [owns_whole]; iexact H20
  iintro ⟨H0, H1, H2, H3, H4, H5, H6, H7, H8, H9, H10, H11, H12, H13, H14, H15, H16, ⟨%e19, H19⟩, ⟨%e20, H20⟩⟩
  isplitl [H19 H20 Hr]
  · isplitl [H19 H20]
    · isplitl [H19]
      · iexists e19; rw [← owns_whole]; iexact H19
      iexists e20; rw [← owns_whole]; iexact H20
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
theorem sound_body_next (c : Dev nD) (t : Fin cfg0.N) (h : ¬ t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_16 m c t h]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, ngAt, if_neg h,
    show (dats m 0 c).Φ t.castSucc = Pipeline.ΦA spec0 c from rfl, phi_eq]
  iintro ⟨⟨⟨⟨%d19, H19⟩, ⟨%d20, H20⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_next c Set.univ (grid0.coords t) _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun hf => h ((first_iff t).mp hf)) (Blk.ong (bk m c (prv t)) k0_pay4) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [H19]; · iexists d19; rw [owns_whole]; iexact H19
  isplitl [H20]; · iexists d20; rw [owns_whole]; iexact H20
  iintro ⟨H0, H1, H2, H3, H4, H5, H6, H7, H8, H9, H10, H11, H12, H13, H14, H15, H16, ⟨%e19, H19⟩, ⟨%e20, H20⟩⟩
  isplitl [H19 H20 Hr]
  · isplitl [H19 H20]
    · isplitl [H19]
      · iexists e19; rw [← owns_whole]; iexact H19
      iexists e20; rw [← owns_whole]; iexact H20
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem sound_body (c : Dev nD) (t : Fin cfg0.N) :
    bodyPre m c t ⊢ wp frame (wpE (defs₀ (F := F)) Variants.none c none) Set.univ (bodyAt0 t) (fun _ => bodyPost m c t) := by
  by_cases h : t.val % 2 = 0
  · exact sound_body_first m c t h
  · exact sound_body_next m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end at what the proof data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Ret

end
-- ==== Proof.Same.lean ====
/- The kernel printed for the machine's floats and the one printed for the extended reals have one text. -/
module

public import proofs.«01_k».proof.Defs
public import proofs.«01_k».proof.Proof.Gen.Kernel
public import proofs.«01_k».proof.Proof.Gen.KernelIdeal

@[expose] public section

set_option maxRecDepth 100000
set_option maxHeartbeats 4000000

noncomputable section

namespace Cert.Proof.Ret

open Idealize.ShloMosaic Idealize.ShloMosaic.TcCoe
open Idealize.SL Idealize.SL.Sem

variable {F : FTy → Type} [FloatOps F]

/-- One body table. -/
theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l x
  match l, x with
  | 0, (t, s) => rfl
  | ⟨_ + 1, h⟩, _ => exact absurd h (Nat.not_lt.2 (Nat.le_add_left _ _))

/-- One table of bodies and pipelines. -/
theorem defs_same : Cert.Kernel.defs (F := F) = Cert.KernelIdeal.defs (F := F) :=
  congrArg (Pipeline.defs (Cert.Kernel.pcfgs (F := F))) bodies_same

/-- One main. -/
theorem main_same : Cert.Kernel.main (F := F) = Cert.KernelIdeal.main (F := F) := rfl

end Cert.Proof.Ret

end
-- ==== Proof.Spec.lean ====
/- The gradients of one head of the retention group of one batch element, as formulas over the extended reals: rows are
   counted from the front of the padded sequence (2176 rows, the first 112 of them padding), row `r` being row `r % 128`
   of chunk `r / 128`. Both programs are read against these formulas. -/
module

public import Idealize.ShloMosaic.PureOps.Ideal
public import Idealize.ShloMosaic.PureOps.Ideal.Laws
public import Idealize.ShloMosaic.Lib.IdealHost

@[expose] public section

noncomputable section

namespace Cert.Proof.Ret

open Idealize.ShloMosaic

/-- A sum over the first `n` numbers. -/
def sm (n : ℕ) (f : ℕ → EReal) : EReal := ∑ k : Fin n, f k.val

theorem sm_congr {n : ℕ} {f g : ℕ → EReal} (h : ∀ k < n, f k = g k) : sm n f = sm n g :=
  Finset.sum_congr rfl fun k _ => h k.val k.isLt

theorem sm_zero {n : ℕ} {f : ℕ → EReal} (h : ∀ k < n, f k = 0) : sm n f = 0 :=
  Finset.sum_eq_zero fun k _ => h k.val k.isLt

theorem sm_range (n : ℕ) (f : ℕ → EReal) : sm n f = ∑ k ∈ Finset.range n, f k := (Finset.sum_range f).symm

/-- Zero on the padding rows, one elsewhere. -/
def msk (r : ℕ) : EReal := if r < 112 then 0 else 1

theorem msk_pad {r : ℕ} (h : r < 112) : msk r = 0 := if_pos h
theorem msk_tok {r : ℕ} (h : ¬ r < 112) : msk r = 1 := if_neg h

/-- The constants both programs spell: 1/16, 256, 1e-6, -1/2. -/
abbrev cSc : EReal := Ideal.ofBits .f32 0x3D800000#32
abbrev cN : EReal := Ideal.ofBits .f32 0x43800000#32
abbrev cEps : EReal := Ideal.ofBits .f32 0x358637BD#32
abbrev cHalf : EReal := Ideal.ofBits .f32 0xBF000000#32

theorem cN_eq : cN = ((256 : ℝ) : EReal) := by
  simp [cN, Ideal.ofBits, Ideal.ieee, -EReal.coe_mul]; norm_num

/-- One head of one batch element: queries, keys, values, gate and incoming gradient by row and column, the norm's scale,
    the rotation's cosines and sines, the decay inside a chunk, the two row decays and the decay of a whole chunk. -/
structure Raw where
  (q k v g dy : ℕ → ℕ → EReal)
  ng : ℕ → EReal
  (cs sn de : ℕ → ℕ → EReal)
  (zt xi : ℕ → EReal)
  cd : EReal

namespace Raw

variable (a : Raw)

/-- The rotation of a row: column `d` of the low half with column `d + 128`. -/
def rot (x : ℕ → ℕ → EReal) (r d : ℕ) : EReal :=
  if d < 128 then x r d * a.cs r d - x r (128 + d) * a.sn r d
  else x r (d - 128) * a.sn r (d - 128) + x r d * a.cs r (d - 128)

def qr (r d : ℕ) : EReal := msk r * a.rot a.q r d
def kr (r d : ℕ) : EReal := msk r * a.rot a.k r d * cSc
def vv (r e : ℕ) : EReal := msk r * a.v r e

/-- Row `s` of the chunk that row `r` is in. -/
abbrev ch (r s : ℕ) : ℕ := 128 * (r / 128) + s

/-- The decayed score of rows `r` and `s` of one chunk. -/
def sc (r s : ℕ) : EReal := sm 256 (fun d => a.qr r d * a.kr s d) * a.de (r % 128) (s % 128)
def inn (r e : ℕ) : EReal := sm 128 fun s => a.sc r (ch r s) * a.vv (ch r s) e
def kz (s d : ℕ) : EReal := a.kr s d * a.zt (s % 128)
def kv (n d e : ℕ) : EReal := sm 128 fun s => a.kz (128 * n + s) d * a.vv (128 * n + s) e

/-- The state before chunk `n`. -/
def R : ℕ → ℕ → ℕ → EReal
  | 0, _, _ => 0
  | n + 1, d, e => a.cd * R n d e + a.kv n d e

def crs (r e : ℕ) : EReal := sm 256 (fun d => a.qr r d * a.R (r / 128) d e) * a.xi (r % 128)
def o (r e : ℕ) : EReal := a.inn r e + a.crs r e

/-! The norm over a row's 256 columns and the gate. -/

def oc (r e : ℕ) : EReal := a.o r e - Ideal.div (sm 256 (a.o r)) cN
def vr (r : ℕ) : EReal := Ideal.div (sm 256 fun e => a.oc r e * a.oc r e) cN + cEps
def rs (r : ℕ) : EReal := Ideal.rsqrt (a.vr r)
def c3 (r : ℕ) : EReal := cHalf * Ideal.div (a.rs r) (a.vr r)
def sig (r e : ℕ) : EReal := Ideal.logistic (a.g r e)
def dsig (r e : ℕ) : EReal := a.sig r e * (1 - a.sig r e)
def dz (r e : ℕ) : EReal := a.g r e * a.sig r e * a.dy r e
def nrm (r e : ℕ) : EReal := a.oc r e * a.rs r
def dyx (r e : ℕ) : EReal := a.dy r e * (a.nrm r e * a.ng e)

/-- The gate's gradient. -/
def gg (r e : ℕ) : EReal := a.dyx r e * a.sig r e + a.g r e * a.dyx r e * a.dsig r e

/-- A chunk's part of the gradient of the norm's scale, and the whole of it. -/
def gnc (n e : ℕ) : EReal := sm 128 fun l => a.nrm (128 * n + l) e * a.dz (128 * n + l) e
def gn (e : ℕ) : EReal := sm 17 fun n => a.gnc n e

/-! The gradient of the norm's input. -/

def dn (r e : ℕ) : EReal := a.dz r e * a.ng e
def u (r : ℕ) : EReal := Ideal.div (sm 256 (fun e => a.oc r e * a.dn r e) * a.c3 r) cN
def w (r e : ℕ) : EReal := a.dn r e * a.rs r + a.oc r e * a.u r + a.u r * a.oc r e
def dO (r e : ℕ) : EReal := a.w r e + Ideal.div (sm 256 fun e => -a.w r e) cN

/-! The gradients of the retention, from the gradient `P` of its output. -/

variable (P : ℕ → ℕ → EReal)

def dox (r e : ℕ) : EReal := P r e * a.xi (r % 128)
def ctr (n d e : ℕ) : EReal := sm 128 fun l => a.qr (128 * n + l) d * a.dox P (128 * n + l) e

/-- The gradient of the state after chunk `16 - k`. -/
def D : ℕ → ℕ → ℕ → EReal
  | 0, _, _ => 0
  | k + 1, d, e => a.cd * D k d e + a.ctr P (16 - k) d e

def dS (r s : ℕ) : EReal := sm 256 (fun e => P r e * a.vv s e) * a.de (r % 128) (s % 128)
def dqr (r d : ℕ) : EReal :=
  sm 256 (fun e => a.dox P r e * a.R (r / 128) d e) + sm 128 fun s => a.dS P r (ch r s) * a.kr (ch r s) d
def dkr (r d : ℕ) : EReal :=
  sm 256 (fun e => a.vv r e * a.D P (16 - r / 128) d e) * a.zt (r % 128) + sm 128 fun l => a.dS P (ch r l) r * a.qr (ch r l) d
def dvv (r e : ℕ) : EReal :=
  sm 256 (fun d => a.kz r d * a.D P (16 - r / 128) d e) + sm 128 fun l => a.sc (ch r l) r * P (ch r l) e

/-- The rotation backward. -/
def unrot (x : ℕ → ℕ → EReal) (r d : ℕ) : EReal :=
  if d < 128 then x r (128 + d) * a.sn r d + x r d * a.cs r d
  else x r d * a.cs r (d - 128) + -x r (d - 128) * a.sn r (d - 128)

/-- The gradients of queries, keys and values. -/
def gq (r d : ℕ) : EReal := a.unrot (fun r d => msk r * a.dqr P r d) r d
def gk (r d : ℕ) : EReal := a.unrot (fun r d => msk r * (a.dkr P r d * cSc)) r d
def gv (r e : ℕ) : EReal := msk r * a.dvv P r e

/-! ### Padding rows -/

theorem qr_pad {r : ℕ} (h : r < 112) (d : ℕ) : a.qr r d = 0 := by simp only [qr, msk_pad h, zero_mul]

theorem sc_pad {r : ℕ} (h : r < 112) (s : ℕ) : a.sc r s = 0 := by
  rw [sc, sm_zero fun d _ => by rw [a.qr_pad h, zero_mul], zero_mul]

theorem o_pad {r : ℕ} (h : r < 112) (e : ℕ) : a.o r e = 0 := by
  rw [o, inn, crs, sm_zero fun s _ => by rw [a.sc_pad h, zero_mul], sm_zero fun d _ => by rw [a.qr_pad h, zero_mul],
    zero_mul, add_zero]

theorem oc_pad {r : ℕ} (h : r < 112) (e : ℕ) : a.oc r e = 0 := by
  rw [oc, a.o_pad h, sm_zero fun e _ => a.o_pad h e]
  rw [Ideal.div, if_neg (by rw [cN_eq]; exact_mod_cast (by norm_num : (256 : ℝ) ≠ 0))]
  simp

theorem nrm_pad {r : ℕ} (h : r < 112) (e : ℕ) : a.nrm r e = 0 := by rw [nrm, a.oc_pad h, zero_mul]

theorem gg_pad {r : ℕ} (h : r < 112) (e : ℕ) : a.gg r e = 0 := by
  simp only [gg, dyx, a.nrm_pad h, zero_mul, mul_zero, add_zero]

theorem unrot_pad {x : ℕ → ℕ → EReal} {r : ℕ} (h : ∀ d, x r d = 0) (d : ℕ) : a.unrot x r d = 0 := by
  simp only [unrot, h, zero_mul, neg_zero, add_zero, ite_self]

theorem gq_pad {r : ℕ} (h : r < 112) (d : ℕ) : a.gq P r d = 0 :=
  a.unrot_pad (fun d => by simp only [msk_pad h, zero_mul]) d
theorem gk_pad {r : ℕ} (h : r < 112) (d : ℕ) : a.gk P r d = 0 :=
  a.unrot_pad (fun d => by simp only [msk_pad h, zero_mul]) d
theorem gv_pad {r : ℕ} (h : r < 112) (d : ℕ) : a.gv P r d = 0 := by simp only [gv, msk_pad h, zero_mul]

/-! ### What the padding rows of the output's gradient hold is never read -/

variable {P}

theorem ctr_congr {Q : ℕ → ℕ → EReal} (h : ∀ r, ¬ r < 112 → ∀ e, P r e = Q r e) (n d e : ℕ) : a.ctr P n d e = a.ctr Q n d e :=
  sm_congr fun l _ => by
    by_cases hr : 128 * n + l < 112
    · rw [a.qr_pad hr, zero_mul, zero_mul]
    · rw [dox, dox, h _ hr]

theorem D_congr {Q : ℕ → ℕ → EReal} (h : ∀ r, ¬ r < 112 → ∀ e, P r e = Q r e) (k d e : ℕ) : a.D P k d e = a.D Q k d e := by
  induction k with
  | zero => rfl
  | succ k ih => rw [D, D, ih, a.ctr_congr h]

theorem dqr_congr {Q : ℕ → ℕ → EReal} (h : ∀ r, ¬ r < 112 → ∀ e, P r e = Q r e) {r : ℕ} (hr : ¬ r < 112) (d : ℕ) :
    a.dqr P r d = a.dqr Q r d := by
  simp only [dqr, dox, dS, h r hr]

theorem dkr_congr {Q : ℕ → ℕ → EReal} (h : ∀ r, ¬ r < 112 → ∀ e, P r e = Q r e) (r d : ℕ) : a.dkr P r d = a.dkr Q r d := by
  simp only [dkr, a.D_congr h]
  refine congrArg _ (sm_congr fun l _ => ?_)
  by_cases hl : ch r l < 112
  · rw [a.qr_pad hl, mul_zero, mul_zero]
  · simp only [dS, h _ hl]

theorem dvv_congr {Q : ℕ → ℕ → EReal} (h : ∀ r, ¬ r < 112 → ∀ e, P r e = Q r e) (r e : ℕ) : a.dvv P r e = a.dvv Q r e := by
  simp only [dvv, a.D_congr h]
  refine congrArg _ (sm_congr fun l _ => ?_)
  by_cases hl : ch r l < 112
  · rw [a.sc_pad hl, zero_mul, zero_mul]
  · rw [h _ hl]

theorem unrot_congr {x y : ℕ → ℕ → EReal} {r : ℕ} (h : ∀ d, x r d = y r d) (d : ℕ) : a.unrot x r d = a.unrot y r d := by
  simp only [unrot, h]

theorem gq_congr {Q : ℕ → ℕ → EReal} (h : ∀ r, ¬ r < 112 → ∀ e, P r e = Q r e) {r : ℕ} (hr : ¬ r < 112) (d : ℕ) :
    a.gq P r d = a.gq Q r d := a.unrot_congr (fun d => by simp only [a.dqr_congr h hr]) d
theorem gk_congr {Q : ℕ → ℕ → EReal} (h : ∀ r, ¬ r < 112 → ∀ e, P r e = Q r e) (r d : ℕ) : a.gk P r d = a.gk Q r d :=
  a.unrot_congr (fun d => by simp only [a.dkr_congr h]) d
theorem gv_congr {Q : ℕ → ℕ → EReal} (h : ∀ r, ¬ r < 112 → ∀ e, P r e = Q r e) (r e : ℕ) : a.gv P r e = a.gv Q r e := by
  simp only [gv, a.dvv_congr h]

end Raw

end Cert.Proof.Ret

end
-- ==== Proof.Inp.lean ====
/- The arrays both programs are launched on, as the rows of one head of one batch element, and the constants of a head. -/
module

public import proofs.«01_k».proof.Proof.Spec
public import Idealize.ShloMosaic.Lib.Pointwise

@[expose] public section

noncomputable section

namespace Cert.Proof.Ret

open Idealize.ShloMosaic

/-- An array read at row `r` and column `c`; zero outside it. -/
def at2 {R C : ℕ} (X : (⟨2, ![R, C]⟩ : Shape).Idx → EReal) (r c : ℕ) : EReal :=
  if h : r < R ∧ c < C then X (ix2 ⟨r, h.1⟩ ⟨c, h.2⟩) else 0

/-- A vector read at place `c`; zero outside it. -/
def at1 {C : ℕ} (X : (⟨1, ![C]⟩ : Shape).Idx → EReal) (c : ℕ) : EReal :=
  if h : c < C then X (ix1 ⟨c, h⟩) else 0

theorem at2_eq {R C : ℕ} (X : (⟨2, ![R, C]⟩ : Shape).Idx → EReal) {r c : ℕ} (hr : r < R) (hc : c < C) :
    at2 X r c = X (ix2 ⟨r, hr⟩ ⟨c, hc⟩) := dif_pos ⟨hr, hc⟩

theorem at1_eq {C : ℕ} (X : (⟨1, ![C]⟩ : Shape).Idx → EReal) {c : ℕ} (hc : c < C) : at1 X c = X (ix1 ⟨c, hc⟩) := dif_pos hc

/-- A count as a number. -/
abbrev fl (n : ℕ) : EReal := FloatOps.sitofp (F := Ideal) FTy.f32 (BitVec.ofNat 32 n)

theorem fl_eq {n : ℕ} (h : n < 2 ^ 31) : fl n = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]; norm_num

/-- The logarithm of a head's decay. -/
def lg (h : ℕ) : EReal :=
  Ideal.log1p (-Ideal.exp (Ideal.ofBits FTy.f32 1060205080#32 * (Ideal.ofBits FTy.f32 3231711232#32 - fl h)))

/-- The decay from row `s` to row `r` of a chunk. -/
def deOf (h r s : ℕ) : EReal :=
  if 0 ≤ fl r - fl s then Ideal.exp (lg h * max (fl r - fl s) 0) else 0

def ztOf (h r : ℕ) : EReal := Ideal.exp (lg h * (Ideal.ofBits FTy.f32 1123942400#32 - fl r))
def xiOf (h r : ℕ) : EReal := Ideal.exp (lg h * (fl r + 1))
def cdOf (h : ℕ) : EReal := Ideal.exp (Ideal.ofBits FTy.f32 1124073472#32 * lg h)

/-- The frequency of a pair of columns. -/
def frq (j : ℕ) : EReal :=
  Ideal.div 1 (Ideal.pow (Ideal.ofBits FTy.f32 1176256512#32) (Ideal.div (fl j) (Ideal.ofBits FTy.f32 1123942400#32)))

/-- The place of a padded row in the sequence. -/
def pos (r : ℕ) : EReal := fl r - Ideal.ofBits FTy.f32 1121976320#32

theorem pos_tok {t : ℕ} (h : t < 2064) : pos (112 + t) = fl t := by
  have e : Ideal.ofBits FTy.f32 1121976320#32 = ((112 : ℝ) : EReal) := by
    simp [Ideal.ofBits, Ideal.ieee, -EReal.coe_mul]; norm_num
  rw [pos, fl_eq (by omega), fl_eq (by omega), e, ← EReal.coe_sub]
  exact congrArg (fun x : ℝ => (x : EReal)) (by push_cast; ring)

/-- Head `h` of batch element `b`. -/
def inp (X0 : (⟨2, ![4352, 8192]⟩ : Shape).Idx → EReal) (X1 : (⟨1, ![1024]⟩ : Shape).Idx → EReal)
    (X2 : (⟨2, ![4352, 2048]⟩ : Shape).Idx → EReal) (b h : ℕ) : Raw where
  q r d := at2 X0 (2176 * b + r) (3072 + 256 * h + d)
  k r d := at2 X0 (2176 * b + r) (4096 + 256 * h + d)
  v r d := at2 X0 (2176 * b + r) (5120 + 256 * h + d)
  g r d := at2 X0 (2176 * b + r) (6144 + 256 * h + d)
  dy r d := at2 X2 (2176 * b + r) (1024 + 256 * h + d)
  ng d := at1 X1 (256 * h + d)
  cs r j := Ideal.cos (pos r * frq j)
  sn r j := Ideal.sin (pos r * frq j)
  de := deOf h
  zt := ztOf h
  xi := xiOf h
  cd := cdOf h

end Cert.Proof.Ret

end
-- ==== Proof.Host.lean ====
/- The constants the kernel is launched on, at an index: the decays of a head and the rotation's cosines and sines. -/
module

public import proofs.«01_k».proof.Proof.Gen.KernelIdeal.Frame
public import proofs.«01_k».proof.Proof.Inp
public import Idealize.ShloMosaic.Lib.Pointwise

@[expose] public section

set_option maxRecDepth 16384

noncomputable section

namespace Cert.Proof.Ret

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem V_ng (z : Fin 1) (j : Fin 1024) : V m c main_v0 (ix2 z j) = m ((c : Thread nD τ).loc main_arg1) (ix1 j) := by
  simp only [V, hostOps0, hostOps0_1, hostOps0_2, List.flatten_cons, List.flatten_nil, List.append_nil, List.cons_append, List.nil_append]
  after_results_simp
  pointwise

theorem V_de (h : Fin 4) (r s : Fin 128) : V m c main_v25 (ix3 h r s) = deOf h.val r.val s.val := by
  simp only [V, hostOps0, hostOps0_1, hostOps0_2, List.flatten_cons, List.flatten_nil, List.append_nil, List.cons_append, List.nil_append]
  after_results_simp
  unfold StableHlo.TRef.toBuf StableHlo.TRef.ofBuf
  dsimp only [cast_eq, id]
  pointwise
  rfl
theorem V_zt (h : Fin 4) (r : Fin 128) (z : Fin 1) : V m c main_v34 (ix3 h r z) = ztOf h.val r.val := by
  simp only [V, hostOps0, hostOps0_1, hostOps0_2, List.flatten_cons, List.flatten_nil, List.append_nil, List.cons_append, List.nil_append]
  after_results_simp
  pointwise
  rfl
theorem V_xi (h : Fin 4) (r : Fin 128) (z : Fin 1) : V m c main_v43 (ix3 h r z) = xiOf h.val r.val := by
  simp only [V, hostOps0, hostOps0_1, hostOps0_2, List.flatten_cons, List.flatten_nil, List.append_nil, List.cons_append, List.nil_append]
  after_results_simp
  pointwise
  rfl
theorem V_cd (h : Fin 4) (y z : Fin 1) : V m c main_v47 (ix3 h y z) = cdOf h.val := by
  simp only [V, hostOps0, hostOps0_1, hostOps0_2, List.flatten_cons, List.flatten_nil, List.append_nil, List.cons_append, List.nil_append]
  after_results_simp
  pointwise
  rfl
theorem V_cs (r : Fin 2176) (j : Fin 128) : V m c main_v63 (ix2 r j) = Ideal.cos (pos r.val * frq j.val) := by
  simp only [V, hostOps0, hostOps0_1, hostOps0_2, List.flatten_cons, List.flatten_nil, List.append_nil, List.cons_append, List.nil_append]
  after_results_simp
  pointwise
  rfl
theorem V_sn (r : Fin 2176) (j : Fin 128) : V m c main_v64 (ix2 r j) = Ideal.sin (pos r.val * frq j.val) := by
  simp only [V, hostOps0, hostOps0_1, hostOps0_2, List.flatten_cons, List.flatten_nil, List.append_nil, List.cons_append, List.nil_append]
  after_results_simp
  pointwise
  rfl

end Cert.Proof.Ret

end
-- ==== Proof.Read.lean ====
/- What the kernel computes of one chunk, over the extended reals: each of its values at a row and a column is the
   formula of Spec. -/
module

public import proofs.«01_k».proof.Proof.Chunk
public import proofs.«01_k».proof.Proof.Spec
public import Idealize.ShloMosaic.Lib.Pointwise

@[expose] public section

set_option maxRecDepth 16384

noncomputable section

namespace Cert.Proof.Ret

open Cert.KernelIdeal Cert.KernelIdeal.Gen
open Idealize.ShloMosaic Idealize.ShloMosaic.TcCoe Idealize.ShloMosaic.Tactic

theorem row_mod {m l : ℕ} (h : l < 128) : (128 * m + l) % 128 = l := by omega
theorem row_div {m l : ℕ} (h : l < 128) : (128 * m + l) / 128 = m := by omega

theorem sum_sm {n : ℕ} {f : Fin n → EReal} {g : ℕ → EReal} (h : ∀ k : Fin n, f k = g k.val) : ∑ k, f k = sm n g :=
  Finset.sum_congr rfl fun k _ => h k

/-- The mask of a row: the kernel's test of the first chunk and of the row inside it. -/
theorem sel_msk {w : BitVec 1} {p : Prop} [Decidable p] (hw : w = BitVec.ofBool (decide p)) (r : Fin 128) :
    Scalar.select (IntOp.andi w (IntOp.cmpi .slt (BitVec.ofNat 32 r.val) 112#32)) (0 : EReal) 1
      = if p ∧ r.val < 112 then 0 else 1 := by
  have h : IntOp.cmpi .slt (BitVec.ofNat 32 r.val) 112#32 = BitVec.ofBool (decide (r.val < 112)) := by
    revert r; decide
  rw [h, hw]
  by_cases hp : p <;> by_cases hr : r.val < 112 <;> simp [hp, hr, Scalar.select, IntOp.andi]

/-- What the body has loaded of chunk `m` is the head's rows of that chunk. -/
structure Ci.Reads (a : Raw) (m : ℕ) (x : Ci Ideal) : Prop where
  q : ∀ (r : Fin 128) (d : Fin 256), x.q (ix2 r d) = a.q (128 * m + r.val) d.val
  k : ∀ (r : Fin 128) (d : Fin 256), x.k (ix2 r d) = a.k (128 * m + r.val) d.val
  v : ∀ (r : Fin 128) (d : Fin 256), x.v (ix2 r d) = a.v (128 * m + r.val) d.val
  g : ∀ (r : Fin 128) (d : Fin 256), x.g (ix2 r d) = a.g (128 * m + r.val) d.val
  dy : ∀ (r : Fin 128) (d : Fin 256), x.dy (ix2 r d) = a.dy (128 * m + r.val) d.val
  ng : ∀ (z : Fin 1) (d : Fin 256), x.ng (ix2 z d) = a.ng d.val
  cs : ∀ (r : Fin 128) (d : Fin 128), x.cs (ix2 r d) = a.cs (128 * m + r.val) d.val
  sn : ∀ (r : Fin 128) (d : Fin 128), x.sn (ix2 r d) = a.sn (128 * m + r.val) d.val
  de : ∀ (z : Fin 1) (r s : Fin 128), x.de (ix3 z r s) = a.de r.val s.val
  zt : ∀ (z : Fin 1) (r : Fin 128) (y : Fin 1), x.zt (ix3 z r y) = a.zt r.val
  xi : ∀ (z : Fin 1) (r : Fin 128) (y : Fin 1), x.xi (ix3 z r y) = a.xi r.val
  cd : ∀ (z y w : Fin 1), x.cd (ix3 z y w) = a.cd
  R : ∀ (z : Fin 1) (d e : Fin 256), x.R (ix3 z d e) = a.R m d.val e.val
  dR : ∀ (d e : Fin 256), x.dR (ix2 d e) = a.D a.dO (16 - m) d.val e.val

namespace Ci

variable {a : Raw} {n : Fin k0_t2_loop.trips} {x : Ci Ideal} (h : Reads a (16 - n.val) x)

theorem v40_at (x : Ci Ideal) (r : Fin 128) (z : Fin 1) : v40 n x (ix2 r z) = msk (128 * (16 - n.val) + r.val) := by
  have hw : ∀ n : Fin k0_t2_loop.trips, (Scalar.cmpi CmpIPredicate.eq
          (Scalar.select
            (Scalar.andi
              (Scalar.xori
                (Scalar.cmpi CmpIPredicate.slt
                  (Scalar.remsi (Scalar.subi (16#32) (Scf.iv 0#32 1#32 n.val))
                    (Scalar.select (Scalar.cmpi CmpIPredicate.eq 17#32 0#32) 1#32 17#32))
                  0#32)
                (Scalar.cmpi CmpIPredicate.slt (Scalar.select (Scalar.cmpi CmpIPredicate.eq 17#32 0#32) 1#32 17#32)
                  0#32))
              (Scalar.cmpi CmpIPredicate.ne
                (Scalar.remsi (Scalar.subi (16#32) (Scf.iv 0#32 1#32 n.val))
                  (Scalar.select (Scalar.cmpi CmpIPredicate.eq 17#32 0#32) 1#32 17#32))
                0#32))
            (Scalar.addi
              (Scalar.remsi (Scalar.subi (16#32) (Scf.iv 0#32 1#32 n.val))
                (Scalar.select (Scalar.cmpi CmpIPredicate.eq 17#32 0#32) 1#32 17#32))
              (Scalar.select (Scalar.cmpi CmpIPredicate.eq 17#32 0#32) 1#32 17#32))
            (Scalar.remsi (Scalar.subi (16#32) (Scf.iv 0#32 1#32 n.val))
              (Scalar.select (Scalar.cmpi CmpIPredicate.eq 17#32 0#32) 1#32 17#32)))
          0#32) = BitVec.ofBool (decide (16 - n.val = 0)) := by decide
  unfold v40 k0_pay18
  pointwise
  rw [sel_msk (hw n), msk]
  have hr := r.isLt
  exact if_congr (by omega) rfl rfl

include h

theorem v18_at (r d : Fin 128) : v18 x (ix2 r d) = a.cs (128 * (16 - n.val) + r.val) d.val := by
  unfold v18 k0_pay16; pointwise; exact h.cs r d
theorem v21_at (r d : Fin 128) : v21 x (ix2 r d) = a.sn (128 * (16 - n.val) + r.val) d.val := by
  unfold v21 k0_pay17; pointwise; exact h.sn r d
theorem v42_at (r s : Fin 128) : v42 x (ix2 r s) = a.de r.val s.val := by
  unfold v42 k0_pay19; pointwise; exact h.de _ r s
theorem v44_at (r : Fin 128) (z : Fin 1) : v44 x (ix2 r z) = a.zt r.val := by
  unfold v44 k0_pay20; pointwise; exact h.zt _ r _
theorem v46_at (r : Fin 128) (z : Fin 1) : v46 x (ix2 r z) = a.xi r.val := by
  unfold v46 k0_pay21; pointwise; exact h.xi _ r _
theorem v48_at (z y : Fin 1) : v48 x (ix2 z y) = a.cd := by
  unfold v48 k0_pay22; pointwise; exact h.cd _ _ _
theorem v58_at (z : Fin 1) (d : Fin 256) : v58 x (ix2 z d) = a.ng d.val := by
  unfold v58 k0_pay23; pointwise; exact h.ng _ d
theorem v61_at (d e : Fin 256) : v61 x (ix2 d e) = a.R (16 - n.val) d.val e.val := by
  unfold v61 k0_pay24; pointwise; exact h.R _ d e

theorem v72_at (r : Fin 128) (d : Fin 256) : v72 n x (ix2 r d) = a.qr (128 * (16 - n.val) + r.val) d.val := by
  unfold v72 k0_pay25
  pointwise
  rw [v40_at, Raw.qr, Raw.rot]
  refine congrArg _ ?_
  by_cases hd : d.val < 128
  · rw [dif_pos hd, if_pos hd]
    simp only [h.q, v18_at h, v21_at h]
  · rw [dif_neg hd, if_neg hd]
    simp only [h.q, v18_at h, v21_at h, Nat.add_sub_cancel' (Nat.le_of_not_lt hd)]

theorem v85_at (r : Fin 128) (d : Fin 256) : v85 n x (ix2 r d) = a.kr (128 * (16 - n.val) + r.val) d.val := by
  unfold v85 k0_pay26
  pointwise
  rw [v40_at, Raw.kr, Raw.rot]
  refine congrArg (· * cSc) (congrArg (msk _ * ·) ?_)
  by_cases hd : d.val < 128
  · rw [dif_pos hd, if_pos hd]
    simp only [h.k, v18_at h, v21_at h]
  · rw [dif_neg hd, if_neg hd]
    simp only [h.k, v18_at h, v21_at h, Nat.add_sub_cancel' (Nat.le_of_not_lt hd)]

theorem v87_at (r : Fin 128) (d : Fin 256) : v87 n x (ix2 r d) = a.vv (128 * (16 - n.val) + r.val) d.val := by
  unfold v87 k0_pay27
  pointwise
  rw [v40_at, Raw.vv, h.v]

theorem v91_at (r s : Fin 128) : v91 n x (ix2 r s) = a.sc (128 * (16 - n.val) + r.val) (128 * (16 - n.val) + s.val) := by
  unfold v91 k0_pay28
  pointwise
  rw [v42_at h, Raw.sc, row_mod r.isLt, row_mod s.isLt]
  exact congrArg (· * _) (sum_sm fun k => congrArg₂ _ (v72_at h r k) (v85_at h s k))

theorem v94_at (r : Fin 128) (e : Fin 256) : v94 n x (ix2 r e) = a.inn (128 * (16 - n.val) + r.val) e.val := by
  unfold v94 k0_pay29
  pointwise
  simp only [Raw.inn, Raw.ch, row_div r.isLt]
  exact sum_sm fun s => congrArg₂ _ (v91_at h r s) (v87_at h s e)

theorem v96_at (r : Fin 128) (d : Fin 256) : v96 n x (ix2 r d) = a.kz (128 * (16 - n.val) + r.val) d.val := by
  unfold v96 k0_pay30
  pointwise
  rw [v85_at h, v44_at h, Raw.kz, row_mod r.isLt]

theorem v108_at (r : Fin 128) (e : Fin 256) : v108 n x (ix2 r e) = a.oc (128 * (16 - n.val) + r.val) e.val := by
  have ho : ∀ e : Fin 256, v94 n x (ix2 r e) + (∑ k, v72 n x (ix2 r k) * v61 x (ix2 k e)) * v46 x (ix2 r 0)
      = a.o (128 * (16 - n.val) + r.val) e.val := fun e => by
    rw [v94_at h, v46_at h, Raw.o, Raw.crs, row_mod r.isLt, row_div r.isLt]
    exact congrArg (fun y => _ + y * _) (sum_sm fun k => congrArg₂ _ (v72_at h r k) (v61_at h k e))
  unfold v108 k0_pay31
  pointwise
  rw [ho, Raw.oc, sum_sm ho]

theorem pay32_at (r : Fin 128) (z : Fin 1) :
    k0_pay32 (v46 x) (v61 x) (v72 n x) (v94 n x) (ix2 r z) = a.vr (128 * (16 - n.val) + r.val) := by
  unfold k0_pay32
  pointwise
  refine congrArg (fun y => Ideal.div y _ + _) (sum_sm fun k => ?_)
  rw [show k0_pay31 _ _ _ _ _ = _ from v108_at h r k]

theorem v116_at (r : Fin 128) (z : Fin 1) : v116 n x (ix2 r z) = a.rs (128 * (16 - n.val) + r.val) := by
  unfold v116 k0_pay33
  pointwise
  rw [pay32_at h, Raw.rs]

theorem v119_at (r : Fin 128) (z : Fin 1) : v119 n x (ix2 r z) = a.c3 (128 * (16 - n.val) + r.val) := by
  unfold v119 k0_pay34
  pointwise
  rw [pay32_at h, Raw.c3, show k0_pay33 _ _ _ _ _ = _ from v116_at h r z]

theorem pay35_at (r : Fin 128) (e : Fin 256) :
    k0_pay35 (v46 x) (v61 x) (v72 n x) (v94 n x) (ix2 r e) = a.nrm (128 * (16 - n.val) + r.val) e.val := by
  unfold k0_pay35
  pointwise
  rw [show k0_pay33 _ _ _ _ _ = _ from v116_at h r _, show k0_pay31 _ _ _ _ _ = _ from v108_at h r e, Raw.nrm]

theorem v122_at (r : Fin 128) (e : Fin 256) : v122 x (ix2 r e) = a.sig (128 * (16 - n.val) + r.val) e.val := by
  unfold v122 k0_pay36
  pointwise
  rw [h.g, Raw.sig]

theorem v125_at (r : Fin 128) (e : Fin 256) : v125 x (ix2 r e) = a.dsig (128 * (16 - n.val) + r.val) e.val := by
  unfold v125 k0_pay37
  pointwise
  rw [show k0_pay36 _ _ = _ from v122_at h r e, Raw.dsig]

theorem v137_at (r : Fin 128) (e : Fin 256) : v137 x (ix2 r e) = a.dz (128 * (16 - n.val) + r.val) e.val := by
  unfold v137 k0_pay41 k0_pay38
  pointwise
  rw [show k0_pay36 _ _ = _ from v122_at h r e, h.g, h.dy, Raw.dz]

theorem v138_at (r : Fin 128) (e : Fin 256) : v138 n x (ix2 r e) = a.dyx (128 * (16 - n.val) + r.val) e.val := by
  unfold v138 k0_pay42 k0_pay38
  pointwise
  rw [pay35_at h, h.dy, v58_at h, Raw.dyx]

theorem v141_at (z : Fin 1) (e : Fin 256) : v141 n x (ix2 z e) = a.gnc (16 - n.val) e.val := by
  unfold v141 k0_pay43
  pointwise
  exact sum_sm fun l => congrArg₂ _ (pay35_at h l e) (v137_at h l e)

theorem v147_at (r : Fin 128) (e : Fin 256) : v147 n x (ix2 r e) = a.gg (128 * (16 - n.val) + r.val) e.val := by
  unfold v147 k0_pay45
  pointwise
  rw [v138_at h, v122_at h, v125_at h, h.g, Raw.gg]

theorem v142_at (r : Fin 128) (e : Fin 256) : v142 x (ix2 r e) = a.ng e.val := by
  unfold v142 k0_pay44
  pointwise
  exact v58_at h _ e

theorem pay46_at (r : Fin 128) (e : Fin 256) :
    k0_pay46 (v108 n x) (v116 n x) (v119 n x) (v137 x) (v142 x) (ix2 r e) = a.dO (128 * (16 - n.val) + r.val) e.val := by
  unfold k0_pay46
  pointwise
  simp only [Finset.univ_unique, Finset.sum_singleton, v108_at h, v137_at h, v142_at h, v119_at h, v116_at h, zero_sub]
  rfl

theorem pay47_at (r : Fin 128) (e : Fin 256) :
    k0_pay47 (v46 x) (v108 n x) (v116 n x) (v119 n x) (v137 x) (v142 x) (ix2 r e) = a.dox a.dO (128 * (16 - n.val) + r.val) e.val := by
  unfold k0_pay47
  pointwise
  rw [pay46_at h, v46_at h, Raw.dox, row_mod r.isLt]

theorem v177_at (r : Fin 128) (d : Fin 256) :
    v177 n x (ix2 r d) = sm 256 fun e => a.dox a.dO (128 * (16 - n.val) + r.val) e * a.R (16 - n.val) d.val e := by
  unfold v177 k0_pay48
  pointwise
  exact sum_sm fun e => congrArg₂ _ (pay47_at h r e) (v61_at h d e)

theorem v180_at (d e : Fin 256) : v180 n x (ix2 d e) = a.D a.dO (n.val + 1) d.val e.val := by
  have hn : n.val < 17 := n.isLt
  unfold v180 k0_pay49 v136 k0_pay40
  pointwise
  rw [v48_at h, h.dR, Raw.D, show 16 - (16 - n.val) = n.val by omega, Raw.ctr]
  exact congrArg _ (sum_sm fun l => congrArg₂ _ (v72_at h l d) (pay47_at h l e))

theorem v134_at (d e : Fin 256) : v134 x (ix2 d e) = a.D a.dO (16 - (16 - n.val)) d.val e.val := by
  unfold v134 k0_pay39
  pointwise
  exact h.dR d e

theorem v185_at (r : Fin 128) (e : Fin 256) :
    v185 n x (ix2 r e) = sm 256 fun d => a.kz (128 * (16 - n.val) + r.val) d * a.D a.dO (16 - (16 - n.val)) d e.val := by
  unfold v185 k0_pay51 k0_pay50
  pointwise
  exact sum_sm fun d => congrArg₂ _ (v96_at h r d) (v134_at h d e)

theorem v187_at (r : Fin 128) (d : Fin 256) :
    v187 n x (ix2 r d)
      = sm 256 (fun e => a.vv (128 * (16 - n.val) + r.val) e * a.D a.dO (16 - (16 - n.val)) d.val e) * a.zt r.val := by
  unfold v187 k0_pay52 k0_pay50
  pointwise
  rw [v44_at h]
  exact congrArg (· * _) (sum_sm fun e => congrArg₂ _ (v87_at h r e) (v134_at h d e))

theorem v188_at (r : Fin 128) (e : Fin 256) : v188 n x (ix2 r e) = a.dO (128 * (16 - n.val) + r.val) e.val := by
  unfold v188 k0_pay53
  pointwise
  exact pay46_at h r e

theorem pay55_at (r s : Fin 128) :
    k0_pay55 (v42 x) (v190 n x) (ix2 r s) = a.dS a.dO (128 * (16 - n.val) + r.val) (128 * (16 - n.val) + s.val) := by
  unfold k0_pay55 v190 k0_pay54
  pointwise
  rw [v42_at h, Raw.dS, row_mod r.isLt, row_mod s.isLt]
  exact congrArg (· * _) (sum_sm fun e => congrArg₂ _ (v188_at h r e) (v87_at h s e))

theorem dv_at (r : Fin 128) (e : Fin 256) : dv n x (ix2 r e) = a.gv a.dO (128 * (16 - n.val) + r.val) e.val := by
  unfold dv k0_pay6 v203 k0_pay56
  pointwise
  rw [v40_at, v185_at h, Raw.gv, Raw.dvv]
  simp only [Raw.ch, row_div r.isLt]
  exact congrArg (fun y => _ * (_ + y)) (sum_sm fun l => congrArg₂ _ (v91_at h l r) (v188_at h l e))

theorem dk_at (r : Fin 128) (d : Fin 256) : dk n x (ix2 r d) = a.gk a.dO (128 * (16 - n.val) + r.val) d.val := by
  have hx : ∀ d : Fin 256, v40 n x (ix2 r 0) * ((v187 n x (ix2 r d)
      + ∑ k, k0_pay55 (v42 x) (v190 n x) (ix2 k r) * v72 n x (ix2 k d)) * cSc)
      = msk (128 * (16 - n.val) + r.val) * (a.dkr a.dO (128 * (16 - n.val) + r.val) d.val * cSc) := fun d => by
    rw [v40_at, v187_at h, Raw.dkr]
    simp only [Raw.ch, row_div r.isLt, row_mod r.isLt]
    exact congrArg (fun y => _ * ((_ + y) * _)) (sum_sm fun l => congrArg₂ _ (pay55_at h l r) (v72_at h l d))
  unfold dk k0_pay5 v222 k0_pay57
  pointwise
  simp only [hx, v18_at h, v21_at h, zero_sub]
  rw [Raw.gk, Raw.unrot]
  by_cases hd : d.val < 128
  · simp only [dif_pos hd, if_pos hd, zero_add]
  · simp only [dif_neg hd, if_neg hd, add_zero, Nat.add_sub_cancel' (Nat.le_of_not_lt hd)]

theorem dq_at (r : Fin 128) (d : Fin 256) : dq n x (ix2 r d) = a.gq a.dO (128 * (16 - n.val) + r.val) d.val := by
  have hx : ∀ d : Fin 256, v40 n x (ix2 r 0) * (v177 n x (ix2 r d)
      + ∑ k, k0_pay55 (v42 x) (v190 n x) (ix2 r k) * v85 n x (ix2 k d))
      = msk (128 * (16 - n.val) + r.val) * a.dqr a.dO (128 * (16 - n.val) + r.val) d.val := fun d => by
    rw [v40_at, v177_at h, Raw.dqr]
    simp only [Raw.ch, row_div r.isLt]
    exact congrArg (fun y => _ * (_ + y)) (sum_sm fun l => congrArg₂ _ (pay55_at h r l) (v85_at h l d))
  unfold dq v240 k0_pay58
  pointwise
  simp only [hx, v18_at h, v21_at h, zero_sub]
  rw [Raw.gq, Raw.unrot]
  by_cases hd : d.val < 128
  · simp only [dif_pos hd, if_pos hd, zero_add]
  · simp only [dif_neg hd, if_neg hd, add_zero, Nat.add_sub_cancel' (Nat.le_of_not_lt hd)]

theorem dg_at (r : Fin 128) (e : Fin 256) : dg n x (ix2 r e) = a.gg (128 * (16 - n.val) + r.val) e.val := by
  unfold dg k0_pay7
  pointwise
  exact v147_at h r e

theorem dng_at (d : Vec Ideal S1x256 .f32) (z : Fin 1) (e : Fin 256) :
    dng n x d (ix2 z e) = d (ix2 z e) + a.gnc (16 - n.val) e.val := by
  obtain rfl : z = 0 := Subsingleton.elim z 0
  unfold dng k0_pay8
  pointwise
  rw [v141_at h]

theorem dRn_at (d e : Fin 256) : dRn n x (ix2 d e) = a.D a.dO (n.val + 1) d.val e.val := by
  unfold dRn k0_pay9
  pointwise
  exact v180_at h d e

end Ci

end Cert.Proof.Ret

end
-- ==== Proof.Rows.lean ====
/- What the kernel leaves in the blocks of one head: every row of the gradients is the formula of Spec. -/
module

public import proofs.«01_k».proof.Proof.Read
public import proofs.«01_k».proof.Proof.Loops
public import Idealize.ShloMosaic.Lib.Pipeline.ValueKit.Tiles

@[expose] public section

set_option maxRecDepth 16384

noncomputable section

namespace Cert.Proof.Ret

open Cert.KernelIdeal Cert.KernelIdeal.Gen
open Idealize.ShloMosaic Idealize.ShloMosaic.TcCoe Idealize.ShloMosaic.Tactic

/-- The staged blocks are the head's rows. -/
structure Blk.Reads (a : Raw) (b : Blk Ideal) : Prop where
  q : ∀ (r : Fin 2176) (d : Fin 256), b.q (ix2 r d) = a.q r.val d.val
  k : ∀ (r : Fin 2176) (d : Fin 256), b.k (ix2 r d) = a.k r.val d.val
  v : ∀ (r : Fin 2176) (d : Fin 256), b.v (ix2 r d) = a.v r.val d.val
  g : ∀ (r : Fin 2176) (d : Fin 256), b.g (ix2 r d) = a.g r.val d.val
  dy : ∀ (r : Fin 2176) (d : Fin 256), b.dy (ix2 r d) = a.dy r.val d.val
  ng : ∀ (z : Fin 1) (d : Fin 256), b.ng (ix2 z d) = a.ng d.val
  cs : ∀ (r : Fin 2176) (d : Fin 128), b.cs (ix2 r d) = a.cs r.val d.val
  sn : ∀ (r : Fin 2176) (d : Fin 128), b.sn (ix2 r d) = a.sn r.val d.val
  de : ∀ (z : Fin 1) (r s : Fin 128), b.de (ix3 z r s) = a.de r.val s.val
  zt : ∀ (z : Fin 1) (r : Fin 128) (y : Fin 1), b.zt (ix3 z r y) = a.zt r.val
  xi : ∀ (z : Fin 1) (r : Fin 128) (y : Fin 1), b.xi (ix3 z r y) = a.xi r.val
  cd : ∀ (z y w : Fin 1), b.cd (ix3 z y w) = a.cd

/-! ### The loads -/

theorem at_rowsR {e : EltTy} (X : Vec Ideal S2176x256 e) (k : Fin k0_t2_loop.trips) (r : Fin 128) (d : Fin 256)
    (hr : 128 * (16 - k.val) + r.val < 2176) :
    View.ld X (rowsR k) (ix2 r d) = X (ix2 ⟨128 * (16 - k.val) + r.val, hr⟩ d) := by
  have hk : k.val < 17 := k.isLt
  refine View.ld_unit_apply_of X _ _ _ _ _ fun a => ?_
  refine Eq.trans ?_ (congrArg (· + _) (congrFun (k0_off5_eq k) a).symm)
  match a with
  | ⟨0, _⟩ => show 128 * (16 - k.val) + r.val = 2048 - 128 * k.val + r.val; omega
  | ⟨1, _⟩ => exact (Nat.zero_add _).symm

theorem at_rowsH (X : Vec Ideal S2176x128 .f32) (k : Fin k0_t2_loop.trips) (r d : Fin 128) {f : ℕ → ℕ → EReal}
    (hX : ∀ (r : Fin 2176) (d : Fin 128), X (ix2 r d) = f r.val d.val) :
    View.ld X (rowsH k) (ix2 r d) = f (128 * (16 - k.val) + r.val) d.val := by
  have hk : k.val < 17 := k.isLt
  refine (View.ld_unit_apply_of X _ _ _ _ (ix2 ⟨128 * (16 - k.val) + r.val, by omega⟩ d) fun a => ?_).trans (hX _ d)
  refine Eq.trans ?_ (congrArg (· + _) (congrFun (k0_off4_eq k) a).symm)
  match a with
  | ⟨0, _⟩ => show 128 * (16 - k.val) + r.val = 2048 - 128 * k.val + r.val; omega
  | ⟨1, _⟩ => exact (Nat.zero_add _).symm

theorem at_rowsF (X : Vec Ideal S2176x256 .f32) (k : Fin k0_t1_loop.trips) (r : Fin 128) (d : Fin 256) {f : ℕ → ℕ → EReal}
    (hX : ∀ (r : Fin 2176) (d : Fin 256), X (ix2 r d) = f r.val d.val) :
    View.ld X (rowsF k) (ix2 r d) = f (128 * k.val + r.val) d.val := by
  have hk : k.val < 17 := k.isLt
  refine (View.ld_unit_apply_of X _ _ _ _ (ix2 ⟨128 * k.val + r.val, by omega⟩ d) fun a => ?_).trans (hX _ d)
  refine Eq.trans ?_ (congrArg (· + _) (congrFun (k0_off3_eq k) a).symm)
  match a with
  | ⟨0, _⟩ => rfl
  | ⟨1, _⟩ => exact (Nat.zero_add _).symm

theorem at_rowsFH (X : Vec Ideal S2176x128 .f32) (k : Fin k0_t1_loop.trips) (r d : Fin 128) {f : ℕ → ℕ → EReal}
    (hX : ∀ (r : Fin 2176) (d : Fin 128), X (ix2 r d) = f r.val d.val) :
    View.ld X (rowsFH k) (ix2 r d) = f (128 * k.val + r.val) d.val := by
  have hk : k.val < 17 := k.isLt
  refine (View.ld_unit_apply_of X _ _ _ _ (ix2 ⟨128 * k.val + r.val, by omega⟩ d) fun a => ?_).trans (hX _ d)
  refine Eq.trans ?_ (congrArg (· + _) (congrFun (k0_off1_eq k) a).symm)
  match a with
  | ⟨0, _⟩ => rfl
  | ⟨1, _⟩ => exact (Nat.zero_add _).symm

theorem at_slabR (S : Vec Ideal S17x256x256 .f32) (k : Fin k0_t2_loop.trips) (z : Fin 1) (d e : Fin 256) :
    View.ld S (slabR k) (ix3 z d e) = S (ix3 ⟨16 - k.val, by omega⟩ d e) := by
  refine View.ld_unit_apply_of S _ _ _ _ _ fun a => ?_
  refine Eq.trans ?_ (congrArg (· + _) (congrFun (k0_off6_eq k) a).symm)
  match a with
  | ⟨0, _⟩ => show 16 - k.val = 16 - k.val + z.val; omega
  | ⟨1, _⟩ => exact (Nat.zero_add _).symm
  | ⟨2, _⟩ => exact (Nat.zero_add _).symm

theorem ld_fullN (X : Vec Ideal S1x256 .f32) (z : Fin 1) (d : Fin 256) : View.ld X fullN (ix2 z d) = X (ix2 z d) :=
  View.ld_unit_apply_of X _ _ _ _ _ fun a => match a with
  | ⟨0, _⟩ => (Nat.zero_add _).symm
  | ⟨1, _⟩ => (Nat.zero_add _).symm
theorem ld_fullD (X : Vec Ideal S1x128x128 .f32) (z : Fin 1) (r s : Fin 128) : View.ld X fullD (ix3 z r s) = X (ix3 z r s) :=
  View.ld_unit_apply_of X _ _ _ _ _ fun a => match a with
  | ⟨0, _⟩ => (Nat.zero_add _).symm
  | ⟨1, _⟩ => (Nat.zero_add _).symm
  | ⟨2, _⟩ => (Nat.zero_add _).symm
theorem ld_fullZ (X : Vec Ideal S1x128x1 .f32) (z : Fin 1) (r : Fin 128) (y : Fin 1) : View.ld X fullZ (ix3 z r y) = X (ix3 z r y) :=
  View.ld_unit_apply_of X _ _ _ _ _ fun a => match a with
  | ⟨0, _⟩ => (Nat.zero_add _).symm
  | ⟨1, _⟩ => (Nat.zero_add _).symm
  | ⟨2, _⟩ => (Nat.zero_add _).symm
theorem ld_fullC (X : Vec Ideal S1x1x1 .f32) (z y w : Fin 1) : View.ld X fullC (ix3 z y w) = X (ix3 z y w) :=
  View.ld_unit_apply_of X _ _ _ _ _ fun a => match a with
  | ⟨0, _⟩ => (Nat.zero_add _).symm
  | ⟨1, _⟩ => (Nat.zero_add _).symm
  | ⟨2, _⟩ => (Nat.zero_add _).symm

namespace Blk

variable {a : Raw} {b : Blk Ideal} (h : Blk.Reads a b)

/-! ### The forward loop -/

theorem mask_at (k : Fin k0_t1_loop.trips) (r : Fin 128) (z : Fin 1) :
    k0_pay12 (F := Ideal) 0#32 1#32 k (ix2 r z) = msk (128 * k.val + r.val) := by
  have hw : ∀ n : Fin k0_t1_loop.trips, (Scalar.cmpi CmpIPredicate.eq
          (Scalar.select
            (Scalar.andi
              (Scalar.xori
                (Scalar.cmpi CmpIPredicate.slt
                  (Scalar.remsi (Scf.iv 0#32 1#32 n.val)
                    (Scalar.select (Scalar.cmpi CmpIPredicate.eq 17#32 0#32) 1#32 17#32))
                  0#32)
                (Scalar.cmpi CmpIPredicate.slt (Scalar.select (Scalar.cmpi CmpIPredicate.eq 17#32 0#32) 1#32 17#32)
                  0#32))
              (Scalar.cmpi CmpIPredicate.ne
                (Scalar.remsi (Scf.iv 0#32 1#32 n.val)
                  (Scalar.select (Scalar.cmpi CmpIPredicate.eq 17#32 0#32) 1#32 17#32))
                0#32))
            (Scalar.addi
              (Scalar.remsi (Scf.iv 0#32 1#32 n.val)
                (Scalar.select (Scalar.cmpi CmpIPredicate.eq 17#32 0#32) 1#32 17#32))
              (Scalar.select (Scalar.cmpi CmpIPredicate.eq 17#32 0#32) 1#32 17#32))
            (Scalar.remsi (Scf.iv 0#32 1#32 n.val)
              (Scalar.select (Scalar.cmpi CmpIPredicate.eq 17#32 0#32) 1#32 17#32)))
          0#32) = BitVec.ofBool (decide (n.val = 0)) := by decide
  unfold k0_pay12
  pointwise
  rw [sel_msk (hw k), msk]
  have hr := r.isLt
  exact if_congr (by omega) rfl rfl

include h

theorem next_at (k : Fin k0_t1_loop.trips) (R : Vec Ideal S256x256 .f32)
    (hR : ∀ d e : Fin 256, R (ix2 d e) = a.R k.val d.val e.val) (d e : Fin 256) :
    b.next k R (ix2 d e) = a.R (k.val + 1) d.val e.val := by
  have hK : ∀ (l : Fin 128) (d : Fin 256), View.ld b.k (rowsF k) (ix2 l d) = a.k (128 * k.val + l.val) d.val :=
    fun l d => at_rowsF b.k k l d h.k
  have hC : ∀ l d : Fin 128, View.ld b.cs (rowsFH k) (ix2 l d) = a.cs (128 * k.val + l.val) d.val :=
    fun l d => at_rowsFH b.cs k l d h.cs
  have hS : ∀ l d : Fin 128, View.ld b.sn (rowsFH k) (ix2 l d) = a.sn (128 * k.val + l.val) d.val :=
    fun l d => at_rowsFH b.sn k l d h.sn
  have hV : ∀ (l : Fin 128) (d : Fin 256), View.ld b.v (rowsF k) (ix2 l d) = a.v (128 * k.val + l.val) d.val :=
    fun l d => at_rowsF b.v k l d h.v
  unfold next k0_pay2 k0_pay10 k0_pay11 k0_pay13 k0_pay14
  generalize View.ld b.k (rowsF k) = K at hK ⊢
  generalize View.ld b.v (rowsF k) = V at hV ⊢
  generalize View.ld b.cs (rowsFH k) = C at hC ⊢
  generalize View.ld b.sn (rowsFH k) = S at hS ⊢
  pointwise
  rw [hR, h.cd, Raw.R]
  refine congrArg _ (sum_sm fun l => ?_)
  rw [mask_at, h.zt, hV, Raw.kz, Raw.vv, Raw.kr, row_mod l.isLt, Raw.rot]
  refine congrArg (fun y : EReal => y * _) (congrArg (fun y : EReal => y * _) (congrArg (fun y : EReal => y * _) (congrArg (msk _ * ·) ?_)))
  by_cases hd : d.val < 128
  · rw [dif_pos hd, if_pos hd]
    simp only [hK, hC, hS]
  · rw [dif_neg hd, if_neg hd]
    simp only [hK, hC, hS, Nat.add_sub_cancel' (Nat.le_of_not_lt hd)]

theorem st_at : ∀ n ≤ 17, ∀ d e : Fin 256, b.st n (ix2 d e) = a.R n d.val e.val
  | 0, _, d, e => by
    unfold st k0_pay1
    pointwise
    rfl
  | n + 1, hn, d, e => by
    rw [st, dif_pos (show n < k0_t1_loop.trips by rw [trips1]; omega)]
    exact next_at h ⟨n, _⟩ _ (st_at n (by omega)) d e

theorem sts_at (n : Fin 17) (d e : Fin 256) : b.sts (ix3 n d e) = a.R n.val d.val e.val :=
  st_at h n.val (by omega) d e

/-! ### The backward loop -/

theorem ci_reads (k : Fin k0_t2_loop.trips) (dR : Vec Ideal S256x256 .f32)
    (hR : ∀ d e : Fin 256, dR (ix2 d e) = a.D a.dO k.val d.val e.val) : Ci.Reads a (16 - k.val) (b.ci b.sts k dR) where
  q := fun r d => (at_rowsR b.q k r d (by omega)).trans (h.q _ d)
  k := fun r d => (at_rowsR b.k k r d (by omega)).trans (h.k _ d)
  v := fun r d => (at_rowsR b.v k r d (by omega)).trans (h.v _ d)
  g := fun r d => (at_rowsR b.g k r d (by omega)).trans (h.g _ d)
  dy := fun r d => (at_rowsR b.dy k r d (by omega)).trans (h.dy _ d)
  ng := fun z d => (ld_fullN _ z d).trans (h.ng z d)
  cs := fun r d => at_rowsH b.cs k r d h.cs
  sn := fun r d => at_rowsH b.sn k r d h.sn
  de := fun z r s => (ld_fullD _ z r s).trans (h.de z r s)
  zt := fun z r y => (ld_fullZ _ z r y).trans (h.zt z r y)
  xi := fun z r y => (ld_fullZ _ z r y).trans (h.xi z r y)
  cd := fun z y w => (ld_fullC _ z y w).trans (h.cd z y w)
  R := fun z d e => (at_slabR _ k z d e).trans (sts_at h _ d e)
  dR := fun d e => by
    have hk : k.val < 17 := k.isLt
    rw [show 16 - (16 - k.val) = k.val by omega]
    exact (congrFun (ld_fullM dR) _).trans (hR d e)

theorem dR_at : ∀ k ≤ 17, ∀ d e : Fin 256, b.dR b.sts (k0_pay3 (F := Ideal)) k (ix2 d e) = a.D a.dO k d.val e.val
  | 0, _, d, e => by
    unfold Blk.dR k0_pay3
    pointwise
    rfl
  | k + 1, hk, d, e => by
    rw [Blk.dR, dif_pos (show k < k0_t2_loop.trips by rw [trips2]; omega)]
    exact Ci.dRn_at (ci_reads h ⟨k, _⟩ _ (dR_at k (by omega))) d e

theorem at_reads (k : Fin k0_t2_loop.trips) : Ci.Reads a (16 - k.val) (b.at b.sts (k0_pay3 (F := Ideal)) k) :=
  ci_reads h k _ (dR_at h k.val (by have hk : k.val < 17 := k.isLt; omega))

/-- The norm scale's gradient: the chunks from the last to the first. -/
theorem ngs_at (d : Vec Ideal S1x256 .f32) (z : Fin 1) (e : Fin 256) : ∀ k ≤ 17,
    b.ngs b.sts (k0_pay3 (F := Ideal)) d k (ix2 z e) = d (ix2 z e) + sm k fun n => a.gnc (16 - n) e.val
  | 0, _ => by
    rw [ngs, sm_zero fun k hk => absurd hk (Nat.not_lt_zero k), add_zero]
  | k + 1, hk => by
    rw [ngs, dif_pos (show k < k0_t2_loop.trips by rw [trips2]; omega), Ci.dng_at (at_reads h ⟨k, _⟩), ngs_at d z e k (by omega),
      sm_range, sm_range, Finset.sum_range_succ, add_assoc]

theorem ong_at (d : Vec Ideal S1x256 .f32) (z : Fin 1) (e : Fin 256) : b.ong d (ix2 z e) = d (ix2 z e) + a.gn e.val := by
  rw [ong, ngs_at h d z e 17 le_rfl, Raw.gn, sm_range, sm_range, ← Finset.sum_range_reflect]
  refine congrArg _ (Finset.sum_congr rfl fun k hk => ?_)
  rw [show 16 - (17 - 1 - k) = k by have := Finset.mem_range.mp hk; omega]

theorem rows_at {f : Fin k0_t2_loop.trips → Vec Ideal S128x256 .bf16} {g : ℕ → ℕ → EReal}
    (hf : ∀ (n : Fin k0_t2_loop.trips) (r : Fin 128) (d : Fin 256), f n (ix2 r d) = g (128 * (16 - n.val) + r.val) d.val)
    (r : Fin 2176) (d : Fin 256) : rowsOut f (ix2 r d) = g r.val d.val := by
  have hr := r.isLt
  refine (hf (tripOf (ix2 r d)) ⟨r.val % 128, Nat.mod_lt _ (by decide)⟩ d).trans ?_
  show g (128 * (16 - (16 - r.val / 128)) + r.val % 128) d.val = _
  rw [show 128 * (16 - (16 - r.val / 128)) + r.val % 128 = r.val by omega]

theorem oq_at (r : Fin 2176) (d : Fin 256) : b.oq (ix2 r d) = a.gq a.dO r.val d.val :=
  rows_at h (fun n r d => Ci.dq_at (at_reads h n) r d) r d
theorem ok_at (r : Fin 2176) (d : Fin 256) : b.ok (ix2 r d) = a.gk a.dO r.val d.val :=
  rows_at h (fun n r d => Ci.dk_at (at_reads h n) r d) r d
theorem ov_at (r : Fin 2176) (d : Fin 256) : b.ov (ix2 r d) = a.gv a.dO r.val d.val :=
  rows_at h (fun n r d => Ci.dv_at (at_reads h n) r d) r d
theorem og_at (r : Fin 2176) (d : Fin 256) : b.og (ix2 r d) = a.gg r.val d.val :=
  rows_at h (fun n r d => Ci.dg_at (at_reads h n) r d) r d

end Blk

end Cert.Proof.Ret

end
-- ==== Proof.Arr.lean ====
/- The arrays the kernel leaves: every element of the five gradients is the formula of Spec at its head and batch element. -/
module

public import proofs.«01_k».proof.Proof.Host
public import proofs.«01_k».proof.Proof.Rows
public import proofs.«01_k».proof.Proof.Pass
public import Idealize.ShloMosaic.Lib.Pipeline.ValueKit

@[expose] public section

set_option maxRecDepth 16384

noncomputable section

namespace Cert.Proof.Ret

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The head and the batch element of a grid point. -/
abbrev hd (t : Fin cfg0.N) : ℕ := t.val / 2
abbrev bt (t : Fin cfg0.N) : ℕ := t.val % 2

theorem ix_q : ∀ t : Fin cfg0.N, win0_0.index t = ![t.val % 2, 12 + t.val / 2] := by decide +kernel
theorem ix_k : ∀ t : Fin cfg0.N, win0_1.index t = ![t.val % 2, 16 + t.val / 2] := by decide +kernel
theorem ix_v : ∀ t : Fin cfg0.N, win0_2.index t = ![t.val % 2, 20 + t.val / 2] := by decide +kernel
theorem ix_g : ∀ t : Fin cfg0.N, win0_3.index t = ![t.val % 2, 24 + t.val / 2] := by decide +kernel
theorem ix_n : ∀ t : Fin cfg0.N, win0_4.index t = ![0, t.val / 2] := by decide +kernel
theorem ix_c : ∀ t : Fin cfg0.N, win0_5.index t = ![0, 0] := by decide +kernel
theorem ix_s : ∀ t : Fin cfg0.N, win0_6.index t = ![0, 0] := by decide +kernel
theorem ix_d : ∀ t : Fin cfg0.N, win0_7.index t = ![t.val / 2, 0, 0] := by decide +kernel
theorem ix_z : ∀ t : Fin cfg0.N, win0_8.index t = ![t.val / 2, 0, 0] := by decide +kernel
theorem ix_x : ∀ t : Fin cfg0.N, win0_9.index t = ![t.val / 2, 0, 0] := by decide +kernel
theorem ix_e : ∀ t : Fin cfg0.N, win0_10.index t = ![t.val / 2, 0, 0] := by decide +kernel
theorem ix_y : ∀ t : Fin cfg0.N, win0_11.index t = ![t.val % 2, 4 + t.val / 2] := by decide +kernel
theorem ix_12 : ∀ t : Fin cfg0.N, win0_12.index t = ![t.val % 2, t.val / 2] := by decide +kernel
theorem ix_13 : ∀ t : Fin cfg0.N, win0_13.index t = ![t.val % 2, t.val / 2] := by decide +kernel
theorem ix_14 : ∀ t : Fin cfg0.N, win0_14.index t = ![t.val % 2, t.val / 2] := by decide +kernel
theorem ix_15 : ∀ t : Fin cfg0.N, win0_15.index t = ![t.val % 2, t.val / 2] := by decide +kernel
theorem ix_16 : ∀ t : Fin cfg0.N, win0_16.index t = ![0, t.val / 2] := by decide +kernel

/-- The three argument arrays. -/
abbrev A0 := m ((c : Thread nD τ).loc main_arg0)
abbrev A1 := m ((c : Thread nD τ).loc main_arg1)
abbrev A2 := m ((c : Thread nD τ).loc main_arg2)

/-- The head and batch element of a point, as the arguments hold them. -/
abbrev rw_ (t : Fin cfg0.N) : Raw := inp (A0 m c) (A1 m c) (A2 m c) (bt t) (hd t)

/-- An argument array at an index with these coordinates is its reading there. -/
theorem at2_of {R C : ℕ} (X : (⟨2, ![R, C]⟩ : Shape).Idx → EReal) (i : (⟨2, ![R, C]⟩ : Shape).Idx) {r c : ℕ}
    (hr : (i 0).val = r) (hc : (i 1).val = c) : X i = at2 X r c := by
  subst hr hc
  rw [at2_eq X (i 0).isLt (i 1).isLt]
  exact congrArg X (funext fun a => match a with
    | ⟨0, _⟩ => rfl
    | ⟨1, _⟩ => rfl)

theorem lt8 (t : Fin cfg0.N) : t.val < 8 := Nat.lt_of_lt_of_eq t.isLt (by decide)

theorem bk_q (t : Fin cfg0.N) (r : Fin 2176) (d : Fin 256) : (bk m c t).q (ix2 r d) = (rw_ m c t).q r.val d.val := by
  dsimp only [bk]
  blk_simp [iblk]
  rw [V_main_arg0]
  refine at2_of _ _ ?_ ?_
  · blk_simp [ix_q]
    dsimp only [bt]
    omega
  · blk_simp [ix_q]
    dsimp only [hd]
    omega

theorem bk_k (t : Fin cfg0.N) (r : Fin 2176) (d : Fin 256) : (bk m c t).k (ix2 r d) = (rw_ m c t).k r.val d.val := by
  dsimp only [bk]
  blk_simp [iblk]
  rw [V_main_arg0]
  refine at2_of _ _ ?_ ?_
  · blk_simp [ix_k]
    dsimp only [bt]
    omega
  · blk_simp [ix_k]
    dsimp only [hd]
    omega

theorem bk_v (t : Fin cfg0.N) (r : Fin 2176) (d : Fin 256) : (bk m c t).v (ix2 r d) = (rw_ m c t).v r.val d.val := by
  dsimp only [bk]
  blk_simp [iblk]
  rw [V_main_arg0]
  refine at2_of _ _ ?_ ?_
  · blk_simp [ix_v]
    dsimp only [bt]
    omega
  · blk_simp [ix_v]
    dsimp only [hd]
    omega

theorem bk_g (t : Fin cfg0.N) (r : Fin 2176) (d : Fin 256) : (bk m c t).g (ix2 r d) = (rw_ m c t).g r.val d.val := by
  dsimp only [bk]
  blk_simp [iblk]
  rw [V_main_arg0]
  refine at2_of _ _ ?_ ?_
  · blk_simp [ix_g]
    dsimp only [bt]
    omega
  · blk_simp [ix_g]
    dsimp only [hd]
    omega

theorem bk_dy (t : Fin cfg0.N) (r : Fin 2176) (d : Fin 256) : (bk m c t).dy (ix2 r d) = (rw_ m c t).dy r.val d.val := by
  dsimp only [bk]
  blk_simp [iblk]
  rw [V_main_arg2]
  refine at2_of _ _ ?_ ?_
  · blk_simp [ix_y]
    dsimp only [bt]
    omega
  · blk_simp [ix_y]
    dsimp only [hd]
    omega

theorem bk_ng (t : Fin cfg0.N) (z : Fin 1) (d : Fin 256) : (bk m c t).ng (ix2 z d) = (rw_ m c t).ng d.val := by
  have h : 256 * (t.val / 2) + d.val < 1024 := by have := lt8 t; omega
  have e : (win0_4.blk t).view.emb (ix2 z d) = ix2 (0 : Fin 1) (⟨256 * (t.val / 2) + d.val, h⟩ : Fin 1024) := by
    blk_ext [ix_n]
  dsimp only [bk]
  blk_simp [iblk]
  exact (congrArg (V m c main_v0) e).trans ((V_ng m c _ _).trans (at1_eq _ h).symm)

theorem bk_cs (t : Fin cfg0.N) (r : Fin 2176) (d : Fin 128) : (bk m c t).cs (ix2 r d) = (rw_ m c t).cs r.val d.val := by
  have e : (win0_5.blk t).view.emb (ix2 r d) = ix2 r d := by
    blk_ext [ix_c]
  dsimp only [bk]
  blk_simp [iblk]
  exact (congrArg (V m c main_v63) e).trans (V_cs m c r d)

theorem bk_sn (t : Fin cfg0.N) (r : Fin 2176) (d : Fin 128) : (bk m c t).sn (ix2 r d) = (rw_ m c t).sn r.val d.val := by
  have e : (win0_6.blk t).view.emb (ix2 r d) = ix2 r d := by
    blk_ext [ix_s]
  dsimp only [bk]
  blk_simp [iblk]
  exact (congrArg (V m c main_v64) e).trans (V_sn m c r d)

theorem bk_de (t : Fin cfg0.N) (z : Fin 1) (r s : Fin 128) : (bk m c t).de (ix3 z r s) = (rw_ m c t).de r.val s.val := by
  have h : t.val / 2 < 4 := by have := lt8 t; omega
  have e : (win0_7.blk t).view.emb (ix3 z r s) = ix3 (⟨t.val / 2, h⟩ : Fin 4) r s := by
    blk_ext [ix_d]
  dsimp only [bk]
  blk_simp [iblk]
  exact (congrArg (V m c main_v25) e).trans (V_de m c _ r s)

theorem bk_zt (t : Fin cfg0.N) (z : Fin 1) (r : Fin 128) (y : Fin 1) : (bk m c t).zt (ix3 z r y) = (rw_ m c t).zt r.val := by
  have h : t.val / 2 < 4 := by have := lt8 t; omega
  have e : (win0_8.blk t).view.emb (ix3 z r y) = ix3 (⟨t.val / 2, h⟩ : Fin 4) r y := by
    blk_ext [ix_z]
  dsimp only [bk]
  blk_simp [iblk]
  exact (congrArg (V m c main_v34) e).trans (V_zt m c _ r y)

theorem bk_xi (t : Fin cfg0.N) (z : Fin 1) (r : Fin 128) (y : Fin 1) : (bk m c t).xi (ix3 z r y) = (rw_ m c t).xi r.val := by
  have h : t.val / 2 < 4 := by have := lt8 t; omega
  have e : (win0_9.blk t).view.emb (ix3 z r y) = ix3 (⟨t.val / 2, h⟩ : Fin 4) r y := by
    blk_ext [ix_x]
  dsimp only [bk]
  blk_simp [iblk]
  exact (congrArg (V m c main_v43) e).trans (V_xi m c _ r y)

theorem bk_cd (t : Fin cfg0.N) (z r y : Fin 1) : (bk m c t).cd (ix3 z r y) = (rw_ m c t).cd  := by
  have h : t.val / 2 < 4 := by have := lt8 t; omega
  have e : (win0_10.blk t).view.emb (ix3 z r y) = ix3 (⟨t.val / 2, h⟩ : Fin 4) r y := by
    blk_ext [ix_e]
  dsimp only [bk]
  blk_simp [iblk]
  exact (congrArg (V m c main_v47) e).trans (V_cd m c _ r y)

theorem bk_reads (t : Fin cfg0.N) : Blk.Reads (rw_ m c t) (bk m c t) :=
  ⟨bk_q m c t, bk_k m c t, bk_v m c t, bk_g m c t, bk_dy m c t, bk_ng m c t, bk_cs m c t, bk_sn m c t, bk_de m c t, bk_zt m c t,
    bk_xi m c t, bk_cd m c t⟩

/-- The head and batch element that an element of a gradient belongs to. -/
abbrev of_ (r d : ℕ) : Raw := inp (A0 m c) (A1 m c) (A2 m c) (r / 2176) (d / 256)

theorem arr_dq : (dats m 0 c).arrAt 12 cfg0.N
    = fun i => (of_ m c (i 0).val (i 1).val).gq (of_ m c (i 0).val (i 1).val).dO ((i 0).val % 2176) ((i 1).val % 256) := by
  refine (dats m 0 c).arrAt_eq_of_covers 12 _ (by decide +kernel) fun t hf y => ?_
  blk_simp [ix_12]
  rw [after0_12]
  have h0 : (y 0).val < 2176 := (y 0).isLt
  have h1 : (y 1).val < 256 := (y 1).isLt
  dsimp only [of_]
  rw [show (t.val % 2 * 2176 + (y 0).val) / 2176 = t.val % 2 by omega, show (t.val / 2 * 256 + (y 1).val) / 256 = t.val / 2 by omega,
    show (t.val % 2 * 2176 + (y 0).val) % 2176 = (y 0).val by omega, show (t.val / 2 * 256 + (y 1).val) % 256 = (y 1).val by omega]
  refine Eq.trans (congrArg _ (?_ : y = ix2 (⟨(y 0).val, h0⟩ : Fin 2176) (⟨(y 1).val, h1⟩ : Fin 256))) (Blk.oq_at (bk_reads m c t) _ _)
  funext a
  match a with
  | ⟨0, _⟩ => rfl
  | ⟨1, _⟩ => rfl

theorem arr_dk : (dats m 0 c).arrAt 13 cfg0.N
    = fun i => (of_ m c (i 0).val (i 1).val).gk (of_ m c (i 0).val (i 1).val).dO ((i 0).val % 2176) ((i 1).val % 256) := by
  refine (dats m 0 c).arrAt_eq_of_covers 13 _ (by decide +kernel) fun t hf y => ?_
  blk_simp [ix_13]
  rw [after0_13]
  have h0 : (y 0).val < 2176 := (y 0).isLt
  have h1 : (y 1).val < 256 := (y 1).isLt
  dsimp only [of_]
  rw [show (t.val % 2 * 2176 + (y 0).val) / 2176 = t.val % 2 by omega, show (t.val / 2 * 256 + (y 1).val) / 256 = t.val / 2 by omega,
    show (t.val % 2 * 2176 + (y 0).val) % 2176 = (y 0).val by omega, show (t.val / 2 * 256 + (y 1).val) % 256 = (y 1).val by omega]
  refine Eq.trans (congrArg _ (?_ : y = ix2 (⟨(y 0).val, h0⟩ : Fin 2176) (⟨(y 1).val, h1⟩ : Fin 256))) (Blk.ok_at (bk_reads m c t) _ _)
  funext a
  match a with
  | ⟨0, _⟩ => rfl
  | ⟨1, _⟩ => rfl

theorem arr_dv : (dats m 0 c).arrAt 14 cfg0.N
    = fun i => (of_ m c (i 0).val (i 1).val).gv (of_ m c (i 0).val (i 1).val).dO ((i 0).val % 2176) ((i 1).val % 256) := by
  refine (dats m 0 c).arrAt_eq_of_covers 14 _ (by decide +kernel) fun t hf y => ?_
  blk_simp [ix_14]
  rw [after0_14]
  have h0 : (y 0).val < 2176 := (y 0).isLt
  have h1 : (y 1).val < 256 := (y 1).isLt
  dsimp only [of_]
  rw [show (t.val % 2 * 2176 + (y 0).val) / 2176 = t.val % 2 by omega, show (t.val / 2 * 256 + (y 1).val) / 256 = t.val / 2 by omega,
    show (t.val % 2 * 2176 + (y 0).val) % 2176 = (y 0).val by omega, show (t.val / 2 * 256 + (y 1).val) % 256 = (y 1).val by omega]
  refine Eq.trans (congrArg _ (?_ : y = ix2 (⟨(y 0).val, h0⟩ : Fin 2176) (⟨(y 1).val, h1⟩ : Fin 256))) (Blk.ov_at (bk_reads m c t) _ _)
  funext a
  match a with
  | ⟨0, _⟩ => rfl
  | ⟨1, _⟩ => rfl

theorem arr_dg : (dats m 0 c).arrAt 15 cfg0.N
    = fun i => (of_ m c (i 0).val (i 1).val).gg ((i 0).val % 2176) ((i 1).val % 256) := by
  refine (dats m 0 c).arrAt_eq_of_covers 15 _ (by decide +kernel) fun t hf y => ?_
  blk_simp [ix_15]
  rw [after0_15]
  have h0 : (y 0).val < 2176 := (y 0).isLt
  have h1 : (y 1).val < 256 := (y 1).isLt
  dsimp only [of_]
  rw [show (t.val % 2 * 2176 + (y 0).val) / 2176 = t.val % 2 by omega, show (t.val / 2 * 256 + (y 1).val) / 256 = t.val / 2 by omega,
    show (t.val % 2 * 2176 + (y 0).val) % 2176 = (y 0).val by omega, show (t.val / 2 * 256 + (y 1).val) % 256 = (y 1).val by omega]
  refine Eq.trans (congrArg _ (?_ : y = ix2 (⟨(y 0).val, h0⟩ : Fin 2176) (⟨(y 1).val, h1⟩ : Fin 256))) (Blk.og_at (bk_reads m c t) _ _)
  funext a
  match a with
  | ⟨0, _⟩ => rfl
  | ⟨1, _⟩ => rfl

theorem arr_dng : (dats m 0 c).arrAt 16 cfg0.N
    = fun i => (inp (A0 m c) (A1 m c) (A2 m c) 0 ((i 1).val / 256)).gn ((i 1).val % 256)
        + (inp (A0 m c) (A1 m c) (A2 m c) 1 ((i 1).val / 256)).gn ((i 1).val % 256) := by
  refine (dats m 0 c).arrAt_eq_of_covers 16 _ (by decide +kernel) fun t hf y => ?_
  blk_simp [ix_16]
  rw [after0_16]
  have ht : t.val % 2 = 1 := (flush0_16 t).mp hf
  have h0 : (y 0).val < 1 := (y 0).isLt
  have h1 : (y 1).val < 256 := (y 1).isLt
  rw [show (t.val / 2 * 256 + (y 1).val) / 256 = t.val / 2 by omega, show (t.val / 2 * 256 + (y 1).val) % 256 = (y 1).val by omega]
  rw [ngAt, if_neg (by omega)]
  refine Eq.trans (congrArg _ (?_ : y = ix2 (⟨(y 0).val, h0⟩ : Fin 1) (⟨(y 1).val, h1⟩ : Fin 256))) ?_
  · funext a
    match a with
    | ⟨0, _⟩ => rfl
    | ⟨1, _⟩ => rfl
  rw [Blk.ong_at (bk_reads m c t), Blk.ong_at (bk_reads m c (prv t))]
  have e0 : rw_ m c (prv t) = inp (A0 m c) (A1 m c) (A2 m c) 0 (t.val / 2) := by
    dsimp only [rw_, bt, hd, prv]
    rw [show (t.val - 1) % 2 = 0 by omega, show (t.val - 1) / 2 = t.val / 2 by omega]
  have e1 : rw_ m c t = inp (A0 m c) (A1 m c) (A2 m c) 1 (t.val / 2) := by
    dsimp only [rw_, bt, hd]
    rw [ht]
  rw [e0, e1]
  have z : (k0_pay4 (F := Ideal)) (ix2 (⟨(y 0).val, h0⟩ : Fin 1) (⟨(y 1).val, h1⟩ : Fin 256)) = (0 : EReal) := by
    unfold k0_pay4
    pointwise
  rw [z, zero_add]

end Cert.Proof.Ret

end
-- ==== Proof.Dots.lean ====
/- The reference's products at coordinates: each a sum over the contracted places. -/
module

public import proofs.«01_k».proof.Proof.Gen.ReferenceIdeal.Read
public import Idealize.ShloMosaic.Lib.Pointwise

@[expose] public section

noncomputable section

namespace Cert.Proof.Ret

open Cert.ReferenceIdeal Cert.ReferenceIdeal.Gen Cert.ReferenceIdeal.Read
open Idealize.ShloMosaic Idealize.ShloMosaic.TcCoe

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem dot_109 (i0 : Fin 2) (i1 : Fin 4) (i2 : Fin 17) (i3 : Fin 128) (i4 : Fin 128) :
    val_main_v109 x0 (ix5 i0 i1 i2 i3 i4) = ∑ k : Fin 256, @HMul.hMul EReal EReal EReal _ (val_main_v75 x0 (ix5 i0 i2 i3 i1 k)) (val_main_v79 x0 (ix5 i0 i2 i4 i1 k)) := by
  rw [val_main_v109_apply]
  refine Finset.sum_congr rfl fun k _ => ?_
  rw [show lidx_main_v109 (ix5 i0 i1 i2 i3 i4) k = ix5 i0 i2 i3 i1 k from funext fun a => match a with | ⟨0, _⟩ => rfl | ⟨1, _⟩ => rfl | ⟨2, _⟩ => rfl | ⟨3, _⟩ => rfl | ⟨4, _⟩ => rfl,
    show ridx_main_v109 (ix5 i0 i1 i2 i3 i4) k = ix5 i0 i2 i4 i1 k from funext fun a => match a with | ⟨0, _⟩ => rfl | ⟨1, _⟩ => rfl | ⟨2, _⟩ => rfl | ⟨3, _⟩ => rfl | ⟨4, _⟩ => rfl]

theorem dot_113 (i0 : Fin 2) (i1 : Fin 17) (i2 : Fin 4) (i3 : Fin 256) (i4 : Fin 128) :
    val_main_v113 x0 (ix5 i0 i1 i2 i3 i4) = ∑ k : Fin 128, @HMul.hMul EReal EReal EReal _ (val_main_v83 x0 (ix5 i0 i1 k i2 i3)) (val_main_v112 x0 (ix5 i0 i2 i1 i4 k)) := by
  rw [val_main_v113_apply]
  refine Finset.sum_congr rfl fun k _ => ?_
  rw [show lidx_main_v113 (ix5 i0 i1 i2 i3 i4) k = ix5 i0 i1 k i2 i3 from funext fun a => match a with | ⟨0, _⟩ => rfl | ⟨1, _⟩ => rfl | ⟨2, _⟩ => rfl | ⟨3, _⟩ => rfl | ⟨4, _⟩ => rfl,
    show ridx_main_v113 (ix5 i0 i1 i2 i3 i4) k = ix5 i0 i2 i1 i4 k from funext fun a => match a with | ⟨0, _⟩ => rfl | ⟨1, _⟩ => rfl | ⟨2, _⟩ => rfl | ⟨3, _⟩ => rfl | ⟨4, _⟩ => rfl]

theorem dot_127 (i0 : Fin 2) (i1 : Fin 17) (i2 : Fin 4) (i3 : Fin 256) (i4 : Fin 256) :
    val_main_v127 x0 (ix5 i0 i1 i2 i3 i4) = ∑ k : Fin 128, @HMul.hMul EReal EReal EReal _ (val_main_v126 x0 (ix5 i0 i1 k i2 i3)) (val_main_v83 x0 (ix5 i0 i1 k i2 i4)) := by
  rw [val_main_v127_apply]
  refine Finset.sum_congr rfl fun k _ => ?_
  rw [show lidx_main_v127 (ix5 i0 i1 i2 i3 i4) k = ix5 i0 i1 k i2 i3 from funext fun a => match a with | ⟨0, _⟩ => rfl | ⟨1, _⟩ => rfl | ⟨2, _⟩ => rfl | ⟨3, _⟩ => rfl | ⟨4, _⟩ => rfl,
    show ridx_main_v127 (ix5 i0 i1 i2 i3 i4) k = ix5 i0 i1 k i2 i4 from funext fun a => match a with | ⟨0, _⟩ => rfl | ⟨1, _⟩ => rfl | ⟨2, _⟩ => rfl | ⟨3, _⟩ => rfl | ⟨4, _⟩ => rfl]

theorem dot_227 (i0 : Fin 2) (i1 : Fin 17) (i2 : Fin 4) (i3 : Fin 256) (i4 : Fin 128) :
    val_main_v227 x0 (ix5 i0 i1 i2 i3 i4) = ∑ k : Fin 256, @HMul.hMul EReal EReal EReal _ (val_main_v217 x0 (ix5 i0 i1 i2 k i3)) (val_main_v75 x0 (ix5 i0 i1 i4 i2 k)) := by
  rw [val_main_v227_apply]
  refine Finset.sum_congr rfl fun k _ => ?_
  rw [show lidx_main_v227 (ix5 i0 i1 i2 i3 i4) k = ix5 i0 i1 i2 k i3 from funext fun a => match a with | ⟨0, _⟩ => rfl | ⟨1, _⟩ => rfl | ⟨2, _⟩ => rfl | ⟨3, _⟩ => rfl | ⟨4, _⟩ => rfl,
    show ridx_main_v227 (ix5 i0 i1 i2 i3 i4) k = ix5 i0 i1 i4 i2 k from funext fun a => match a with | ⟨0, _⟩ => rfl | ⟨1, _⟩ => rfl | ⟨2, _⟩ => rfl | ⟨3, _⟩ => rfl | ⟨4, _⟩ => rfl]

theorem dot_301 (i0 : Fin 2) (i1 : Fin 17) (i2 : Fin 4) (i3 : Fin 128) (i4 : Fin 256) :
    val_main_v301 x0 x1 x2 (ix5 i0 i1 i2 i3 i4) = ∑ k : Fin 256, @HMul.hMul EReal EReal EReal _ (val_main_v300 x0 x1 x2 (ix5 i0 i1 i2 k i3)) (val_main_v217 x0 (ix5 i0 i1 i2 i4 k)) := by
  rw [val_main_v301_apply]
  refine Finset.sum_congr rfl fun k _ => ?_
  rw [show lidx_main_v301 (ix5 i0 i1 i2 i3 i4) k = ix5 i0 i1 i2 k i3 from funext fun a => match a with | ⟨0, _⟩ => rfl | ⟨1, _⟩ => rfl | ⟨2, _⟩ => rfl | ⟨3, _⟩ => rfl | ⟨4, _⟩ => rfl,
    show ridx_main_v301 (ix5 i0 i1 i2 i3 i4) k = ix5 i0 i1 i2 i4 k from funext fun a => match a with | ⟨0, _⟩ => rfl | ⟨1, _⟩ => rfl | ⟨2, _⟩ => rfl | ⟨3, _⟩ => rfl | ⟨4, _⟩ => rfl]

theorem dot_303 (i0 : Fin 2) (i1 : Fin 17) (i2 : Fin 4) (i3 : Fin 256) (i4 : Fin 256) :
    val_main_v303 x0 x1 x2 (ix5 i0 i1 i2 i3 i4) = ∑ k : Fin 128, @HMul.hMul EReal EReal EReal _ (val_main_v300 x0 x1 x2 (ix5 i0 i1 i2 i3 k)) (val_main_v75 x0 (ix5 i0 i1 k i2 i4)) := by
  rw [val_main_v303_apply]
  refine Finset.sum_congr rfl fun k _ => ?_
  rw [show lidx_main_v303 (ix5 i0 i1 i2 i3 i4) k = ix5 i0 i1 i2 i3 k from funext fun a => match a with | ⟨0, _⟩ => rfl | ⟨1, _⟩ => rfl | ⟨2, _⟩ => rfl | ⟨3, _⟩ => rfl | ⟨4, _⟩ => rfl,
    show ridx_main_v303 (ix5 i0 i1 i2 i3 i4) k = ix5 i0 i1 k i2 i4 from funext fun a => match a with | ⟨0, _⟩ => rfl | ⟨1, _⟩ => rfl | ⟨2, _⟩ => rfl | ⟨3, _⟩ => rfl | ⟨4, _⟩ => rfl]

theorem dot_370 (i0 : Fin 2) (i1 : Fin 17) (i2 : Fin 4) (i3 : Fin 256) (i4 : Fin 128) :
    val_main_v370 x0 x1 x2 (ix5 i0 i1 i2 i3 i4) = ∑ k : Fin 256, @HMul.hMul EReal EReal EReal _ (val_main_v369 x0 x1 x2 (ix5 i0 i1 i2 k i3)) (val_main_v126 x0 (ix5 i0 i1 i4 i2 k)) := by
  rw [val_main_v370_apply]
  refine Finset.sum_congr rfl fun k _ => ?_
  rw [show lidx_main_v370 (ix5 i0 i1 i2 i3 i4) k = ix5 i0 i1 i2 k i3 from funext fun a => match a with | ⟨0, _⟩ => rfl | ⟨1, _⟩ => rfl | ⟨2, _⟩ => rfl | ⟨3, _⟩ => rfl | ⟨4, _⟩ => rfl,
    show ridx_main_v370 (ix5 i0 i1 i2 i3 i4) k = ix5 i0 i1 i4 i2 k from funext fun a => match a with | ⟨0, _⟩ => rfl | ⟨1, _⟩ => rfl | ⟨2, _⟩ => rfl | ⟨3, _⟩ => rfl | ⟨4, _⟩ => rfl]

theorem dot_372 (i0 : Fin 2) (i1 : Fin 17) (i2 : Fin 4) (i3 : Fin 256) (i4 : Fin 128) :
    val_main_v372 x0 x1 x2 (ix5 i0 i1 i2 i3 i4) = ∑ k : Fin 256, @HMul.hMul EReal EReal EReal _ (val_main_v369 x0 x1 x2 (ix5 i0 i1 i2 i3 k)) (val_main_v83 x0 (ix5 i0 i1 i4 i2 k)) := by
  rw [val_main_v372_apply]
  refine Finset.sum_congr rfl fun k _ => ?_
  rw [show lidx_main_v372 (ix5 i0 i1 i2 i3 i4) k = ix5 i0 i1 i2 i3 k from funext fun a => match a with | ⟨0, _⟩ => rfl | ⟨1, _⟩ => rfl | ⟨2, _⟩ => rfl | ⟨3, _⟩ => rfl | ⟨4, _⟩ => rfl,
    show ridx_main_v372 (ix5 i0 i1 i2 i3 i4) k = ix5 i0 i1 i4 i2 k from funext fun a => match a with | ⟨0, _⟩ => rfl | ⟨1, _⟩ => rfl | ⟨2, _⟩ => rfl | ⟨3, _⟩ => rfl | ⟨4, _⟩ => rfl]

theorem dot_377 (i0 : Fin 2) (i1 : Fin 17) (i2 : Fin 4) (i3 : Fin 128) (i4 : Fin 128) :
    val_main_v377 x0 x1 x2 (ix5 i0 i1 i2 i3 i4) = ∑ k : Fin 256, @HMul.hMul EReal EReal EReal _ (val_main_v376 x0 x1 x2 (ix5 i0 i1 i2 k i3)) (val_main_v83 x0 (ix5 i0 i1 i4 i2 k)) := by
  rw [val_main_v377_apply]
  refine Finset.sum_congr rfl fun k _ => ?_
  rw [show lidx_main_v377 (ix5 i0 i1 i2 i3 i4) k = ix5 i0 i1 i2 k i3 from funext fun a => match a with | ⟨0, _⟩ => rfl | ⟨1, _⟩ => rfl | ⟨2, _⟩ => rfl | ⟨3, _⟩ => rfl | ⟨4, _⟩ => rfl,
    show ridx_main_v377 (ix5 i0 i1 i2 i3 i4) k = ix5 i0 i1 i4 i2 k from funext fun a => match a with | ⟨0, _⟩ => rfl | ⟨1, _⟩ => rfl | ⟨2, _⟩ => rfl | ⟨3, _⟩ => rfl | ⟨4, _⟩ => rfl]

theorem dot_379 (i0 : Fin 2) (i1 : Fin 17) (i2 : Fin 4) (i3 : Fin 256) (i4 : Fin 128) :
    val_main_v379 x0 x1 x2 (ix5 i0 i1 i2 i3 i4) = ∑ k : Fin 128, @HMul.hMul EReal EReal EReal _ (val_main_v376 x0 x1 x2 (ix5 i0 i1 i2 i3 k)) (val_main_v112 x0 (ix5 i0 i2 i1 k i4)) := by
  rw [val_main_v379_apply]
  refine Finset.sum_congr rfl fun k _ => ?_
  rw [show lidx_main_v379 (ix5 i0 i1 i2 i3 i4) k = ix5 i0 i1 i2 i3 k from funext fun a => match a with | ⟨0, _⟩ => rfl | ⟨1, _⟩ => rfl | ⟨2, _⟩ => rfl | ⟨3, _⟩ => rfl | ⟨4, _⟩ => rfl,
    show ridx_main_v379 (ix5 i0 i1 i2 i3 i4) k = ix5 i0 i2 i1 k i4 from funext fun a => match a with | ⟨0, _⟩ => rfl | ⟨1, _⟩ => rfl | ⟨2, _⟩ => rfl | ⟨3, _⟩ => rfl | ⟨4, _⟩ => rfl]

theorem dot_384 (i0 : Fin 2) (i1 : Fin 4) (i2 : Fin 17) (i3 : Fin 128) (i4 : Fin 256) :
    val_main_v384 x0 x1 x2 (ix5 i0 i1 i2 i3 i4) = ∑ k : Fin 128, @HMul.hMul EReal EReal EReal _ (val_main_v383 x0 x1 x2 (ix5 i0 i1 i2 k i3)) (val_main_v75 x0 (ix5 i0 i2 k i1 i4)) := by
  rw [val_main_v384_apply]
  refine Finset.sum_congr rfl fun k _ => ?_
  rw [show lidx_main_v384 (ix5 i0 i1 i2 i3 i4) k = ix5 i0 i1 i2 k i3 from funext fun a => match a with | ⟨0, _⟩ => rfl | ⟨1, _⟩ => rfl | ⟨2, _⟩ => rfl | ⟨3, _⟩ => rfl | ⟨4, _⟩ => rfl,
    show ridx_main_v384 (ix5 i0 i1 i2 i3 i4) k = ix5 i0 i2 k i1 i4 from funext fun a => match a with | ⟨0, _⟩ => rfl | ⟨1, _⟩ => rfl | ⟨2, _⟩ => rfl | ⟨3, _⟩ => rfl | ⟨4, _⟩ => rfl]

theorem dot_387 (i0 : Fin 2) (i1 : Fin 4) (i2 : Fin 17) (i3 : Fin 128) (i4 : Fin 256) :
    val_main_v387 x0 x1 x2 (ix5 i0 i1 i2 i3 i4) = ∑ k : Fin 128, @HMul.hMul EReal EReal EReal _ (val_main_v383 x0 x1 x2 (ix5 i0 i1 i2 i3 k)) (val_main_v79 x0 (ix5 i0 i2 k i1 i4)) := by
  rw [val_main_v387_apply]
  refine Finset.sum_congr rfl fun k _ => ?_
  rw [show lidx_main_v387 (ix5 i0 i1 i2 i3 i4) k = ix5 i0 i1 i2 i3 k from funext fun a => match a with | ⟨0, _⟩ => rfl | ⟨1, _⟩ => rfl | ⟨2, _⟩ => rfl | ⟨3, _⟩ => rfl | ⟨4, _⟩ => rfl,
    show ridx_main_v387 (ix5 i0 i1 i2 i3 i4) k = ix5 i0 i2 k i1 i4 from funext fun a => match a with | ⟨0, _⟩ => rfl | ⟨1, _⟩ => rfl | ⟨2, _⟩ => rfl | ⟨3, _⟩ => rfl | ⟨4, _⟩ => rfl]

end Cert.Proof.Ret

end
-- ==== Proof.Fwd.lean ====
/- The reference's forward values, row by row, up to the output of the retention. -/
module

public import proofs.«01_k».proof.Proof.Dots
public import proofs.«01_k».proof.Proof.Inp

@[expose] public section

set_option maxRecDepth 16384

noncomputable section

namespace Cert.Proof.Ret

open Cert.ReferenceIdeal Cert.ReferenceIdeal.Gen Cert.ReferenceIdeal.Read
open Idealize.ShloMosaic Idealize.ShloMosaic.TcCoe Idealize.ShloMosaic.Tactic
open Raw

theorem at2_at {R C : ℕ} (X : (⟨2, ![R, C]⟩ : Shape).Idx → EReal) (i : Fin R) (j : Fin C) {r c : ℕ} (hr : i.val = r)
    (hc : j.val = c) : X (ix2 i j) = at2 X r c := by
  subst hr hc
  rw [at2_eq X i.isLt j.isLt]

theorem at1_at {C : ℕ} (X : (⟨1, ![C]⟩ : Shape).Idx → EReal) (j : Fin C) {c : ℕ} (hc : j.val = c) : X (ix1 j) = at1 X c := by
  subst hc
  rw [at1_eq X j.isLt]

theorem ch_of (n l s : ℕ) (h : l < 128) : ch (128 * n + l) s = 128 * n + s := by show 128 * _ + s = _; omega
theorem md_of (n l : ℕ) (h : l < 128) : (128 * n + l) % 128 = l := by omega
theorem dv_of (n l : ℕ) (h : l < 128) : (128 * n + l) / 128 = n := by omega

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem q_at (b : Fin 2) (t : Fin 2064) (h : Fin 4) (d : Fin 256) :
    val_main_v9 x0 (ix4 b t h d) = (inp x0 x1 x2 b h).q (112 + t) d := by
  unfold val_main_v9 val_main_v1 val_main_v0
  pointwise
  exact at2_at x0 _ _ (by simp only; omega) (by simp only; omega)

theorem k_at (b : Fin 2) (t : Fin 2064) (h : Fin 4) (d : Fin 256) :
    val_main_v39 x0 (ix4 b t h d) = (inp x0 x1 x2 b h).k (112 + t) d := by
  unfold val_main_v39 val_main_v3 val_main_v2
  pointwise
  exact at2_at x0 _ _ (by simp only; omega) (by simp only; omega)

theorem v_at (b : Fin 2) (t : Fin 2064) (h : Fin 4) (d : Fin 256) :
    val_main_v71 x0 (ix4 b t h d) = (inp x0 x1 x2 b h).v (112 + t) d := by
  unfold val_main_v71 val_main_v5 val_main_v4
  pointwise
  exact at2_at x0 _ _ (by simp only; omega) (by simp only; omega)

theorem cos_at (b : Fin 2) (h : Fin 4) (i j : Fin 1) (t : Fin 2064) (d : Fin 128) :
    val_main_v23 (F := Ideal) (ix4 i t j d) = (inp x0 x1 x2 b h).cs (112 + t) d := by
  show _ = Ideal.cos (pos (112 + t) * frq d)
  rw [pos_tok t.isLt]
  unfold val_main_v23 val_main_v22 val_main_v21 val_main_v20 val_main_v19 val_main_v18 val_main_v17 val_main_v16 val_main_v15
    val_main_v14 val_main_v13 val_main_v12 val_main_v11 val_main_v10 val_main_v8 val_main_cst val_main_cst_0 val_main_cst_1
  pointwise
  rfl

theorem sin_at (b : Fin 2) (h : Fin 4) (i j : Fin 1) (t : Fin 2064) (d : Fin 128) :
    val_main_v25 (F := Ideal) (ix4 i t j d) = (inp x0 x1 x2 b h).sn (112 + t) d := by
  show _ = Ideal.sin (pos (112 + t) * frq d)
  rw [pos_tok t.isLt]
  unfold val_main_v25 val_main_v24 val_main_v21 val_main_v20 val_main_v19 val_main_v18 val_main_v17 val_main_v16 val_main_v15
    val_main_v14 val_main_v13 val_main_v12 val_main_v11 val_main_v10 val_main_v8 val_main_cst val_main_cst_0 val_main_cst_1
  pointwise
  rfl

theorem cos_eq : val_main_v53 (F := Ideal) = val_main_v23 (F := Ideal) := rfl
theorem sin_eq : val_main_v55 (F := Ideal) = val_main_v25 (F := Ideal) := rfl

theorem rotq_at (b : Fin 2) (t : Fin 2064) (h : Fin 4) (d : Fin 256) :
    val_main_v38 x0 (ix4 b t h d) = (inp x0 x1 x2 b h).rot (inp x0 x1 x2 b h).q (112 + t) d := by
  unfold val_main_v38 val_main_v37 val_main_v36 val_main_v35 val_main_v34 val_main_v33 val_main_v32 val_main_v31 val_main_v30
    val_main_v29 val_main_v28 val_main_v27 val_main_v26
  pointwise
  rw [rot]
  by_cases hd : d.val < 128
  · rw [dif_pos hd, if_pos hd]
    simp only [q_at x0 x1 x2, cos_at x0 x1 x2 b h, sin_at x0 x1 x2 b h]
  · rw [dif_neg hd, if_neg hd]
    simp only [q_at x0 x1 x2, cos_at x0 x1 x2 b h, sin_at x0 x1 x2 b h, Nat.add_sub_of_le (not_lt.1 hd)]

theorem rotk_at (b : Fin 2) (t : Fin 2064) (h : Fin 4) (d : Fin 256) :
    val_main_v68 x0 (ix4 b t h d) = (inp x0 x1 x2 b h).rot (inp x0 x1 x2 b h).k (112 + t) d := by
  unfold val_main_v68 val_main_v67 val_main_v66 val_main_v65 val_main_v64 val_main_v63 val_main_v62 val_main_v61 val_main_v60
    val_main_v59 val_main_v58 val_main_v57 val_main_v56
  rw [cos_eq, sin_eq]
  pointwise
  rw [rot]
  by_cases hd : d.val < 128
  · rw [dif_pos hd, if_pos hd]
    simp only [k_at x0 x1 x2, cos_at x0 x1 x2 b h, sin_at x0 x1 x2 b h]
  · rw [dif_neg hd, if_neg hd]
    simp only [k_at x0 x1 x2, cos_at x0 x1 x2 b h, sin_at x0 x1 x2 b h, Nat.add_sub_of_le (not_lt.1 hd)]

/-- The row of a place of a chunk that is not padding. -/
theorem row_of {n l : ℕ} (h : ¬ n * 128 + l < 112) : 112 + (n * 128 + l - 112) = 128 * n + l := by omega

theorem qr_at (b : Fin 2) (n : Fin 17) (l : Fin 128) (h : Fin 4) (d : Fin 256) :
    val_main_v75 x0 (ix5 b n l h d) = (inp x0 x1 x2 b h).qr (128 * n + l) d := by
  unfold val_main_v75 val_main_v73 val_main_v72 val_main_cst_6
  pointwise
  rw [qr]
  by_cases hr : n.val * 128 + l.val < 112
  · rw [dif_pos hr, msk_pad (by omega), zero_mul]
  · rw [dif_neg hr, msk_tok (by omega), one_mul, rotq_at x0 x1 x2]
    simp only [row_of hr]

theorem kr_at (b : Fin 2) (n : Fin 17) (l : Fin 128) (h : Fin 4) (d : Fin 256) :
    val_main_v79 x0 (ix5 b n l h d) = (inp x0 x1 x2 b h).kr (128 * n + l) d := by
  unfold val_main_v79 val_main_v77 val_main_v76 val_main_v70 val_main_v69 val_main_cst_5 val_main_cst_8
  pointwise
  rw [kr]
  by_cases hr : n.val * 128 + l.val < 112
  · rw [dif_pos hr, msk_pad (by omega), zero_mul, zero_mul]
  · rw [dif_neg hr, msk_tok (by omega), one_mul, rotk_at x0 x1 x2]
    simp only [row_of hr]

theorem vv_at (b : Fin 2) (n : Fin 17) (l : Fin 128) (h : Fin 4) (d : Fin 256) :
    val_main_v83 x0 (ix5 b n l h d) = (inp x0 x1 x2 b h).vv (128 * n + l) d := by
  unfold val_main_v83 val_main_v81 val_main_v80 val_main_cst_10
  pointwise
  rw [vv]
  by_cases hr : n.val * 128 + l.val < 112
  · rw [dif_pos hr, msk_pad (by omega), zero_mul]
  · rw [dif_neg hr, msk_tok (by omega), one_mul, v_at x0 x1 x2]
    simp only [row_of hr]

theorem lg_at (h : Fin 4) : val_main_v91 (F := Ideal) (ix1 h) = lg h := by
  unfold val_main_v91 val_main_v90 val_main_v89 val_main_v88 val_main_v87 val_main_v86 val_main_v85 val_main_v84
    val_main_cst_12 val_main_cst_13
  pointwise
  rfl

theorem de_at (h : Fin 4) (l s : Fin 128) : val_main_v108 (F := Ideal) (ix3 h l s) = deOf h l s := by
  unfold val_main_v108 val_main_call0_v1 val_main_call0_v2 val_main_v107 val_main_v106 val_main_v105
    val_main_v104 val_main_v103 val_main_v102 val_main_v101 val_main_v100 val_main_v99 val_main_v98 val_main_v97 val_main_v96
    val_main_v95 val_main_v94 val_main_v93 val_main_v92 val_main_cst_14 val_main_cst_15 val_main_call0_v0 val_main_cst_16
  pointwise
  rw [lg_at]
  exact if_congr Iff.rfl rfl Ideal.ofBits_zero_f32

theorem zt_at (i j : Fin 1) (k : Fin 1) (h : Fin 4) (l : Fin 128) : val_main_v124 (F := Ideal) (ix5 i j l h k) = ztOf h l := by
  unfold val_main_v124 val_main_v123 val_main_v122 val_main_v121 val_main_v120 val_main_v119 val_main_v118 val_main_v117
    val_main_v116 val_main_v115 val_main_v92 val_main_cst_17
  pointwise
  rw [lg_at]
  rfl

theorem xi_at (i j : Fin 1) (k : Fin 1) (h : Fin 4) (l : Fin 128) : val_main_v230 (F := Ideal) (ix5 i j l h k) = xiOf h l := by
  unfold val_main_v230 val_main_v229 val_main_v226 val_main_v225 val_main_v224 val_main_v223 val_main_v222 val_main_v221
    val_main_v220 val_main_v219 val_main_v92 val_main_cst_22
  pointwise
  rw [lg_at]
  rfl

theorem cd_at (i j k : Fin 1) (h : Fin 4) : val_main_v131 (F := Ideal) (ix4 i h j k) = cdOf h := by
  unfold val_main_v131 val_main_v130 val_main_v129 val_main_v128 val_main_cst_18
  pointwise
  rw [lg_at]
  rfl

theorem inp_de (b h : ℕ) : (inp x0 x1 x2 b h).de = deOf h := rfl
theorem inp_zt (b h : ℕ) : (inp x0 x1 x2 b h).zt = ztOf h := rfl
theorem inp_xi (b h : ℕ) : (inp x0 x1 x2 b h).xi = xiOf h := rfl
theorem inp_cd (b h : ℕ) : (inp x0 x1 x2 b h).cd = cdOf h := rfl

/-- Two products over the machine's numbers, factor by factor. -/
theorem mul_of {a b c d : EReal} (h : a = c) (k : b = d) : a * b = c * d := by rw [h, k]

theorem sc_at (b : Fin 2) (n : Fin 17) (h : Fin 4) (l s : Fin 128) :
    val_main_v112 x0 (ix5 b h n l s) = (inp x0 x1 x2 b h).sc (128 * n + l) (128 * n + s) := by
  have E : val_main_v111 (F := Ideal) (ix5 b h n l s) = deOf h l s := by
    unfold val_main_v111 val_main_v110
    pointwise
    rw [de_at]
  have G : val_main_v109 x0 (ix5 b h n l s) =
      sm 256 fun d => (inp x0 x1 x2 b h).qr (128 * n + l) d * (inp x0 x1 x2 b h).kr (128 * n + s) d := by
    rw [dot_109, sm]
    exact Finset.sum_congr rfl fun d _ => by rw [qr_at x0 x1 x2, kr_at x0 x1 x2]
  rw [sc, inp_de, md_of _ _ l.isLt, md_of _ _ s.isLt]
  exact (val_main_v112_apply x0 _).trans (mul_of G E)

theorem inn_at (b : Fin 2) (n : Fin 17) (h : Fin 4) (l : Fin 128) (e : Fin 256) :
    val_main_v113 x0 (ix5 b n h e l) = (inp x0 x1 x2 b h).inn (128 * n + l) e := by
  rw [dot_113, inn]
  exact Finset.sum_congr rfl fun s _ => by
    simp only [vv_at x0 x1 x2, sc_at x0 x1 x2, ch_of _ _ _ l.isLt]
    exact mul_comm _ _

theorem kz_at (b : Fin 2) (n : Fin 17) (h : Fin 4) (l : Fin 128) (d : Fin 256) :
    val_main_v126 x0 (ix5 b n l h d) = (inp x0 x1 x2 b h).kz (128 * n + l) d := by
  have E : val_main_v125 (F := Ideal) (ix5 b n l h d) = ztOf h l := by
    unfold val_main_v125
    pointwise
    rw [zt_at]
  rw [kz, inp_zt, md_of _ _ l.isLt]
  exact (val_main_v126_apply x0 _).trans (mul_of (kr_at x0 x1 x2 b n l h d) E)

theorem kv_at (b : Fin 2) (n : Fin 17) (h : Fin 4) (d e : Fin 256) :
    val_main_v127 x0 (ix5 b n h d e) = (inp x0 x1 x2 b h).kv n d e := by
  rw [dot_127, kv]
  exact Finset.sum_congr rfl fun s _ => by rw [kz_at x0 x1 x2, vv_at x0 x1 x2]

end Cert.Proof.Ret

end
-- ==== Proof.Sta.lean ====
/- The reference's states: each chunk's state is the decayed state before it and the chunk's own keys and values. -/
module

public import proofs.«01_k».proof.Proof.Fwd
public import Idealize.ShloMosaic.Lib.Pipeline.ValueKit

@[expose] public section

set_option maxRecDepth 16384

noncomputable section

namespace Cert.Proof.Ret

open Cert.ReferenceIdeal Cert.ReferenceIdeal.Gen Cert.ReferenceIdeal.Read
open Idealize.ShloMosaic Idealize.ShloMosaic.TcCoe Idealize.ShloMosaic.Tactic
open Raw

/-- Two sums over the machine's numbers, term by term. -/
theorem add_of {a b c d : EReal} (h : a = c) (k : b = d) : a + b = c + d := by rw [h, k]

/-- One matrix for every head of every batch element. -/
abbrev Mat := (⟨S2x1x4x256x256, .f32⟩ : BufTy).Contents (Elt Ideal)

/-- The matrix's entries, by batch element, head and place. -/
def Is (f : ℕ → ℕ → ℕ → ℕ → EReal) (X : Mat) : Prop :=
  ∀ (b : Fin 2) (j : Fin 1) (h : Fin 4) (d e : Fin 256), X (ix5 b j h d e) = f b h d e

/-- Chunk `i` cut out of sixteen. -/
theorem cut_at (Y : (⟨S2x16x4x256x256, .f32⟩ : BufTy).Contents (Elt Ideal)) (i : ℕ) (hi : i < 16)
    (hs : Shape.Slices S2x16x4x256x256 ![0, i, 0, 0, 0] S2x1x4x256x256) (b : Fin 2) (j : Fin 1) (h : Fin 4) (d e : Fin 256) :
    extractStridedSlice S2x1x4x256x256 ![0, i, 0, 0, 0] Y hs (ix5 b j h d e) = Y (ix5 b ⟨i, hi⟩ h d e) :=
  extractStridedSlice_apply ![0, i, 0, 0, 0] Y hs (ix5 b j h d e) (ix5 b ⟨i, hi⟩ h d e) (fun a => match a with
    | ⟨0, _⟩ => by show b.val = 0 + b.val; omega
    | ⟨1, _⟩ => by show i = i + j.val; omega
    | ⟨2, _⟩ => by show h.val = 0 + h.val; omega
    | ⟨3, _⟩ => by show d.val = 0 + d.val; omega
    | ⟨4, _⟩ => by show e.val = 0 + e.val; omega)

/-- A piece of a concatenation of sixteen chunks. -/
theorem piece_at {f : ℕ → ℕ → ℕ → ℕ → EReal} {X : Mat} (hX : Is f X) (k : ℕ) (b : Fin 2) (n : Fin 16) (h : Fin 4) (d e : Fin 256)
    {v : EReal} (hv : n.val = k → f b h d e = v) :
    PieceAt (t := S2x16x4x256x256) (1 : Fin 5) (ix5 b n h d e) v S2x1x4x256x256 X k := by
  intro hj hr i h0 hb
  have e1 : i = ix5 b ⟨0, Nat.one_pos⟩ h d e := funext fun a => Fin.ext (match a with
    | ⟨0, _⟩ => hb 0 (by decide)
    | ⟨1, _⟩ => h0
    | ⟨2, _⟩ => hb 2 (by decide)
    | ⟨3, _⟩ => hb 3 (by decide)
    | ⟨4, _⟩ => hb 4 (by decide))
  rw [e1, hX, hv hj]

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem cdb_at (b : Fin 2) (j : Fin 1) (h : Fin 4) (d e : Fin 256) :
    val_main_v156 (F := Ideal) (ix5 b j h d e) = cdOf h := by
  unfold val_main_v156 val_main_v155
  pointwise
  rw [cd_at]

theorem k16_at (b : Fin 2) (n : Fin 16) (h : Fin 4) (d e : Fin 256) :
    val_main_v134 x0 (ix5 b n h d e) = (inp x0 x1 x2 b h).kv n d e := by
  unfold val_main_v134
  pointwise
  rw [kv_at x0 x1 x2]

/-- The state before chunk `n`, by batch element and head. -/
def stR (n b h : ℕ) : ℕ → ℕ → EReal := (inp x0 x1 x2 b h).R n

/-- One chunk further. -/
theorem next_at (i : ℕ) (hi : i < 16) (hs : Shape.Slices S2x16x4x256x256 ![0, i, 0, 0, 0] S2x1x4x256x256) {X : Mat}
    (hX : Is (stR x0 x1 x2 i) X) :
    Is (stR x0 x1 x2 (i + 1)) (addf (mulf (F := Ideal) (φ := .f32) (val_main_v156 (F := Ideal)) X)
      (extractStridedSlice S2x1x4x256x256 ![0, i, 0, 0, 0] (val_main_v134 (F := Ideal) x0) hs)) := fun b j h d e => by
  show @HAdd.hAdd EReal EReal EReal _ (@HMul.hMul EReal EReal EReal _ (val_main_v156 (F := Ideal) (ix5 b j h d e)) (X (ix5 b j h d e)))
    (extractStridedSlice S2x1x4x256x256 ![0, i, 0, 0, 0] (val_main_v134 (F := Ideal) x0) hs (ix5 b j h d e)) = _
  rw [cdb_at, hX, cut_at _ i hi hs, k16_at x0 x1 x2, stR, stR, R, inp_cd]

theorem is_0 : Is (stR x0 x1 x2 0) (val_main_v133 (F := Ideal)) := fun b j h d e => by
  unfold val_main_v133 val_main_cst_19
  pointwise
  rfl

theorem is_1 : Is (stR x0 x1 x2 1) (val_main_v154 x0) :=
  next_at x0 x1 x2 0 (by decide) _ (is_0 x0 x1 x2)
theorem is_2 : Is (stR x0 x1 x2 2) (val_main_v158 x0) :=
  next_at x0 x1 x2 1 (by decide) _ (is_1 x0 x1 x2)
theorem is_3 : Is (stR x0 x1 x2 3) (val_main_v162 x0) :=
  next_at x0 x1 x2 2 (by decide) _ (is_2 x0 x1 x2)
theorem is_4 : Is (stR x0 x1 x2 4) (val_main_v166 x0) :=
  next_at x0 x1 x2 3 (by decide) _ (is_3 x0 x1 x2)
theorem is_5 : Is (stR x0 x1 x2 5) (val_main_v170 x0) :=
  next_at x0 x1 x2 4 (by decide) _ (is_4 x0 x1 x2)
theorem is_6 : Is (stR x0 x1 x2 6) (val_main_v174 x0) :=
  next_at x0 x1 x2 5 (by decide) _ (is_5 x0 x1 x2)
theorem is_7 : Is (stR x0 x1 x2 7) (val_main_v178 x0) :=
  next_at x0 x1 x2 6 (by decide) _ (is_6 x0 x1 x2)
theorem is_8 : Is (stR x0 x1 x2 8) (val_main_v182 x0) :=
  next_at x0 x1 x2 7 (by decide) _ (is_7 x0 x1 x2)
theorem is_9 : Is (stR x0 x1 x2 9) (val_main_v186 x0) :=
  next_at x0 x1 x2 8 (by decide) _ (is_8 x0 x1 x2)
theorem is_10 : Is (stR x0 x1 x2 10) (val_main_v190 x0) :=
  next_at x0 x1 x2 9 (by decide) _ (is_9 x0 x1 x2)
theorem is_11 : Is (stR x0 x1 x2 11) (val_main_v194 x0) :=
  next_at x0 x1 x2 10 (by decide) _ (is_10 x0 x1 x2)
theorem is_12 : Is (stR x0 x1 x2 12) (val_main_v198 x0) :=
  next_at x0 x1 x2 11 (by decide) _ (is_11 x0 x1 x2)
theorem is_13 : Is (stR x0 x1 x2 13) (val_main_v202 x0) :=
  next_at x0 x1 x2 12 (by decide) _ (is_12 x0 x1 x2)
theorem is_14 : Is (stR x0 x1 x2 14) (val_main_v206 x0) :=
  next_at x0 x1 x2 13 (by decide) _ (is_13 x0 x1 x2)
theorem is_15 : Is (stR x0 x1 x2 15) (val_main_v210 x0) :=
  next_at x0 x1 x2 14 (by decide) _ (is_14 x0 x1 x2)
theorem is_16 : Is (stR x0 x1 x2 16) (val_main_v214 x0) :=
  next_at x0 x1 x2 15 (by decide) _ (is_15 x0 x1 x2)

theorem states_at (b : Fin 2) (n : Fin 16) (h : Fin 4) (d e : Fin 256) :
    val_main_v215 x0 (ix5 b n h d e) = (inp x0 x1 x2 b h).R (n + 1) d e := by
  have P : ∀ (k : ℕ) (X : Mat), Is (stR x0 x1 x2 (k + 1)) X → PieceAt (t := S2x16x4x256x256) (1 : Fin 5) (ix5 b n h d e)
      ((inp x0 x1 x2 b h).R (n + 1) d e) S2x1x4x256x256 X k :=
    fun k X hX => piece_at hX k b n h d e fun hn => by rw [hn]; rfl
  exact concatenate_unit_eq _ _ _ _ _ rfl ⟨P 0 _ (is_1 x0 x1 x2),
    P 1 _ (is_2 x0 x1 x2),
    P 2 _ (is_3 x0 x1 x2),
    P 3 _ (is_4 x0 x1 x2),
    P 4 _ (is_5 x0 x1 x2),
    P 5 _ (is_6 x0 x1 x2),
    P 6 _ (is_7 x0 x1 x2),
    P 7 _ (is_8 x0 x1 x2),
    P 8 _ (is_9 x0 x1 x2),
    P 9 _ (is_10 x0 x1 x2),
    P 10 _ (is_11 x0 x1 x2),
    P 11 _ (is_12 x0 x1 x2),
    P 12 _ (is_13 x0 x1 x2),
    P 13 _ (is_14 x0 x1 x2),
    P 14 _ (is_15 x0 x1 x2),
    P 15 _ (is_16 x0 x1 x2), trivial⟩

theorem R_at (b : Fin 2) (n : Fin 17) (h : Fin 4) (d e : Fin 256) :
    val_main_v217 x0 (ix5 b n h d e) = (inp x0 x1 x2 b h).R n d e := by
  unfold val_main_v217 val_main_v216 val_main_cst_20
  pointwise
  by_cases hn : n.val < 1
  · rw [dif_pos hn, show n.val = 0 by omega]
    rfl
  · rw [dif_neg hn, states_at x0 x1 x2]
    simp only [Nat.sub_add_cancel (not_lt.1 hn)]

theorem crs_at (b : Fin 2) (n : Fin 17) (h : Fin 4) (l : Fin 128) (e : Fin 256) :
    val_main_v232 x0 (ix5 b n l h e) = (inp x0 x1 x2 b h).crs (128 * n + l) e := by
  have E : val_main_v231 (F := Ideal) (ix5 b n l h e) = xiOf h l := by
    unfold val_main_v231
    pointwise
    rw [xi_at]
  have G : val_main_v228 x0 (ix5 b n l h e) =
      sm 256 fun d => (inp x0 x1 x2 b h).qr (128 * n + l) d * (inp x0 x1 x2 b h).R n d e := by
    unfold val_main_v228
    pointwise
    rw [dot_227, sm]
    exact Finset.sum_congr rfl fun d _ => by rw [R_at x0 x1 x2, qr_at x0 x1 x2]; exact mul_comm _ _
  rw [crs, inp_xi, md_of _ _ l.isLt, dv_of _ _ l.isLt]
  exact (val_main_v232_apply x0 _).trans (mul_of G E)

theorem o_row (b : Fin 2) (n : Fin 17) (h : Fin 4) (l : Fin 128) (e : Fin 256) :
    val_main_v233 x0 (ix5 b n l h e) = (inp x0 x1 x2 b h).o (128 * n + l) e := by
  have G : val_main_v114 x0 (ix5 b n l h e) = (inp x0 x1 x2 b h).inn (128 * n + l) e := by
    unfold val_main_v114
    pointwise
    rw [inn_at x0 x1 x2]
  rw [o]
  exact (val_main_v233_apply x0 _).trans (add_of G (crs_at x0 x1 x2 b n h l e))

/-- The retention's output at a token. -/
theorem o_at (b : Fin 2) (t : Fin 2064) (h : Fin 4) (e : Fin 256) :
    val_main_v235 x0 (ix4 b t h e) = (inp x0 x1 x2 b h).o (112 + t) e := by
  unfold val_main_v235 val_main_v234
  pointwise
  rw [o_row x0 x1 x2]
  exact congrArg (fun r => (inp x0 x1 x2 b h).o r e) (by simp only; omega)

end Cert.Proof.Ret

end
-- ==== Proof.Nrm.lean ====
/- The reference's norm and gate, forward and backward, at a token. -/
module

public import proofs.«01_k».proof.Proof.Sta

@[expose] public section

set_option maxRecDepth 16384

noncomputable section

namespace Cert.Proof.Ret

open Cert.ReferenceIdeal Cert.ReferenceIdeal.Gen Cert.ReferenceIdeal.Read
open Idealize.ShloMosaic Idealize.ShloMosaic.TcCoe Idealize.ShloMosaic.Tactic
open Raw

theorem sub_of {a b c d : EReal} (h : a = c) (k : b = d) : a - b = c - d := by rw [h, k]

/-- A sum from zero, term by term. -/
theorem red_of {n : ℕ} {c : EReal} {f : Fin n → EReal} {g : ℕ → EReal} (hc : c = 0) (hf : ∀ k : Fin n, f k = g k) :
    c + ∑ k, f k = sm n g := by
  rw [hc, zero_add, sm]
  exact Finset.sum_congr rfl fun k _ => hf k

theorem sm_one (f : ℕ → EReal) : sm 1 f = f 0 := by rw [sm, Fin.sum_univ_one]; rfl

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem osum_at (b : Fin 2) (t : Fin 2064) (h : Fin 4) :
    val_main_v236 x0 (ix3 b t h) = sm 256 ((inp x0 x1 x2 b h).o (112 + t)) := by
  rw [val_main_v236_apply]
  refine red_of Ideal.ofBits_zero_f32 fun k => ?_
  rw [show idx_main_v236 (ix3 b t h) k = ix4 b t h k from
    funext fun a => match a with | ⟨0, _⟩ => rfl | ⟨1, _⟩ => rfl | ⟨2, _⟩ => rfl | ⟨3, _⟩ => rfl]
  exact o_at x0 x1 x2 b t h k

theorem oc_at (b : Fin 2) (t : Fin 2064) (h : Fin 4) (e : Fin 256) :
    val_main_v241 x0 (ix4 b t h e) = (inp x0 x1 x2 b h).oc (112 + t) e := by
  have E : val_main_v240 x0 (ix4 b t h e) = Ideal.div (sm 256 ((inp x0 x1 x2 b h).o (112 + t))) cN := by
    unfold val_main_v240 val_main_v239 val_main_v238 val_main_v237 val_main_cst_24
    pointwise
    rw [osum_at x0 x1 x2]
  rw [oc]
  exact (val_main_v241_apply x0 _).trans (sub_of (o_at x0 x1 x2 b t h e) E)

theorem ocsum_at (b : Fin 2) (t : Fin 2064) (h : Fin 4) :
    val_main_v243 x0 (ix3 b t h) = sm 256 fun e => (inp x0 x1 x2 b h).oc (112 + t) e * (inp x0 x1 x2 b h).oc (112 + t) e := by
  rw [val_main_v243_apply]
  refine red_of Ideal.ofBits_zero_f32 fun k => ?_
  rw [show idx_main_v243 (ix3 b t h) k = ix4 b t h k from
    funext fun a => match a with | ⟨0, _⟩ => rfl | ⟨1, _⟩ => rfl | ⟨2, _⟩ => rfl | ⟨3, _⟩ => rfl]
  exact (val_main_v242_apply x0 _).trans (mul_of (oc_at x0 x1 x2 b t h k) (oc_at x0 x1 x2 b t h k))

theorem vr_at (b : Fin 2) (t : Fin 2064) (h : Fin 4) (j : Fin 1) :
    val_main_v248 x0 (ix4 b t h j) = (inp x0 x1 x2 b h).vr (112 + t) := by
  have E : val_main_v246 x0 (ix4 b t h j) =
      Ideal.div (sm 256 fun e => (inp x0 x1 x2 b h).oc (112 + t) e * (inp x0 x1 x2 b h).oc (112 + t) e) cN := by
    unfold val_main_v246 val_main_v245 val_main_v244 val_main_cst_26
    pointwise
    rw [ocsum_at x0 x1 x2]
  have G : val_main_v247 (F := Ideal) (ix4 b t h j) = cEps := by
    unfold val_main_v247 val_main_cst_27
    pointwise
  rw [vr]
  exact (val_main_v248_apply x0 _).trans (add_of E G)

theorem rs_at (b : Fin 2) (t : Fin 2064) (h : Fin 4) (j : Fin 1) :
    val_main_v249 x0 (ix4 b t h j) = (inp x0 x1 x2 b h).rs (112 + t) := by
  rw [rs]
  exact (val_main_v249_apply x0 _).trans (congrArg Ideal.rsqrt (vr_at x0 x1 x2 b t h j))

theorem c3_at (b : Fin 2) (t : Fin 2064) (h : Fin 4) (j : Fin 1) :
    val_main_v252 x0 (ix4 b t h j) = (inp x0 x1 x2 b h).c3 (112 + t) := by
  have G : val_main_v251 (F := Ideal) (ix4 b t h j) = cHalf := by
    unfold val_main_v251 val_main_cst_28
    pointwise
  rw [c3]
  exact (val_main_v252_apply x0 _).trans (mul_of G ((val_main_v250_apply x0 _).trans
    (congrArg₂ Ideal.div (rs_at x0 x1 x2 b t h j) (vr_at x0 x1 x2 b t h j))))

theorem rsb_at (b : Fin 2) (t : Fin 2064) (h : Fin 4) (e : Fin 256) :
    val_main_v253 x0 (ix4 b t h e) = (inp x0 x1 x2 b h).rs (112 + t) := by
  unfold val_main_v253
  pointwise
  rw [rs_at x0 x1 x2]

theorem nrm_at (b : Fin 2) (t : Fin 2064) (h : Fin 4) (e : Fin 256) :
    val_main_v254 x0 (ix4 b t h e) = (inp x0 x1 x2 b h).nrm (112 + t) e := by
  rw [nrm]
  exact (val_main_v254_apply x0 _).trans (mul_of (oc_at x0 x1 x2 b t h e) (rsb_at x0 x1 x2 b t h e))

/-! From here a column of the whole group is column `c % 256` of head `c / 256`. -/

theorem nrm3_at (b : Fin 2) (t : Fin 2064) (c : Fin 1024) :
    val_main_v255 x0 (ix3 b t c) = (inp x0 x1 x2 b (c / 256 : ℕ)).nrm (112 + t) (c % 256 : ℕ) := by
  unfold val_main_v255
  pointwise
  rw [nrm_at x0 x1 x2]

theorem ng_at (b : Fin 2) (t : Fin 2064) (c : Fin 1024) :
    val_main_v257 x1 (ix3 b t c) = (inp x0 x1 x2 b (c / 256 : ℕ)).ng (c % 256 : ℕ) := by
  unfold val_main_v257 val_main_v256
  pointwise
  exact at1_at x1 _ (by omega)

theorem z_at (b : Fin 2) (t : Fin 2064) (c : Fin 1024) :
    val_main_v258 x0 x1 (ix3 b t c) =
      (inp x0 x1 x2 b (c / 256 : ℕ)).nrm (112 + t) (c % 256 : ℕ) * (inp x0 x1 x2 b (c / 256 : ℕ)).ng (c % 256 : ℕ) :=
  (val_main_v258_apply x0 x1 _).trans (mul_of (nrm3_at x0 x1 x2 b t c) (ng_at x0 x1 x2 b t c))

theorem g_at (b : Fin 2) (t : Fin 2064) (c : Fin 1024) :
    val_main_v7 x0 (ix3 b t c) = (inp x0 x1 x2 b (c / 256 : ℕ)).g (112 + t) (c % 256 : ℕ) := by
  unfold val_main_v7 val_main_v6
  pointwise
  exact at2_at x0 _ _ (by simp only; omega) (by simp only; omega)

theorem dy_at (b : Fin 2) (t : Fin 2064) (c : Fin 1024) :
    val_main_v263 x2 (ix3 b t c) = (inp x0 x1 x2 b (c / 256 : ℕ)).dy (112 + t) (c % 256 : ℕ) := by
  unfold val_main_v263 val_main_v262 val_main_v261
  pointwise
  exact at2_at (R := 4352) (C := 2048) x2 _ _ (by simp only; omega) (by simp only; omega)

theorem sig_at (b : Fin 2) (t : Fin 2064) (c : Fin 1024) :
    val_main_v259_2 x0 (ix3 b t c) = (inp x0 x1 x2 b (c / 256 : ℕ)).sig (112 + t) (c % 256 : ℕ) := by
  unfold val_main_v259_2 val_main_call1_v4 val_main_call1_v3 val_main_call1_v2 val_main_call1_v1 val_main_call1_v0
    val_main_call1_cst val_main_call1_cst_0
  pointwise
  rw [g_at x0 x1 x2, Raw.sig]
  rfl

theorem dsig_at (b : Fin 2) (t : Fin 2064) (c : Fin 1024) :
    val_main_v259_1 x0 (ix3 b t c) = (inp x0 x1 x2 b (c / 256 : ℕ)).dsig (112 + t) (c % 256 : ℕ) := by
  have G : val_main_call1_v6 (F := Ideal) (ix3 b t c) = 1 := by
    unfold val_main_call1_v6 val_main_call1_cst_1
    pointwise
  rw [dsig]
  exact (val_main_v259_1_apply x0 _).trans (mul_of (sig_at x0 x1 x2 b t c)
    ((val_main_call1_v7_apply x0 _).trans (sub_of G (sig_at x0 x1 x2 b t c))))

theorem dz_at (b : Fin 2) (t : Fin 2064) (c : Fin 1024) :
    val_main_v264 x0 x2 (ix3 b t c) = (inp x0 x1 x2 b (c / 256 : ℕ)).dz (112 + t) (c % 256 : ℕ) := by
  rw [dz]
  exact (val_main_v264_apply x0 x2 _).trans (mul_of ((val_main_v259_0_apply x0 _).trans
    (mul_of (g_at x0 x1 x2 b t c) (sig_at x0 x1 x2 b t c))) (dy_at x0 x1 x2 b t c))

theorem dyx_at (b : Fin 2) (t : Fin 2064) (c : Fin 1024) :
    val_main_v265 x0 x1 x2 (ix3 b t c) = (inp x0 x1 x2 b (c / 256 : ℕ)).dyx (112 + t) (c % 256 : ℕ) := by
  rw [dyx]
  exact (val_main_v265_apply x0 x1 x2 _).trans (mul_of (dy_at x0 x1 x2 b t c) (z_at x0 x1 x2 b t c))

/-- The gate's gradient. -/
theorem gg_at (b : Fin 2) (t : Fin 2064) (c : Fin 1024) :
    val_main_v266 x0 x1 x2 (ix3 b t c) = (inp x0 x1 x2 b (c / 256 : ℕ)).gg (112 + t) (c % 256 : ℕ) := by
  rw [gg]
  exact (val_main_v266_apply x0 x1 x2 _).trans (add_of
    ((val_main_call2_v1_apply x0 x1 x2 _).trans (mul_of (dyx_at x0 x1 x2 b t c) (sig_at x0 x1 x2 b t c)))
    ((val_main_call2_v2_apply x0 x1 x2 _).trans (mul_of ((val_main_call2_v0_apply x0 x1 x2 _).trans
      (mul_of (g_at x0 x1 x2 b t c) (dyx_at x0 x1 x2 b t c))) (dsig_at x0 x1 x2 b t c))))

theorem dn3_at (b : Fin 2) (t : Fin 2064) (c : Fin 1024) :
    val_main_v271 x0 x1 x2 (ix3 b t c) = (inp x0 x1 x2 b (c / 256 : ℕ)).dn (112 + t) (c % 256 : ℕ) := by
  rw [dn]
  exact (val_main_v271_apply x0 x1 x2 _).trans (mul_of (dz_at x0 x1 x2 b t c) (ng_at x0 x1 x2 b t c))

theorem dn_at (b : Fin 2) (t : Fin 2064) (h : Fin 4) (e : Fin 256) :
    val_main_v273 x0 x1 x2 (ix4 b t h e) = (inp x0 x1 x2 b h).dn (112 + t) e := by
  unfold val_main_v273
  pointwise
  rw [dn3_at x0 x1 x2]
  simp only [show (h.val * 256 + e.val) / 256 = h.val by omega, show (h.val * 256 + e.val) % 256 = e.val by omega]

theorem ocdn_at (b : Fin 2) (t : Fin 2064) (h : Fin 4) :
    val_main_v275 x0 x1 x2 (ix3 b t h) = sm 256 fun e => (inp x0 x1 x2 b h).oc (112 + t) e * (inp x0 x1 x2 b h).dn (112 + t) e := by
  rw [val_main_v275_apply]
  refine red_of Ideal.ofBits_zero_f32 fun k => ?_
  rw [show idx_main_v275 (ix3 b t h) k = ix4 b t h k from
    funext fun a => match a with | ⟨0, _⟩ => rfl | ⟨1, _⟩ => rfl | ⟨2, _⟩ => rfl | ⟨3, _⟩ => rfl]
  exact (val_main_v274_apply x0 x1 x2 _).trans (mul_of (oc_at x0 x1 x2 b t h k) (dn_at x0 x1 x2 b t h k))

theorem ucol_at (b : Fin 2) (t : Fin 2064) (h : Fin 4) (j : Fin 1) :
    val_main_v281 x0 x1 x2 (ix4 b t h j) = (inp x0 x1 x2 b h).u (112 + t) := by
  have E : val_main_v276 x0 x1 x2 (ix4 b t h j) =
      sm 256 fun e => (inp x0 x1 x2 b h).oc (112 + t) e * (inp x0 x1 x2 b h).dn (112 + t) e := by
    unfold val_main_v276
    pointwise
    rw [ocdn_at x0 x1 x2]
  have G : val_main_v280 (F := Ideal) (ix4 b t h j) = cN := by
    unfold val_main_v280 val_main_cst_32
    pointwise
  rw [u]
  exact (val_main_v281_apply x0 x1 x2 _).trans (congrArg₂ Ideal.div ((val_main_v279_apply x0 x1 x2 _).trans
    (mul_of E (c3_at x0 x1 x2 b t h j))) G)

theorem u_at (b : Fin 2) (t : Fin 2064) (h : Fin 4) (e : Fin 256) :
    val_main_v283 x0 x1 x2 (ix4 b t h e) = (inp x0 x1 x2 b h).u (112 + t) := by
  have E : val_main_v282 x0 x1 x2 (ix3 b t h) = (inp x0 x1 x2 b h).u (112 + t) := by
    rw [val_main_v282_apply]
    refine (red_of (g := fun _ => (inp x0 x1 x2 b h).u (112 + t)) Ideal.ofBits_zero_f32 fun k => ?_).trans (sm_one _)
    rw [show idx_main_v282 (ix3 b t h) k = ix4 b t h k from
      funext fun a => match a with | ⟨0, _⟩ => rfl | ⟨1, _⟩ => rfl | ⟨2, _⟩ => rfl | ⟨3, _⟩ => rfl]
    exact ucol_at x0 x1 x2 b t h k
  unfold val_main_v283
  pointwise
  exact E

theorem w_at (b : Fin 2) (t : Fin 2064) (h : Fin 4) (e : Fin 256) :
    val_main_v287 x0 x1 x2 (ix4 b t h e) = (inp x0 x1 x2 b h).w (112 + t) e := by
  rw [w]
  exact (val_main_v287_apply x0 x1 x2 _).trans (add_of
    ((val_main_v285_apply x0 x1 x2 _).trans (add_of
      ((val_main_v278_apply x0 x1 x2 _).trans (mul_of (dn_at x0 x1 x2 b t h e) (rsb_at x0 x1 x2 b t h e)))
      ((val_main_v284_apply x0 x1 x2 _).trans (mul_of (oc_at x0 x1 x2 b t h e) (u_at x0 x1 x2 b t h e)))))
    ((val_main_v286_apply x0 x1 x2 _).trans (mul_of (u_at x0 x1 x2 b t h e) (oc_at x0 x1 x2 b t h e))))

theorem wsum_at (b : Fin 2) (t : Fin 2064) (h : Fin 4) :
    val_main_v289 x0 x1 x2 (ix3 b t h) = sm 256 fun e => -(inp x0 x1 x2 b h).w (112 + t) e := by
  rw [val_main_v289_apply]
  refine red_of Ideal.ofBits_zero_f32 fun k => ?_
  rw [show idx_main_v289 (ix3 b t h) k = ix4 b t h k from
    funext fun a => match a with | ⟨0, _⟩ => rfl | ⟨1, _⟩ => rfl | ⟨2, _⟩ => rfl | ⟨3, _⟩ => rfl]
  exact (val_main_v288_apply x0 x1 x2 _).trans (congrArg (fun y : EReal => -y) (w_at x0 x1 x2 b t h k))

theorem wcol_at (b : Fin 2) (t : Fin 2064) (h : Fin 4) (j : Fin 1) :
    val_main_v292 x0 x1 x2 (ix4 b t h j) = Ideal.div (sm 256 fun e => -(inp x0 x1 x2 b h).w (112 + t) e) cN := by
  unfold val_main_v292 val_main_v291 val_main_v290 val_main_cst_35
  pointwise
  rw [wsum_at x0 x1 x2]

theorem wmean_at (b : Fin 2) (t : Fin 2064) (h : Fin 4) (e : Fin 256) :
    val_main_v294 x0 x1 x2 (ix4 b t h e) = Ideal.div (sm 256 fun e => -(inp x0 x1 x2 b h).w (112 + t) e) cN := by
  have E : val_main_v293 x0 x1 x2 (ix3 b t h) = Ideal.div (sm 256 fun e => -(inp x0 x1 x2 b h).w (112 + t) e) cN := by
    rw [val_main_v293_apply]
    refine (red_of (g := fun _ => Ideal.div (sm 256 fun e => -(inp x0 x1 x2 b h).w (112 + t) e) cN) Ideal.ofBits_zero_f32
      fun k => ?_).trans (sm_one _)
    rw [show idx_main_v293 (ix3 b t h) k = ix4 b t h k from
      funext fun a => match a with | ⟨0, _⟩ => rfl | ⟨1, _⟩ => rfl | ⟨2, _⟩ => rfl | ⟨3, _⟩ => rfl]
    exact wcol_at x0 x1 x2 b t h k
  unfold val_main_v294
  pointwise
  exact E

/-- The gradient of the norm's input. -/
theorem dO_at (b : Fin 2) (t : Fin 2064) (h : Fin 4) (e : Fin 256) :
    val_main_v295 x0 x1 x2 (ix4 b t h e) = (inp x0 x1 x2 b h).dO (112 + t) e := by
  rw [dO]
  exact (val_main_v295_apply x0 x1 x2 _).trans (add_of (w_at x0 x1 x2 b t h e) (wmean_at x0 x1 x2 b t h e))

end Cert.Proof.Ret

end
-- ==== Proof.Bwd.lean ====
/- The reference's backward pass through the retention, row by row. -/
module

public import proofs.«01_k».proof.Proof.Nrm

@[expose] public section

set_option maxRecDepth 16384

noncomputable section

namespace Cert.Proof.Ret

open Cert.ReferenceIdeal Cert.ReferenceIdeal.Gen Cert.ReferenceIdeal.Read
open Idealize.ShloMosaic Idealize.ShloMosaic.TcCoe Idealize.ShloMosaic.Tactic
open Raw

/-- The gradient of the retention's output, zero on the padding. -/
def Raw.pd (a : Raw) (r e : ℕ) : EReal := if r < 112 then 0 else a.dO r e

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem pd_at (b : Fin 2) (n : Fin 17) (l : Fin 128) (h : Fin 4) (e : Fin 256) :
    val_main_v297 x0 x1 x2 (ix5 b n l h e) = (inp x0 x1 x2 b h).pd (128 * n + l) e := by
  unfold val_main_v297 val_main_v296 val_main_cst_37
  pointwise
  rw [Raw.pd]
  by_cases hr : n.val * 128 + l.val < 112
  · rw [dif_neg (by omega), if_pos (by omega)]
  · rw [dif_pos (by omega), if_neg (by omega), dO_at x0 x1 x2]
    simp only [row_of hr]

theorem dox_at (b : Fin 2) (n : Fin 17) (l : Fin 128) (h : Fin 4) (e : Fin 256) :
    val_main_v299 x0 x1 x2 (ix5 b n l h e) = (inp x0 x1 x2 b h).dox (inp x0 x1 x2 b h).pd (128 * n + l) e := by
  have E : val_main_v298 (F := Ideal) (ix5 b n l h e) = xiOf h l := by
    unfold val_main_v298
    pointwise
    rw [xi_at]
  rw [dox, inp_xi, md_of _ _ l.isLt]
  exact (val_main_v299_apply x0 x1 x2 _).trans (mul_of (pd_at x0 x1 x2 b n l h e) E)

theorem doxT_at (b : Fin 2) (n : Fin 17) (l : Fin 128) (h : Fin 4) (e : Fin 256) :
    val_main_v300 x0 x1 x2 (ix5 b n h e l) = (inp x0 x1 x2 b h).dox (inp x0 x1 x2 b h).pd (128 * n + l) e := by
  unfold val_main_v300
  pointwise
  rw [dox_at x0 x1 x2]

theorem pdT_at (b : Fin 2) (n : Fin 17) (l : Fin 128) (h : Fin 4) (e : Fin 256) :
    val_main_v376 x0 x1 x2 (ix5 b n h e l) = (inp x0 x1 x2 b h).pd (128 * n + l) e := by
  unfold val_main_v376
  pointwise
  rw [pd_at x0 x1 x2]

theorem ctr_at (b : Fin 2) (n : Fin 17) (h : Fin 4) (d e : Fin 256) :
    val_main_v304 x0 x1 x2 (ix5 b n h d e) = (inp x0 x1 x2 b h).ctr (inp x0 x1 x2 b h).pd n d e := by
  unfold val_main_v304
  pointwise
  rw [dot_303, ctr]
  exact Finset.sum_congr rfl fun l _ => by rw [doxT_at x0 x1 x2, qr_at x0 x1 x2]; exact mul_comm _ _

theorem c16_at (b : Fin 2) (n : Fin 16) (h : Fin 4) (d e : Fin 256) :
    val_main_v306 x0 x1 x2 (ix5 b n h d e) = (inp x0 x1 x2 b h).ctr (inp x0 x1 x2 b h).pd (1 + n) d e := by
  unfold val_main_v306
  pointwise
  rw [ctr_at x0 x1 x2]

/-- The gradient of the state after chunk `16 - k`, by batch element and head. -/
def stD (k b h : ℕ) : ℕ → ℕ → EReal := (inp x0 x1 x2 b h).D (inp x0 x1 x2 b h).pd k

/-- A sum with a product, at a place. -/
theorem mad_apply (Y Z X : Mat) (i : S2x1x4x256x256.Idx) :
    addf (F := Ideal) (φ := .f32) Y (mulf (F := Ideal) (φ := .f32) Z X) i =
      @HAdd.hAdd EReal EReal EReal _ (Y i) (@HMul.hMul EReal EReal EReal _ (Z i) (X i)) := rfl

/-- One chunk back. -/
theorem back_at (k i : ℕ) (hi : i < 16) (hk : k + i = 15) (hs : Shape.Slices S2x16x4x256x256 ![0, i, 0, 0, 0] S2x1x4x256x256) {X : Mat}
    (hX : Is (stD x0 x1 x2 k) X) :
    Is (stD x0 x1 x2 (k + 1)) (addf (F := Ideal) (φ := .f32)
      (extractStridedSlice S2x1x4x256x256 ![0, i, 0, 0, 0] (val_main_v306 (F := Ideal) x0 x1 x2) hs)
      (mulf (F := Ideal) (φ := .f32) (val_main_v156 (F := Ideal)) X)) := fun b j h d e => by
  rw [mad_apply, cdb_at, hX, cut_at _ i hi hs, c16_at x0 x1 x2, stD, stD, D, inp_cd, show 16 - k = 1 + i by omega]
  exact add_comm _ _

theorem isD_1 : Is (stD x0 x1 x2 1) (val_main_v322 x0 x1 x2) := fun b j h d e => by
  have E : val_main_v322 x0 x1 x2 (ix5 b j h d e) = (inp x0 x1 x2 b h).ctr (inp x0 x1 x2 b h).pd (1 + 15) d e :=
    (cut_at (val_main_v306 x0 x1 x2) 15 (by decide) _ b j h d e).trans (c16_at x0 x1 x2 b _ h d e)
  rw [E, stD, D, D, mul_zero, zero_add]

theorem isD_2 : Is (stD x0 x1 x2 2) (val_main_v325 x0 x1 x2) :=
  back_at x0 x1 x2 1 14 (by decide) rfl _ (isD_1 x0 x1 x2)
theorem isD_3 : Is (stD x0 x1 x2 3) (val_main_v328 x0 x1 x2) :=
  back_at x0 x1 x2 2 13 (by decide) rfl _ (isD_2 x0 x1 x2)
theorem isD_4 : Is (stD x0 x1 x2 4) (val_main_v331 x0 x1 x2) :=
  back_at x0 x1 x2 3 12 (by decide) rfl _ (isD_3 x0 x1 x2)
theorem isD_5 : Is (stD x0 x1 x2 5) (val_main_v334 x0 x1 x2) :=
  back_at x0 x1 x2 4 11 (by decide) rfl _ (isD_4 x0 x1 x2)
theorem isD_6 : Is (stD x0 x1 x2 6) (val_main_v337 x0 x1 x2) :=
  back_at x0 x1 x2 5 10 (by decide) rfl _ (isD_5 x0 x1 x2)
theorem isD_7 : Is (stD x0 x1 x2 7) (val_main_v340 x0 x1 x2) :=
  back_at x0 x1 x2 6 9 (by decide) rfl _ (isD_6 x0 x1 x2)
theorem isD_8 : Is (stD x0 x1 x2 8) (val_main_v343 x0 x1 x2) :=
  back_at x0 x1 x2 7 8 (by decide) rfl _ (isD_7 x0 x1 x2)
theorem isD_9 : Is (stD x0 x1 x2 9) (val_main_v346 x0 x1 x2) :=
  back_at x0 x1 x2 8 7 (by decide) rfl _ (isD_8 x0 x1 x2)
theorem isD_10 : Is (stD x0 x1 x2 10) (val_main_v349 x0 x1 x2) :=
  back_at x0 x1 x2 9 6 (by decide) rfl _ (isD_9 x0 x1 x2)
theorem isD_11 : Is (stD x0 x1 x2 11) (val_main_v352 x0 x1 x2) :=
  back_at x0 x1 x2 10 5 (by decide) rfl _ (isD_10 x0 x1 x2)
theorem isD_12 : Is (stD x0 x1 x2 12) (val_main_v355 x0 x1 x2) :=
  back_at x0 x1 x2 11 4 (by decide) rfl _ (isD_11 x0 x1 x2)
theorem isD_13 : Is (stD x0 x1 x2 13) (val_main_v358 x0 x1 x2) :=
  back_at x0 x1 x2 12 3 (by decide) rfl _ (isD_12 x0 x1 x2)
theorem isD_14 : Is (stD x0 x1 x2 14) (val_main_v361 x0 x1 x2) :=
  back_at x0 x1 x2 13 2 (by decide) rfl _ (isD_13 x0 x1 x2)
theorem isD_15 : Is (stD x0 x1 x2 15) (val_main_v364 x0 x1 x2) :=
  back_at x0 x1 x2 14 1 (by decide) rfl _ (isD_14 x0 x1 x2)
theorem isD_16 : Is (stD x0 x1 x2 16) (val_main_v367 x0 x1 x2) :=
  back_at x0 x1 x2 15 0 (by decide) rfl _ (isD_15 x0 x1 x2)

theorem Ds_at (b : Fin 2) (n : Fin 16) (h : Fin 4) (d e : Fin 256) :
    val_main_v368 x0 x1 x2 (ix5 b n h d e) = (inp x0 x1 x2 b h).D (inp x0 x1 x2 b h).pd (16 - n) d e := by
  have P : ∀ (k : ℕ) (X : Mat), Is (stD x0 x1 x2 (16 - k)) X → PieceAt (t := S2x16x4x256x256) (1 : Fin 5) (ix5 b n h d e)
      ((inp x0 x1 x2 b h).D (inp x0 x1 x2 b h).pd (16 - n) d e) S2x1x4x256x256 X k :=
    fun k X hX => piece_at hX k b n h d e fun hn => by rw [hn]; rfl
  exact concatenate_unit_eq _ _ _ _ _ rfl ⟨P 0 _ (isD_16 x0 x1 x2),
    P 1 _ (isD_15 x0 x1 x2),
    P 2 _ (isD_14 x0 x1 x2),
    P 3 _ (isD_13 x0 x1 x2),
    P 4 _ (isD_12 x0 x1 x2),
    P 5 _ (isD_11 x0 x1 x2),
    P 6 _ (isD_10 x0 x1 x2),
    P 7 _ (isD_9 x0 x1 x2),
    P 8 _ (isD_8 x0 x1 x2),
    P 9 _ (isD_7 x0 x1 x2),
    P 10 _ (isD_6 x0 x1 x2),
    P 11 _ (isD_5 x0 x1 x2),
    P 12 _ (isD_4 x0 x1 x2),
    P 13 _ (isD_3 x0 x1 x2),
    P 14 _ (isD_2 x0 x1 x2),
    P 15 _ (isD_1 x0 x1 x2), trivial⟩

theorem D_at (b : Fin 2) (n : Fin 17) (h : Fin 4) (d e : Fin 256) :
    val_main_v369 x0 x1 x2 (ix5 b n h d e) = (inp x0 x1 x2 b h).D (inp x0 x1 x2 b h).pd (16 - n) d e := by
  unfold val_main_v369 val_main_cst_38
  pointwise
  by_cases hn : n.val < 16
  · rw [dif_pos hn, Ds_at x0 x1 x2]
  · rw [dif_neg hn, show 16 - n.val = 0 by omega]
    rfl

/-! The three gradients of a row. -/

theorem dqx_at (b : Fin 2) (n : Fin 17) (h : Fin 4) (l : Fin 128) (d : Fin 256) :
    val_main_v302 x0 x1 x2 (ix5 b n l h d) =
      sm 256 fun e => (inp x0 x1 x2 b h).dox (inp x0 x1 x2 b h).pd (128 * n + l) e * (inp x0 x1 x2 b h).R n d e := by
  unfold val_main_v302
  pointwise
  rw [dot_301, sm]
  exact Finset.sum_congr rfl fun e _ => by rw [doxT_at x0 x1 x2, R_at x0 x1 x2]

theorem dS_at (b : Fin 2) (n : Fin 17) (h : Fin 4) (l s : Fin 128) :
    val_main_v383 x0 x1 x2 (ix5 b h n l s) = (inp x0 x1 x2 b h).dS (inp x0 x1 x2 b h).pd (128 * n + l) (128 * n + s) := by
  have E : val_main_v382 (F := Ideal) (ix5 b h n l s) = deOf h l s := by
    unfold val_main_v382 val_main_v110
    pointwise
    rw [de_at]
  have G : val_main_v378 x0 x1 x2 (ix5 b h n l s) =
      sm 256 fun e => (inp x0 x1 x2 b h).pd (128 * n + l) e * (inp x0 x1 x2 b h).vv (128 * n + s) e := by
    unfold val_main_v378
    pointwise
    rw [dot_377, sm]
    exact Finset.sum_congr rfl fun e _ => by rw [pdT_at x0 x1 x2, vv_at x0 x1 x2]
  rw [dS, inp_de, md_of _ _ l.isLt, md_of _ _ s.isLt]
  exact (val_main_v383_apply x0 x1 x2 _).trans (mul_of G E)

theorem dqr_at (b : Fin 2) (n : Fin 17) (h : Fin 4) (l : Fin 128) (d : Fin 256) :
    val_main_v389 x0 x1 x2 (ix5 b n l h d) = (inp x0 x1 x2 b h).dqr (inp x0 x1 x2 b h).pd (128 * n + l) d := by
  have G : val_main_v388 x0 x1 x2 (ix5 b n l h d) =
      sm 128 fun s => (inp x0 x1 x2 b h).dS (inp x0 x1 x2 b h).pd (128 * n + l) (128 * n + s) * (inp x0 x1 x2 b h).kr (128 * n + s) d := by
    unfold val_main_v388
    pointwise
    rw [dot_387, sm]
    exact Finset.sum_congr rfl fun s _ => by rw [dS_at x0 x1 x2, kr_at x0 x1 x2]
  rw [dqr, dv_of _ _ l.isLt]
  simp only [ch_of _ _ _ l.isLt]
  exact (val_main_v389_apply x0 x1 x2 _).trans (add_of (dqx_at x0 x1 x2 b n h l d) G)

theorem dkr_at (b : Fin 2) (n : Fin 17) (h : Fin 4) (s : Fin 128) (d : Fin 256) :
    val_main_v386 x0 x1 x2 (ix5 b n s h d) = (inp x0 x1 x2 b h).dkr (inp x0 x1 x2 b h).pd (128 * n + s) d := by
  have Z : val_main_v374 (F := Ideal) (ix5 b n s h d) = ztOf h s := by
    unfold val_main_v374
    pointwise
    rw [zt_at]
  have E : val_main_v373 x0 x1 x2 (ix5 b n s h d) =
      sm 256 fun e => (inp x0 x1 x2 b h).vv (128 * n + s) e * (inp x0 x1 x2 b h).D (inp x0 x1 x2 b h).pd (16 - n) d e := by
    unfold val_main_v373
    pointwise
    rw [dot_372, sm]
    exact Finset.sum_congr rfl fun e _ => by rw [D_at x0 x1 x2, vv_at x0 x1 x2]; exact mul_comm _ _
  have G : val_main_v385 x0 x1 x2 (ix5 b n s h d) =
      sm 128 fun l => (inp x0 x1 x2 b h).dS (inp x0 x1 x2 b h).pd (128 * n + l) (128 * n + s) * (inp x0 x1 x2 b h).qr (128 * n + l) d := by
    unfold val_main_v385
    pointwise
    rw [dot_384, sm]
    exact Finset.sum_congr rfl fun l _ => by rw [dS_at x0 x1 x2, qr_at x0 x1 x2]
  rw [dkr, inp_zt, md_of _ _ s.isLt, dv_of _ _ s.isLt]
  simp only [ch_of _ _ _ s.isLt]
  exact (val_main_v386_apply x0 x1 x2 _).trans (add_of ((val_main_v375_apply x0 x1 x2 _).trans (mul_of E Z)) G)

theorem dvv_at (b : Fin 2) (n : Fin 17) (h : Fin 4) (s : Fin 128) (e : Fin 256) :
    val_main_v381 x0 x1 x2 (ix5 b n s h e) = (inp x0 x1 x2 b h).dvv (inp x0 x1 x2 b h).pd (128 * n + s) e := by
  have E : val_main_v371 x0 x1 x2 (ix5 b n s h e) =
      sm 256 fun d => (inp x0 x1 x2 b h).kz (128 * n + s) d * (inp x0 x1 x2 b h).D (inp x0 x1 x2 b h).pd (16 - n) d e := by
    unfold val_main_v371
    pointwise
    rw [dot_370, sm]
    exact Finset.sum_congr rfl fun d _ => by rw [D_at x0 x1 x2, kz_at x0 x1 x2]; exact mul_comm _ _
  have G : val_main_v380 x0 x1 x2 (ix5 b n s h e) =
      sm 128 fun l => (inp x0 x1 x2 b h).sc (128 * n + l) (128 * n + s) * (inp x0 x1 x2 b h).pd (128 * n + l) e := by
    unfold val_main_v380
    pointwise
    rw [dot_379, sm]
    exact Finset.sum_congr rfl fun l _ => by rw [pdT_at x0 x1 x2, sc_at x0 x1 x2]; exact mul_comm _ _
  rw [dvv, dv_of _ _ s.isLt]
  simp only [ch_of _ _ _ s.isLt]
  exact (val_main_v381_apply x0 x1 x2 _).trans (add_of E G)

/-! At a token. -/

/-- The row of a token, from its chunk and its place in it. -/
theorem tok_of (t : Fin 2064) : 128 * ((112 + t.val) / 128) + (112 + t.val) % 128 = 112 + t.val := by omega

theorem dqt_at (b : Fin 2) (t : Fin 2064) (h : Fin 4) (d : Fin 256) :
    val_main_v398 x0 x1 x2 (ix4 b t h d) = (inp x0 x1 x2 b h).dqr (inp x0 x1 x2 b h).pd (112 + t) d := by
  unfold val_main_v398 val_main_v396
  pointwise
  rw [dqr_at x0 x1 x2]
  simp only [tok_of]

theorem dkt_at (b : Fin 2) (t : Fin 2064) (h : Fin 4) (d : Fin 256) :
    val_main_v401 x0 x1 x2 (ix4 b t h d) = (inp x0 x1 x2 b h).dkr (inp x0 x1 x2 b h).pd (112 + t) d * cSc := by
  have E : val_main_v395 x0 x1 x2 (ix4 b t h d) = (inp x0 x1 x2 b h).dkr (inp x0 x1 x2 b h).pd (112 + t) d := by
    unfold val_main_v395 val_main_v393
    pointwise
    rw [dkr_at x0 x1 x2]
    simp only [tok_of]
  have G : val_main_v400 (F := Ideal) (ix4 b t h d) = cSc := by
    unfold val_main_v400 val_main_cst_39
    pointwise
  exact (val_main_v401_apply x0 x1 x2 _).trans (mul_of E G)

theorem dvt_at (b : Fin 2) (t : Fin 2064) (h : Fin 4) (d : Fin 256) :
    val_main_v392 x0 x1 x2 (ix4 b t h d) = (inp x0 x1 x2 b h).dvv (inp x0 x1 x2 b h).pd (112 + t) d := by
  unfold val_main_v392 val_main_v390
  pointwise
  rw [dvv_at x0 x1 x2]
  simp only [tok_of]

theorem gq_lo (b : Fin 2) (t : Fin 2064) (h : Fin 4) (j : Fin 128) :
    val_main_v419 x0 x1 x2 (ix4 b t h j) = (inp x0 x1 x2 b h).dqr (inp x0 x1 x2 b h).pd (112 + t) j := by
  unfold val_main_v419
  pointwise
  rw [dqt_at x0 x1 x2]

theorem gq_hi (b : Fin 2) (t : Fin 2064) (h : Fin 4) (j : Fin 128) :
    val_main_v420 x0 x1 x2 (ix4 b t h j) = (inp x0 x1 x2 b h).dqr (inp x0 x1 x2 b h).pd (112 + t) (128 + j) := by
  unfold val_main_v420
  pointwise
  rw [dqt_at x0 x1 x2]

theorem gq_cos (b : Fin 2) (t : Fin 2064) (h : Fin 4) (j : Fin 128) :
    val_main_v421 (F := Ideal) (ix4 b t h j) = (inp x0 x1 x2 b h).cs (112 + t) j := by
  unfold val_main_v421
  pointwise
  rw [cos_at x0 x1 x2 b h]

theorem gq_sin (b : Fin 2) (t : Fin 2064) (h : Fin 4) (j : Fin 128) :
    val_main_v423 (F := Ideal) (ix4 b t h j) = (inp x0 x1 x2 b h).sn (112 + t) j := by
  unfold val_main_v423
  pointwise
  rw [sin_at x0 x1 x2 b h]

theorem gq_up (b : Fin 2) (t : Fin 2064) (h : Fin 4) (j : Fin 128) :
    val_main_v428 x0 x1 x2 (ix4 b t h j) = (inp x0 x1 x2 b h).dqr (inp x0 x1 x2 b h).pd (112 + t) (128 + j) * (inp x0 x1 x2 b h).cs (112 + t) j
      + -((inp x0 x1 x2 b h).dqr (inp x0 x1 x2 b h).pd (112 + t) j) * (inp x0 x1 x2 b h).sn (112 + t) j :=
  (val_main_v428_apply x0 x1 x2 _).trans (add_of
    ((val_main_v422_apply x0 x1 x2 _).trans (mul_of (gq_hi x0 x1 x2 b t h j) (gq_cos x0 x1 x2 b t h j)))
    ((val_main_v427_apply x0 x1 x2 _).trans (mul_of ((val_main_v425_apply x0 x1 x2 _).trans
      (congrArg (fun y : EReal => -y) (gq_lo x0 x1 x2 b t h j))) (gq_sin x0 x1 x2 b t h j))))

theorem gq_dn (b : Fin 2) (t : Fin 2064) (h : Fin 4) (j : Fin 128) :
    val_main_v431 x0 x1 x2 (ix4 b t h j) = (inp x0 x1 x2 b h).dqr (inp x0 x1 x2 b h).pd (112 + t) (128 + j) * (inp x0 x1 x2 b h).sn (112 + t) j
      + (inp x0 x1 x2 b h).dqr (inp x0 x1 x2 b h).pd (112 + t) j * (inp x0 x1 x2 b h).cs (112 + t) j :=
  (val_main_v431_apply x0 x1 x2 _).trans (add_of
    ((val_main_v424_apply x0 x1 x2 _).trans (mul_of (gq_hi x0 x1 x2 b t h j) (gq_sin x0 x1 x2 b t h j)))
    ((val_main_v430_apply x0 x1 x2 _).trans (mul_of (gq_lo x0 x1 x2 b t h j) (gq_cos x0 x1 x2 b t h j))))

theorem gq_tok (b : Fin 2) (t : Fin 2064) (h : Fin 4) (d : Fin 256) :
    val_main_v434 x0 x1 x2 (ix4 b t h d) = (inp x0 x1 x2 b h).gq (inp x0 x1 x2 b h).pd (112 + t) d := by
  have hm : msk (112 + t.val) = 1 := msk_tok (by omega)
  by_cases hd : d.val < 128
  · have E : val_main_v432 x0 x1 x2 (ix4 b t h d) = 0 := by
      unfold val_main_v432 val_main_cst_42
      pointwise
      exact dif_neg (by omega)
    have G : val_main_v433 x0 x1 x2 (ix4 b t h d) = val_main_v431 x0 x1 x2 (ix4 b t h ⟨d.val, hd⟩) := by
      unfold val_main_v433
      pointwise
      exact dif_pos hd
    refine (val_main_v434_apply x0 x1 x2 _).trans ((add_of E (G.trans (gq_dn x0 x1 x2 b t h ⟨d.val, hd⟩))).trans ?_)
    rw [gq, unrot, if_pos hd, hm, one_mul, one_mul, zero_add]
  · have E : val_main_v432 x0 x1 x2 (ix4 b t h d) = val_main_v428 x0 x1 x2 (ix4 b t h ⟨d.val - 128, by omega⟩) := by
      unfold val_main_v432
      pointwise
      exact dif_pos (by omega)
    have G : val_main_v433 x0 x1 x2 (ix4 b t h d) = 0 := by
      unfold val_main_v433 val_main_cst_43
      pointwise
      exact dif_neg hd
    refine (val_main_v434_apply x0 x1 x2 _).trans ((add_of (E.trans (gq_up x0 x1 x2 b t h ⟨d.val - 128, by omega⟩)) G).trans ?_)
    rw [gq, unrot, if_neg hd, hm, one_mul, one_mul, add_zero]
    simp only [Nat.add_sub_of_le (not_lt.1 hd)]

theorem gk_lo (b : Fin 2) (t : Fin 2064) (h : Fin 4) (j : Fin 128) :
    val_main_v402 x0 x1 x2 (ix4 b t h j) = ((inp x0 x1 x2 b h).dkr (inp x0 x1 x2 b h).pd (112 + t) j * cSc) := by
  unfold val_main_v402
  pointwise
  rw [dkt_at x0 x1 x2]

theorem gk_hi (b : Fin 2) (t : Fin 2064) (h : Fin 4) (j : Fin 128) :
    val_main_v403 x0 x1 x2 (ix4 b t h j) = ((inp x0 x1 x2 b h).dkr (inp x0 x1 x2 b h).pd (112 + t) (128 + j) * cSc) := by
  unfold val_main_v403
  pointwise
  rw [dkt_at x0 x1 x2]

theorem gk_cos (b : Fin 2) (t : Fin 2064) (h : Fin 4) (j : Fin 128) :
    val_main_v404 (F := Ideal) (ix4 b t h j) = (inp x0 x1 x2 b h).cs (112 + t) j := by
  unfold val_main_v404
  rw [cos_eq]
  pointwise
  rw [cos_at x0 x1 x2 b h]

theorem gk_sin (b : Fin 2) (t : Fin 2064) (h : Fin 4) (j : Fin 128) :
    val_main_v406 (F := Ideal) (ix4 b t h j) = (inp x0 x1 x2 b h).sn (112 + t) j := by
  unfold val_main_v406
  rw [sin_eq]
  pointwise
  rw [sin_at x0 x1 x2 b h]

theorem gk_up (b : Fin 2) (t : Fin 2064) (h : Fin 4) (j : Fin 128) :
    val_main_v411 x0 x1 x2 (ix4 b t h j) = ((inp x0 x1 x2 b h).dkr (inp x0 x1 x2 b h).pd (112 + t) (128 + j) * cSc) * (inp x0 x1 x2 b h).cs (112 + t) j
      + -(((inp x0 x1 x2 b h).dkr (inp x0 x1 x2 b h).pd (112 + t) j * cSc)) * (inp x0 x1 x2 b h).sn (112 + t) j :=
  (val_main_v411_apply x0 x1 x2 _).trans (add_of
    ((val_main_v405_apply x0 x1 x2 _).trans (mul_of (gk_hi x0 x1 x2 b t h j) (gk_cos x0 x1 x2 b t h j)))
    ((val_main_v410_apply x0 x1 x2 _).trans (mul_of ((val_main_v408_apply x0 x1 x2 _).trans
      (congrArg (fun y : EReal => -y) (gk_lo x0 x1 x2 b t h j))) (gk_sin x0 x1 x2 b t h j))))

theorem gk_dn (b : Fin 2) (t : Fin 2064) (h : Fin 4) (j : Fin 128) :
    val_main_v414 x0 x1 x2 (ix4 b t h j) = ((inp x0 x1 x2 b h).dkr (inp x0 x1 x2 b h).pd (112 + t) (128 + j) * cSc) * (inp x0 x1 x2 b h).sn (112 + t) j
      + ((inp x0 x1 x2 b h).dkr (inp x0 x1 x2 b h).pd (112 + t) j * cSc) * (inp x0 x1 x2 b h).cs (112 + t) j :=
  (val_main_v414_apply x0 x1 x2 _).trans (add_of
    ((val_main_v407_apply x0 x1 x2 _).trans (mul_of (gk_hi x0 x1 x2 b t h j) (gk_sin x0 x1 x2 b t h j)))
    ((val_main_v413_apply x0 x1 x2 _).trans (mul_of (gk_lo x0 x1 x2 b t h j) (gk_cos x0 x1 x2 b t h j))))

theorem gk_tok (b : Fin 2) (t : Fin 2064) (h : Fin 4) (d : Fin 256) :
    val_main_v417 x0 x1 x2 (ix4 b t h d) = (inp x0 x1 x2 b h).gk (inp x0 x1 x2 b h).pd (112 + t) d := by
  have hm : msk (112 + t.val) = 1 := msk_tok (by omega)
  by_cases hd : d.val < 128
  · have E : val_main_v415 x0 x1 x2 (ix4 b t h d) = 0 := by
      unfold val_main_v415 val_main_cst_40
      pointwise
      exact dif_neg (by omega)
    have G : val_main_v416 x0 x1 x2 (ix4 b t h d) = val_main_v414 x0 x1 x2 (ix4 b t h ⟨d.val, hd⟩) := by
      unfold val_main_v416
      pointwise
      exact dif_pos hd
    refine (val_main_v417_apply x0 x1 x2 _).trans ((add_of E (G.trans (gk_dn x0 x1 x2 b t h ⟨d.val, hd⟩))).trans ?_)
    rw [gk, unrot, if_pos hd, hm, one_mul, one_mul, zero_add]
  · have E : val_main_v415 x0 x1 x2 (ix4 b t h d) = val_main_v411 x0 x1 x2 (ix4 b t h ⟨d.val - 128, by omega⟩) := by
      unfold val_main_v415
      pointwise
      exact dif_pos (by omega)
    have G : val_main_v416 x0 x1 x2 (ix4 b t h d) = 0 := by
      unfold val_main_v416 val_main_cst_41
      pointwise
      exact dif_neg hd
    refine (val_main_v417_apply x0 x1 x2 _).trans ((add_of (E.trans (gk_up x0 x1 x2 b t h ⟨d.val - 128, by omega⟩)) G).trans ?_)
    rw [gk, unrot, if_neg hd, hm, one_mul, one_mul, add_zero]
    simp only [Nat.add_sub_of_le (not_lt.1 hd)]

theorem pd_tok (a : Raw) : ∀ r, ¬ r < 112 → ∀ e, a.pd r e = a.dO r e := fun r hr e => if_neg hr

/-- The row of a place behind the padding. -/
theorem back_of {i : ℕ} (h : ¬ i % 2176 < 112) : 112 + (i % 2176 - 112) = i % 2176 := by omega

/-! The results: the tokens' rows behind the padding's zeros. -/

theorem out_dq (i : Fin 4352) (c : Fin 1024) : val_main_v439 x0 x1 x2 (ix2 i c) =
    (inp x0 x1 x2 (i.val / 2176) (c.val / 256)).gq (inp x0 x1 x2 (i.val / 2176) (c.val / 256)).dO (i.val % 2176) (c.val % 256) := by
  unfold val_main_v439 val_main_v438 val_main_v437 val_main_v436 val_main_v435 val_main_cst_44
  pointwise
  by_cases hr : i.val % 2176 < 112
  · rw [dif_pos hr, gq_pad _ _ hr]
  · rw [dif_neg hr, gq_tok x0 x1 x2]
    simp only [back_of hr]
    exact gq_congr _ (pd_tok _) hr _

theorem out_dk (i : Fin 4352) (c : Fin 1024) : val_main_v443 x0 x1 x2 (ix2 i c) =
    (inp x0 x1 x2 (i.val / 2176) (c.val / 256)).gk (inp x0 x1 x2 (i.val / 2176) (c.val / 256)).dO (i.val % 2176) (c.val % 256) := by
  unfold val_main_v443 val_main_v442 val_main_v441 val_main_v440 val_main_v418 val_main_cst_45
  pointwise
  by_cases hr : i.val % 2176 < 112
  · rw [dif_pos hr, gk_pad _ _ hr]
  · rw [dif_neg hr, gk_tok x0 x1 x2]
    simp only [back_of hr]
    exact gk_congr _ (pd_tok _) _ _

theorem out_dv (i : Fin 4352) (c : Fin 1024) : val_main_v447 x0 x1 x2 (ix2 i c) =
    (inp x0 x1 x2 (i.val / 2176) (c.val / 256)).gv (inp x0 x1 x2 (i.val / 2176) (c.val / 256)).dO (i.val % 2176) (c.val % 256) := by
  unfold val_main_v447 val_main_v446 val_main_v445 val_main_v444 val_main_v399 val_main_cst_46
  pointwise
  by_cases hr : i.val % 2176 < 112
  · rw [dif_pos hr, gv_pad _ _ hr]
  · rw [dif_neg hr, dvt_at x0 x1 x2, ← gv_congr _ (pd_tok _), gv, msk_tok hr, one_mul]
    simp only [back_of hr]

theorem out_dg (i : Fin 4352) (c : Fin 1024) : val_main_v451 x0 x1 x2 (ix2 i c) =
    (inp x0 x1 x2 (i.val / 2176) (c.val / 256)).gg (i.val % 2176) (c.val % 256) := by
  unfold val_main_v451 val_main_v450 val_main_v449 val_main_v448 val_main_cst_47
  pointwise
  by_cases hr : i.val % 2176 < 112
  · rw [dif_pos hr, gg_pad _ hr]
  · rw [dif_neg hr, gg_at x0 x1 x2]
    simp only [back_of hr]

end Cert.Proof.Ret

end
-- ==== Proof.Scale.lean ====
/- The reference's gradient of the norm's scale: a sum over all rows of both batch elements. -/
module

public import proofs.«01_k».proof.Proof.Bwd

@[expose] public section

set_option maxRecDepth 16384

noncomputable section

namespace Cert.Proof.Ret

open Cert.ReferenceIdeal Cert.ReferenceIdeal.Gen Cert.ReferenceIdeal.Read
open Idealize.ShloMosaic Idealize.ShloMosaic.TcCoe Idealize.ShloMosaic.Tactic
open Raw

/-- A sum over the first two of three axes. -/
theorem sum_front {n0 n1 n2 : ℕ} (h : (⟨3, ![n0, n1, n2]⟩ : Shape).ReducesTo [0, 1] ⟨1, ![n2]⟩)
    (v : (⟨3, ![n0, n1, n2]⟩ : Shape).Idx → EReal) (s : EReal) (c : Fin n2) :
    Ideal.hostReduceAdd h v s (ix1 c) = s + ∑ b : Fin n0, ∑ t : Fin n1, v (ix3 b t c) := by
  unfold Ideal.hostReduceAdd
  refine congrArg (fun y : EReal => s + y) ?_
  rw [← Fintype.sum_prod_type' (f := fun (b : Fin n0) (t : Fin n1) => v (ix3 b t c))]
  have hd : ∀ i : (⟨3, ![n0, n1, n2]⟩ : Shape).Idx, (h.drop i (0 : Fin 1)).val = (i (2 : Fin 3)).val := fun i =>
    h.drop_apply_val_of_eq i (0 : Fin 1) (2 : Fin 3) (by exact Nat.zero_lt_one) rfl
  refine Finset.sum_bij' (fun i _ => ((i (0 : Fin 3) : Fin n0), (i (1 : Fin 3) : Fin n1))) (fun p _ => ix3 p.1 p.2 c)
    (fun _ _ => Finset.mem_univ _) (fun p _ => ?_) (fun i hi => ?_) (fun p _ => rfl) (fun i hi => ?_)
  · refine Finset.mem_filter.2 ⟨Finset.mem_univ _, funext fun a => Fin.ext ?_⟩
    match a with
    | ⟨0, _⟩ => exact hd _
  · have e : (i (2 : Fin 3)).val = c.val := (hd i).symm.trans (congrArg (fun j => (j (0 : Fin 1)).val) (Finset.mem_filter.1 hi).2)
    exact funext fun a => Fin.ext (match a with | ⟨0, _⟩ => rfl | ⟨1, _⟩ => rfl | ⟨2, _⟩ => e.symm)
  · have e : (i (2 : Fin 3)).val = c.val := (hd i).symm.trans (congrArg (fun j => (j (0 : Fin 1)).val) (Finset.mem_filter.1 hi).2)
    exact congrArg v (funext fun a => Fin.ext (match a with | ⟨0, _⟩ => rfl | ⟨1, _⟩ => rfl | ⟨2, _⟩ => e))

/-- The same of the host's reduction, from a zero. -/
theorem host_front {n0 n1 n2 : ℕ} (h : (⟨3, ![n0, n1, n2]⟩ : Shape).ReducesTo [0, 1] ⟨1, ![n2]⟩)
    (x : FVec Ideal ⟨3, ![n0, n1, n2]⟩ .f32) (z : FVec Ideal ⟨0, ![]⟩ .f32) (hu : 0 < (⟨0, ![]⟩ : Shape).numel)
    (hz : z (Shape.Idx.first hu) = (0 : EReal)) (f : Fin n0 → Fin n1 → EReal) (c : Fin n2)
    (hf : ∀ b t, x (ix3 b t c) = f b t) : Host.reduceAdd x z h hu (ix1 c) = ∑ b : Fin n0, ∑ t : Fin n1, f b t := by
  refine (ValueIdx.hostReduceAdd_apply x z h hu (ix1 c)).trans ((sum_front h x _ c).trans ?_)
  rw [hz, zero_add]
  exact Finset.sum_congr rfl fun b _ => Finset.sum_congr rfl fun t _ => hf b t

/-- Rows chunk by chunk are all the rows. -/
theorem sm_chunks (f : ℕ → EReal) : (sm 17 fun n => sm 128 fun l => f (128 * n + l)) = sm 2176 f := by
  have e : sm 2176 f = ∑ p : Fin 17 × Fin 128, f (finProdFinEquiv p).val :=
    (Equiv.sum_comp (finProdFinEquiv (m := 17) (n := 128)) fun k : Fin (17 * 128) => f k.val).symm
  rw [e, Fintype.sum_prod_type]
  refine Finset.sum_congr rfl fun n _ => Finset.sum_congr rfl fun l _ => congrArg f ?_
  show 128 * n.val + l.val = l.val + 128 * n.val
  exact Nat.add_comm _ _

/-- Rows of which the padding contributes nothing are the tokens. -/
theorem sm_tokens (f : ℕ → EReal) (h : ∀ r < 112, f r = 0) : sm 2176 f = sm 2064 fun t => f (112 + t) := by
  have e : sm 2176 f = (∑ i : Fin 112, f i.val) + ∑ i : Fin 2064, f (112 + i.val) :=
    Fin.sum_univ_add (a := 112) (b := 2064) fun k : Fin (112 + 2064) => f k.val
  rw [e, Finset.sum_eq_zero fun i _ => h i.val i.isLt, zero_add]
  rfl

theorem gn_eq (a : Raw) (e : ℕ) : a.gn e = sm 2064 fun t => a.nrm (112 + t) e * a.dz (112 + t) e := by
  rw [← sm_tokens (fun r => a.nrm r e * a.dz r e) fun r hr => by rw [a.nrm_pad hr, zero_mul], ← sm_chunks]
  rfl

variable (x0 : (⟨S4352x8192, .f32⟩ : BufTy).Contents (Elt Ideal)) (x1 : (⟨S1024, .f32⟩ : BufTy).Contents (Elt Ideal))
  (x2 : (⟨S4352x2048, .bf16⟩ : BufTy).Contents (Elt Ideal))

theorem gnterm_at (b : Fin 2) (t : Fin 2064) (c : Fin 1024) : val_main_v267 x0 x2 (ix3 b t c) =
    (inp x0 x1 x2 b (c.val / 256)).nrm (112 + t.val) (c.val % 256) * (inp x0 x1 x2 b (c.val / 256)).dz (112 + t.val) (c.val % 256) :=
  (val_main_v267_apply x0 x2 _).trans (mul_of (nrm3_at x0 x1 x2 b t c) (dz_at x0 x1 x2 b t c))

/-- Terms that are a head's own sum to that head's gradient. -/
theorem gn_of (a : Raw) (e : ℕ) (f : Fin 2064 → EReal) (h : ∀ t : Fin 2064, f t = a.nrm (112 + t.val) e * a.dz (112 + t.val) e) :
    (∑ t : Fin 2064, f t) = a.gn e := by
  rw [gn_eq, sm]
  exact Finset.sum_congr rfl fun t _ => h t

theorem gnsum_at (c : Fin 1024) : val_main_v268 x0 x2 (ix1 c) =
    (inp x0 x1 x2 0 (c.val / 256)).gn (c.val % 256) + (inp x0 x1 x2 1 (c.val / 256)).gn (c.val % 256) := by
  refine (host_front (n0 := 2) (n1 := 2064) (n2 := 1024) reducesTo_S2x2064x1024_S1024_d0_1 (val_main_v267 x0 x2) (val_main_cst_29 (F := Ideal)) h_S_
    Ideal.ofBits_zero_f32 _ c fun b t => gnterm_at x0 x1 x2 b t c).trans ?_
  refine (Fin.sum_univ_two _).trans (add_of ?_ ?_)
  · exact gn_of (inp x0 x1 x2 0 (c.val / 256)) (c.val % 256) _ fun _ => rfl
  · exact gn_of (inp x0 x1 x2 1 (c.val / 256)) (c.val % 256) _ fun _ => rfl

theorem gnone_at (b t : Fin 1) (c : Fin 1024) : val_main_v269 x0 x2 (ix3 b t c) = val_main_v268 x0 x2 (ix1 c) := by
  unfold val_main_v269
  show shapeCast _ (val_main_v268 x0 x2) shapeCasts_S1024_S1x1x1024 (ix3 b t c) = _
  pointwise

theorem out_dng (z : Fin 1) (c : Fin 1024) : val_main_v452 x0 x2 (ix2 z c) =
    (inp x0 x1 x2 0 (c.val / 256)).gn (c.val % 256) + (inp x0 x1 x2 1 (c.val / 256)).gn (c.val % 256) := by
  have B : val_main_v452 x0 x2 (ix2 z c) = val_main_v272 x0 x2 (ix1 c) := by
    unfold val_main_v452
    pointwise
  refine B.trans ((host_front (n0 := 1) (n1 := 1) (n2 := 1024) reducesTo_S1x1x1024_S1024_d0_1 (val_main_v269 x0 x2) (val_main_cst_30 (F := Ideal)) h_S_
    Ideal.ofBits_zero_f32 _ c fun b t => (gnone_at x0 x2 b t c).trans (gnsum_at x0 x1 x2 c)).trans ?_)
  rw [Fin.sum_univ_one, Fin.sum_univ_one]

end Cert.Proof.Ret

end
-- ==== Proof.Value.lean ====
/- The kernel's five gradients are the reference's: the arrays both leave, and the two runs side by side. -/
module

public import proofs.«01_k».proof.Defs
public import proofs.«01_k».proof.Proof.Gen.ReferenceIdeal.Run
public import proofs.«01_k».proof.Proof.Arr
public import proofs.«01_k».proof.Proof.Scale

@[expose] public section

set_option maxRecDepth 16384

noncomputable section

namespace Cert.Proof.Ret

open Cert.ReferenceIdeal.Read
open Idealize.ShloMosaic Idealize.ShloMosaic.TcCoe Idealize.ShloMosaic.Tactic
open Idealize.SL Idealize.SL.Sem
open Raw

/-- An index of two axes is the pair of its coordinates. -/
theorem idx_two {n0 n1 : ℕ} (i : (⟨2, ![n0, n1]⟩ : Shape).Idx) : i = ix2 (i 0) (i 1) :=
  funext fun a => match a with
    | ⟨0, _⟩ => rfl
    | ⟨1, _⟩ => rfl

section Reference

variable (x0 : (⟨Cert.ReferenceIdeal.S4352x8192, .f32⟩ : BufTy).Contents (Elt Ideal))
  (x1 : (⟨Cert.ReferenceIdeal.S1024, .f32⟩ : BufTy).Contents (Elt Ideal))
  (x2 : (⟨Cert.ReferenceIdeal.S4352x2048, .bf16⟩ : BufTy).Contents (Elt Ideal))

/-- The head and batch element a row and a column of a result belong to. -/
abbrev own (r d : ℕ) : Raw := inp x0 x1 x2 (r / 2176) (d / 256)

theorem ref_dq : val_main_v439 x0 x1 x2 = fun i => (own x0 x1 x2 (i 0).val (i 1).val).gq
    (own x0 x1 x2 (i 0).val (i 1).val).dO ((i 0).val % 2176) ((i 1).val % 256) :=
  funext fun i => (congrArg (val_main_v439 x0 x1 x2) (idx_two i)).trans (out_dq x0 x1 x2 (i 0) (i 1))

theorem ref_dk : val_main_v443 x0 x1 x2 = fun i => (own x0 x1 x2 (i 0).val (i 1).val).gk
    (own x0 x1 x2 (i 0).val (i 1).val).dO ((i 0).val % 2176) ((i 1).val % 256) :=
  funext fun i => (congrArg (val_main_v443 x0 x1 x2) (idx_two i)).trans (out_dk x0 x1 x2 (i 0) (i 1))

theorem ref_dv : val_main_v447 x0 x1 x2 = fun i => (own x0 x1 x2 (i 0).val (i 1).val).gv
    (own x0 x1 x2 (i 0).val (i 1).val).dO ((i 0).val % 2176) ((i 1).val % 256) :=
  funext fun i => (congrArg (val_main_v447 x0 x1 x2) (idx_two i)).trans (out_dv x0 x1 x2 (i 0) (i 1))

theorem ref_dg : val_main_v451 x0 x1 x2 = fun i => (own x0 x1 x2 (i 0).val (i 1).val).gg
    ((i 0).val % 2176) ((i 1).val % 256) :=
  funext fun i => (congrArg (val_main_v451 x0 x1 x2) (idx_two i)).trans (out_dg x0 x1 x2 (i 0) (i 1))

theorem ref_dng : val_main_v452 x0 x2 = fun i => (inp x0 x1 x2 0 ((i 1).val / 256)).gn ((i 1).val % 256)
    + (inp x0 x1 x2 1 ((i 1).val / 256)).gn ((i 1).val % 256) :=
  funext fun i => (congrArg (val_main_v452 x0 x2) (idx_two i)).trans (out_dng x0 x1 x2 (i 0) (i 1))

end Reference

section Kernel

open Cert.KernelIdeal Cert.KernelIdeal.Gen

variable (m : (ℓ : Loc nD τ sig) → Buf (Elt Ideal) ℓ) (ρ : Dev nD → PrngReg) (c : Dev nD)

theorem eq_dq : val_main_v439 (A0 m c) (A1 m c) (A2 m c) = (dats m 0 c).arrAt 12 cfg0.N :=
  (ref_dq _ _ _).trans (arr_dq m c).symm
theorem eq_dk : val_main_v443 (A0 m c) (A1 m c) (A2 m c) = (dats m 0 c).arrAt 13 cfg0.N :=
  (ref_dk _ _ _).trans (arr_dk m c).symm
theorem eq_dv : val_main_v447 (A0 m c) (A1 m c) (A2 m c) = (dats m 0 c).arrAt 14 cfg0.N :=
  (ref_dv _ _ _).trans (arr_dv m c).symm
theorem eq_dg : val_main_v451 (A0 m c) (A1 m c) (A2 m c) = (dats m 0 c).arrAt 15 cfg0.N :=
  (ref_dg _ _ _).trans (arr_dg m c).symm
theorem eq_dng : val_main_v452 (A0 m c) (A2 m c) = (dats m 0 c).arrAt 16 cfg0.N :=
  (ref_dng _ (A1 m c) _).trans (arr_dng m c).symm

/-- The kernel's run with its results named. -/
theorem run_value : θ_run defs (onTc (τ := τ) (main (F := Ideal))) ⟨m, fun _ => 0, ρ⟩ (fun r => ∀ c : Dev nD,
      r.2.mem ((c.tc : Thread nD τ).loc main_v65_0) = (dats m 0 c).arrAt 12 cfg0.N
      ∧ r.2.mem ((c.tc : Thread nD τ).loc main_v65_1) = (dats m 0 c).arrAt 13 cfg0.N
      ∧ r.2.mem ((c.tc : Thread nD τ).loc main_v65_2) = (dats m 0 c).arrAt 14 cfg0.N
      ∧ r.2.mem ((c.tc : Thread nD τ).loc main_v65_3) = (dats m 0 c).arrAt 15 cfg0.N
      ∧ r.2.mem ((c.tc : Thread nD τ).loc main_v65_4) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono
    (fun _ h c => ⟨(h.1.1 c).1 12, (h.1.1 c).1 13, (h.1.1 c).1 14, (h.1.1 c).1 15, (h.1.1 c).1 16, h.2.1 c⟩)
    (θ_run_and (run_main m ρ) (frame_main m ρ))

end Kernel

set_option maxHeartbeats 4000000 in
/-- Both runs end with the same five arrays. -/
theorem value : Cert.algebraic_KernelIdeal_ReferenceIdeal (hKernelIdeal := Cert.KernelIdeal.Gen.facts)
    (hReferenceIdeal := Cert.ReferenceIdeal.Gen.facts) := fun m g m' g' _ hm =>
  ⟨fun c => (dats m 0 c).arrAt 12 Cert.KernelIdeal.cfg0.N, fun c => (dats m 0 c).arrAt 13 Cert.KernelIdeal.cfg0.N,
    fun c => (dats m 0 c).arrAt 14 Cert.KernelIdeal.cfg0.N, fun c => (dats m 0 c).arrAt 15 Cert.KernelIdeal.cfg0.N,
    fun c => (dats m 0 c).arrAt 16 Cert.KernelIdeal.cfg0.N, run_value m g,
    (θ_run Cert.ReferenceIdeal.defs _ _).mono (fun _ h c => by
      obtain ⟨h0, h1, h2, h3, h4, ha⟩ := h c
      obtain ⟨e0, e1, e2⟩ := hm c
      refine ⟨h0.trans ((val_main_v439_eq (StableHlo.launchContents m' c)).trans (Eq.trans ?_ (eq_dq m c))),
        h1.trans ((val_main_v443_eq (StableHlo.launchContents m' c)).trans (Eq.trans ?_ (eq_dk m c))),
        h2.trans ((val_main_v447_eq (StableHlo.launchContents m' c)).trans (Eq.trans ?_ (eq_dv m c))),
        h3.trans ((val_main_v451_eq (StableHlo.launchContents m' c)).trans (Eq.trans ?_ (eq_dg m c))),
        h4.trans ((val_main_v452_eq (StableHlo.launchContents m' c)).trans (Eq.trans ?_ (eq_dng m c))), ha⟩
      · exact congr (congr (congrArg val_main_v439 e0) e1) e2
      · exact congr (congr (congrArg val_main_v443 e0) e1) e2
      · exact congr (congr (congrArg val_main_v447 e0) e1) e2
      · exact congr (congr (congrArg val_main_v451 e0) e1) e2
      · exact congr (congrArg val_main_v452 e0) e2)
      (Cert.ReferenceIdeal.Value.run (F := Ideal) m' g')⟩

end Cert.Proof.Ret

end
-- ==== Proof.Mul.lean ====
/- The two products of the backward pass of a projection: the weight's gradient contracts the rows of both operands, the
   hidden gradient the last axis of both. Each is read at an index, from a tile's operands and from the whole arrays. -/
module

public import Idealize.ShloMosaic.PureOps.Ideal.Laws
public import Idealize.ShloMosaic.Lib.MatmulPlain
public import Idealize.ShloMosaic.Lib.ValueIdx

@[expose] public section

noncomputable section

namespace Cert.Proof.Mul

open Idealize.ShloMosaic Idealize.ShloMosaic.ValueIdx
open scoped BigOperators

/-- A matrix's index set. -/
abbrev Ix (R C : ℕ) : Type := (⟨2, ![R, C]⟩ : Shape).Idx

/-- The product of the columns: element (r, c) sums X(k, r) · Y(k, c) over the rows. -/
def cols {K M N : ℕ} (X : Ix K M → EReal) (Y : Ix K N → EReal) : Ix M N → EReal :=
  fun i => ∑ k : Fin K, X (ix2 k (i 0)) * Y (ix2 k (i 1))

/-- The product of the rows: element (r, c) sums X(r, k) · Y(c, k) over the columns. -/
def rows {M N K : ℕ} (X : Ix M K → EReal) (Y : Ix N K → EReal) : Ix M N → EReal :=
  fun i => ∑ k : Fin K, X (ix2 (i 0) k) * Y (ix2 (i 1) k)

/-- The dimension numbers of the first product. -/
def colsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- Two indices with the same coordinates. -/
theorem ix_ext {R C : ℕ} {i j : Ix R C} (h0 : (i 0).val = (j 0).val) (h1 : (i 1).val = (j 1).val) : i = j := by
  funext a
  match a with
  | ⟨0, _⟩ => exact Fin.ext h0
  | ⟨1, _⟩ => exact Fin.ext h1

/-- A tile's product into zero is the product of its columns. -/
theorem matmul_cols {K M N : ℕ} {φ₁ φ₂ : FTy} (prec : Option ContractPrecision) (l : FVec Ideal ⟨2, ![K, M]⟩ φ₁)
    (r : FVec Ideal ⟨2, ![K, N]⟩ φ₂) (j : Ix M N) :
    FloatOps.matmul (colsDims K M N) prec l r (constant ⟨2, ![M, N]⟩ .f32 0x00000000#32) j = cols l r j := by
  rw [Ideal.matmul_constant_zero_apply, ← Equiv.sum_comp (contrEquiv1 (colsDims K M N) K rfl rfl).symm]
  refine Finset.sum_congr rfl fun k _ => ?_
  have hk := contrEquiv1_symm_val (colsDims K M N) K rfl rfl k
  refine congrArg₂ (· * ·) (congrArg l (ix_ext ?_ ?_)) (congrArg r (ix_ext ?_ ?_))
  · exact hk
  · rfl
  · exact hk
  · rfl

/-- A tile's product into zero is the product of its rows. -/
theorem matmul_rows {M N K : ℕ} {φ₁ φ₂ : FTy} (prec : Option ContractPrecision) (l : FVec Ideal ⟨2, ![M, K]⟩ φ₁)
    (r : FVec Ideal ⟨2, ![N, K]⟩ φ₂) (j : Ix M N) :
    FloatOps.matmul (DotDims.transposedRhs M K N) prec l r (constant ⟨2, ![M, N]⟩ .f32 0x00000000#32) j = rows l r j := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  refine congrArg₂ (· * ·) (congrArg l (ix_ext ?_ ?_)) (congrArg r (ix_ext ?_ ?_))
  · rfl
  · exact hk
  · rfl
  · exact hk

/-- A change of float format changes nothing over the extended reals. -/
theorem wide {R C : ℕ} (x : FVec Ideal ⟨2, ![R, C]⟩ .bf16) (h) : (extf .f32 x h : Ix R C → EReal) = x :=
  funext fun i => @id_eq EReal (x i)

theorem narrow {R C : ℕ} (x : FVec Ideal ⟨2, ![R, C]⟩ .f32) (h) : (truncf .bf16 x h : Ix R C → EReal) = x :=
  funext fun i => @id_eq EReal (x i)

/-- `B` is the tile of `X` that starts at row `o` and column `p`. -/
def Tile {R C r c : ℕ} (X : Ix R C → EReal) (B : Ix r c → EReal) (o p : ℕ) : Prop :=
  ∀ z : Ix r c, ∃ w : Ix R C, B z = X w ∧ (w 0).val = o + (z 0).val ∧ (w 1).val = p + (z 1).val

/-- A tile's element, named by its place in the whole array. -/
theorem Tile.at {R C r c o p : ℕ} {X : Ix R C → EReal} {B : Ix r c → EReal} (h : Tile X B o p) (z : Ix r c) (w : Ix R C)
    (h0 : (w 0).val = o + (z 0).val) (h1 : (w 1).val = p + (z 1).val) : B z = X w := by
  obtain ⟨v, hv, e0, e1⟩ := h z
  exact hv.trans (congrArg X (ix_ext (e0.trans h0.symm) (e1.trans h1.symm)))

/-- The product of two tiles of whole columns is the tile of the whole product. -/
theorem cols_tile {K M N m n o p : ℕ} {X : Ix K M → EReal} {Y : Ix K N → EReal} {B : Ix K m → EReal} {C : Ix K n → EReal}
    (hB : Tile X B 0 o) (hC : Tile Y C 0 p) (y : Ix m n) (i : Ix M N)
    (h0 : (i 0).val = o + (y 0).val) (h1 : (i 1).val = p + (y 1).val) : cols B C y = cols X Y i :=
  Finset.sum_congr rfl fun k _ => congrArg₂ (· * ·)
    (hB.at _ _ (Nat.zero_add _).symm h0) (hC.at _ _ (Nat.zero_add _).symm h1)

/-- The product of two tiles of whole rows is the tile of the whole product. -/
theorem rows_tile {M N K m n o p : ℕ} {X : Ix M K → EReal} {Y : Ix N K → EReal} {B : Ix m K → EReal} {C : Ix n K → EReal}
    (hB : Tile X B o 0) (hC : Tile Y C p 0) (y : Ix m n) (i : Ix M N)
    (h0 : (i 0).val = o + (y 0).val) (h1 : (i 1).val = p + (y 1).val) : rows B C y = rows X Y i :=
  Finset.sum_congr rfl fun k _ => congrArg₂ (· * ·)
    (hB.at _ _ h0 (Nat.zero_add _).symm) (hC.at _ _ h1 (Nat.zero_add _).symm)

/-- Half the columns, then the other half: the product of the rows is the sum of the two halves' products. -/
theorem rows_two {M N K m n o p : ℕ} {X : Ix M (K + K) → EReal} {Y : Ix N (K + K) → EReal}
    {B B' : Ix m K → EReal} {C C' : Ix n K → EReal}
    (hB : Tile X B o 0) (hC : Tile Y C p 0) (hB' : Tile X B' o K) (hC' : Tile Y C' p K) (y : Ix m n) (i : Ix M N)
    (h0 : (i 0).val = o + (y 0).val) (h1 : (i 1).val = p + (y 1).val) : rows B C y + rows B' C' y = rows X Y i := by
  refine Eq.symm ((Fin.sum_univ_add _).trans (congrArg₂ (· + ·) ?_ ?_))
  · exact Finset.sum_congr rfl fun k _ => (congrArg₂ (· * ·) (hB.at _ _ h0 (Nat.zero_add _).symm)
      (hC.at _ _ h1 (Nat.zero_add _).symm)).symm
  · exact Finset.sum_congr rfl fun k _ => (congrArg₂ (· * ·) (hB'.at _ _ h0 rfl) (hC'.at _ _ h1 rfl)).symm

/-- The reference's weight gradient contracts the operands in the other order and transposes. -/
theorem cols_swap {K M N : ℕ} (X : Ix K M → EReal) (Y : Ix K N → EReal) (i : Ix M N) (L : Fin K → Ix K N) (R : Fin K → Ix K M)
    (hl0 : ∀ k, (L k 0).val = k.val) (hl1 : ∀ k, (L k 1).val = (i 1).val) (hr0 : ∀ k, (R k 0).val = k.val)
    (hr1 : ∀ k, (R k 1).val = (i 0).val) : ∑ k : Fin K, Y (L k) * X (R k) = cols X Y i :=
  Finset.sum_congr rfl fun k _ => (mul_comm _ _).trans (congrArg₂ (· * ·)
    (congrArg X (ix_ext (hr0 k) (hr1 k))) (congrArg Y (ix_ext (hl0 k) (hl1 k))))

/-- The reference's hidden gradient, its operands named by coordinates. -/
theorem rows_of {M N K : ℕ} (X : Ix M K → EReal) (Y : Ix N K → EReal) (i : Ix M N) (L : Fin K → Ix M K) (R : Fin K → Ix N K)
    (hl0 : ∀ k, (L k 0).val = (i 0).val) (hl1 : ∀ k, (L k 1).val = k.val) (hr0 : ∀ k, (R k 0).val = (i 1).val)
    (hr1 : ∀ k, (R k 1).val = k.val) : ∑ k : Fin K, X (L k) * Y (R k) = rows X Y i :=
  Finset.sum_congr rfl fun k _ => congrArg₂ (· * ·)
    (congrArg X (ix_ext (hl0 k) (hl1 k))) (congrArg Y (ix_ext (hr0 k) (hr1 k)))

end Cert.Proof.Mul

end
-- ==== Proof.Prod2.lean ====
/- The gradient of the weight that widens the ffn: the kernel's tiles are those of the product of its arguments' columns, and the reference's
   transposed product is the same. -/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Mul
public import Idealize.ShloMosaic.Lib.Pipeline.ValueKit

@[expose] public section

set_option maxRecDepth 16384

noncomputable section

namespace Cert.Proof.Prod2

open Cert.Kernel2Ideal Cert.Kernel2Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val / 11] := by decide +kernel
theorem ix_1 : ∀ t : Fin cfg0.N, win0_1.index t = ![0, t.val % 11] := by decide +kernel
theorem ix_2 : ∀ t : Fin cfg0.N, win0_2.index t = ![t.val / 11, t.val % 11] := by decide +kernel

/-- The two arguments. -/
abbrev A0 : Ix 4352 1024 → EReal := m ((c : Thread nD τ).loc main_arg0)
abbrev A1 : Ix 4352 5632 → EReal := m ((c : Thread nD τ).loc main_arg1)

theorem tile_0 (t : Fin cfg0.N) : Tile (A0 m c) (iblk m c 0 t) 0 (t.val / 11 * 512) :=
  fun z => ⟨(win0_0.blk t).view.emb z, rfl, by blk_simp [ix_0], by blk_simp [ix_0]⟩

theorem tile_1 (t : Fin cfg0.N) : Tile (A1 m c) (iblk m c 1 t) 0 (t.val % 11 * 512) :=
  fun z => ⟨(win0_1.blk t).view.emb z, rfl, by blk_simp [ix_1], by blk_simp [ix_1]⟩

/-- What a point writes is the product of its two tiles. -/
theorem out_at (x0 : Vec Ideal S4352x512 .bf16) (x1 : Vec Ideal S4352x512 .bf16) (y : S512x512.Idx) :
    out0_2 x0 x1 y = cols (K := 4352) (M := 512) (N := 512) x0 x1 y := by
  frame_out
  exact matmul_cols (φ₁ := .bf16) (φ₂ := .bf16) none x0 x1 y

/-- A point's tile, element by element, in the whole product. -/
theorem point (t : Fin cfg0.N) (y : Ix 512 512) (i : Ix 1024 5632) (h0 : (i 0).val = t.val / 11 * 512 + (y 0).val)
    (h1 : (i 1).val = t.val % 11 * 512 + (y 1).val) :
    out0_2 (F := Ideal) (iblk m c 0 t) (iblk m c 1 t) y = cols (A0 m c) (A1 m c) i :=
  (out_at (iblk m c 0 t) (iblk m c 1 t) y).trans
    (cols_tile (K := 4352) (M := 1024) (N := 5632) (m := 512) (n := 512) (tile_0 m c t) (tile_1 m c t) y i h0 h1)

/-- The kernel's array is the product of its arguments. -/
theorem arr : (dats m 0 c).arrAt 2 cfg0.N = cols (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference2Ideal.Read

/-- The reference's array is the same product. -/
theorem ref (x0 : Ix 4352 1024 → EReal) (x1 : Ix 4352 5632 → EReal) : val_main_v6 (F := Ideal) x0 x1 = cols x0 x1 := by
  refine (narrow (val_main_v5 (F := Ideal) x0 x1) _).trans (funext fun i => ?_)
  rw [val_main_v5_apply, val_main_v4_apply]
  exact (cols_swap (val_main_v1 (F := Ideal) x0) (val_main_v3 (F := Ideal) x1) i _ _ (fun k => rfl) (fun k => rfl) (fun k => rfl) (fun k => rfl)).trans
    (congrFun (congrArg₂ cols (wide x0 _) (wide x1 _)) i)

/-- Both runs end with the same array. -/
theorem value : Cert.algebraic_Kernel2Ideal_Reference2Ideal (hKernel2Ideal := Cert.Kernel2Ideal.Gen.facts)
    (hReference2Ideal := Cert.Reference2Ideal.Gen.facts) := fun m g m' g' _ hm =>
  ⟨fun c => (dats m 0 c).arrAt 2 Cert.Kernel2Ideal.cfg0.N, Cert.Kernel2Ideal.Value.run_blocks (F := Ideal) m g,
    (θ_run Cert.Reference2Ideal.defs _ _).mono (fun _ h c => by
      obtain ⟨h0, ha⟩ := h c
      obtain ⟨e0, e1⟩ := hm c
      refine ⟨h0.trans ((val_main_v6_eq _ _).trans (Eq.trans ?_ ((ref (A0 m c) (A1 m c)).trans (arr m c).symm))), ha⟩
      exact congr (congrArg val_main_v6 e0) e1)
      (Cert.Reference2Ideal.Value.run (F := Ideal) m' g')⟩

end Reference

/-- The frames: the kernel at the words and at the extended reals, and the reference. -/
theorem frame : Cert.quiescent_Kernel2 (hKernel2 := Cert.Kernel2.Gen.facts) := fun m ρ _ =>
  Cert.Kernel2.Gen.frame (F := Bits) m ρ

theorem frame_ideal : Cert.quiescent_Kernel2Ideal (hKernel2Ideal := Cert.Kernel2Ideal.Gen.facts) := fun m ρ _ =>
  Cert.Kernel2Ideal.Gen.frame (F := Ideal) m ρ

theorem frame_ref : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

end Cert.Proof.Prod2

end
-- ==== Proof.Prod3.lean ====
/- The gradient of the weight that narrows the ffn: the kernel's tiles are those of the product of its arguments' columns, and the reference's
   transposed product is the same. -/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Mul
public import Idealize.ShloMosaic.Lib.Pipeline.ValueKit

@[expose] public section

set_option maxRecDepth 16384

noncomputable section

namespace Cert.Proof.Prod3

open Cert.Kernel3Ideal Cert.Kernel3Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val / 2] := by decide +kernel
theorem ix_1 : ∀ t : Fin cfg0.N, win0_1.index t = ![0, t.val % 2] := by decide +kernel
theorem ix_2 : ∀ t : Fin cfg0.N, win0_2.index t = ![t.val / 2, t.val % 2] := by decide +kernel

/-- The two arguments. -/
abbrev A0 : Ix 4352 2816 → EReal := m ((c : Thread nD τ).loc main_arg0)
abbrev A1 : Ix 4352 1024 → EReal := m ((c : Thread nD τ).loc main_arg1)

theorem tile_0 (t : Fin cfg0.N) : Tile (A0 m c) (iblk m c 0 t) 0 (t.val / 2 * 256) :=
  fun z => ⟨(win0_0.blk t).view.emb z, rfl, by blk_simp [ix_0], by blk_simp [ix_0]⟩

theorem tile_1 (t : Fin cfg0.N) : Tile (A1 m c) (iblk m c 1 t) 0 (t.val % 2 * 512) :=
  fun z => ⟨(win0_1.blk t).view.emb z, rfl, by blk_simp [ix_1], by blk_simp [ix_1]⟩

/-- What a point writes is the product of its two tiles. -/
theorem out_at (x0 : Vec Ideal S4352x256 .bf16) (x1 : Vec Ideal S4352x512 .f32) (y : S256x512.Idx) :
    out0_2 x0 x1 y = cols (K := 4352) (M := 256) (N := 512) x0 x1 y := by
  frame_out
  exact (matmul_cols (φ₁ := .bf16) (φ₂ := .bf16) none x0 (truncf .bf16 x1 bitsLt_bf16_f32) y).trans
    (congrFun (congrArg₂ cols (rfl) (narrow x1 _)) y)

/-- A point's tile, element by element, in the whole product. -/
theorem point (t : Fin cfg0.N) (y : Ix 256 512) (i : Ix 2816 1024) (h0 : (i 0).val = t.val / 2 * 256 + (y 0).val)
    (h1 : (i 1).val = t.val % 2 * 512 + (y 1).val) :
    out0_2 (F := Ideal) (iblk m c 0 t) (iblk m c 1 t) y = cols (A0 m c) (A1 m c) i :=
  (out_at (iblk m c 0 t) (iblk m c 1 t) y).trans
    (cols_tile (K := 4352) (M := 2816) (N := 1024) (m := 256) (n := 512) (tile_0 m c t) (tile_1 m c t) y i h0 h1)

/-- The kernel's array is the product of its arguments. -/
theorem arr : (dats m 0 c).arrAt 2 cfg0.N = cols (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference3Ideal.Read

/-- The reference's array is the same product. -/
theorem ref (x0 : Ix 4352 2816 → EReal) (x1 : Ix 4352 1024 → EReal) : val_main_v5 (F := Ideal) x0 x1 = cols x0 x1 := by
  refine (narrow (val_main_v4 (F := Ideal) x0 x1) _).trans (funext fun i => ?_)
  rw [val_main_v4_apply, val_main_v3_apply]
  exact (cols_swap (val_main_v1 (F := Ideal) x0) x1 i _ _ (fun k => rfl) (fun k => rfl) (fun k => rfl) (fun k => rfl)).trans
    (congrFun (congrArg₂ cols (wide x0 _) (rfl)) i)

/-- Both runs end with the same array. -/
theorem value : Cert.algebraic_Kernel3Ideal_Reference3Ideal (hKernel3Ideal := Cert.Kernel3Ideal.Gen.facts)
    (hReference3Ideal := Cert.Reference3Ideal.Gen.facts) := fun m g m' g' _ hm =>
  ⟨fun c => (dats m 0 c).arrAt 2 Cert.Kernel3Ideal.cfg0.N, Cert.Kernel3Ideal.Value.run_blocks (F := Ideal) m g,
    (θ_run Cert.Reference3Ideal.defs _ _).mono (fun _ h c => by
      obtain ⟨h0, ha⟩ := h c
      obtain ⟨e0, e1⟩ := hm c
      refine ⟨h0.trans ((val_main_v5_eq _ _).trans (Eq.trans ?_ ((ref (A0 m c) (A1 m c)).trans (arr m c).symm))), ha⟩
      exact congr (congrArg val_main_v5 e0) e1)
      (Cert.Reference3Ideal.Value.run (F := Ideal) m' g')⟩

end Reference

/-- The frames: the kernel at the words and at the extended reals, and the reference. -/
theorem frame : Cert.quiescent_Kernel3 (hKernel3 := Cert.Kernel3.Gen.facts) := fun m ρ _ =>
  Cert.Kernel3.Gen.frame (F := Bits) m ρ

theorem frame_ideal : Cert.quiescent_Kernel3Ideal (hKernel3Ideal := Cert.Kernel3Ideal.Gen.facts) := fun m ρ _ =>
  Cert.Kernel3Ideal.Gen.frame (F := Ideal) m ρ

theorem frame_ref : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

end Cert.Proof.Prod3

end
-- ==== Proof.Prod4.lean ====
/- The gradient of a mixer's output weight: the kernel's tiles are those of the product of its arguments' columns, and the reference's
   transposed product is the same. -/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Mul
public import Idealize.ShloMosaic.Lib.Pipeline.ValueKit

@[expose] public section

set_option maxRecDepth 16384

noncomputable section

namespace Cert.Proof.Prod4

open Cert.Kernel4Ideal Cert.Kernel4Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val / 2] := by decide +kernel
theorem ix_1 : ∀ t : Fin cfg0.N, win0_1.index t = ![0, t.val % 2] := by decide +kernel
theorem ix_2 : ∀ t : Fin cfg0.N, win0_2.index t = ![t.val / 2, t.val % 2] := by decide +kernel

/-- The two arguments. -/
abbrev A0 : Ix 4352 2048 → EReal := m ((c : Thread nD τ).loc main_arg0)
abbrev A1 : Ix 4352 1024 → EReal := m ((c : Thread nD τ).loc main_arg1)

theorem tile_0 (t : Fin cfg0.N) : Tile (A0 m c) (iblk m c 0 t) 0 (t.val / 2 * 512) :=
  fun z => ⟨(win0_0.blk t).view.emb z, rfl, by blk_simp [ix_0], by blk_simp [ix_0]⟩

theorem tile_1 (t : Fin cfg0.N) : Tile (A1 m c) (iblk m c 1 t) 0 (t.val % 2 * 512) :=
  fun z => ⟨(win0_1.blk t).view.emb z, rfl, by blk_simp [ix_1], by blk_simp [ix_1]⟩

/-- What a point writes is the product of its two tiles. -/
theorem out_at (x0 : Vec Ideal S4352x512 .bf16) (x1 : Vec Ideal S4352x512 .f32) (y : S512x512.Idx) :
    out0_2 x0 x1 y = cols (K := 4352) (M := 512) (N := 512) x0 x1 y := by
  frame_out
  exact (matmul_cols (φ₁ := .bf16) (φ₂ := .bf16) none x0 (truncf .bf16 x1 bitsLt_bf16_f32) y).trans
    (congrFun (congrArg₂ cols (rfl) (narrow x1 _)) y)

/-- A point's tile, element by element, in the whole product. -/
theorem point (t : Fin cfg0.N) (y : Ix 512 512) (i : Ix 2048 1024) (h0 : (i 0).val = t.val / 2 * 512 + (y 0).val)
    (h1 : (i 1).val = t.val % 2 * 512 + (y 1).val) :
    out0_2 (F := Ideal) (iblk m c 0 t) (iblk m c 1 t) y = cols (A0 m c) (A1 m c) i :=
  (out_at (iblk m c 0 t) (iblk m c 1 t) y).trans
    (cols_tile (K := 4352) (M := 2048) (N := 1024) (m := 512) (n := 512) (tile_0 m c t) (tile_1 m c t) y i h0 h1)

/-- The kernel's array is the product of its arguments. -/
theorem arr : (dats m 0 c).arrAt 2 cfg0.N = cols (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference4Ideal.Read

/-- The reference's array is the same product. -/
theorem ref (x0 : Ix 4352 2048 → EReal) (x1 : Ix 4352 1024 → EReal) : val_main_v5 (F := Ideal) x0 x1 = cols x0 x1 := by
  refine (narrow (val_main_v4 (F := Ideal) x0 x1) _).trans (funext fun i => ?_)
  rw [val_main_v4_apply, val_main_v3_apply]
  exact (cols_swap (val_main_v1 (F := Ideal) x0) x1 i _ _ (fun k => rfl) (fun k => rfl) (fun k => rfl) (fun k => rfl)).trans
    (congrFun (congrArg₂ cols (wide x0 _) (rfl)) i)

/-- Both runs end with the same array. -/
theorem value : Cert.algebraic_Kernel4Ideal_Reference4Ideal (hKernel4Ideal := Cert.Kernel4Ideal.Gen.facts)
    (hReference4Ideal := Cert.Reference4Ideal.Gen.facts) := fun m g m' g' _ hm =>
  ⟨fun c => (dats m 0 c).arrAt 2 Cert.Kernel4Ideal.cfg0.N, Cert.Kernel4Ideal.Value.run_blocks (F := Ideal) m g,
    (θ_run Cert.Reference4Ideal.defs _ _).mono (fun _ h c => by
      obtain ⟨h0, ha⟩ := h c
      obtain ⟨e0, e1⟩ := hm c
      refine ⟨h0.trans ((val_main_v5_eq _ _).trans (Eq.trans ?_ ((ref (A0 m c) (A1 m c)).trans (arr m c).symm))), ha⟩
      exact congr (congrArg val_main_v5 e0) e1)
      (Cert.Reference4Ideal.Value.run (F := Ideal) m' g')⟩

end Reference

/-- The frames: the kernel at the words and at the extended reals, and the reference. -/
theorem frame : Cert.quiescent_Kernel4 (hKernel4 := Cert.Kernel4.Gen.facts) := fun m ρ _ =>
  Cert.Kernel4.Gen.frame (F := Bits) m ρ

theorem frame_ideal : Cert.quiescent_Kernel4Ideal (hKernel4Ideal := Cert.Kernel4Ideal.Gen.facts) := fun m ρ _ =>
  Cert.Kernel4Ideal.Gen.frame (F := Ideal) m ρ

theorem frame_ref : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

end Cert.Proof.Prod4

end
-- ==== Proof.Prod5.lean ====
/- The gradient of the second layer's input weight: the kernel's tiles are those of the product of its arguments' columns, and the reference's
   transposed product is the same. -/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Mul
public import Idealize.ShloMosaic.Lib.Pipeline.ValueKit

@[expose] public section

set_option maxRecDepth 16384

noncomputable section

namespace Cert.Proof.Prod5

open Cert.Kernel5Ideal Cert.Kernel5Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val / 10] := by decide +kernel
theorem ix_1 : ∀ t : Fin cfg0.N, win0_1.index t = ![0, t.val % 10] := by decide +kernel
theorem ix_2 : ∀ t : Fin cfg0.N, win0_2.index t = ![t.val / 10, t.val % 10] := by decide +kernel

/-- The two arguments. -/
abbrev A0 : Ix 4352 1024 → EReal := m ((c : Thread nD τ).loc main_arg0)
abbrev A1 : Ix 4352 5120 → EReal := m ((c : Thread nD τ).loc main_arg1)

theorem tile_0 (t : Fin cfg0.N) : Tile (A0 m c) (iblk m c 0 t) 0 (t.val / 10 * 512) :=
  fun z => ⟨(win0_0.blk t).view.emb z, rfl, by blk_simp [ix_0], by blk_simp [ix_0]⟩

theorem tile_1 (t : Fin cfg0.N) : Tile (A1 m c) (iblk m c 1 t) 0 (t.val % 10 * 512) :=
  fun z => ⟨(win0_1.blk t).view.emb z, rfl, by blk_simp [ix_1], by blk_simp [ix_1]⟩

/-- What a point writes is the product of its two tiles. -/
theorem out_at (x0 : Vec Ideal S4352x512 .bf16) (x1 : Vec Ideal S4352x512 .bf16) (y : S512x512.Idx) :
    out0_2 x0 x1 y = cols (K := 4352) (M := 512) (N := 512) x0 x1 y := by
  frame_out
  exact matmul_cols (φ₁ := .bf16) (φ₂ := .bf16) none x0 x1 y

/-- A point's tile, element by element, in the whole product. -/
theorem point (t : Fin cfg0.N) (y : Ix 512 512) (i : Ix 1024 5120) (h0 : (i 0).val = t.val / 10 * 512 + (y 0).val)
    (h1 : (i 1).val = t.val % 10 * 512 + (y 1).val) :
    out0_2 (F := Ideal) (iblk m c 0 t) (iblk m c 1 t) y = cols (A0 m c) (A1 m c) i :=
  (out_at (iblk m c 0 t) (iblk m c 1 t) y).trans
    (cols_tile (K := 4352) (M := 1024) (N := 5120) (m := 512) (n := 512) (tile_0 m c t) (tile_1 m c t) y i h0 h1)

/-- The kernel's array is the product of its arguments. -/
theorem arr : (dats m 0 c).arrAt 2 cfg0.N = cols (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference5Ideal.Read

/-- The reference's array is the same product. -/
theorem ref (x0 : Ix 4352 1024 → EReal) (x1 : Ix 4352 5120 → EReal) : val_main_v6 (F := Ideal) x0 x1 = cols x0 x1 := by
  refine (narrow (val_main_v5 (F := Ideal) x0 x1) _).trans (funext fun i => ?_)
  rw [val_main_v5_apply, val_main_v4_apply]
  exact (cols_swap (val_main_v1 (F := Ideal) x0) (val_main_v3 (F := Ideal) x1) i _ _ (fun k => rfl) (fun k => rfl) (fun k => rfl) (fun k => rfl)).trans
    (congrFun (congrArg₂ cols (wide x0 _) (wide x1 _)) i)

/-- Both runs end with the same array. -/
theorem value : Cert.algebraic_Kernel5Ideal_Reference5Ideal (hKernel5Ideal := Cert.Kernel5Ideal.Gen.facts)
    (hReference5Ideal := Cert.Reference5Ideal.Gen.facts) := fun m g m' g' _ hm =>
  ⟨fun c => (dats m 0 c).arrAt 2 Cert.Kernel5Ideal.cfg0.N, Cert.Kernel5Ideal.Value.run_blocks (F := Ideal) m g,
    (θ_run Cert.Reference5Ideal.defs _ _).mono (fun _ h c => by
      obtain ⟨h0, ha⟩ := h c
      obtain ⟨e0, e1⟩ := hm c
      refine ⟨h0.trans ((val_main_v6_eq _ _).trans (Eq.trans ?_ ((ref (A0 m c) (A1 m c)).trans (arr m c).symm))), ha⟩
      exact congr (congrArg val_main_v6 e0) e1)
      (Cert.Reference5Ideal.Value.run (F := Ideal) m' g')⟩

end Reference

/-- The frames: the kernel at the words and at the extended reals, and the reference. -/
theorem frame : Cert.quiescent_Kernel5 (hKernel5 := Cert.Kernel5.Gen.facts) := fun m ρ _ =>
  Cert.Kernel5.Gen.frame (F := Bits) m ρ

theorem frame_ideal : Cert.quiescent_Kernel5Ideal (hKernel5Ideal := Cert.Kernel5Ideal.Gen.facts) := fun m ρ _ =>
  Cert.Kernel5Ideal.Gen.frame (F := Ideal) m ρ

theorem frame_ref : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

end Cert.Proof.Prod5

end
-- ==== Proof.Prod6.lean ====
/- The gradient of the first layer's input weight: the kernel's tiles are those of the product of its arguments' columns, and the reference's
   transposed product is the same. -/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Mul
public import Idealize.ShloMosaic.Lib.Pipeline.ValueKit

@[expose] public section

set_option maxRecDepth 16384

noncomputable section

namespace Cert.Proof.Prod6

open Cert.Kernel6Ideal Cert.Kernel6Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val / 16] := by decide +kernel
theorem ix_1 : ∀ t : Fin cfg0.N, win0_1.index t = ![0, t.val % 16] := by decide +kernel
theorem ix_2 : ∀ t : Fin cfg0.N, win0_2.index t = ![t.val / 16, t.val % 16] := by decide +kernel

/-- The two arguments. -/
abbrev A0 : Ix 4352 1024 → EReal := m ((c : Thread nD τ).loc main_arg0)
abbrev A1 : Ix 4352 8192 → EReal := m ((c : Thread nD τ).loc main_arg1)

theorem tile_0 (t : Fin cfg0.N) : Tile (A0 m c) (iblk m c 0 t) 0 (t.val / 16 * 512) :=
  fun z => ⟨(win0_0.blk t).view.emb z, rfl, by blk_simp [ix_0], by blk_simp [ix_0]⟩

theorem tile_1 (t : Fin cfg0.N) : Tile (A1 m c) (iblk m c 1 t) 0 (t.val % 16 * 512) :=
  fun z => ⟨(win0_1.blk t).view.emb z, rfl, by blk_simp [ix_1], by blk_simp [ix_1]⟩

/-- What a point writes is the product of its two tiles. -/
theorem out_at (x0 : Vec Ideal S4352x512 .bf16) (x1 : Vec Ideal S4352x512 .bf16) (y : S512x512.Idx) :
    out0_2 x0 x1 y = cols (K := 4352) (M := 512) (N := 512) x0 x1 y := by
  frame_out
  exact matmul_cols (φ₁ := .bf16) (φ₂ := .bf16) none x0 x1 y

/-- A point's tile, element by element, in the whole product. -/
theorem point (t : Fin cfg0.N) (y : Ix 512 512) (i : Ix 1024 8192) (h0 : (i 0).val = t.val / 16 * 512 + (y 0).val)
    (h1 : (i 1).val = t.val % 16 * 512 + (y 1).val) :
    out0_2 (F := Ideal) (iblk m c 0 t) (iblk m c 1 t) y = cols (A0 m c) (A1 m c) i :=
  (out_at (iblk m c 0 t) (iblk m c 1 t) y).trans
    (cols_tile (K := 4352) (M := 1024) (N := 8192) (m := 512) (n := 512) (tile_0 m c t) (tile_1 m c t) y i h0 h1)

/-- The kernel's array is the product of its arguments. -/
theorem arr : (dats m 0 c).arrAt 2 cfg0.N = cols (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference6Ideal.Read

/-- The reference's array is the same product. -/
theorem ref (x0 : Ix 4352 1024 → EReal) (x1 : Ix 4352 8192 → EReal) : val_main_v6 (F := Ideal) x0 x1 = cols x0 x1 := by
  refine (narrow (val_main_v5 (F := Ideal) x0 x1) _).trans (funext fun i => ?_)
  rw [val_main_v5_apply, val_main_v4_apply]
  exact (cols_swap (val_main_v1 (F := Ideal) x0) (val_main_v3 (F := Ideal) x1) i _ _ (fun k => rfl) (fun k => rfl) (fun k => rfl) (fun k => rfl)).trans
    (congrFun (congrArg₂ cols (wide x0 _) (wide x1 _)) i)

/-- Both runs end with the same array. -/
theorem value : Cert.algebraic_Kernel6Ideal_Reference6Ideal (hKernel6Ideal := Cert.Kernel6Ideal.Gen.facts)
    (hReference6Ideal := Cert.Reference6Ideal.Gen.facts) := fun m g m' g' _ hm =>
  ⟨fun c => (dats m 0 c).arrAt 2 Cert.Kernel6Ideal.cfg0.N, Cert.Kernel6Ideal.Value.run_blocks (F := Ideal) m g,
    (θ_run Cert.Reference6Ideal.defs _ _).mono (fun _ h c => by
      obtain ⟨h0, ha⟩ := h c
      obtain ⟨e0, e1⟩ := hm c
      refine ⟨h0.trans ((val_main_v6_eq _ _).trans (Eq.trans ?_ ((ref (A0 m c) (A1 m c)).trans (arr m c).symm))), ha⟩
      exact congr (congrArg val_main_v6 e0) e1)
      (Cert.Reference6Ideal.Value.run (F := Ideal) m' g')⟩

end Reference

/-- The frames: the kernel at the words and at the extended reals, and the reference. -/
theorem frame : Cert.quiescent_Kernel6 (hKernel6 := Cert.Kernel6.Gen.facts) := fun m ρ _ =>
  Cert.Kernel6.Gen.frame (F := Bits) m ρ

theorem frame_ideal : Cert.quiescent_Kernel6Ideal (hKernel6Ideal := Cert.Kernel6Ideal.Gen.facts) := fun m ρ _ =>
  Cert.Kernel6Ideal.Gen.frame (F := Ideal) m ρ

theorem frame_ref : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run (F := Ideal) m ρ)

end Cert.Proof.Prod6

end
-- ==== Proof.Prod7.lean ====
/- The gradient of the ffn's activations: the kernel's tiles are those of the product of its arguments' rows, and so is the
   reference's product. -/
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Mul
public import Idealize.ShloMosaic.Lib.Pipeline.ValueKit

@[expose] public section

set_option maxRecDepth 16384

noncomputable section

namespace Cert.Proof.Prod7

open Cert.Kernel7Ideal Cert.Kernel7Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 11, 0] := by decide +kernel
theorem ix_1 : ∀ t : Fin cfg0.N, win0_1.index t = ![t.val % 11, 0] := by decide +kernel
theorem ix_2 : ∀ t : Fin cfg0.N, win0_2.index t = ![t.val / 11, t.val % 11] := by decide +kernel

/-- The two arguments. -/
abbrev A0 : Ix 4352 1024 → EReal := m ((c : Thread nD τ).loc main_arg0)
abbrev A1 : Ix 2816 1024 → EReal := m ((c : Thread nD τ).loc main_arg1)

theorem tile_0 (t : Fin cfg0.N) : Tile (A0 m c) (iblk m c 0 t) (t.val / 11 * 2176) 0 :=
  fun z => ⟨(win0_0.blk t).view.emb z, rfl, by blk_simp [ix_0], by blk_simp [ix_0]⟩

theorem tile_1 (t : Fin cfg0.N) : Tile (A1 m c) (iblk m c 1 t) (t.val % 11 * 256) 0 :=
  fun z => ⟨(win0_1.blk t).view.emb z, rfl, by blk_simp [ix_1], by blk_simp [ix_1]⟩

/-- What a point writes is the product of its two tiles. -/
theorem out_at (x0 : Vec Ideal S2176x1024 .f32) (x1 : Vec Ideal S256x1024 .bf16) (y : S2176x256.Idx) :
    out0_2 x0 x1 y = rows (K := 1024) (M := 2176) (N := 256) x0 x1 y := by
  frame_out
  exact (matmul_rows (φ₁ := .bf16) (φ₂ := .bf16) none (truncf .bf16 x0 bitsLt_bf16_f32) x1 y).trans
    (congrFun (congrArg₂ rows (narrow x0 _) (rfl)) y)

/-- A point's tile, element by element, in the whole product. -/
theorem point (t : Fin cfg0.N) (y : Ix 2176 256) (i : Ix 4352 2816) (h0 : (i 0).val = t.val / 11 * 2176 + (y 0).val)
    (h1 : (i 1).val = t.val % 11 * 256 + (y 1).val) :
    out0_2 (F := Ideal) (iblk m c 0 t) (iblk m c 1 t) y = rows (A0 m c) (A1 m c) i :=
  (out_at (iblk m c 0 t) (iblk m c 1 t) y).trans
    (rows_tile (K := 1024) (M := 4352) (N := 2816) (m := 2176) (n := 256) (tile_0 m c t) (tile_1 m c t) y i h0 h1)

/-- The kernel's array is the product of its arguments. -/
theorem arr : (dats m 0 c).arrAt 2 cfg0.N = rows (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference7Ideal.Read

/-- The reference's array is the same product. -/
theorem ref (x0 : Ix 4352 1024 → EReal) (x1 : Ix 2816 1024 → EReal) : val_main_v4 (F := Ideal) x0 x1 = rows x0 x1 := by
  refine (narrow (val_main_v3 (F := Ideal) x0 x1) _).trans (funext fun i => ?_)
  rw [val_main_v3_apply]
  exact (rows_of x0 (val_main_v1 (F := Ideal) x1) i _ _ (fun k => rfl) (fun k => rfl) (fun k => rfl) (fun k => rfl)).trans
    (congrFun (congrArg (rows x0) (wide x1 _)) i)

/-- Both runs end with the same array. -/
theorem value : Cert.algebraic_Kernel7Ideal_Reference7Ideal (hKernel7Ideal := Cert.Kernel7Ideal.Gen.facts)
    (hReference7Ideal := Cert.Reference7Ideal.Gen.facts) := fun m g m' g' _ hm =>
  ⟨fun c => (dats m 0 c).arrAt 2 Cert.Kernel7Ideal.cfg0.N, Cert.Kernel7Ideal.Value.run_blocks (F := Ideal) m g,
    (θ_run Cert.Reference7Ideal.defs _ _).mono (fun _ h c => by
      obtain ⟨h0, ha⟩ := h c
      obtain ⟨e0, e1⟩ := hm c
      refine ⟨h0.trans ((val_main_v4_eq _ _).trans (Eq.trans ?_ ((ref (A0 m c) (A1 m c)).trans (arr m c).symm))), ha⟩
      exact congr (congrArg val_main_v4 e0) e1)
      (Cert.Reference7Ideal.Value.run (F := Ideal) m' g')⟩

end Reference

/-- The frames: the kernel at the words and at the extended reals, and the reference. -/
theorem frame : Cert.quiescent_Kernel7 (hKernel7 := Cert.Kernel7.Gen.facts) := fun m ρ _ =>
  Cert.Kernel7.Gen.frame (F := Bits) m ρ

theorem frame_ideal : Cert.quiescent_Kernel7Ideal (hKernel7Ideal := Cert.Kernel7Ideal.Gen.facts) := fun m ρ _ =>
  Cert.Kernel7Ideal.Gen.frame (F := Ideal) m ρ

theorem frame_ref : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run (F := Ideal) m ρ)

end Cert.Proof.Prod7

end
-- ==== Proof.Prod8.lean ====
/- The gradient of the mixers' outputs: the kernel's tiles are those of the product of its arguments' rows, and so is the
   reference's product. -/
module

public import proofs.«01_k».proof.Defs
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Mul
public import Idealize.ShloMosaic.Lib.Pipeline.ValueKit

@[expose] public section

set_option maxRecDepth 16384

noncomputable section

namespace Cert.Proof.Prod8

open Cert.Kernel8Ideal Cert.Kernel8Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 2, 0] := by decide +kernel
theorem ix_1 : ∀ t : Fin cfg0.N, win0_1.index t = ![t.val % 2, 0] := by decide +kernel
theorem ix_2 : ∀ t : Fin cfg0.N, win0_2.index t = ![t.val / 2, t.val % 2] := by decide +kernel

/-- The two arguments. -/
abbrev A0 : Ix 4352 1024 → EReal := m ((c : Thread nD τ).loc main_arg0)
abbrev A1 : Ix 2048 1024 → EReal := m ((c : Thread nD τ).loc main_arg1)

theorem tile_0 (t : Fin cfg0.N) : Tile (A0 m c) (iblk m c 0 t) (t.val / 2 * 2176) 0 :=
  fun z => ⟨(win0_0.blk t).view.emb z, rfl, by blk_simp [ix_0], by blk_simp [ix_0]⟩

theorem tile_1 (t : Fin cfg0.N) : Tile (A1 m c) (iblk m c 1 t) (t.val % 2 * 1024) 0 :=
  fun z => ⟨(win0_1.blk t).view.emb z, rfl, by blk_simp [ix_1], by blk_simp [ix_1]⟩

/-- What a point writes is the product of its two tiles. -/
theorem out_at (x0 : Vec Ideal S2176x1024 .f32) (x1 : Vec Ideal S1024x1024 .bf16) (y : S2176x1024.Idx) :
    out0_2 x0 x1 y = rows (K := 1024) (M := 2176) (N := 1024) x0 x1 y := by
  frame_out
  exact (matmul_rows (φ₁ := .bf16) (φ₂ := .bf16) none (truncf .bf16 x0 bitsLt_bf16_f32) x1 y).trans
    (congrFun (congrArg₂ rows (narrow x0 _) (rfl)) y)

/-- A point's tile, element by element, in the whole product. -/
theorem point (t : Fin cfg0.N) (y : Ix 2176 1024) (i : Ix 4352 2048) (h0 : (i 0).val = t.val / 2 * 2176 + (y 0).val)
    (h1 : (i 1).val = t.val % 2 * 1024 + (y 1).val) :
    out0_2 (F := Ideal) (iblk m c 0 t) (iblk m c 1 t) y = rows (A0 m c) (A1 m c) i :=
  (out_at (iblk m c 0 t) (iblk m c 1 t) y).trans
    (rows_tile (K := 1024) (M := 4352) (N := 2048) (m := 2176) (n := 1024) (tile_0 m c t) (tile_1 m c t) y i h0 h1)

/-- The kernel's array is the product of its arguments. -/
theorem arr : (dats m 0 c).arrAt 2 cfg0.N = rows (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference8Ideal.Read

/-- The reference's array is the same product. -/
theorem ref (x0 : Ix 4352 1024 → EReal) (x1 : Ix 2048 1024 → EReal) : val_main_v4 (F := Ideal) x0 x1 = rows x0 x1 := by
  refine (narrow (val_main_v3 (F := Ideal) x0 x1) _).trans (funext fun i => ?_)
  rw [val_main_v3_apply]
  exact (rows_of x0 (val_main_v1 (F := Ideal) x1) i _ _ (fun k => rfl) (fun k => rfl) (fun k => rfl) (fun k => rfl)).trans
    (congrFun (congrArg (rows x0) (wide x1 _)) i)

/-- Both runs end with the same array. -/
theorem value : Cert.algebraic_Kernel8Ideal_Reference8Ideal (hKernel8Ideal := Cert.Kernel8Ideal.Gen.facts)
    (hReference8Ideal := Cert.Reference8Ideal.Gen.facts) := fun m g m' g' _ hm =>
  ⟨fun c => (dats m 0 c).arrAt 2 Cert.Kernel8Ideal.cfg0.N, Cert.Kernel8Ideal.Value.run_blocks (F := Ideal) m g,
    (θ_run Cert.Reference8Ideal.defs _ _).mono (fun _ h c => by
      obtain ⟨h0, ha⟩ := h c
      obtain ⟨e0, e1⟩ := hm c
      refine ⟨h0.trans ((val_main_v4_eq _ _).trans (Eq.trans ?_ ((ref (A0 m c) (A1 m c)).trans (arr m c).symm))), ha⟩
      exact congr (congrArg val_main_v4 e0) e1)
      (Cert.Reference8Ideal.Value.run (F := Ideal) m' g')⟩

end Reference

/-- The frames: the kernel at the words and at the extended reals, and the reference. -/
theorem frame : Cert.quiescent_Kernel8 (hKernel8 := Cert.Kernel8.Gen.facts) := fun m ρ _ =>
  Cert.Kernel8.Gen.frame (F := Bits) m ρ

theorem frame_ideal : Cert.quiescent_Kernel8Ideal (hKernel8Ideal := Cert.Kernel8Ideal.Gen.facts) := fun m ρ _ =>
  Cert.Kernel8Ideal.Gen.frame (F := Ideal) m ρ

theorem frame_ref : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run (F := Ideal) m ρ)

end Cert.Proof.Prod8

end
-- ==== Proof.Prod9.lean ====
/- The gradient of the hidden rows that the ffn widens: the kernel sums two halves of the product of its arguments'
   rows, and the reference is the same product. -/
module

public import proofs.«01_k».proof.Defs
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Mul
public import Idealize.ShloMosaic.Lib.Pipeline.ReadBack
public import Idealize.ShloMosaic.Lib.Pipeline.ValueKit

@[expose] public section

set_option maxRecDepth 16384

noncomputable section

namespace Cert.Proof.Prod9

open Cert.Kernel9Ideal Cert.Kernel9Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 2, t.val % 2] := by decide +kernel
theorem ix_1 : ∀ t : Fin cfg0.N, win0_1.index t = ![0, t.val % 2] := by decide +kernel
theorem ix_2 : ∀ t : Fin cfg0.N, win0_2.index t = ![t.val / 2, 0] := by decide +kernel

/-- The two arguments. -/
abbrev A0 : Ix 4352 5632 → EReal := m ((c : Thread nD τ).loc main_arg0)
abbrev A1 : Ix 1024 5632 → EReal := m ((c : Thread nD τ).loc main_arg1)

theorem tile_0 (t : Fin cfg0.N) : Tile (A0 m c) (iblk m c 0 t) (t.val / 2 * 256) (t.val % 2 * 2816) :=
  fun z => ⟨(win0_0.blk t).view.emb z, rfl, by blk_simp [ix_0], by blk_simp [ix_0]⟩

theorem tile_1 (t : Fin cfg0.N) : Tile (A1 m c) (iblk m c 1 t) 0 (t.val % 2 * 2816) :=
  fun z => ⟨(win0_1.blk t).view.emb z, rfl, by blk_simp [ix_1], by blk_simp [ix_1]⟩

/-- One step's product of its two tiles. -/
theorem part_at (x0 : Vec Ideal S256x2816 .bf16) (x1 : Vec Ideal S1024x2816 .bf16) (y : S256x1024.Idx) :
    k0_pay1 x0 x1 y = rows (K := 2816) (M := 256) (N := 1024) x0 x1 y :=
  matmul_rows (φ₁ := .bf16) (φ₂ := .bf16) none x0 x1 y

/-- The first step of a pair leaves its product in the accumulator. -/
theorem first (t : Fin cfg0.N) (h : t.val % 2 = 0) (y : Ix 256 1024) :
    (outsAt0 m c t.val t.isLt).2 y = rows (K := 2816) (M := 256) (N := 1024) (iblk m c 0 t) (iblk m c 1 t) y := by
  rw [outsAt0_A m c t h (by omega)]
  frame_out
  unfold k0_pay2
  rw [shapeCast_self]
  exact part_at (iblk m c 0 t) (iblk m c 1 t) y

/-- The second step writes the accumulator and its own product. -/
theorem second (t : Fin cfg0.N) (h : t.val % 2 = 1) (y : Ix 256 1024) :
    (outsAt0 m c t.val t.isLt).1 y = (outsAt0 m c (t.val - 1) (Nat.lt_of_le_of_lt (Nat.sub_le _ _) t.isLt)).2 y
      + rows (K := 2816) (M := 256) (N := 1024) (iblk m c 0 t) (iblk m c 1 t) y := by
  rw [outsAt0_B m c t (by omega) h]
  frame_out
  rw [read_unread_whole]
  exact congrArg (_ + ·) (part_at (iblk m c 0 t) (iblk m c 1 t) y)

/-- A point's tile, element by element, in the whole product. -/
theorem point (t : Fin cfg0.N) (h : t.val % 2 = 1) (y : Ix 256 1024) (i : Ix 4352 1024)
    (h0 : (i 0).val = t.val / 2 * 256 + (y 0).val) (h1 : (i 1).val = 0 + (y 1).val) :
    (outsAt0 m c t.val t.isLt).1 y = rows (A0 m c) (A1 m c) i := by
  have e0 : ((t.val - 1) % 2) = 0 := by omega
  have e2 : ((t.val - 1) / 2) = t.val / 2 := by omega
  have f0 := first m c ⟨t.val - 1, Nat.lt_of_le_of_lt (Nat.sub_le _ _) t.isLt⟩ e0 y
  have a0 := tile_0 m c ⟨t.val - 1, Nat.lt_of_le_of_lt (Nat.sub_le _ _) t.isLt⟩
  have a1 := tile_1 m c ⟨t.val - 1, Nat.lt_of_le_of_lt (Nat.sub_le _ _) t.isLt⟩
  have b0 := tile_0 m c t
  have b1 := tile_1 m c t
  dsimp only at a0 a1 f0
  rw [e0, Nat.zero_mul] at a0 a1
  rw [e2] at a0
  rw [h, Nat.one_mul] at b0 b1
  exact (second m c t h y).trans ((congrArg (· + _) f0).trans
    (rows_two (M := 4352) (N := 1024) (K := 2816) (m := 256) (n := 1024) a0 a1 b0 b1 y i h0 h1))

/-- The kernel's array is the product of its arguments. -/
theorem arr : (dats m 0 c).arrAt 2 cfg0.N = rows (A0 m c) (A1 m c) := by
  refine (dats m 0 c).arrAt_eq_of_covers 2 _ (by decide +kernel) fun t hf y => ?_
  blk_simp
  rw [after0_2]
  exact point m c t ((flush0_2 t).mp hf) y _ (by blk_simp [ix_2]) (by blk_simp [ix_2])

section Reference

open Cert.Reference9Ideal.Read

/-- The reference's array is the same product. -/
theorem ref (x0 : Ix 4352 5632 → EReal) (x1 : Ix 1024 5632 → EReal) : val_main_v4 (F := Ideal) x0 x1 = rows x0 x1 := by
  refine funext fun i => ?_
  rw [val_main_v4_apply]
  exact (rows_of (val_main_v3 (F := Ideal) x0) (val_main_v1 (F := Ideal) x1) i _ _ (fun k => rfl) (fun k => rfl) (fun k => rfl)
    (fun k => rfl)).trans (congrFun (congrArg₂ rows (wide x0 _) (wide x1 _)) i)

/-- Both runs end with the same array. -/
theorem value : Cert.algebraic_Kernel9Ideal_Reference9Ideal (hKernel9Ideal := Cert.Kernel9Ideal.Gen.facts)
    (hReference9Ideal := Cert.Reference9Ideal.Gen.facts) := fun m g m' g' _ hm =>
  ⟨fun c => (dats m 0 c).arrAt 2 Cert.Kernel9Ideal.cfg0.N, Cert.Kernel9Ideal.Value.run_blocks (F := Ideal) m g,
    (θ_run Cert.Reference9Ideal.defs _ _).mono (fun _ h c => by
      obtain ⟨h0, ha⟩ := h c
      obtain ⟨e0, e1⟩ := hm c
      refine ⟨h0.trans ((val_main_v4_eq _ _).trans (Eq.trans ?_ ((ref (A0 m c) (A1 m c)).trans (arr m c).symm))), ha⟩
      exact congr (congrArg val_main_v4 e0) e1)
      (Cert.Reference9Ideal.Value.run (F := Ideal) m' g')⟩

end Reference

/-- The frames: the kernel at the words and at the extended reals, and the reference. -/
theorem frame : Cert.quiescent_Kernel9 (hKernel9 := Cert.Kernel9.Gen.facts) := fun m ρ _ =>
  Cert.Kernel9.Gen.frame (F := Bits) m ρ

theorem frame_ideal : Cert.quiescent_Kernel9Ideal (hKernel9Ideal := Cert.Kernel9Ideal.Gen.facts) := fun m ρ _ =>
  Cert.Kernel9Ideal.Gen.frame (F := Ideal) m ρ

theorem frame_ref : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩) (Cert.Reference9Ideal.Value.run (F := Ideal) m ρ)

end Cert.Proof.Prod9

end
-- ==== Proof.Prod10.lean ====
/- The gradient of the hidden rows that the second layer's mixers take: the kernel sums two halves of the product of its arguments'
   rows, and the reference is the same product. -/
module

public import proofs.«01_k».proof.Defs
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Mul
public import Idealize.ShloMosaic.Lib.Pipeline.ReadBack
public import Idealize.ShloMosaic.Lib.Pipeline.ValueKit

@[expose] public section

set_option maxRecDepth 16384

noncomputable section

namespace Cert.Proof.Prod10

open Cert.Kernel10Ideal Cert.Kernel10Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 2, t.val % 2] := by decide +kernel
theorem ix_1 : ∀ t : Fin cfg0.N, win0_1.index t = ![0, t.val % 2] := by decide +kernel
theorem ix_2 : ∀ t : Fin cfg0.N, win0_2.index t = ![t.val / 2, 0] := by decide +kernel

/-- The two arguments. -/
abbrev A0 : Ix 4352 5120 → EReal := m ((c : Thread nD τ).loc main_arg0)
abbrev A1 : Ix 1024 5120 → EReal := m ((c : Thread nD τ).loc main_arg1)

theorem tile_0 (t : Fin cfg0.N) : Tile (A0 m c) (iblk m c 0 t) (t.val / 2 * 256) (t.val % 2 * 2560) :=
  fun z => ⟨(win0_0.blk t).view.emb z, rfl, by blk_simp [ix_0], by blk_simp [ix_0]⟩

theorem tile_1 (t : Fin cfg0.N) : Tile (A1 m c) (iblk m c 1 t) 0 (t.val % 2 * 2560) :=
  fun z => ⟨(win0_1.blk t).view.emb z, rfl, by blk_simp [ix_1], by blk_simp [ix_1]⟩

/-- One step's product of its two tiles. -/
theorem part_at (x0 : Vec Ideal S256x2560 .bf16) (x1 : Vec Ideal S1024x2560 .bf16) (y : S256x1024.Idx) :
    k0_pay1 x0 x1 y = rows (K := 2560) (M := 256) (N := 1024) x0 x1 y :=
  matmul_rows (φ₁ := .bf16) (φ₂ := .bf16) none x0 x1 y

/-- The first step of a pair leaves its product in the accumulator. -/
theorem first (t : Fin cfg0.N) (h : t.val % 2 = 0) (y : Ix 256 1024) :
    (outsAt0 m c t.val t.isLt).2 y = rows (K := 2560) (M := 256) (N := 1024) (iblk m c 0 t) (iblk m c 1 t) y := by
  rw [outsAt0_A m c t h (by omega)]
  frame_out
  unfold k0_pay2
  rw [shapeCast_self]
  exact part_at (iblk m c 0 t) (iblk m c 1 t) y

/-- The second step writes the accumulator and its own product. -/
theorem second (t : Fin cfg0.N) (h : t.val % 2 = 1) (y : Ix 256 1024) :
    (outsAt0 m c t.val t.isLt).1 y = (outsAt0 m c (t.val - 1) (Nat.lt_of_le_of_lt (Nat.sub_le _ _) t.isLt)).2 y
      + rows (K := 2560) (M := 256) (N := 1024) (iblk m c 0 t) (iblk m c 1 t) y := by
  rw [outsAt0_B m c t (by omega) h]
  frame_out
  rw [read_unread_whole]
  exact congrArg (_ + ·) (part_at (iblk m c 0 t) (iblk m c 1 t) y)

/-- A point's tile, element by element, in the whole product. -/
theorem point (t : Fin cfg0.N) (h : t.val % 2 = 1) (y : Ix 256 1024) (i : Ix 4352 1024)
    (h0 : (i 0).val = t.val / 2 * 256 + (y 0).val) (h1 : (i 1).val = 0 + (y 1).val) :
    (outsAt0 m c t.val t.isLt).1 y = rows (A0 m c) (A1 m c) i := by
  have e0 : ((t.val - 1) % 2) = 0 := by omega
  have e2 : ((t.val - 1) / 2) = t.val / 2 := by omega
  have f0 := first m c ⟨t.val - 1, Nat.lt_of_le_of_lt (Nat.sub_le _ _) t.isLt⟩ e0 y
  have a0 := tile_0 m c ⟨t.val - 1, Nat.lt_of_le_of_lt (Nat.sub_le _ _) t.isLt⟩
  have a1 := tile_1 m c ⟨t.val - 1, Nat.lt_of_le_of_lt (Nat.sub_le _ _) t.isLt⟩
  have b0 := tile_0 m c t
  have b1 := tile_1 m c t
  dsimp only at a0 a1 f0
  rw [e0, Nat.zero_mul] at a0 a1
  rw [e2] at a0
  rw [h, Nat.one_mul] at b0 b1
  exact (second m c t h y).trans ((congrArg (· + _) f0).trans
    (rows_two (M := 4352) (N := 1024) (K := 2560) (m := 256) (n := 1024) a0 a1 b0 b1 y i h0 h1))

/-- The kernel's array is the product of its arguments. -/
theorem arr : (dats m 0 c).arrAt 2 cfg0.N = rows (A0 m c) (A1 m c) := by
  refine (dats m 0 c).arrAt_eq_of_covers 2 _ (by decide +kernel) fun t hf y => ?_
  blk_simp
  rw [after0_2]
  exact point m c t ((flush0_2 t).mp hf) y _ (by blk_simp [ix_2]) (by blk_simp [ix_2])

section Reference

open Cert.Reference10Ideal.Read

/-- The reference's array is the same product. -/
theorem ref (x0 : Ix 4352 5120 → EReal) (x1 : Ix 1024 5120 → EReal) : val_main_v4 (F := Ideal) x0 x1 = rows x0 x1 := by
  refine funext fun i => ?_
  rw [val_main_v4_apply]
  exact (rows_of (val_main_v3 (F := Ideal) x0) (val_main_v1 (F := Ideal) x1) i _ _ (fun k => rfl) (fun k => rfl) (fun k => rfl)
    (fun k => rfl)).trans (congrFun (congrArg₂ rows (wide x0 _) (wide x1 _)) i)

/-- Both runs end with the same array. -/
theorem value : Cert.algebraic_Kernel10Ideal_Reference10Ideal (hKernel10Ideal := Cert.Kernel10Ideal.Gen.facts)
    (hReference10Ideal := Cert.Reference10Ideal.Gen.facts) := fun m g m' g' _ hm =>
  ⟨fun c => (dats m 0 c).arrAt 2 Cert.Kernel10Ideal.cfg0.N, Cert.Kernel10Ideal.Value.run_blocks (F := Ideal) m g,
    (θ_run Cert.Reference10Ideal.defs _ _).mono (fun _ h c => by
      obtain ⟨h0, ha⟩ := h c
      obtain ⟨e0, e1⟩ := hm c
      refine ⟨h0.trans ((val_main_v4_eq _ _).trans (Eq.trans ?_ ((ref (A0 m c) (A1 m c)).trans (arr m c).symm))), ha⟩
      exact congr (congrArg val_main_v4 e0) e1)
      (Cert.Reference10Ideal.Value.run (F := Ideal) m' g')⟩

end Reference

/-- The frames: the kernel at the words and at the extended reals, and the reference. -/
theorem frame : Cert.quiescent_Kernel10 (hKernel10 := Cert.Kernel10.Gen.facts) := fun m ρ _ =>
  Cert.Kernel10.Gen.frame (F := Bits) m ρ

theorem frame_ideal : Cert.quiescent_Kernel10Ideal (hKernel10Ideal := Cert.Kernel10Ideal.Gen.facts) := fun m ρ _ =>
  Cert.Kernel10Ideal.Gen.frame (F := Ideal) m ρ

theorem frame_ref : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run (F := Ideal) m ρ)

end Cert.Proof.Prod10

end
-- ==== Proof.Plain.lean ====
/- The plain product of the forward pass, read at an index and tile by tile, and the sum that a projection back to the
   hidden rows leaves: two sequences of 112 rows of padding and 2064 tokens, where a row of padding keeps what it holds. -/
module

public import proofs.«01_k».proof.Proof.Mul

@[expose] public section

set_option maxRecDepth 16384

noncomputable section

namespace Cert.Proof.Mul

open Idealize.ShloMosaic Idealize.ShloMosaic.ValueIdx
open scoped BigOperators

/-- The plain product: element (r, c) sums X(r, k) · Y(k, c). -/
def prod {M K N : ℕ} (X : Ix M K → EReal) (Y : Ix K N → EReal) : Ix M N → EReal :=
  fun i => ∑ k : Fin K, X (ix2 (i 0) k) * Y (ix2 k (i 1))

/-- A tile's product into zero is the plain product. -/
theorem matmul_prod {M K N : ℕ} {φ₁ φ₂ : FTy} (prec : Option ContractPrecision) (l : FVec Ideal ⟨2, ![M, K]⟩ φ₁)
    (r : FVec Ideal ⟨2, ![K, N]⟩ φ₂) (j : Ix M N) :
    FloatOps.matmul (DotDims.plain M K N) prec l r (constant ⟨2, ![M, N]⟩ .f32 0x00000000#32) j = prod l r j := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  refine congrArg₂ (· * ·) (congrArg l (ix_ext ?_ ?_)) (congrArg r (ix_ext ?_ ?_))
  · rfl
  · exact hk
  · exact hk
  · rfl

/-- The product of a tile of whole rows and a tile of whole columns is the tile of the whole product. -/
theorem prod_tile {M K N m n o p : ℕ} {X : Ix M K → EReal} {Y : Ix K N → EReal} {B : Ix m K → EReal} {C : Ix K n → EReal}
    (hB : Tile X B o 0) (hC : Tile Y C 0 p) (y : Ix m n) (i : Ix M N)
    (h0 : (i 0).val = o + (y 0).val) (h1 : (i 1).val = p + (y 1).val) : prod B C y = prod X Y i :=
  Finset.sum_congr rfl fun k _ => congrArg₂ (· * ·)
    (hB.at _ _ h0 (Nat.zero_add _).symm) (hC.at _ _ (Nat.zero_add _).symm h1)

/-- The reference's product, its operands named by coordinates. -/
theorem prod_of {M K N : ℕ} (X : Ix M K → EReal) (Y : Ix K N → EReal) (i : Ix M N) (L : Fin K → Ix M K) (R : Fin K → Ix K N)
    (hl0 : ∀ k, (L k 0).val = (i 0).val) (hl1 : ∀ k, (L k 1).val = k.val) (hr0 : ∀ k, (R k 0).val = k.val)
    (hr1 : ∀ k, (R k 1).val = (i 1).val) : ∑ k : Fin K, X (L k) * Y (R k) = prod X Y i :=
  Finset.sum_congr rfl fun k _ => congrArg₂ (· * ·)
    (congrArg X (ix_ext (hl0 k) (hl1 k))) (congrArg Y (ix_ext (hr0 k) (hr1 k)))

/-- A token's row gets the product added, a row of padding keeps what it holds. -/
def joined {K N : ℕ} (X : Ix 4352 K → EReal) (Y : Ix K N → EReal) (H : Ix 4352 N → EReal) : Ix 4352 N → EReal :=
  fun i => H i + if (i 0).val % 2176 < 112 then 0 else prod X Y i

/-- The kernel's test for a row of padding, on the row's number as a word. -/
def padWord (w : BitVec 32) : BitVec 1 :=
  IntOp.ori (IntOp.ori 0#1 (IntOp.andi (IntOp.cmpi .sge w 0#32) (IntOp.cmpi .slt w 112#32)))
    (IntOp.andi (IntOp.cmpi .sge w 2176#32) (IntOp.cmpi .slt w 2288#32))

theorem padWord_eq : ∀ r : Fin 4352, padWord (BitVec.ofNat 32 r.val) = BitVec.ofBool (decide (r.val % 2176 < 112)) := by
  decide +kernel

/-- The row's number is the tile's start and the row within it. -/
theorem row_word : ∀ (n : Fin 17) (r : Fin 256), IntOp.addi (IntOp.muli (BitVec.ofNat 32 n.val) 256#32) (BitVec.ofNat 32 r.val)
    = BitVec.ofNat 32 (n.val * 256 + r.val) := by
  intro n r
  refine BitVec.eq_of_toNat_eq ?_
  simp [IntOp.addi, IntOp.muli]

/-- The kernel's choice by that test. -/
theorem pad_select (r : Fin 4352) (x : EReal) :
    Scalar.select (padWord (BitVec.ofNat 32 r.val)) 0 x = if r.val % 2176 < 112 then 0 else x := by
  rw [padWord_eq]
  by_cases h : r.val % 2176 < 112 <;> simp [h, Scalar.select]

end Cert.Proof.Mul

end
-- ==== Proof.Prod11.lean ====
/- The hidden rows that the second layer's ffn widens: the kernel's tiles are those of the product of its arguments, and so is the reference's. -/
module

public import proofs.«01_k».proof.Defs
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Plain
public import Idealize.ShloMosaic.Lib.Pipeline.ValueKit

@[expose] public section

set_option maxRecDepth 16384

noncomputable section

namespace Cert.Proof.Prod11

open Cert.Kernel11Ideal Cert.Kernel11Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 11, 0] := by decide +kernel
theorem ix_1 : ∀ t : Fin cfg0.N, win0_1.index t = ![0, t.val % 11] := by decide +kernel
theorem ix_2 : ∀ t : Fin cfg0.N, win0_2.index t = ![t.val / 11, t.val % 11] := by decide +kernel

/-- The two arguments. -/
abbrev A0 : Ix 4352 1024 → EReal := m ((c : Thread nD τ).loc main_arg0)
abbrev A1 : Ix 1024 5632 → EReal := m ((c : Thread nD τ).loc main_arg1)

theorem tile_0 (t : Fin cfg0.N) : Tile (A0 m c) (iblk m c 0 t) (t.val / 11 * 2176) 0 :=
  fun z => ⟨(win0_0.blk t).view.emb z, rfl, by blk_simp [ix_0], by blk_simp [ix_0]⟩

theorem tile_1 (t : Fin cfg0.N) : Tile (A1 m c) (iblk m c 1 t) 0 (t.val % 11 * 512) :=
  fun z => ⟨(win0_1.blk t).view.emb z, rfl, by blk_simp [ix_1], by blk_simp [ix_1]⟩

/-- What a point writes is the product of its two tiles. -/
theorem out_at (x0 : Vec Ideal S2176x1024 .bf16) (x1 : Vec Ideal S1024x512 .bf16) (y : S2176x512.Idx) :
    out0_2 x0 x1 y = prod (K := 1024) (M := 2176) (N := 512) x0 x1 y := by
  frame_out
  exact matmul_prod (φ₁ := .bf16) (φ₂ := .bf16) none x0 x1 y

/-- A point's tile, element by element, in the whole product. -/
theorem point (t : Fin cfg0.N) (y : Ix 2176 512) (i : Ix 4352 5632) (h0 : (i 0).val = t.val / 11 * 2176 + (y 0).val)
    (h1 : (i 1).val = t.val % 11 * 512 + (y 1).val) :
    out0_2 (F := Ideal) (iblk m c 0 t) (iblk m c 1 t) y = prod (A0 m c) (A1 m c) i :=
  (out_at (iblk m c 0 t) (iblk m c 1 t) y).trans
    (prod_tile (K := 1024) (M := 4352) (N := 5632) (m := 2176) (n := 512) (tile_0 m c t) (tile_1 m c t) y i h0 h1)

/-- The kernel's array is the product of its arguments. -/
theorem arr : (dats m 0 c).arrAt 2 cfg0.N = prod (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference11Ideal.Read

/-- The reference's array is the same product. -/
theorem ref (x0 : Ix 4352 1024 → EReal) (x1 : Ix 1024 5632 → EReal) : val_main_v2 (F := Ideal) x0 x1 = prod x0 x1 := by
  refine funext fun i => ?_
  rw [val_main_v2_apply]
  exact (prod_of (val_main_v0 (F := Ideal) x0) (val_main_v1 (F := Ideal) x1) i _ _ (fun k => rfl) (fun k => rfl) (fun k => rfl)
    (fun k => rfl)).trans (congrFun (congrArg₂ prod (wide x0 _) (wide x1 _)) i)

/-- Both runs end with the same array. -/
theorem value : Cert.algebraic_Kernel11Ideal_Reference11Ideal (hKernel11Ideal := Cert.Kernel11Ideal.Gen.facts)
    (hReference11Ideal := Cert.Reference11Ideal.Gen.facts) := fun m g m' g' _ hm =>
  ⟨fun c => (dats m 0 c).arrAt 2 Cert.Kernel11Ideal.cfg0.N, Cert.Kernel11Ideal.Value.run_blocks (F := Ideal) m g,
    (θ_run Cert.Reference11Ideal.defs _ _).mono (fun _ h c => by
      obtain ⟨h0, ha⟩ := h c
      obtain ⟨e0, e1⟩ := hm c
      refine ⟨h0.trans ((val_main_v2_eq _ _).trans (Eq.trans ?_ ((ref (A0 m c) (A1 m c)).trans (arr m c).symm))), ha⟩
      exact congr (congrArg val_main_v2 e0) e1)
      (Cert.Reference11Ideal.Value.run (F := Ideal) m' g')⟩

end Reference

/-- The frames: the kernel at the words and at the extended reals, and the reference. -/
theorem frame : Cert.quiescent_Kernel11 (hKernel11 := Cert.Kernel11.Gen.facts) := fun m ρ _ =>
  Cert.Kernel11.Gen.frame (F := Bits) m ρ

theorem frame_ideal : Cert.quiescent_Kernel11Ideal (hKernel11Ideal := Cert.Kernel11Ideal.Gen.facts) := fun m ρ _ =>
  Cert.Kernel11Ideal.Gen.frame (F := Ideal) m ρ

theorem frame_ref : Cert.quiescent_Reference11Ideal (hReference11Ideal := Cert.Reference11Ideal.Gen.facts) := fun m ρ _ =>
  (θ_run Cert.Reference11Ideal.defs _ _).mono
    (fun r h => ⟨fun c => (h c).2, sem_eq_zero_of_no_sems (by decide) r.2⟩) (Cert.Reference11Ideal.Value.run (F := Ideal) m ρ)

end Cert.Proof.Prod11

end
-- ==== Proof.Prod12.lean ====
/- The hidden rows that the second layer's mixers take: the kernel's tiles are those of the product of its arguments, and so is the reference's. -/
module

public import proofs.«01_k».proof.Defs
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Plain
public import Idealize.ShloMosaic.Lib.Pipeline.ValueKit

@[expose] public section

set_option maxRecDepth 16384

noncomputable section

namespace Cert.Proof.Prod12

open Cert.Kernel12Ideal Cert.Kernel12Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val / 5, 0] := by decide +kernel
theorem ix_1 : ∀ t : Fin cfg0.N, win0_1.index t = ![0, t.val % 5] := by decide +kernel
theorem ix_2 : ∀ t : Fin cfg0.N, win0_2.index t = ![t.val / 5, t.val % 5] := by decide +kernel

/-- The two arguments. -/
abbrev A0 : Ix 4352 1024 → EReal := m ((c : Thread nD τ).loc main_arg0)
abbrev A1 : Ix 1024 5120 → EReal := m ((c : Thread nD τ).loc main_arg1)

theorem tile_0 (t : Fin cfg0.N) : Tile (A0 m c) (iblk m c 0 t) (t.val / 5 * 2176) 0 :=
  fun z => ⟨(win0_0.blk t).view.emb z, rfl, by blk_simp [ix_0], by blk_simp [ix_0]⟩

theorem tile_1 (t : Fin cfg0.N) : Tile (A1 m c) (iblk m c 1 t) 0 (t.val % 5 * 1024) :=
  fun z => ⟨(win0_1.blk t).view.emb z, rfl, by blk_simp [ix_1], by blk_simp [ix_1]⟩

/-- What a point writes is the product of its two tiles. -/
theorem out_at (x0 : Vec Ideal S2176x1024 .bf16) (x1 : Vec Ideal S1024x1024 .bf16) (y : S2176x1024.Idx) :
    out0_2 x0 x1 y = prod (K := 1024) (M := 2176) (N := 1024) x0 x1 y := by
  frame_out
  exact matmul_prod (φ₁ := .bf16) (φ₂ := .bf16) none x0 x1 y

/-- A point's tile, element by element, in the whole product. -/
theorem point (t : Fin cfg0.N) (y : Ix 2176 1024) (i : Ix 4352 5120) (h0 : (i 0).val = t.val / 5 * 2176 + (y 0).val)
    (h1 : (i 1).val = t.val % 5 * 1024 + (y 1).val) :
    out0_2 (F := Ideal) (iblk m c 0 t) (iblk m c 1 t) y = prod (A0 m c) (A1 m c) i :=
  (out_at (iblk m c 0 t) (iblk m c 1 t) y).trans
    (prod_tile (K := 1024) (M := 4352) (N := 5120) (m := 2176) (n := 1024) (tile_0 m c t) (tile_1 m c t) y i h0 h1)

/-- The kernel's array is the product of its arguments. -/
theorem arr : (dats m 0 c).arrAt 2 cfg0.N = prod (A0 m c) (A1 m c) := by
  refine (dats m 0 c).arrAt_eq_of_covers 2 _ (by decide +kernel) fun t hf y => ?_
  blk_simp
  rw [after0_2]
  exact point m c t y _ (by blk_simp [ix_2]) (by blk_simp [ix_2])

section Reference

open Cert.Reference12Ideal.Read

/-- The reference's array is the same product. -/
theorem ref (x0 : Ix 4352 1024 → EReal) (x1 : Ix 1024 5120 → EReal) : val_main_v2 (F := Ideal) x0 x1 = prod x0 x1 := by
  refine funext fun i => ?_
  rw [val_main_v2_apply]
  exact (prod_of (val_main_v0 (F := Ideal) x0) (val_main_v1 (F := Ideal) x1) i _ _ (fun k => rfl) (fun k => rfl) (fun k => rfl)
    (fun k => rfl)).trans (congrFun (congrArg₂ prod (wide x0 _) (wide x1 _)) i)

/-- Both runs end with the same array. -/
theorem value : Cert.algebraic_Kernel12Ideal_Reference12Ideal (hKernel12Ideal := Cert.Kernel12Ideal.Gen.facts)
    (hReference12Ideal := Cert.Reference12Ideal.Gen.facts) := fun m g m' g' _ hm =>
  ⟨fun c => (dats m 0 c).arrAt 2 Cert.Kernel12Ideal.cfg0.N, Cert.Kernel12Ideal.Value.run_blocks (F := Ideal) m g,
    (θ_run Cert.Reference12Ideal.defs _ _).mono (fun _ h c => by
      obtain ⟨h0, ha⟩ := h c
      obtain ⟨e0, e1⟩ := hm c
      refine ⟨h0.trans ((val_main_v2_eq _ _).trans (Eq.trans ?_ ((ref (A0 m c) (A1 m c)).trans (arr m c).symm))), ha⟩
      exact congr (congrArg val_main_v2 e0) e1)
      (Cert.Reference12Ideal.Value.run (F := Ideal) m' g')⟩

end Reference

/-- The frames: the kernel at the words and at the extended reals, and the reference. -/
theorem frame : Cert.quiescent_Kernel12 (hKernel12 := Cert.Kernel12.Gen.facts) := fun m ρ _ =>
  Cert.Kernel12.Gen.frame (F := Bits) m ρ

theorem frame_ideal : Cert.quiescent_Kernel12Ideal (hKernel12Ideal := Cert.Kernel12Ideal.Gen.facts) := fun m ρ _ =>
  Cert.Kernel12Ideal.Gen.frame (F := Ideal) m ρ

theorem frame_ref : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run (F := Ideal) m ρ)

end Cert.Proof.Prod12

end
-- ==== Proof.Prod13.lean ====
/- The mixers' outputs, projected back to the hidden rows, with the rows that they are added to:
   the kernel's tiles are those of the sum, where a row of padding keeps
   what it holds, and so is the reference's array. -/
module

public import proofs.«01_k».proof.Defs
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Plain
public import Idealize.ShloMosaic.Lib.Pipeline.ValueKit

@[expose] public section

set_option maxRecDepth 16384

noncomputable section

namespace Cert.Proof.Prod13

open Cert.Kernel13Ideal Cert.Kernel13Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel
theorem co_0 : ∀ t : Fin cfg0.N, (grid0.coords t 0).val = t.val := by decide +kernel

/-- The three arguments. -/
abbrev A0 : Ix 4352 2048 → EReal := m ((c : Thread nD τ).loc main_arg0)
abbrev A1 : Ix 2048 1024 → EReal := m ((c : Thread nD τ).loc main_arg1)
abbrev A2 : Ix 4352 1024 → EReal := m ((c : Thread nD τ).loc main_arg2)

theorem tile_0 (t : Fin cfg0.N) : Tile (A0 m c) (iblk m c 0 t) (t.val * 256) 0 :=
  fun z => ⟨(win0_0.blk t).view.emb z, rfl, by blk_simp [ix_0], by blk_simp [ix_0]⟩

theorem tile_1 (t : Fin cfg0.N) : Tile (A1 m c) (iblk m c 1 t) 0 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

/-- What a point writes: the tile that it adds to, and on a token's row the product. -/
theorem pay_at (i : grid0.Coords) (x0 : Vec Ideal S256x2048 .bf16) (x1 : Vec Ideal S2048x1024 .bf16) (x2 : Vec Ideal S256x1024 .f32)
    (y : Ix 256 1024) : k0_pay1 i x0 x1 x2 y
      = x2 y + Scalar.select (padWord (IntOp.addi (IntOp.muli (BitVec.ofNat 32 (i 0).val) 256#32) (BitVec.ofNat 32 (y 0).val)))
          0 (prod (M := 256) (K := 2048) (N := 1024) x0 x1 y) := by
  unfold k0_pay1
  rw [shapeCast_self]
  refine congrArg (x2 y + ·) (congr (congrArg₂ Scalar.select ?_ Ideal.ofBits_zero_f32)
    (matmul_prod (φ₁ := .bf16) (φ₂ := .bf16) none x0 x1 y))
  refine (broadcastTo_apply (s := S256x1) (t := S256x1024) _ _ y (ValueIdx.ix2 (y 0) (0 : Fin 1))
    (fun a => by fin_cases a <;> rfl)).trans ?_
  exact congrArg (fun z => padWord (IntOp.addi (IntOp.muli (BitVec.ofNat 32 (i 0).val) 256#32) (BitVec.ofNat 32 z)))
    ((congrArg (· + (y 0).val) (Nat.zero_mul 256)).trans (Nat.zero_add (y 0).val))

theorem out_at (i : grid0.Coords) (n : Fin 17) (hn : (i 0).val = n.val) (x0 : Vec Ideal S256x2048 .bf16)
    (x1 : Vec Ideal S2048x1024 .bf16) (x2 : Vec Ideal S256x1024 .f32) (y : Ix 256 1024) :
    out0_3 i x0 x1 x2 y = x2 y + if (n.val * 256 + (y 0).val) % 2176 < 112 then 0
      else prod (M := 256) (K := 2048) (N := 1024) x0 x1 y := by
  frame_out
  rw [pay_at, hn, row_word n (y 0)]
  exact congrArg (x2 y + ·) (pad_select ⟨n.val * 256 + (y 0).val, by have := n.isLt; have h : (y 0).val < 256 := (y 0).isLt; omega⟩ _)

/-- A point's tile, element by element, in the whole array. -/
theorem point (t : Fin cfg0.N) (y : Ix 256 1024) (i : Ix 4352 1024) (h0 : (i 0).val = t.val * 256 + (y 0).val)
    (h1 : (i 1).val = 0 + (y 1).val) :
    out0_3 (F := Ideal) (grid0.coords t) (iblk m c 0 t) (iblk m c 1 t) (iblk m c 2 t) y = joined (A0 m c) (A1 m c) (A2 m c) i := by
  refine (out_at (grid0.coords t) t (co_0 t) (iblk m c 0 t) (iblk m c 1 t) (iblk m c 2 t) y).trans ?_
  unfold joined
  rw [h0]
  exact congrArg₂ (· + ·) ((tile_2 m c t).at y i h0 h1) (if_congr Iff.rfl rfl
    (prod_tile (M := 4352) (K := 2048) (N := 1024) (m := 256) (n := 1024) (tile_0 m c t) (tile_1 m c t) y i h0 h1))

/-- The kernel's array. -/
theorem arr : (dats m 0 c).arrAt 3 cfg0.N = joined (A0 m c) (A1 m c) (A2 m c) := by
  refine (dats m 0 c).arrAt_eq_of_covers 3 _ (by decide +kernel) fun t hf y => ?_
  blk_simp
  rw [after0_3]
  exact point m c t y _ (by blk_simp [ix_3]) (by blk_simp [ix_3])

section Reference

open Cert.Reference13Ideal.Read

/-- The reference's array is the same. -/
theorem ref (x0 : Ix 4352 2048 → EReal) (x1 : Ix 2048 1024 → EReal) (x2 : Ix 4352 1024 → EReal) :
    val_main_v10 (F := Ideal) x0 x1 x2 = joined x0 x1 x2 := by
  refine funext fun i => ?_
  have hi0 : (i 0).val < 4352 := (i 0).isLt
  have hi1 : (i 1).val < 1024 := (i 1).isLt
  have hm : ((i 0).val * 1024 + (i 1).val) / 1024 % 2176 = (i 0).val % 2176 := by omega
  rw [val_main_v10_apply]
  unfold val_main_v9 joined
  rw [concatenate_pair_apply]
  by_cases h : (i 0).val % 2176 < 112
  · rw [if_pos h, add_zero]
    refine (dif_pos (lt_of_eq_of_lt hm h)).trans ?_
    rw [val_main_v8_apply, val_main_v0_apply]
    refine congrArg x2 (ix_ext ?_ ?_)
    · simp [Shape.Idx.norm_def] <;> omega
    · simp [Shape.Idx.norm_def] <;> omega
  · rw [if_neg h]
    refine (dif_neg (fun hh => h (lt_of_eq_of_lt hm.symm hh))).trans ?_
    rw [val_main_v7_apply, val_main_v3_apply, val_main_v0_apply, val_main_v6_apply]
    refine congrArg₂ (· + ·) (congrArg x2 (ix_ext ?_ ?_)) ?_
    · simp [Shape.Idx.norm_def] <;> omega
    · simp [Shape.Idx.norm_def] <;> omega
    · refine (Finset.sum_congr rfl fun k _ => congrArg₂ (· * ·)
        ((val_main_v4_apply (F := Ideal) x0 _).trans (val_main_v2_apply (F := Ideal) x0 _)) rfl).trans
        ((prod_of (val_main_v1 (F := Ideal) x0) (val_main_v5 (F := Ideal) x1) i _ _ (fun k => ?_) (fun k => ?_) (fun k => rfl)
          (fun k => ?_)).trans (congrFun (congrArg₂ prod (wide x0 _) (wide x1 _)) i))
      · simp [Shape.Idx.norm_def] <;> omega
      · simp [Shape.Idx.norm_def] <;> omega
      · simp [Shape.Idx.norm_def] <;> omega

/-- Both runs end with the same array. -/
theorem value : Cert.algebraic_Kernel13Ideal_Reference13Ideal (hKernel13Ideal := Cert.Kernel13Ideal.Gen.facts)
    (hReference13Ideal := Cert.Reference13Ideal.Gen.facts) := fun m g m' g' _ hm =>
  ⟨fun c => (dats m 0 c).arrAt 3 Cert.Kernel13Ideal.cfg0.N, Cert.Kernel13Ideal.Value.run_blocks (F := Ideal) m g,
    (θ_run Cert.Reference13Ideal.defs _ _).mono (fun _ h c => by
      obtain ⟨h0, ha⟩ := h c
      obtain ⟨e0, e1, e2⟩ := hm c
      refine ⟨h0.trans ((val_main_v10_eq _ _ _).trans (Eq.trans ?_ ((ref (A0 m c) (A1 m c) (A2 m c)).trans (arr m c).symm))), ha⟩
      exact congr (congr (congrArg val_main_v10 e0) e1) e2)
      (Cert.Reference13Ideal.Value.run (F := Ideal) m' g')⟩

end Reference

/-- The frames: the kernel at the words and at the extended reals, and the reference. -/
theorem frame : Cert.quiescent_Kernel13 (hKernel13 := Cert.Kernel13.Gen.facts) := fun m ρ _ =>
  Cert.Kernel13.Gen.frame (F := Bits) m ρ

theorem frame_ideal : Cert.quiescent_Kernel13Ideal (hKernel13Ideal := Cert.Kernel13Ideal.Gen.facts) := fun m ρ _ =>
  Cert.Kernel13Ideal.Gen.frame (F := Ideal) m ρ

theorem frame_ref : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩) (Cert.Reference13Ideal.Value.run (F := Ideal) m ρ)

end Cert.Proof.Prod13

end
-- ==== Proof.Prod14.lean ====
/- The ffn's gated rows, projected back to the hidden rows, with the rows that they are added to:
   the kernel's tiles are those of the sum, where a row of padding keeps
   what it holds, and so is the reference's array. -/
module

public import proofs.«01_k».proof.Defs
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Plain
public import Idealize.ShloMosaic.Lib.Pipeline.ValueKit

@[expose] public section

set_option maxRecDepth 16384

noncomputable section

namespace Cert.Proof.Prod14

open Cert.Kernel14Ideal Cert.Kernel14Ideal.Gen Cert.Proof.Mul
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel
theorem co_0 : ∀ t : Fin cfg0.N, (grid0.coords t 0).val = t.val := by decide +kernel

/-- The three arguments. -/
abbrev A0 : Ix 4352 2816 → EReal := m ((c : Thread nD τ).loc main_arg0)
abbrev A1 : Ix 2816 1024 → EReal := m ((c : Thread nD τ).loc main_arg1)
abbrev A2 : Ix 4352 1024 → EReal := m ((c : Thread nD τ).loc main_arg2)

theorem tile_0 (t : Fin cfg0.N) : Tile (A0 m c) (iblk m c 0 t) (t.val * 256) 0 :=
  fun z => ⟨(win0_0.blk t).view.emb z, rfl, by blk_simp [ix_0], by blk_simp [ix_0]⟩

theorem tile_1 (t : Fin cfg0.N) : Tile (A1 m c) (iblk m c 1 t) 0 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

/-- What a point writes: the tile that it adds to, and on a token's row the product. -/
theorem pay_at (i : grid0.Coords) (x0 : Vec Ideal S256x2816 .bf16) (x1 : Vec Ideal S2816x1024 .bf16) (x2 : Vec Ideal S256x1024 .f32)
    (y : Ix 256 1024) : k0_pay1 i x0 x1 x2 y
      = x2 y + Scalar.select (padWord (IntOp.addi (IntOp.muli (BitVec.ofNat 32 (i 0).val) 256#32) (BitVec.ofNat 32 (y 0).val)))
          0 (prod (M := 256) (K := 2816) (N := 1024) x0 x1 y) := by
  unfold k0_pay1
  rw [shapeCast_self]
  refine congrArg (x2 y + ·) (congr (congrArg₂ Scalar.select ?_ Ideal.ofBits_zero_f32)
    (matmul_prod (φ₁ := .bf16) (φ₂ := .bf16) none x0 x1 y))
  refine (broadcastTo_apply (s := S256x1) (t := S256x1024) _ _ y (ValueIdx.ix2 (y 0) (0 : Fin 1))
    (fun a => by fin_cases a <;> rfl)).trans ?_
  exact congrArg (fun z => padWord (IntOp.addi (IntOp.muli (BitVec.ofNat 32 (i 0).val) 256#32) (BitVec.ofNat 32 z)))
    ((congrArg (· + (y 0).val) (Nat.zero_mul 256)).trans (Nat.zero_add (y 0).val))

theorem out_at (i : grid0.Coords) (n : Fin 17) (hn : (i 0).val = n.val) (x0 : Vec Ideal S256x2816 .bf16)
    (x1 : Vec Ideal S2816x1024 .bf16) (x2 : Vec Ideal S256x1024 .f32) (y : Ix 256 1024) :
    out0_3 i x0 x1 x2 y = x2 y + if (n.val * 256 + (y 0).val) % 2176 < 112 then 0
      else prod (M := 256) (K := 2816) (N := 1024) x0 x1 y := by
  frame_out
  rw [pay_at, hn, row_word n (y 0)]
  exact congrArg (x2 y + ·) (pad_select ⟨n.val * 256 + (y 0).val, by have := n.isLt; have h : (y 0).val < 256 := (y 0).isLt; omega⟩ _)

/-- A point's tile, element by element, in the whole array. -/
theorem point (t : Fin cfg0.N) (y : Ix 256 1024) (i : Ix 4352 1024) (h0 : (i 0).val = t.val * 256 + (y 0).val)
    (h1 : (i 1).val = 0 + (y 1).val) :
    out0_3 (F := Ideal) (grid0.coords t) (iblk m c 0 t) (iblk m c 1 t) (iblk m c 2 t) y = joined (A0 m c) (A1 m c) (A2 m c) i := by
  refine (out_at (grid0.coords t) t (co_0 t) (iblk m c 0 t) (iblk m c 1 t) (iblk m c 2 t) y).trans ?_
  unfold joined
  rw [h0]
  exact congrArg₂ (· + ·) ((tile_2 m c t).at y i h0 h1) (if_congr Iff.rfl rfl
    (prod_tile (M := 4352) (K := 2816) (N := 1024) (m := 256) (n := 1024) (tile_0 m c t) (tile_1 m c t) y i h0 h1))

/-- The kernel's array. -/
theorem arr : (dats m 0 c).arrAt 3 cfg0.N = joined (A0 m c) (A1 m c) (A2 m c) := by
  refine (dats m 0 c).arrAt_eq_of_covers 3 _ (by decide +kernel) fun t hf y => ?_
  blk_simp
  rw [after0_3]
  exact point m c t y _ (by blk_simp [ix_3]) (by blk_simp [ix_3])

section Reference

open Cert.Reference14Ideal.Read

/-- The reference's array is the same. -/
theorem ref (x0 : Ix 4352 2816 → EReal) (x1 : Ix 2816 1024 → EReal) (x2 : Ix 4352 1024 → EReal) :
    val_main_v10 (F := Ideal) x0 x1 x2 = joined x0 x1 x2 := by
  refine funext fun i => ?_
  have hi0 : (i 0).val < 4352 := (i 0).isLt
  have hi1 : (i 1).val < 1024 := (i 1).isLt
  have hm : ((i 0).val * 1024 + (i 1).val) / 1024 % 2176 = (i 0).val % 2176 := by omega
  rw [val_main_v10_apply]
  unfold val_main_v9 joined
  rw [concatenate_pair_apply]
  by_cases h : (i 0).val % 2176 < 112
  · rw [if_pos h, add_zero]
    refine (dif_pos (lt_of_eq_of_lt hm h)).trans ?_
    rw [val_main_v8_apply, val_main_v0_apply]
    refine congrArg x2 (ix_ext ?_ ?_)
    · simp [Shape.Idx.norm_def] <;> omega
    · simp [Shape.Idx.norm_def] <;> omega
  · rw [if_neg h]
    refine (dif_neg (fun hh => h (lt_of_eq_of_lt hm.symm hh))).trans ?_
    rw [val_main_v7_apply, val_main_v3_apply, val_main_v0_apply, val_main_v6_apply]
    refine congrArg₂ (· + ·) (congrArg x2 (ix_ext ?_ ?_)) ?_
    · simp [Shape.Idx.norm_def] <;> omega
    · simp [Shape.Idx.norm_def] <;> omega
    · refine (Finset.sum_congr rfl fun k _ => congrArg₂ (· * ·)
        ((val_main_v4_apply (F := Ideal) x0 _).trans (val_main_v2_apply (F := Ideal) x0 _)) rfl).trans
        ((prod_of (val_main_v1 (F := Ideal) x0) (val_main_v5 (F := Ideal) x1) i _ _ (fun k => ?_) (fun k => ?_) (fun k => rfl)
          (fun k => ?_)).trans (congrFun (congrArg₂ prod (wide x0 _) (wide x1 _)) i))
      · simp [Shape.Idx.norm_def] <;> omega
      · simp [Shape.Idx.norm_def] <;> omega
      · simp [Shape.Idx.norm_def] <;> omega

/-- Both runs end with the same array. -/
theorem value : Cert.algebraic_Kernel14Ideal_Reference14Ideal (hKernel14Ideal := Cert.Kernel14Ideal.Gen.facts)
    (hReference14Ideal := Cert.Reference14Ideal.Gen.facts) := fun m g m' g' _ hm =>
  ⟨fun c => (dats m 0 c).arrAt 3 Cert.Kernel14Ideal.cfg0.N, Cert.Kernel14Ideal.Value.run_blocks (F := Ideal) m g,
    (θ_run Cert.Reference14Ideal.defs _ _).mono (fun _ h c => by
      obtain ⟨h0, ha⟩ := h c
      obtain ⟨e0, e1, e2⟩ := hm c
      refine ⟨h0.trans ((val_main_v10_eq _ _ _).trans (Eq.trans ?_ ((ref (A0 m c) (A1 m c) (A2 m c)).trans (arr m c).symm))), ha⟩
      exact congr (congr (congrArg val_main_v10 e0) e1) e2)
      (Cert.Reference14Ideal.Value.run (F := Ideal) m' g')⟩

end Reference

/-- The frames: the kernel at the words and at the extended reals, and the reference. -/
theorem frame : Cert.quiescent_Kernel14 (hKernel14 := Cert.Kernel14.Gen.facts) := fun m ρ _ =>
  Cert.Kernel14.Gen.frame (F := Bits) m ρ

theorem frame_ideal : Cert.quiescent_Kernel14Ideal (hKernel14Ideal := Cert.Kernel14Ideal.Gen.facts) := fun m ρ _ =>
  Cert.Kernel14Ideal.Gen.frame (F := Ideal) m ρ

theorem frame_ref : Cert.quiescent_Reference14Ideal (hReference14Ideal := Cert.Reference14Ideal.Gen.facts) := fun m ρ _ =>
  (θ_run Cert.Reference14Ideal.defs _ _).mono
    (fun r h => ⟨fun c => (h c).2, sem_eq_zero_of_no_sems (by decide) r.2⟩) (Cert.Reference14Ideal.Value.run (F := Ideal) m ρ)

end Cert.Proof.Prod14

end
-- ==== Proof.Rms.lean ====
/- The norm of the hidden rows, row by row: a row of 1024 over the root of its mean square and the added constant, times
   a scale. Its two gradients: the row's, and the scale's, which sums over the rows. -/
module

public import proofs.«01_k».proof.Proof.Plain
public import Idealize.ShloMosaic.Lib.Pipeline.ValueKit

@[expose] public section

set_option maxRecDepth 16384

noncomputable section

namespace Cert.Proof.Rms

open Cert.Proof.Mul
open Idealize.ShloMosaic hiding ix1 ix2 ix3
open Idealize.ShloMosaic.ValueIdx
open scoped BigOperators

/-- The rows' length. -/
abbrev cL : EReal := Ideal.ofBits .f32 0x44800000#32

theorem cL_eq : cL = ((1024 : ℝ) : EReal) := by
  simp [cL, Ideal.ofBits, Ideal.ieee, -EReal.coe_mul]; norm_num

theorem one_eq : Ideal.ofBits .f32 0x3F800000#32 = 1 := by
  simp [Ideal.ofBits, Ideal.ieee, -EReal.coe_mul]; norm_num

theorem div_zero_len : Ideal.div 0 cL = 0 := by
  rw [Ideal.div, if_neg (by rw [cL_eq]; exact_mod_cast (by norm_num : (1024 : ℝ) ≠ 0)), zero_mul]

/-- A row of a matrix. -/
abbrev row {R : ℕ} (X : Ix R 1024 → EReal) (r : Fin R) : Fin 1024 → EReal := fun k => X (ix2 r k)

/-- The mean square and the added constant. -/
def ms (h : Fin 1024 → EReal) : EReal := Ideal.div (∑ k, h k * h k) cL + Ideal.ofBits .f32 0x358637BD#32

/-- One over its root. -/
def rs (h : Fin 1024 → EReal) : EReal := Ideal.rsqrt (ms h)

/-- The derivative of that in the mean square. -/
def dr (h : Fin 1024 → EReal) : EReal := Ideal.ofBits .f32 0xBF000000#32 * Ideal.div (rs h) (ms h)

/-- What every element of a row gets through the mean square, up to the element itself. -/
def q (g h d : Fin 1024 → EReal) : EReal := Ideal.div ((∑ k, h k * (d k * g k)) * dr h) cL

/-- The row's gradient, added to what the row gets from elsewhere. -/
def dx (g h d n : Fin 1024 → EReal) (j : Fin 1024) : EReal :=
  ((n j + (d j * g j) * rs h) + h j * q g h d) + q g h d * h j

/-- A row without an incoming gradient keeps what it gets from elsewhere. -/
theorem dx_zero (g h d n : Fin 1024 → EReal) (j : Fin 1024) (hd : ∀ k, d k = 0) : dx g h d n j = n j := by
  have hq : q g h d = 0 := by
    rw [q, Finset.sum_eq_zero fun k _ => by rw [hd, zero_mul, mul_zero], zero_mul, div_zero_len]
  rw [dx, hq, hd, zero_mul, zero_mul, zero_mul, mul_zero, add_zero, add_zero, add_zero]

/-- An array whose rows of padding are zero. -/
def light (D : Ix 4352 1024 → EReal) : Ix 4352 1024 → EReal := fun i => if (i 0).val % 2176 < 112 then 0 else D i

/-- The normed rows. -/
def normed (g : Fin 1024 → EReal) (X : Ix 4352 1024 → EReal) : Ix 4352 1024 → EReal :=
  light fun i => (X i * rs (row X (i 0))) * g (i 1)

/-- The gradient of the rows. -/
def gradX (g : Fin 1024 → EReal) (X D N : Ix 4352 1024 → EReal) : Ix 4352 1024 → EReal :=
  fun i => dx g (row X (i 0)) (row (light D) (i 0)) (row N (i 0)) (i 1)

/-- One row's share of the scale's gradient. -/
def share (X D : Ix 4352 1024 → EReal) (j : Fin 1024) (r : ℕ) : EReal :=
  if h : r < 4352 then (X (ix2 (⟨r, h⟩ : Fin 4352) j) * rs (row X ⟨r, h⟩)) * light D (ix2 (⟨r, h⟩ : Fin 4352) j) else 0

theorem share_pad (X D : Ix 4352 1024 → EReal) (j : Fin 1024) (r : ℕ) (hr : r % 2176 < 112) : share X D j r = 0 := by
  unfold share
  split
  · rw [light, if_pos (by exact hr), mul_zero]
  · rfl

/-- The gradient of the scale. -/
def gradG (X D : Ix 4352 1024 → EReal) : Ix 1 1024 → EReal :=
  fun i => ∑ b ∈ Finset.range 2, ∑ t ∈ Finset.range 2064, share X D (i 1) (b * 2176 + (112 + t))

/-- A sum along a tile's rows, kept as a column. -/
theorem lane_sum {R : ℕ} (v : FVec Ideal ⟨2, ![R, 1024]⟩ .f32) (h : Shape.Reduces ⟨2, ![R, 1024]⟩ [1] ⟨1, ![R]⟩)
    (hf : FKind.Formats .f32) (ha : (0x00000000#32 : BitVec 32) = FKind.add.neutral .f32 hf)
    (hc : Shape.ShapeCasts ⟨1, ![R]⟩ ⟨2, ![R, 1]⟩) (y : Ix R 1) :
    shapeCast ⟨2, ![R, 1]⟩ (multiReduction .add [1] ⟨1, ![R]⟩ v 0x00000000#32 h hf ha) hc y = ∑ k : Fin 1024, v (ix2 (y 0) k) := by
  have hy : (y 1).val < 1 := (y 1).isLt
  refine (shapeCast_apply _ hc y (ix1 (y 0)) ?_).trans ?_
  · rw [Shape.rowMajor_val_one, Shape.rowMajor_val_two]
    show (y 0).val = (y 0).val * 1 + (y 1).val
    omega
  · refine (Ideal.multiReduction_add_single v _ h hf ha _).trans (Finset.sum_congr rfl fun k _ => congrArg v (ix_ext ?_ ?_))
    · rfl
    · rfl

/-- The same of a column. -/
theorem one_sum {R : ℕ} (v : FVec Ideal ⟨2, ![R, 1]⟩ .f32) (h : Shape.Reduces ⟨2, ![R, 1]⟩ [1] ⟨1, ![R]⟩)
    (hf : FKind.Formats .f32) (ha : (0x00000000#32 : BitVec 32) = FKind.add.neutral .f32 hf)
    (hc : Shape.ShapeCasts ⟨1, ![R]⟩ ⟨2, ![R, 1]⟩) (y : Ix R 1) :
    shapeCast ⟨2, ![R, 1]⟩ (multiReduction .add [1] ⟨1, ![R]⟩ v 0x00000000#32 h hf ha) hc y = v y := by
  have hy : (y 1).val < 1 := (y 1).isLt
  refine (shapeCast_apply _ hc y (ix1 (y 0)) ?_).trans ?_
  · rw [Shape.rowMajor_val_one, Shape.rowMajor_val_two]
    show (y 0).val = (y 0).val * 1 + (y 1).val
    omega
  · refine (Ideal.multiReduction_add_single v _ h hf ha _).trans ((Fin.sum_univ_one _).trans (congrArg v (ix_ext ?_ ?_)))
    · rfl
    · show 0 = (y 1).val
      omega

/-- A sum down a tile's columns, kept as a row. -/
theorem down_sum {R : ℕ} (v : FVec Ideal ⟨2, ![R, 1024]⟩ .f32) (h : Shape.Reduces ⟨2, ![R, 1024]⟩ [0] ⟨1, ![1024]⟩)
    (hf : FKind.Formats .f32) (ha : (0x00000000#32 : BitVec 32) = FKind.add.neutral .f32 hf)
    (hc : Shape.ShapeCasts ⟨1, ![1024]⟩ ⟨2, ![1, 1024]⟩) (z : Fin 1) (j : Fin 1024) :
    shapeCast ⟨2, ![1, 1024]⟩ (multiReduction .add [0] ⟨1, ![1024]⟩ v 0x00000000#32 h hf ha) hc (ix2 z j)
      = ∑ r : Fin R, v (ix2 r j) := by
  have hz := z.isLt
  refine (shapeCast_apply _ hc (ix2 z j) (ix1 j) ?_).trans ?_
  · rw [Shape.rowMajor_val_one, Shape.rowMajor_val_two]
    show j.val = z.val * 1024 + j.val
    omega
  · refine (Ideal.multiReduction_add_single v _ h hf ha _).trans (Finset.sum_congr rfl fun k _ => congrArg v (ix_ext ?_ ?_))
    · rfl
    · rfl

/-- Chunks of rows are all the rows. -/
theorem chunks (f : ℕ → EReal) (k n : ℕ) :
    ∑ s ∈ Finset.range n, ∑ r ∈ Finset.range k, f (s * k + r) = ∑ r ∈ Finset.range (n * k), f r := by
  induction n with
  | zero => simp
  | succ n ih => rw [Finset.sum_range_succ, ih, Nat.succ_mul, Finset.sum_range_add]

/-- The tiles from the last to the first, with padding that contributes nothing, are the tokens of both sequences. -/
theorem tokens (f : ℕ → EReal) (hf : ∀ r, r % 2176 < 112 → f r = 0) :
    ∑ s ∈ Finset.range 8, ∑ r ∈ Finset.range 544, f ((7 - s) * 544 + r)
      = ∑ b ∈ Finset.range 2, ∑ t ∈ Finset.range 2064, f (b * 2176 + (112 + t)) := by
  have e := Finset.sum_range_reflect (fun s => ∑ r ∈ Finset.range 544, f (s * 544 + r)) 8
  refine Eq.trans (e : _ = _) ((chunks f 544 8).trans ((chunks f 2176 2).symm.trans (Finset.sum_congr rfl fun b hb => ?_)))
  have e2 := Finset.sum_range_add (fun r => f (b * 2176 + r)) 112 2064
  refine e2.trans ?_
  rw [Finset.sum_eq_zero fun r hr => hf _ (by have := Finset.mem_range.1 hr; omega), zero_add]

/-- A column spread over its row. -/
theorem spread_col {R : ℕ} {α : Type} (v : Ix R 1 → α) (h : Shape.Broadcasts ⟨2, ![R, 1]⟩ ⟨2, ![R, 1024]⟩) (y : Ix R 1024) :
    broadcastTo ⟨2, ![R, 1024]⟩ v h y = v (ix2 (y 0) (0 : Fin 1)) := by
  refine broadcastTo_apply (s := ⟨2, ![R, 1]⟩) (t := ⟨2, ![R, 1024]⟩) _ _ y (ix2 (y 0) (0 : Fin 1)) fun a => ?_
  fin_cases a
  · show (y 0).val = if R = 1 then 0 else (y 0).val
    split
    · have := (y 0).isLt
      change (y 0).val < R at this
      omega
    · rfl
  · rfl

/-- A row spread over the rows. -/
theorem spread_row {R : ℕ} {α : Type} (v : Ix 1 1024 → α) (h : Shape.Broadcasts ⟨2, ![1, 1024]⟩ ⟨2, ![R, 1024]⟩) (y : Ix R 1024) :
    broadcastTo ⟨2, ![R, 1024]⟩ v h y = v (ix2 (0 : Fin 1) (y 1)) := by
  refine broadcastTo_apply (s := ⟨2, ![1, 1024]⟩) (t := ⟨2, ![R, 1024]⟩) _ _ y (ix2 (0 : Fin 1) (y 1)) fun a => ?_
  fin_cases a <;> rfl

/-- The row's number, of a tile of 544 rows. -/
theorem row_word (n : ℕ) (r : ℕ) : IntOp.addi (IntOp.muli (BitVec.ofNat 32 n) 544#32) (BitVec.ofNat 32 r)
    = BitVec.ofNat 32 (n * 544 + r) := by
  refine BitVec.eq_of_toNat_eq ?_
  simp [IntOp.addi, IntOp.muli]

/-- The tiles taken from the last to the first. -/
theorem rev_word : ∀ n : Fin 8, IntOp.subi 7#32 (BitVec.ofNat 32 n.val) = BitVec.ofNat 32 (7 - n.val) := by decide

/-- The kernel's factor of a row: zero on padding. -/
theorem factor (r : Fin 4352) (x : EReal) :
    Scalar.select (padWord (BitVec.ofNat 32 r.val)) 0 1 * x = if r.val % 2176 < 112 then 0 else x := by
  rw [pad_select]
  split
  · exact zero_mul x
  · exact one_mul x

end Cert.Proof.Rms

end
-- ==== Proof.Prod15.lean ====
/- The gradients of the norm of the hidden rows: the kernel's tiles are those of the rows' gradient, taken from the last
   tile to the first, and its sum over the tiles is the scale's gradient. The reference's two arrays are the same. -/
module

public import proofs.«01_k».proof.Defs
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Rms
public import proofs.«01_k».proof.Proof.Scale
public import Idealize.ShloMosaic.Lib.Pipeline.ValueKit

@[expose] public section

set_option maxRecDepth 16384

noncomputable section

namespace Cert.Proof.Prod15

open Cert.Kernel15Ideal Cert.Kernel15Ideal.Gen Cert.Proof.Mul
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![7 - t.val, 0] := by decide +kernel
theorem ix_1 : ∀ t : Fin cfg0.N, win0_1.index t = ![0, 0] := by decide +kernel
theorem ix_2 : ∀ t : Fin cfg0.N, win0_2.index t = ![7 - t.val, 0] := by decide +kernel
theorem ix_3 : ∀ t : Fin cfg0.N, win0_3.index t = ![7 - t.val, 0] := by decide +kernel
theorem ix_4 : ∀ t : Fin cfg0.N, win0_4.index t = ![7 - t.val, 0] := by decide +kernel
theorem ix_5 : ∀ t : Fin cfg0.N, win0_5.index t = ![0, 0] := by decide +kernel
theorem co_0 : ∀ t : Fin cfg0.N, (grid0.coords t 0).val = t.val := by decide +kernel

/-- The four arguments: the rows, the scale, the gradient of the normed rows, what the rows get from elsewhere. -/
abbrev A0 : Ix 4352 1024 → EReal := m ((c : Thread nD τ).loc main_arg0)
abbrev A1 : (⟨1, ![1024]⟩ : Shape).Idx → EReal := m ((c : Thread nD τ).loc main_arg1)
abbrev A2 : Ix 4352 1024 → EReal := m ((c : Thread nD τ).loc main_arg2)
abbrev A3 : Ix 4352 1024 → EReal := m ((c : Thread nD τ).loc main_arg3)

/-- The scale as a row. -/
abbrev sc (g : (⟨1, ![1024]⟩ : Shape).Idx → EReal) : Fin 1024 → EReal := fun j => g (ix1 j)

theorem V_row (y : Ix 1 1024) : V m c main_v0 y = sc (A1 m c) (y 1) := by
  simp only [V, hostOps0, List.flatten_cons, List.flatten_nil, List.append_nil, List.cons_append, List.nil_append]
  after_results_simp
  refine (broadcastInDim_apply (s := S1024) (t := S1x1024) _ _ _ y (ix1 (y 1)) fun a => ?_)
  fin_cases a
  rfl

theorem tile_0 (t : Fin cfg0.N) : Tile (A0 m c) (iblk m c 0 t) ((7 - t.val) * 544) 0 :=
  fun z => ⟨(win0_0.blk t).view.emb z, rfl, by blk_simp [ix_0], by blk_simp [ix_0]⟩

theorem tile_1 (t : Fin cfg0.N) (j : Fin 1024) : (iblk m c 1 t : Ix 1 1024 → EReal) (ix2 (0 : Fin 1) j) = sc (A1 m c) j := by
  refine (V_row m c ((win0_1.blk t).view.emb (ix2 (0 : Fin 1) j))).trans (congrArg (sc (A1 m c)) (Fin.ext ?_))
  blk_simp [ix_1]

theorem tile_2 (t : Fin cfg0.N) : Tile (A2 m c) (iblk m c 2 t) ((7 - t.val) * 544) 0 :=
  fun z => ⟨(win0_2.blk t).view.emb z, rfl, by blk_simp [ix_2], by blk_simp [ix_2]⟩

theorem tile_3 (t : Fin cfg0.N) : Tile (A3 m c) (iblk m c 3 t) ((7 - t.val) * 544) 0 :=
  fun z => ⟨(win0_3.blk t).view.emb z, rfl, by blk_simp [ix_3], by blk_simp [ix_3]⟩

/-! ### One tile's values -/

/-- The factor of a row. -/
theorem pay5_at (i : grid0.Coords) (n : Fin 8) (hn : (i 0).val = n.val) (r : Fin 544) :
    k0_pay5 (F := Ideal) i (ix2 r (0 : Fin 1)) = Scalar.select (padWord (BitVec.ofNat 32 ((7 - n.val) * 544 + r.val))) (0 : EReal) 1 := by
  rw [← Rms.row_word (7 - n.val) r.val, ← Rms.rev_word n, ← hn]
  unfold k0_pay5
  refine congr (congrArg₂ Scalar.select ?_ Ideal.ofBits_zero_f32) Rms.one_eq
  exact congrArg (fun z => padWord (IntOp.addi (IntOp.muli (IntOp.subi 7#32 (BitVec.ofNat 32 (i 0).val)) 544#32) (BitVec.ofNat 32 z)))
    ((congrArg (· + r.val) (Nat.zero_mul 544)).trans (Nat.zero_add r.val))

theorem pay7_at (x0 : Vec Ideal S544x1024 .f32) (r : Fin 544) :
    k0_pay7 x0 (ix2 r (0 : Fin 1)) = Rms.ms (Rms.row (R := 544) x0 r) := by
  unfold k0_pay7
  exact congrArg (fun z => Ideal.div z Rms.cL + Ideal.ofBits .f32 0x358637BD#32)
    (Rms.lane_sum (R := 544) (mulf x0 x0) _ _ _ _ (ix2 r (0 : Fin 1)))

theorem pay8_at (x0 : Vec Ideal S544x1024 .f32) (r : Fin 544) :
    k0_pay8 x0 (ix2 r (0 : Fin 1)) = Rms.rs (Rms.row (R := 544) x0 r) := by
  unfold k0_pay8
  exact congrArg Ideal.rsqrt (pay7_at x0 r)

theorem pay9_at (x0 : Vec Ideal S544x1024 .f32) (r : Fin 544) :
    k0_pay9 x0 (ix2 r (0 : Fin 1)) = Rms.dr (Rms.row (R := 544) x0 r) := by
  unfold k0_pay9
  exact congrArg (Ideal.ofBits .f32 0xBF000000#32 * ·) (congrArg₂ Ideal.div (pay8_at x0 r) (pay7_at x0 r))

theorem pay10_at (x0 : Vec Ideal S544x1024 .f32) (r : Fin 544) (j : Fin 1024) :
    k0_pay10 x0 (ix2 r j) = x0 (ix2 r j) * Rms.rs (Rms.row (R := 544) x0 r) := by
  unfold k0_pay10
  exact congrArg (x0 (ix2 r j) * ·) ((Rms.spread_col (R := 544) _ _ (ix2 r j)).trans (pay8_at x0 r))

theorem pay1_at (f : Vec Ideal S544x1 .f32) (x2 : Vec Ideal S544x1024 .f32) (r : Fin 544) (j : Fin 1024) :
    k0_pay1 f x2 (ix2 r j) = f (ix2 r (0 : Fin 1)) * x2 (ix2 r j) := by
  unfold k0_pay1
  exact congrArg (· * x2 (ix2 r j)) (Rms.spread_col (R := 544) f _ (ix2 r j))

theorem cot_at (f : Vec Ideal S544x1 .f32) (x1 : Vec Ideal S1x1024 .f32) (x2 : Vec Ideal S544x1024 .f32)
    (h : S1x1024.Broadcasts S544x1024) (r : Fin 544) (j : Fin 1024) :
    mulf (k0_pay1 f x2) (broadcastTo S544x1024 x1 h) (ix2 r j)
      = (f (ix2 r (0 : Fin 1)) * x2 (ix2 r j)) * x1 (ix2 (0 : Fin 1) j) :=
  congrArg₂ (· * ·) (pay1_at f x2 r j) (Rms.spread_row (R := 544) x1 h (ix2 r j))

/-- The rows' gradient. -/
theorem pay2_at (f : Vec Ideal S544x1 .f32) (x0 : Vec Ideal S544x1024 .f32) (x1 : Vec Ideal S1x1024 .f32)
    (x2 x3 : Vec Ideal S544x1024 .f32) (r : Fin 544) (j : Fin 1024) :
    k0_pay2 f x0 x1 (k0_pay8 x0) (k0_pay9 x0) x2 x3 (ix2 r j)
      = Rms.dx (fun k => x1 (ix2 (0 : Fin 1) k)) (Rms.row (R := 544) x0 r) (fun k => f (ix2 r (0 : Fin 1)) * x2 (ix2 r k))
          (Rms.row (R := 544) x3 r) j := by
  unfold k0_pay2 Rms.dx Rms.q
  refine congrArg₂ (· + ·) (congrArg₂ (· + ·) (congrArg (x3 (ix2 r j) + ·) (congrArg₂ (· * ·) (cot_at f x1 x2 _ r j)
    ((Rms.spread_col (R := 544) _ _ (ix2 r j)).trans (pay8_at x0 r)))) (congrArg (x0 (ix2 r j) * ·) ?_)) (congrArg (· * x0 (ix2 r j)) ?_)
  all_goals
    refine (Rms.spread_col (R := 544) _ _ (ix2 r j)).trans ((Rms.one_sum (R := 544) _ _ _ _ _ (ix2 r (0 : Fin 1))).trans ?_)
    refine congrArg (fun z => Ideal.div z Rms.cL) (congrArg₂ (· * ·) ?_ (pay9_at x0 r))
    refine (Rms.lane_sum (R := 544) _ _ _ _ _ (ix2 r (0 : Fin 1))).trans (Finset.sum_congr rfl fun k _ => ?_)
    exact congrArg (x0 (ix2 r k) * ·) (cot_at f x1 x2 _ r k)

/-- The scale's gradient so far, and the tile's. -/
theorem pay4_at (f : Vec Ideal S544x1 .f32) (n x2 : Vec Ideal S544x1024 .f32) (x5 : Vec Ideal S1x1024 .f32) (z : Fin 1) (j : Fin 1024) :
    k0_pay4 f n x2 x5 (ix2 z j) = x5 (ix2 z j) + ∑ r : Fin 544, n (ix2 r j) * (f (ix2 r (0 : Fin 1)) * x2 (ix2 r j)) := by
  unfold k0_pay4
  rw [shapeCast_self]
  refine congrArg (x5 (ix2 z j) + ·) ((Rms.down_sum (R := 544) _ _ _ _ _ z j).trans (Finset.sum_congr rfl fun r _ => ?_))
  exact congrArg (n (ix2 r j) * ·) (pay1_at f x2 r j)

theorem pay3_at (y : Ix 1 1024) : k0_pay3 (F := Ideal) y = (0 : EReal) := Ideal.ofBits_zero_f32

/-! ### Whole arrays -/

/-- A point's rows in the whole array. -/
theorem row_0 (t : Fin cfg0.N) (r : Fin 544) (i : Fin 4352) (hi : i.val = (7 - t.val) * 544 + r.val) :
    Rms.row (R := 544) (iblk m c 0 t) r = Rms.row (A0 m c) i :=
  funext fun k => (tile_0 m c t).at (ix2 r k) (ix2 i k) hi (Nat.zero_add _).symm

theorem row_3 (t : Fin cfg0.N) (r : Fin 544) (i : Fin 4352) (hi : i.val = (7 - t.val) * 544 + r.val) :
    Rms.row (R := 544) (iblk m c 3 t) r = Rms.row (A3 m c) i :=
  funext fun k => (tile_3 m c t).at (ix2 r k) (ix2 i k) hi (Nat.zero_add _).symm

theorem light_2 (t : Fin cfg0.N) (r : Fin 544) (k : Fin 1024) (i : Fin 4352) (hi : i.val = (7 - t.val) * 544 + r.val) :
    k0_pay5 (F := Ideal) (grid0.coords t) (ix2 r (0 : Fin 1)) * (iblk m c 2 t : Ix 544 1024 → EReal) (ix2 r k)
      = Rms.light (A2 m c) (ix2 i k) := by
  refine (congrArg₂ (· * ·) (pay5_at (grid0.coords t) t (co_0 t) r) ((tile_2 m c t).at (ix2 r k) (ix2 i k) hi (Nat.zero_add _).symm)).trans ?_
  rw [← hi]
  exact Rms.factor i _

/-- The rows' gradient at a point. -/
theorem grad_at (t : Fin cfg0.N) (y : Ix 544 1024) (i : Ix 4352 1024) (h0 : (i 0).val = (7 - t.val) * 544 + (y 0).val)
    (h1 : (i 1).val = 0 + (y 1).val) :
    k0_pay2 (k0_pay5 (F := Ideal) (grid0.coords t)) (iblk m c 0 t) (iblk m c 1 t) (k0_pay8 (iblk m c 0 t)) (k0_pay9 (iblk m c 0 t))
      (iblk m c 2 t) (iblk m c 3 t) y = Rms.gradX (sc (A1 m c)) (A0 m c) (A2 m c) (A3 m c) i := by
  have ey : y = ix2 (y 0) (y 1) := ix_ext rfl rfl
  have ej : (y 1 : Fin 1024) = i 1 := Fin.ext ((Nat.zero_add _).symm.trans h1.symm)
  rw [ey]
  refine (pay2_at _ (iblk m c 0 t) (iblk m c 1 t) (iblk m c 2 t) (iblk m c 3 t) (y 0) (y 1)).trans ?_
  unfold Rms.gradX
  rw [row_0 m c t (y 0) (i 0) h0, row_3 m c t (y 0) (i 0) h0, funext (tile_1 m c t), funext fun k => light_2 m c t (y 0) k (i 0) h0, ej]

theorem point (t : Fin cfg0.N) (y : Ix 544 1024) (i : Ix 4352 1024) (h0 : (i 0).val = (7 - t.val) * 544 + (y 0).val)
    (h1 : (i 1).val = 0 + (y 1).val) :
    (outsAt0 m c t.val t.isLt).1 y = Rms.gradX (sc (A1 m c)) (A0 m c) (A2 m c) (A3 m c) i := by
  refine Eq.trans ?_ (grad_at m c t y i h0 h1)
  by_cases h : t.val % 8 = 0
  · rw [outsAt0_A m c t h]
    frame_out
    unfold k0_pay6
    rw [shapeCast_self]
  · rw [outsAt0_B m c t h]
    frame_out
    unfold k0_pay6
    rw [shapeCast_self]

/-- The kernel's first array. -/
theorem arr_x : (dats m 0 c).arrAt 4 cfg0.N = Rms.gradX (sc (A1 m c)) (A0 m c) (A2 m c) (A3 m c) := by
  refine (dats m 0 c).arrAt_eq_of_covers 4 _ (by decide +kernel) fun t hf y => ?_
  blk_simp
  rw [after0_4]
  exact point m c t y _ (by blk_simp [ix_4]) (by blk_simp [ix_4])

/-- A point's part of the scale's gradient. -/
theorem part_at (t : Fin cfg0.N) (j : Fin 1024) :
    (∑ r : Fin 544, k0_pay10 (F := Ideal) (iblk m c 0 t) (ix2 r j)
      * (k0_pay5 (F := Ideal) (grid0.coords t) (ix2 r (0 : Fin 1)) * (iblk m c 2 t : Ix 544 1024 → EReal) (ix2 r j)))
      = ∑ r ∈ Finset.range 544, Rms.share (A0 m c) (A2 m c) j ((7 - t.val) * 544 + r) := by
  rw [Finset.sum_range]
  refine Finset.sum_congr rfl fun r _ => ?_
  have hr := r.isLt
  have hl : (7 - t.val) * 544 + r.val < 4352 := by omega
  unfold Rms.share
  rw [dif_pos hl, light_2 m c t r j ⟨(7 - t.val) * 544 + r.val, hl⟩ rfl]
  refine congrArg (· * _) ((pay10_at (iblk m c 0 t) r j).trans ?_)
  rw [row_0 m c t r ⟨(7 - t.val) * 544 + r.val, hl⟩ rfl]
  exact congrArg (· * _) ((tile_0 m c t).at (ix2 r j) (ix2 (⟨(7 - t.val) * 544 + r.val, hl⟩ : Fin 4352) j) rfl (Nat.zero_add _).symm)

theorem first (t : Fin cfg0.N) (h : t.val % 8 = 0) (z : Fin 1) (j : Fin 1024) :
    (outsAt0 m c t.val t.isLt).2 (ix2 z j) = ∑ r ∈ Finset.range 544, Rms.share (A0 m c) (A2 m c) j ((7 - t.val) * 544 + r) := by
  rw [outsAt0_A m c t h]
  frame_out
  refine (pay4_at _ _ (iblk m c 2 t) _ z j).trans ?_
  rw [pay3_at, zero_add]
  exact part_at m c t j

theorem next (t : Fin cfg0.N) (h : ¬ t.val % 8 = 0) (z : Fin 1) (j : Fin 1024) :
    (outsAt0 m c t.val t.isLt).2 (ix2 z j) = (outsAt0 m c (t.val - 1) (Nat.lt_of_le_of_lt (Nat.sub_le _ _) t.isLt)).2 (ix2 z j)
      + ∑ r ∈ Finset.range 544, Rms.share (A0 m c) (A2 m c) j ((7 - t.val) * 544 + r) := by
  rw [outsAt0_B m c t h]
  frame_out
  refine (pay4_at _ _ (iblk m c 2 t) _ z j).trans (congrArg (_ + ·) ?_)
  exact part_at m c t j

theorem so_far (n : ℕ) (hn : n < cfg0.N) (z : Fin 1) (j : Fin 1024) :
    (outsAt0 m c n hn).2 (ix2 z j)
      = ∑ s ∈ Finset.range (n + 1), ∑ r ∈ Finset.range 544, Rms.share (A0 m c) (A2 m c) j ((7 - s) * 544 + r) := by
  have hN : n < 8 := lt_of_lt_of_eq hn (show cfg0.N = 8 from N_0)
  induction n with
  | zero => rw [Finset.sum_range_one]; exact first m c ⟨0, hn⟩ rfl z j
  | succ n ih =>
    rw [Finset.sum_range_succ, ← ih (Nat.lt_of_succ_lt hn) (Nat.lt_of_succ_lt hN)]
    exact next m c ⟨n + 1, hn⟩ (by show ¬ (n + 1) % 8 = 0; omega) z j

theorem last (t : Fin cfg0.N) (h : t.val = 7) (y : Ix 1 1024) (i : Ix 1 1024) (hi : (i 1).val = 0 + (y 1).val) :
    (outsAt0 m c t.val t.isLt).2 y = Rms.gradG (A0 m c) (A2 m c) i := by
  have ey : y = ix2 (y 0) (y 1) := ix_ext rfl rfl
  have ej : (y 1 : Fin 1024) = i 1 := Fin.ext ((Nat.zero_add _).symm.trans hi.symm)
  rw [ey]
  refine (so_far m c t.val t.isLt (y 0) (y 1)).trans ?_
  rw [h, ej]
  exact Rms.tokens (Rms.share (A0 m c) (A2 m c) (i 1)) fun r hr => Rms.share_pad (A0 m c) (A2 m c) (i 1) r hr

/-- The kernel's second array. -/
theorem arr_g : (dats m 0 c).arrAt 5 cfg0.N = Rms.gradG (A0 m c) (A2 m c) := by
  refine (dats m 0 c).arrAt_eq_of_covers 5 _ (by decide +kernel) fun t hf y => ?_
  have hN : t.val < 8 := lt_of_lt_of_eq t.isLt (show cfg0.N = 8 from N_0)
  have h7 : t.val = 7 := by have := (flush0_5 t).mp hf; omega
  blk_simp
  rw [after0_5]
  exact last m c t h7 y _ (by blk_simp [ix_5])

section Reference

open Cert.Reference15Ideal.Read

variable (x0 x2 x3 : Ix 4352 1024 → EReal) (x1 : (⟨1, ![1024]⟩ : Shape).Idx → EReal) (b : Fin 2) (t : Fin 2064) (k : Fin 1024)
  (r : Fin 4352) (hr : r.val = b.val * 2176 + (112 + t.val))

include hr

/-- A token's row. -/
theorem tok_h : val_main_v3 (F := Ideal) x0 (ix3 b t k) = x0 (ix2 r k) := by
  have hb := b.isLt
  have ht := t.isLt
  have hk := k.isLt
  rw [val_main_v3_apply, val_main_v0_apply]
  refine congrArg x0 (ix_ext ?_ ?_)
  · show ((b.val * 2176 + (112 + t.val)) * 1024 + k.val) / 1024 = r.val
    omega
  · show ((b.val * 2176 + (112 + t.val)) * 1024 + k.val) % 1024 = k.val
    omega

theorem tok_d : val_main_v20 (F := Ideal) x2 (ix3 b t k) = x2 (ix2 r k) := by
  have hb := b.isLt
  have ht := t.isLt
  have hk := k.isLt
  rw [val_main_v20_apply, val_main_v1_apply]
  refine congrArg x2 (ix_ext ?_ ?_)
  · show ((b.val * 2176 + (112 + t.val)) * 1024 + k.val) / 1024 = r.val
    omega
  · show ((b.val * 2176 + (112 + t.val)) * 1024 + k.val) % 1024 = k.val
    omega

theorem tok_n : val_main_v21 (F := Ideal) x3 (ix3 b t k) = x3 (ix2 r k) := by
  have hb := b.isLt
  have ht := t.isLt
  have hk := k.isLt
  rw [val_main_v21_apply, val_main_v2_apply]
  refine congrArg x3 (ix_ext ?_ ?_)
  · show ((b.val * 2176 + (112 + t.val)) * 1024 + k.val) / 1024 = r.val
    omega
  · show ((b.val * 2176 + (112 + t.val)) * 1024 + k.val) % 1024 = k.val
    omega

theorem mean_at (z : Fin 1) : val_main_v10 (F := Ideal) x0 (ix3 b t z) = Rms.ms (Rms.row x0 r) := by
  rw [val_main_v10_apply, val_main_v8_apply, val_main_v6_apply, val_main_v5_apply]
  refine congrArg (fun z => Ideal.div z Rms.cL + Ideal.ofBits .f32 0x358637BD#32) ?_
  refine (congrArg₂ (· + ·) Ideal.ofBits_zero_f32 (Finset.sum_congr rfl fun j _ => ?_)).trans (zero_add _)
  exact congrArg₂ (· * ·) (tok_h x0 b t j r hr) (tok_h x0 b t j r hr)

theorem root_at (z : Fin 1) : val_main_v11 (F := Ideal) x0 (ix3 b t z) = Rms.rs (Rms.row x0 r) := by
  rw [val_main_v11_apply]
  exact congrArg Ideal.rsqrt (mean_at x0 b t r hr z)

theorem slope_at (z : Fin 1) : val_main_v14 (F := Ideal) x0 (ix3 b t z) = Rms.dr (Rms.row x0 r) := by
  rw [val_main_v14_apply, val_main_v12_apply]
  exact congrArg (Ideal.ofBits .f32 0xBF000000#32 * ·) (congrArg₂ Ideal.div (root_at x0 b t r hr z) (mean_at x0 b t r hr z))

theorem root_wide : val_main_v15 (F := Ideal) x0 (ix3 b t k) = Rms.rs (Rms.row x0 r) := by
  rw [val_main_v15_apply]
  refine Eq.trans (congrArg (val_main_v11 (F := Ideal) x0) (funext fun a => ?_)) (root_at x0 b t r hr 0)
  match a with
  | ⟨0, _⟩ => rfl
  | ⟨1, _⟩ => rfl
  | ⟨2, _⟩ => rfl

theorem root_wide' : val_main_v31 (F := Ideal) x0 (ix3 b t k) = Rms.rs (Rms.row x0 r) := by
  rw [val_main_v31_apply]
  refine Eq.trans (congrArg (val_main_v11 (F := Ideal) x0) (funext fun a => ?_)) (root_at x0 b t r hr 0)
  match a with
  | ⟨0, _⟩ => rfl
  | ⟨1, _⟩ => rfl
  | ⟨2, _⟩ => rfl

theorem cot_ref : val_main_v26 (F := Ideal) x1 x2 (ix3 b t k) = x2 (ix2 r k) * sc x1 k := by
  rw [val_main_v26_apply, val_main_v25_apply, val_main_v17_apply]
  refine congrArg₂ (· * ·) (tok_d x2 b t k r hr) (congrArg x1 (funext fun a => ?_))
  fin_cases a
  rfl

theorem sum_ref : val_main_v29 (F := Ideal) x0 x1 x2 (ix2 b t) = ∑ j : Fin 1024, x0 (ix2 r j) * (x2 (ix2 r j) * sc x1 j) := by
  rw [val_main_v29_apply]
  refine (congrArg₂ (· + ·) Ideal.ofBits_zero_f32 (Finset.sum_congr rfl fun j _ => ?_)).trans (zero_add _)
  refine Eq.trans (congrArg (val_main_v28 (F := Ideal) x0 x1 x2) (funext fun a => ?_ : _ = ix3 b t j)) ?_
  · match a with
    | ⟨0, _⟩ => rfl
    | ⟨1, _⟩ => rfl
    | ⟨2, _⟩ => rfl
  · rw [val_main_v28_apply]
    exact congrArg₂ (· * ·) (tok_h x0 b t j r hr) (cot_ref x2 x1 b t j r hr)

theorem q_at (z : Fin 1) : val_main_v36 (F := Ideal) x0 x1 x2 (ix3 b t z) = Rms.q (sc x1) (Rms.row x0 r) (Rms.row x2 r) := by
  have hb := b.isLt
  have ht := t.isLt
  have hz := z.isLt
  rw [val_main_v36_apply, val_main_v34_apply, val_main_v30_apply]
  refine congrArg (fun z => Ideal.div z Rms.cL) (congrArg₂ (· * ·) ?_ (slope_at x0 b t r hr z))
  refine Eq.trans (congrArg (val_main_v29 (F := Ideal) x0 x1 x2) (ix_ext ?_ ?_)) (sum_ref x0 x2 x1 b t r hr)
  · show ((b.val * 2064 + t.val) * 1 + z.val) / 2064 = b.val
    omega
  · show ((b.val * 2064 + t.val) * 1 + z.val) % 2064 = t.val
    omega

theorem q_wide : val_main_v38 (F := Ideal) x0 x1 x2 (ix3 b t k) = Rms.q (sc x1) (Rms.row x0 r) (Rms.row x2 r) := by
  rw [val_main_v38_apply, val_main_v37_apply, Fin.sum_univ_one]
  refine (congrArg₂ (· + ·) Ideal.ofBits_zero_f32 ?_).trans (zero_add _)
  refine Eq.trans (congrArg (val_main_v36 (F := Ideal) x0 x1 x2) (funext fun a => ?_)) (q_at x0 x2 x1 b t r hr 0)
  match a with
  | ⟨0, _⟩ => rfl
  | ⟨1, _⟩ => rfl
  | ⟨2, _⟩ => rfl

/-- A token's gradient. -/
theorem tok_dx : val_main_v42 (F := Ideal) x0 x1 x2 x3 (ix3 b t k)
    = Rms.dx (sc x1) (Rms.row x0 r) (Rms.row x2 r) (Rms.row x3 r) k := by
  rw [val_main_v42_apply, val_main_v40_apply, val_main_v33_apply, val_main_v32_apply, val_main_v39_apply, val_main_v41_apply]
  unfold Rms.dx
  exact congrArg₂ (· + ·) (congrArg₂ (· + ·) (congrArg₂ (· + ·) (tok_n x3 b t k r hr) (congrArg₂ (· * ·) (cot_ref x2 x1 b t k r hr)
    (root_wide' x0 b t k r hr))) (congrArg₂ (· * ·) (tok_h x0 b t k r hr) (q_wide x0 x2 x1 b t k r hr)))
    (congrArg₂ (· * ·) (q_wide x0 x2 x1 b t k r hr) (tok_h x0 b t k r hr))

theorem light_row : Rms.row (Rms.light x2) r = Rms.row x2 r := by
  have ht := t.isLt
  funext j
  refine if_neg ?_
  show ¬ r.val % 2176 < 112
  omega

/-- A token's share of the scale's gradient. -/
theorem tok_share : val_main_v22 (F := Ideal) x0 x2 (ix3 b t k) = Rms.share x0 x2 k (b.val * 2176 + (112 + t.val)) := by
  rw [val_main_v22_apply, val_main_v16_apply, ← hr]
  unfold Rms.share
  rw [dif_pos r.isLt]
  refine congrArg₂ (· * ·) (congrArg₂ (· * ·) (tok_h x0 b t k r hr) (root_wide x0 b t k r hr)) ((tok_d x2 b t k r hr).trans ?_)
  exact (congrFun (light_row x2 b t r hr) k).symm

omit hr

theorem pad_row (h : r.val % 2176 < 112) (j : Fin 1024) : Rms.row (Rms.light x2) r j = 0 := if_pos h

/-- The reference's first array is the same. -/
theorem ref_x : val_main_v45 (F := Ideal) x0 x1 x2 x3 = Rms.gradX (sc x1) x0 x2 x3 := by
  funext i
  have hi0 : (i 0).val < 4352 := (i 0).isLt
  have hi1 : (i 1).val < 1024 := (i 1).isLt
  have hm : ((i 0).val * 1024 + (i 1).val) / 1024 % 2176 = (i 0).val % 2176 := by omega
  rw [val_main_v45_apply]
  unfold val_main_v44
  rw [concatenate_pair_apply]
  by_cases h : (i 0).val % 2176 < 112
  · refine (dif_pos (lt_of_eq_of_lt hm h)).trans ?_
    refine Eq.trans ?_ (Rms.dx_zero (sc x1) (Rms.row x0 (i 0)) _ (Rms.row x3 (i 0)) (i 1) (pad_row x2 (i 0) h)).symm
    rw [val_main_v43_apply, val_main_v2_apply]
    refine congrArg x3 (ix_ext ?_ ?_)
    · show _ = (i 0).val
      simp [Shape.Idx.norm_def] <;> omega
    · show _ = (i 1).val
      simp [Shape.Idx.norm_def] <;> omega
  · refine (dif_neg (fun hh => h (lt_of_eq_of_lt hm.symm hh))).trans ?_
    have hb : (i 0).val / 2176 < 2 := by omega
    have ht : (i 0).val % 2176 - 112 < 2064 := by omega
    have hr : (i 0).val = (i 0).val / 2176 * 2176 + (112 + ((i 0).val % 2176 - 112)) := by omega
    refine (congrArg (val_main_v42 (F := Ideal) x0 x1 x2 x3) (?_ : _ = ix3 (⟨(i 0).val / 2176, hb⟩ : Fin 2)
      (⟨(i 0).val % 2176 - 112, ht⟩ : Fin 2064) (⟨(i 1).val, hi1⟩ : Fin 1024))).trans ?_
    · funext a
      refine Fin.ext ?_
      match a with
      | ⟨0, _⟩ => simp [Shape.Idx.norm_def] <;> omega
      | ⟨1, _⟩ => simp [Shape.Idx.norm_def] <;> omega
      | ⟨2, _⟩ => simp [Shape.Idx.norm_def] <;> omega
    · refine (tok_dx x0 x2 x3 x1 ⟨(i 0).val / 2176, hb⟩ ⟨(i 0).val % 2176 - 112, ht⟩ ⟨(i 1).val, hi1⟩ ⟨(i 0).val, hi0⟩ hr).trans ?_
      rw [← light_row x2 ⟨(i 0).val / 2176, hb⟩ ⟨(i 0).val % 2176 - 112, ht⟩ ⟨(i 0).val, hi0⟩ hr]
      rfl

theorem sum_at (j : Fin 1024) : val_main_v23 (F := Ideal) x0 x2 (Idealize.ShloMosaic.ix1 j)
    = ∑ b : Fin 2, ∑ t : Fin 2064, Rms.share x0 x2 j (b.val * 2176 + (112 + t.val)) :=
  Ret.host_front (n0 := 2) (n1 := 2064) (n2 := 1024) _ (val_main_v22 (F := Ideal) x0 x2) (val_main_cst_3 (F := Ideal)) _
    Ideal.ofBits_zero_f32 _ j fun b t => by
      have hb := b.isLt
      have ht := t.isLt
      exact tok_share x0 x2 b t j ⟨b.val * 2176 + (112 + t.val), by omega⟩ rfl

theorem one_at (u v : Fin 1) (j : Fin 1024) :
    val_main_v24 (F := Ideal) x0 x2 (Idealize.ShloMosaic.ix3 u v j) = val_main_v23 (F := Ideal) x0 x2 (Idealize.ShloMosaic.ix1 j) := by
  have hu := u.isLt
  have hv := v.isLt
  rw [val_main_v24_apply]
  refine congrArg (val_main_v23 (F := Ideal) x0 x2) (funext fun a => Fin.ext ?_)
  match a with
  | ⟨0, _⟩ =>
    show (u.val * 1 + v.val) * 1024 + j.val = j.val
    omega

theorem both_at (j : Fin 1024) : val_main_v27 (F := Ideal) x0 x2 (Idealize.ShloMosaic.ix1 j)
    = ∑ b : Fin 2, ∑ t : Fin 2064, Rms.share x0 x2 j (b.val * 2176 + (112 + t.val)) := by
  refine (Ret.host_front (n0 := 1) (n1 := 1) (n2 := 1024) _ (val_main_v24 (F := Ideal) x0 x2) (val_main_cst_4 (F := Ideal)) _
    Ideal.ofBits_zero_f32 _ j fun u v => (one_at x0 x2 u v j).trans (sum_at x0 x2 j)).trans ?_
  rw [Fin.sum_univ_one, Fin.sum_univ_one]

/-- The reference's second array is the same. -/
theorem ref_g : val_main_v46 (F := Ideal) x0 x2 = Rms.gradG x0 x2 := by
  funext i
  rw [val_main_v46_apply]
  refine (congrArg (val_main_v27 (F := Ideal) x0 x2) (?_ : _ = Idealize.ShloMosaic.ix1 (⟨(i 1).val, (i 1).isLt⟩ : Fin 1024))).trans ?_
  · funext a
    match a with
    | ⟨0, _⟩ => rfl
  · refine (both_at x0 x2 ⟨(i 1).val, (i 1).isLt⟩).trans ?_
    unfold Rms.gradG
    rw [Finset.sum_range]
    refine Finset.sum_congr rfl fun b _ => ?_
    rw [Finset.sum_range]
    rfl

end Reference

section Value

open Cert.Reference15Ideal.Read

/-- Both runs end with the same arrays. -/
theorem value : Cert.algebraic_Kernel15Ideal_Reference15Ideal (hKernel15Ideal := Cert.Kernel15Ideal.Gen.facts)
    (hReference15Ideal := Cert.Reference15Ideal.Gen.facts) := fun m g m' g' _ hm =>
  ⟨fun c => (dats m 0 c).arrAt 4 Cert.Kernel15Ideal.cfg0.N, fun c => (dats m 0 c).arrAt 5 Cert.Kernel15Ideal.cfg0.N,
    Cert.Kernel15Ideal.Value.run_blocks (F := Ideal) m g,
    (θ_run Cert.Reference15Ideal.defs _ _).mono (fun _ h c => by
      obtain ⟨h0, h1, ha⟩ := h c
      obtain ⟨e0, e1, e2, e3⟩ := hm c
      refine ⟨h0.trans ((val_main_v45_eq _ _).trans (Eq.trans ?_ ((ref_x (A0 m c) (A2 m c) (A3 m c) (A1 m c)).trans (arr_x m c).symm))),
        h1.trans ((val_main_v46_eq _ _).trans (Eq.trans ?_ ((ref_g (A0 m c) (A2 m c)).trans (arr_g m c).symm))), ha⟩
      · exact congr (congr (congr (congrArg val_main_v45 e0) e1) e2) e3
      · exact congr (congrArg val_main_v46 e0) e2)
      (Cert.Reference15Ideal.Value.run (F := Ideal) m' g')⟩

end Value

/-- The frames: the kernel at the words and at the extended reals, and the reference. -/
theorem frame : Cert.quiescent_Kernel15 (hKernel15 := Cert.Kernel15.Gen.facts) := fun m ρ _ =>
  Cert.Kernel15.Gen.frame (F := Bits) m ρ

theorem frame_ideal : Cert.quiescent_Kernel15Ideal (hKernel15Ideal := Cert.Kernel15Ideal.Gen.facts) := fun m ρ _ =>
  Cert.Kernel15Ideal.Gen.frame (F := Ideal) m ρ

theorem frame_ref : Cert.quiescent_Reference15Ideal (hReference15Ideal := Cert.Reference15Ideal.Gen.facts) := fun m ρ _ =>
  (θ_run Cert.Reference15Ideal.defs _ _).mono
    (fun r h => ⟨fun c => (h c).2.2, sem_eq_zero_of_no_sems (by decide) r.2⟩) (Cert.Reference15Ideal.Value.run (F := Ideal) m ρ)

end Cert.Proof.Prod15

end
-- ==== Proof.Prod16.lean ====
/- The normed rows: the kernel's tiles are those of the norm of every token's row, zero on padding, and so is the
   reference's array. -/
module

public import proofs.«01_k».proof.Defs
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Rms
public import Idealize.ShloMosaic.Lib.Pipeline.ValueKit

@[expose] public section

set_option maxRecDepth 16384

noncomputable section

namespace Cert.Proof.Prod16

open Cert.Kernel16Ideal Cert.Kernel16Ideal.Gen Cert.Proof.Mul
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem co_0 : ∀ t : Fin cfg0.N, (grid0.coords t 0).val = t.val := by decide +kernel

/-- The two arguments: the rows and the scale. -/
abbrev A0 : Ix 4352 1024 → EReal := m ((c : Thread nD τ).loc main_arg0)
abbrev A1 : (⟨1, ![1024]⟩ : Shape).Idx → EReal := m ((c : Thread nD τ).loc main_arg1)

/-- The scale as a row. -/
abbrev sc (g : (⟨1, ![1024]⟩ : Shape).Idx → EReal) : Fin 1024 → EReal := fun j => g (ix1 j)

theorem V_row (y : Ix 1 1024) : V m c main_v0 y = sc (A1 m c) (y 1) := by
  simp only [V, hostOps0, List.flatten_cons, List.flatten_nil, List.append_nil, List.cons_append, List.nil_append]
  after_results_simp
  refine (broadcastInDim_apply (s := S1024) (t := S1x1024) _ _ _ y (ix1 (y 1)) fun a => ?_)
  fin_cases a
  rfl

theorem tile_0 (t : Fin cfg0.N) : Tile (A0 m c) (iblk m c 0 t) (t.val * 544) 0 :=
  fun z => ⟨(win0_0.blk t).view.emb z, rfl, by blk_simp [ix_0], by blk_simp [ix_0]⟩

theorem tile_1 (t : Fin cfg0.N) (j : Fin 1024) : (iblk m c 1 t : Ix 1 1024 → EReal) (ix2 (0 : Fin 1) j) = sc (A1 m c) j := by
  refine (V_row m c ((win0_1.blk t).view.emb (ix2 (0 : Fin 1) j))).trans (congrArg (sc (A1 m c)) (Fin.ext ?_))
  blk_simp [ix_1]

/-- What a point writes, by its tile's rows. -/
theorem pay_at (i : grid0.Coords) (x0 : Vec Ideal S544x1024 .f32) (x1 : Vec Ideal S1x1024 .f32) (y : Ix 544 1024) :
    k0_pay1 i x0 x1 y
      = Scalar.select (padWord (IntOp.addi (IntOp.muli (BitVec.ofNat 32 (i 0).val) 544#32) (BitVec.ofNat 32 (y 0).val))) (0 : EReal) 1
        * ((x0 y * Rms.rs (Rms.row (R := 544) x0 (y 0))) * x1 (ix2 (0 : Fin 1) (y 1))) := by
  unfold k0_pay1
  rw [shapeCast_self]
  refine congrArg₂ (· * ·) ((Rms.spread_col (R := 544) _ _ y).trans ?_)
    (congrArg₂ (· * ·) (congrArg (x0 y * ·) ((Rms.spread_col (R := 544) _ _ y).trans ?_)) (Rms.spread_row (R := 544) _ _ y))
  · refine congr (congrArg₂ Scalar.select ?_ Ideal.ofBits_zero_f32) Rms.one_eq
    exact congrArg (fun z => padWord (IntOp.addi (IntOp.muli (BitVec.ofNat 32 (i 0).val) 544#32) (BitVec.ofNat 32 z)))
      ((congrArg (· + (y 0).val) (Nat.zero_mul 544)).trans (Nat.zero_add (y 0).val))
  · exact congrArg (fun z => Ideal.rsqrt (Ideal.div z Rms.cL + Ideal.ofBits .f32 0x358637BD#32))
      (Rms.lane_sum (R := 544) (mulf x0 x0) _ _ _ _ (ix2 (y 0) (0 : Fin 1)))

theorem out_at (i : grid0.Coords) (n : Fin 8) (hn : (i 0).val = n.val) (x0 : Vec Ideal S544x1024 .f32)
    (x1 : Vec Ideal S1x1024 .f32) (y : Ix 544 1024) :
    out0_2 i x0 x1 y = if (n.val * 544 + (y 0).val) % 2176 < 112 then (0 : EReal)
      else (x0 y * Rms.rs (Rms.row (R := 544) x0 (y 0))) * x1 (ix2 (0 : Fin 1) (y 1)) := by
  frame_out
  rw [pay_at, hn, Rms.row_word]
  exact Rms.factor ⟨n.val * 544 + (y 0).val, by have := n.isLt; have h : (y 0).val < 544 := (y 0).isLt; omega⟩ _

/-- A point's tile, element by element, in the whole array. -/
theorem point (t : Fin cfg0.N) (y : Ix 544 1024) (i : Ix 4352 1024) (h0 : (i 0).val = t.val * 544 + (y 0).val)
    (h1 : (i 1).val = 0 + (y 1).val) :
    out0_2 (F := Ideal) (grid0.coords t) (iblk m c 0 t) (iblk m c 1 t) y = Rms.normed (sc (A1 m c)) (A0 m c) i := by
  refine (out_at (grid0.coords t) t (co_0 t) (iblk m c 0 t) (iblk m c 1 t) y).trans ?_
  unfold Rms.normed Rms.light
  rw [h0]
  refine if_congr Iff.rfl rfl (congrArg₂ (· * ·) (congrArg₂ (· * ·) ((tile_0 m c t).at y i h0 h1) (congrArg Rms.rs (funext fun k =>
    (tile_0 m c t).at (ix2 (y 0) k) (ix2 (i 0) k) h0 (Nat.zero_add _).symm))) ?_)
  exact (tile_1 m c t (y 1)).trans (congrArg (sc (A1 m c)) (Fin.ext ((Nat.zero_add _).symm.trans h1.symm)))

/-- The kernel's array. -/
theorem arr : (dats m 0 c).arrAt 2 cfg0.N = Rms.normed (sc (A1 m c)) (A0 m c) := by
  refine (dats m 0 c).arrAt_eq_of_covers 2 _ (by decide +kernel) fun t hf y => ?_
  blk_simp
  rw [after0_2]
  exact point m c t y _ (by blk_simp [ix_2]) (by blk_simp [ix_2])

section Reference

open Cert.Reference16Ideal.Read

/-- A token's row. -/
theorem tok (x0 : Ix 4352 1024 → EReal) (b : Fin 2) (t : Fin 2064) (k : Fin 1024) (r : Fin 4352)
    (hr : r.val = b.val * 2176 + (112 + t.val)) : val_main_v1 (F := Ideal) x0 (ix3 b t k) = x0 (ix2 r k) := by
  have hb := b.isLt
  have ht := t.isLt
  have hk := k.isLt
  rw [val_main_v1_apply, val_main_v0_apply]
  refine congrArg x0 (ix_ext ?_ ?_)
  · show ((b.val * 2176 + (112 + t.val)) * 1024 + k.val) / 1024 = r.val
    omega
  · show ((b.val * 2176 + (112 + t.val)) * 1024 + k.val) % 1024 = k.val
    omega

theorem root (x0 : Ix 4352 1024 → EReal) (b : Fin 2) (t : Fin 2064) (k : Fin 1024) (r : Fin 4352)
    (hr : r.val = b.val * 2176 + (112 + t.val)) : val_main_v10 (F := Ideal) x0 (ix3 b t k) = Rms.rs (Rms.row x0 r) := by
  rw [val_main_v10_apply, val_main_v9_apply, val_main_v8_apply, val_main_v6_apply, val_main_v4_apply, val_main_v3_apply]
  refine congrArg (fun z => Ideal.rsqrt (Ideal.div z Rms.cL + Ideal.ofBits .f32 0x358637BD#32)) ?_
  refine (congrArg₂ (· + ·) Ideal.ofBits_zero_f32 (Finset.sum_congr rfl fun j _ => ?_)).trans (zero_add _)
  exact congrArg₂ (· * ·) (tok x0 b t j r hr) (tok x0 b t j r hr)

theorem tok_norm (x0 : Ix 4352 1024 → EReal) (x1 : (⟨1, ![1024]⟩ : Shape).Idx → EReal) (b : Fin 2) (t : Fin 2064) (k : Fin 1024)
    (r : Fin 4352) (hr : r.val = b.val * 2176 + (112 + t.val)) :
    val_main_v14 (F := Ideal) x0 x1 (ix3 b t k) = (x0 (ix2 r k) * Rms.rs (Rms.row x0 r)) * sc x1 k := by
  rw [val_main_v14_apply, val_main_v11_apply, val_main_v13_apply, val_main_v12_apply]
  refine congrArg₂ (· * ·) (congrArg₂ (· * ·) (tok x0 b t k r hr) (root x0 b t k r hr)) (congrArg x1 (funext fun a => ?_))
  fin_cases a
  rfl

theorem at_norm (x0 : Ix 4352 1024 → EReal) (x1 : (⟨1, ![1024]⟩ : Shape).Idx → EReal) (i : Ix 4352 1024) :
    (x0 (ix2 (⟨(i 0).val, (i 0).isLt⟩ : Fin 4352) (⟨(i 1).val, (i 1).isLt⟩ : Fin 1024)) * Rms.rs (Rms.row x0 ⟨(i 0).val, (i 0).isLt⟩))
      * sc x1 ⟨(i 1).val, (i 1).isLt⟩ = (x0 i * Rms.rs (Rms.row x0 (i 0))) * sc x1 (i 1) := by
  rw [show (ix2 (⟨(i 0).val, (i 0).isLt⟩ : Fin 4352) (⟨(i 1).val, (i 1).isLt⟩ : Fin 1024) : Ix 4352 1024) = i from ix_ext rfl rfl]
  rfl

/-- The reference's array is the same. -/
theorem ref (x0 : Ix 4352 1024 → EReal) (x1 : (⟨1, ![1024]⟩ : Shape).Idx → EReal) :
    val_main_v18 (F := Ideal) x0 x1 = Rms.normed (sc x1) x0 := by
  refine (narrow (val_main_v17 (F := Ideal) x0 x1) _).trans (funext fun i => ?_)
  have hi0 : (i 0).val < 4352 := (i 0).isLt
  have hi1 : (i 1).val < 1024 := (i 1).isLt
  have hm : ((i 0).val * 1024 + (i 1).val) / 1024 % 2176 = (i 0).val % 2176 := by omega
  rw [val_main_v17_apply]
  unfold val_main_v16 Rms.normed Rms.light
  rw [concatenate_pair_apply]
  by_cases h : (i 0).val % 2176 < 112
  · rw [if_pos h]
    refine (dif_pos (lt_of_eq_of_lt hm h)).trans ?_
    rw [val_main_v15_apply]
    exact Ideal.ofBits_zero_f32
  · rw [if_neg h]
    refine (dif_neg (fun hh => h (lt_of_eq_of_lt hm.symm hh))).trans ?_
    have hb : (i 0).val / 2176 < 2 := by omega
    have ht : (i 0).val % 2176 - 112 < 2064 := by omega
    refine (congrArg (val_main_v14 (F := Ideal) x0 x1) (?_ : _ = ix3 (⟨(i 0).val / 2176, hb⟩ : Fin 2)
      (⟨(i 0).val % 2176 - 112, ht⟩ : Fin 2064) (⟨(i 1).val, hi1⟩ : Fin 1024))).trans ?_
    · funext a
      refine Fin.ext ?_
      match a with
      | ⟨0, _⟩ => simp [Shape.Idx.norm_def] <;> omega
      | ⟨1, _⟩ => simp [Shape.Idx.norm_def] <;> omega
      | ⟨2, _⟩ => simp [Shape.Idx.norm_def] <;> omega
    · have hr : (i 0).val = (i 0).val / 2176 * 2176 + (112 + ((i 0).val % 2176 - 112)) := by omega
      exact (tok_norm x0 x1 ⟨(i 0).val / 2176, hb⟩ ⟨(i 0).val % 2176 - 112, ht⟩ ⟨(i 1).val, hi1⟩ ⟨(i 0).val, hi0⟩ hr).trans
        (at_norm x0 x1 i)

/-- Both runs end with the same array. -/
theorem value : Cert.algebraic_Kernel16Ideal_Reference16Ideal (hKernel16Ideal := Cert.Kernel16Ideal.Gen.facts)
    (hReference16Ideal := Cert.Reference16Ideal.Gen.facts) := fun m g m' g' _ hm =>
  ⟨fun c => (dats m 0 c).arrAt 2 Cert.Kernel16Ideal.cfg0.N, Cert.Kernel16Ideal.Value.run_blocks (F := Ideal) m g,
    (θ_run Cert.Reference16Ideal.defs _ _).mono (fun _ h c => by
      obtain ⟨h0, ha⟩ := h c
      obtain ⟨e0, e1⟩ := hm c
      refine ⟨h0.trans ((val_main_v18_eq _ _).trans (Eq.trans ?_ ((ref (A0 m c) (A1 m c)).trans (arr m c).symm))), ha⟩
      exact congr (congrArg val_main_v18 e0) e1)
      (Cert.Reference16Ideal.Value.run (F := Ideal) m' g')⟩

end Reference

/-- The frames: the kernel at the words and at the extended reals, and the reference. -/
theorem frame : Cert.quiescent_Kernel16 (hKernel16 := Cert.Kernel16.Gen.facts) := fun m ρ _ =>
  Cert.Kernel16.Gen.frame (F := Bits) m ρ

theorem frame_ideal : Cert.quiescent_Kernel16Ideal (hKernel16Ideal := Cert.Kernel16Ideal.Gen.facts) := fun m ρ _ =>
  Cert.Kernel16Ideal.Gen.frame (F := Ideal) m ρ

theorem frame_ref : Cert.quiescent_Reference16Ideal (hReference16Ideal := Cert.Reference16Ideal.Gen.facts) := fun m ρ _ =>
  (θ_run Cert.Reference16Ideal.defs _ _).mono
    (fun r h => ⟨fun c => (h c).2, sem_eq_zero_of_no_sems (by decide) r.2⟩) (Cert.Reference16Ideal.Value.run (F := Ideal) m ρ)

end Cert.Proof.Prod16

end
-- ==== Proof.Adam.lean ====
/- The optimiser's step, element by element, over the extended reals: the gradient is the sum of the eight devices' parts,
   the two moments move towards the gradient and its square, and the weight's change is minus the rate times the corrected
   first moment over the root of the corrected second one, with the weight's decay. -/
module

public import proofs.«01_k».proof.Proof.Mul
public import Idealize.ShloMosaic.Lib.Pipeline.ValueKit

@[expose] public section

noncomputable section

namespace Cert.Proof.Adam

open Cert.Proof.Mul
open Idealize.ShloMosaic hiding ix1 ix2 ix3
open Idealize.ShloMosaic.ValueIdx
open scoped BigOperators

/-- The new first moment: 0.9 of the old one and 0.1 of the gradient. -/
def mom (a g : EReal) : EReal := Ideal.ofBits .f32 0x3F666666#32 * a + Ideal.ofBits .f32 0x3DCCCCCD#32 * g

/-- The new second moment: 0.999 of the old one and 0.001 of the gradient's square. -/
def sqm (a g : EReal) : EReal := Ideal.ofBits .f32 0x3F7FBE77#32 * a + Ideal.ofBits .f32 0x3A83126F#32 * (g * g)

/-- The weight's change, from the two new moments and the weight. -/
def delta (p q w : EReal) : EReal :=
  Ideal.ofBits .f32 0xBA83126F#32
    * (Ideal.div (Ideal.div p (Ideal.ofBits .f32 0x3F26BD02#32))
        (Ideal.sqrt (Ideal.div q (Ideal.ofBits .f32 0x3C231ACC#32)) + Ideal.ofBits .f32 0x322BCC77#32)
      + Ideal.ofBits .f32 0x3C23D70A#32 * w)

/-- Eight arrays, one over the other. -/
abbrev Parts (R C : ℕ) : Type := (⟨3, ![8, R, C]⟩ : Shape).Idx

/-- The place of `y` in the `k`-th array. -/
abbrev part {R C : ℕ} (k : Fin 8) (y : Ix R C) : Parts R C :=
  ix3 k (⟨(y 0).val, (y 0).isLt⟩ : Fin R) (⟨(y 1).val, (y 1).isLt⟩ : Fin C)

/-- The gradient: the sum of the eight devices' parts. -/
def grad {R C : ℕ} (P : Parts R C → EReal) : Ix R C → EReal := fun i => ∑ k : Fin 8, P (part k i)

/-- The arrays of the new moments and of the weight's change. -/
def momA {R C : ℕ} (P : Parts R C → EReal) (M : Ix R C → EReal) : Ix R C → EReal := fun i => mom (M i) (grad P i)
def sqmA {R C : ℕ} (P : Parts R C → EReal) (V : Ix R C → EReal) : Ix R C → EReal := fun i => sqm (V i) (grad P i)
def deltaA {R C : ℕ} (P : Parts R C → EReal) (W M V : Ix R C → EReal) : Ix R C → EReal :=
  fun i => delta (momA P M i) (sqmA P V i) (W i)

theorem at3 {R C : ℕ} {i j : Parts R C} (h0 : (i 0).val = (j 0).val) (h1 : (i 1).val = (j 1).val) (h2 : (i 2).val = (j 2).val) :
    i = j := by
  funext a
  match a with
  | ⟨0, _⟩ => exact Fin.ext h0
  | ⟨1, _⟩ => exact Fin.ext h1
  | ⟨2, _⟩ => exact Fin.ext h2

/-- A block of rows of the eight arrays: `B` is `X` from row `o` on. -/
def Slab {R C r : ℕ} (X : Parts R C → EReal) (B : Parts r C → EReal) (o : ℕ) : Prop :=
  ∀ z : Parts r C, ∃ w : Parts R C, B z = X w ∧ (w 0).val = (z 0).val ∧ (w 1).val = o + (z 1).val ∧ (w 2).val = (z 2).val

/-- The sum over the eight of a block is that of the whole arrays, at the block's rows. -/
theorem grad_slab {R C r o : ℕ} {X : Parts R C → EReal} {B : Parts r C → EReal} (h : Slab X B o) (y : Ix r C) (i : Ix R C)
    (h0 : (i 0).val = o + (y 0).val) (h1 : (i 1).val = 0 + (y 1).val) : grad B y = grad X i := by
  unfold grad
  refine Finset.sum_congr rfl fun k _ => ?_
  obtain ⟨w, hv, e0, e1, e2⟩ := h (part k y)
  exact hv.trans (congrArg X (at3 e0 (e1.trans h0.symm) (e2.trans ((Nat.zero_add _).symm.trans h1.symm))))

/-- The eight added one after the other. -/
theorem grad_eight {R C : ℕ} (P : Parts R C → EReal) (y : Ix R C) (f : Fin 8 → EReal) (h : ∀ k, f k = P (part k y)) :
    f 0 + f 1 + f 2 + f 3 + f 4 + f 5 + f 6 + f 7 = grad P y := by
  unfold grad
  rw [← Finset.sum_congr rfl fun k _ => h k, Fin.sum_univ_eight]

end Cert.Proof.Adam

end
-- ==== Proof.Prod17.lean ====
/- The optimiser's step of one weight (1024 x 898): the kernel's tiles are those of the gradient, the weight's change and the
   two new moments, and so are the reference's arrays. -/
module

public import proofs.«01_k».proof.Defs
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Adam
public import Idealize.ShloMosaic.Lib.Pipeline.ValueKit

@[expose] public section

set_option maxRecDepth 16384

noncomputable section

namespace Cert.Proof.Prod17

open Cert.Kernel17Ideal Cert.Kernel17Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The four arguments: the gradient's parts, the weight, the two moments. -/
abbrev A0 : Parts 1024 898 → EReal := m ((c : Thread nD τ).loc main_arg0)
abbrev A1 : Ix 1024 898 → EReal := m ((c : Thread nD τ).loc main_arg1)
abbrev A2 : Ix 1024 898 → EReal := m ((c : Thread nD τ).loc main_arg2)
abbrev A3 : Ix 1024 898 → EReal := m ((c : Thread nD τ).loc main_arg3)

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x898 .bf16) (x1 x2 x3 : Vec Ideal S256x898 .f32) (y : Ix 256 898)

/-- The sum of the eight parts. -/
theorem pay5_at : k0_pay5 x0 x1 x2 x3 y = grad (R := 256) (C := 898) x0 y := by
  unfold k0_pay5
  refine (Cert.Kernel17Ideal.Value.piece4_0 _ _ _ _ _ _ _ _ y).trans ?_
  refine Eq.trans ?_ (grad_eight (R := 256) (C := 898) x0 y (fun k => x0 (part (R := 256) (C := 898) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 898) rfl ?_ ?_)
    · show 0 + 1 * (0 + 1 * (y 0).val) = (y 0).val
      omega
    · show 0 + 1 * (0 + 1 * (y 1).val) = (y 1).val
      omega

theorem out4_at : out0_4 x0 x1 x2 x3 y = grad (R := 256) (C := 898) x0 y := by
  frame_out
  exact pay5_at x0 x1 x2 x3 y

theorem out6_at : out0_6 x0 x1 x2 x3 y = momA (R := 256) (C := 898) x0 x2 y := by
  frame_out
  unfold k0_pay1
  exact congrArg (mom (x2 y)) (pay5_at x0 x1 x2 x3 y)

theorem out7_at : out0_7 x0 x1 x2 x3 y = sqmA (R := 256) (C := 898) x0 x3 y := by
  frame_out
  unfold k0_pay2
  exact congrArg (sqm (x3 y)) (pay5_at x0 x1 x2 x3 y)

theorem out5_at : out0_5 x0 x1 x2 x3 y = deltaA (R := 256) (C := 898) x0 x1 x2 x3 y := by
  frame_out
  unfold k0_pay3 k0_pay1 k0_pay2
  exact congrArg (fun g => delta (mom (x2 y) g) (sqm (x3 y) g) (x1 y)) (pay5_at x0 x1 x2 x3 y)

end Tile

/-! ### The kernel's arrays -/

section Point

variable (t : Fin cfg0.N) (y : Ix 256 898) (i : Ix 1024 898) (h0 : (i 0).val = t.val * 256 + (y 0).val)
  (h1 : (i 1).val = 0 + (y 1).val)

include h0 h1

theorem g_at : grad (R := 256) (C := 898) (iblk m c 0 t) y = grad (A0 m c) i := grad_slab (slab_0 m c t) y i h0 h1

theorem mom_at : momA (R := 256) (C := 898) (iblk m c 0 t) (iblk m c 2 t) y = momA (A0 m c) (A2 m c) i :=
  congrArg₂ mom ((tile_2 m c t).at y i h0 h1) (g_at m c t y i h0 h1)

theorem sqm_at : sqmA (R := 256) (C := 898) (iblk m c 0 t) (iblk m c 3 t) y = sqmA (A0 m c) (A3 m c) i :=
  congrArg₂ sqm ((tile_3 m c t).at y i h0 h1) (g_at m c t y i h0 h1)

theorem delta_at : deltaA (R := 256) (C := 898) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference17Ideal.Read

theorem ref_4 (x0 : Parts 1024 898 → EReal) : val_main_v1 (F := Ideal) x0 = grad x0 := by
  funext i
  rw [val_main_v1_apply]
  refine (congrArg₂ (· + ·) Ideal.ofBits_zero_f32 (Finset.sum_congr rfl fun k _ => ?_)).trans (zero_add _)
  exact congrArg x0 (at3 (R := 1024) (C := 898) rfl rfl rfl)

theorem ref_6 (x0 : Parts 1024 898 → EReal) (x2 : Ix 1024 898 → EReal) : val_main_v6 (F := Ideal) x0 x2 = momA x0 x2 := by
  funext i
  rw [val_main_v6_apply, val_main_v3_apply, val_main_v5_apply, val_main_v2_apply, val_main_v4_apply, ref_4]
  rfl

theorem ref_7 (x0 : Parts 1024 898 → EReal) (x3 : Ix 1024 898 → EReal) : val_main_v12 (F := Ideal) x0 x3 = sqmA x0 x3 := by
  funext i
  rw [val_main_v12_apply, val_main_v8_apply, val_main_v11_apply, val_main_v9_apply, val_main_v7_apply, val_main_v10_apply, ref_4]
  rfl

theorem ref_5 (x0 : Parts 1024 898 → EReal) (x1 x2 x3 : Ix 1024 898 → EReal) :
    val_main_v25 (F := Ideal) x0 x1 x2 x3 = deltaA x0 x1 x2 x3 := by
  funext i
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_6, ref_7]
  rfl

/-- Both runs end with the same four arrays. -/
theorem value : Cert.algebraic_Kernel17Ideal_Reference17Ideal (hKernel17Ideal := Cert.Kernel17Ideal.Gen.facts)
    (hReference17Ideal := Cert.Reference17Ideal.Gen.facts) := fun m g m' g' _ hm =>
  ⟨fun c => (dats m 0 c).arrAt 4 Cert.Kernel17Ideal.cfg0.N, fun c => (dats m 0 c).arrAt 5 Cert.Kernel17Ideal.cfg0.N,
    fun c => (dats m 0 c).arrAt 6 Cert.Kernel17Ideal.cfg0.N, fun c => (dats m 0 c).arrAt 7 Cert.Kernel17Ideal.cfg0.N,
    Cert.Kernel17Ideal.Value.run_blocks (F := Ideal) m g,
    (θ_run Cert.Reference17Ideal.defs _ _).mono (fun _ h c => by
      obtain ⟨h0, h1, h2, h3, ha⟩ := h c
      obtain ⟨e0, e1, e2, e3⟩ := hm c
      refine ⟨h0.trans ((val_main_v1_eq _).trans (Eq.trans ?_ ((ref_4 (A0 m c)).trans (arr_4 m c).symm))),
        h1.trans ((val_main_v25_eq _ _ _ _).trans (Eq.trans ?_
          ((ref_5 (A0 m c) (A1 m c) (A2 m c) (A3 m c)).trans (arr_5 m c).symm))),
        h2.trans ((val_main_v6_eq _ _).trans (Eq.trans ?_ ((ref_6 (A0 m c) (A2 m c)).trans (arr_6 m c).symm))),
        h3.trans ((val_main_v12_eq _ _).trans (Eq.trans ?_ ((ref_7 (A0 m c) (A3 m c)).trans (arr_7 m c).symm))), ha⟩
      · exact congrArg val_main_v1 e0
      · exact congr (congr (congr (congrArg val_main_v25 e0) e1) e2) e3
      · exact congr (congrArg val_main_v6 e0) e2
      · exact congr (congrArg val_main_v12 e0) e3)
      (Cert.Reference17Ideal.Value.run (F := Ideal) m' g')⟩

end Reference

/-- The frames: the kernel at the words and at the extended reals, and the reference. -/
theorem frame : Cert.quiescent_Kernel17 (hKernel17 := Cert.Kernel17.Gen.facts) := fun m ρ _ =>
  Cert.Kernel17.Gen.frame (F := Bits) m ρ

theorem frame_ideal : Cert.quiescent_Kernel17Ideal (hKernel17Ideal := Cert.Kernel17Ideal.Gen.facts) := fun m ρ _ =>
  Cert.Kernel17Ideal.Gen.frame (F := Ideal) m ρ

theorem frame_ref : Cert.quiescent_Reference17Ideal (hReference17Ideal := Cert.Reference17Ideal.Gen.facts) := fun m ρ _ =>
  (θ_run Cert.Reference17Ideal.defs _ _).mono
    (fun r h => ⟨fun c => (h c).2.2.2.2, sem_eq_zero_of_no_sems (by decide) r.2⟩) (Cert.Reference17Ideal.Value.run (F := Ideal) m ρ)

end Cert.Proof.Prod17

end
-- ==== Proof.Prod18.lean ====
/- The optimiser's step of one weight (1024 x 704): the kernel's tiles are those of the gradient, the weight's change and the
   two new moments, and so are the reference's arrays. -/
module

public import proofs.«01_k».proof.Defs
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam
public import Idealize.ShloMosaic.Lib.Pipeline.ValueKit

@[expose] public section

set_option maxRecDepth 16384

noncomputable section

namespace Cert.Proof.Prod18

open Cert.Kernel18Ideal Cert.Kernel18Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The four arguments: the gradient's parts, the weight, the two moments. -/
abbrev A0 : Parts 1024 704 → EReal := m ((c : Thread nD τ).loc main_arg0)
abbrev A1 : Ix 1024 704 → EReal := m ((c : Thread nD τ).loc main_arg1)
abbrev A2 : Ix 1024 704 → EReal := m ((c : Thread nD τ).loc main_arg2)
abbrev A3 : Ix 1024 704 → EReal := m ((c : Thread nD τ).loc main_arg3)

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x704 .bf16) (x1 x2 x3 : Vec Ideal S256x704 .f32) (y : Ix 256 704)

/-- The sum of the eight parts. -/
theorem pay5_at : k0_pay5 x0 x1 x2 x3 y = grad (R := 256) (C := 704) x0 y := by
  unfold k0_pay5
  refine (Cert.Kernel18Ideal.Value.piece4_0 _ _ _ _ _ _ _ _ y).trans ?_
  refine Eq.trans ?_ (grad_eight (R := 256) (C := 704) x0 y (fun k => x0 (part (R := 256) (C := 704) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 704) rfl ?_ ?_)
    · show 0 + 1 * (0 + 1 * (y 0).val) = (y 0).val
      omega
    · show 0 + 1 * (0 + 1 * (y 1).val) = (y 1).val
      omega

theorem out4_at : out0_4 x0 x1 x2 x3 y = grad (R := 256) (C := 704) x0 y := by
  frame_out
  exact pay5_at x0 x1 x2 x3 y

theorem out6_at : out0_6 x0 x1 x2 x3 y = momA (R := 256) (C := 704) x0 x2 y := by
  frame_out
  unfold k0_pay1
  exact congrArg (mom (x2 y)) (pay5_at x0 x1 x2 x3 y)

theorem out7_at : out0_7 x0 x1 x2 x3 y = sqmA (R := 256) (C := 704) x0 x3 y := by
  frame_out
  unfold k0_pay2
  exact congrArg (sqm (x3 y)) (pay5_at x0 x1 x2 x3 y)

theorem out5_at : out0_5 x0 x1 x2 x3 y = deltaA (R := 256) (C := 704) x0 x1 x2 x3 y := by
  frame_out
  unfold k0_pay3 k0_pay1 k0_pay2
  exact congrArg (fun g => delta (mom (x2 y) g) (sqm (x3 y) g) (x1 y)) (pay5_at x0 x1 x2 x3 y)

end Tile

/-! ### The kernel's arrays -/

section Point

variable (t : Fin cfg0.N) (y : Ix 256 704) (i : Ix 1024 704) (h0 : (i 0).val = t.val * 256 + (y 0).val)
  (h1 : (i 1).val = 0 + (y 1).val)

include h0 h1

theorem g_at : grad (R := 256) (C := 704) (iblk m c 0 t) y = grad (A0 m c) i := grad_slab (slab_0 m c t) y i h0 h1

theorem mom_at : momA (R := 256) (C := 704) (iblk m c 0 t) (iblk m c 2 t) y = momA (A0 m c) (A2 m c) i :=
  congrArg₂ mom ((tile_2 m c t).at y i h0 h1) (g_at m c t y i h0 h1)

theorem sqm_at : sqmA (R := 256) (C := 704) (iblk m c 0 t) (iblk m c 3 t) y = sqmA (A0 m c) (A3 m c) i :=
  congrArg₂ sqm ((tile_3 m c t).at y i h0 h1) (g_at m c t y i h0 h1)

theorem delta_at : deltaA (R := 256) (C := 704) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference18Ideal.Read

theorem ref_4 (x0 : Parts 1024 704 → EReal) : val_main_v1 (F := Ideal) x0 = grad x0 := by
  funext i
  rw [val_main_v1_apply]
  refine (congrArg₂ (· + ·) Ideal.ofBits_zero_f32 (Finset.sum_congr rfl fun k _ => ?_)).trans (zero_add _)
  exact congrArg x0 (at3 (R := 1024) (C := 704) rfl rfl rfl)

theorem ref_6 (x0 : Parts 1024 704 → EReal) (x2 : Ix 1024 704 → EReal) : val_main_v6 (F := Ideal) x0 x2 = momA x0 x2 := by
  funext i
  rw [val_main_v6_apply, val_main_v3_apply, val_main_v5_apply, val_main_v2_apply, val_main_v4_apply, ref_4]
  rfl

theorem ref_7 (x0 : Parts 1024 704 → EReal) (x3 : Ix 1024 704 → EReal) : val_main_v12 (F := Ideal) x0 x3 = sqmA x0 x3 := by
  funext i
  rw [val_main_v12_apply, val_main_v8_apply, val_main_v11_apply, val_main_v9_apply, val_main_v7_apply, val_main_v10_apply, ref_4]
  rfl

theorem ref_5 (x0 : Parts 1024 704 → EReal) (x1 x2 x3 : Ix 1024 704 → EReal) :
    val_main_v25 (F := Ideal) x0 x1 x2 x3 = deltaA x0 x1 x2 x3 := by
  funext i
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_6, ref_7]
  rfl

/-- Both runs end with the same four arrays. -/
theorem value : Cert.algebraic_Kernel18Ideal_Reference18Ideal (hKernel18Ideal := Cert.Kernel18Ideal.Gen.facts)
    (hReference18Ideal := Cert.Reference18Ideal.Gen.facts) := fun m g m' g' _ hm =>
  ⟨fun c => (dats m 0 c).arrAt 4 Cert.Kernel18Ideal.cfg0.N, fun c => (dats m 0 c).arrAt 5 Cert.Kernel18Ideal.cfg0.N,
    fun c => (dats m 0 c).arrAt 6 Cert.Kernel18Ideal.cfg0.N, fun c => (dats m 0 c).arrAt 7 Cert.Kernel18Ideal.cfg0.N,
    Cert.Kernel18Ideal.Value.run_blocks (F := Ideal) m g,
    (θ_run Cert.Reference18Ideal.defs _ _).mono (fun _ h c => by
      obtain ⟨h0, h1, h2, h3, ha⟩ := h c
      obtain ⟨e0, e1, e2, e3⟩ := hm c
      refine ⟨h0.trans ((val_main_v1_eq _).trans (Eq.trans ?_ ((ref_4 (A0 m c)).trans (arr_4 m c).symm))),
        h1.trans ((val_main_v25_eq _ _ _ _).trans (Eq.trans ?_
          ((ref_5 (A0 m c) (A1 m c) (A2 m c) (A3 m c)).trans (arr_5 m c).symm))),
        h2.trans ((val_main_v6_eq _ _).trans (Eq.trans ?_ ((ref_6 (A0 m c) (A2 m c)).trans (arr_6 m c).symm))),
        h3.trans ((val_main_v12_eq _ _).trans (Eq.trans ?_ ((ref_7 (A0 m c) (A3 m c)).trans (arr_7 m c).symm))), ha⟩
      · exact congrArg val_main_v1 e0
      · exact congr (congr (congr (congrArg val_main_v25 e0) e1) e2) e3
      · exact congr (congrArg val_main_v6 e0) e2
      · exact congr (congrArg val_main_v12 e0) e3)
      (Cert.Reference18Ideal.Value.run (F := Ideal) m' g')⟩

end Reference

/-- The frames: the kernel at the words and at the extended reals, and the reference. -/
theorem frame : Cert.quiescent_Kernel18 (hKernel18 := Cert.Kernel18.Gen.facts) := fun m ρ _ =>
  Cert.Kernel18.Gen.frame (F := Bits) m ρ

theorem frame_ideal : Cert.quiescent_Kernel18Ideal (hKernel18Ideal := Cert.Kernel18Ideal.Gen.facts) := fun m ρ _ =>
  Cert.Kernel18Ideal.Gen.frame (F := Ideal) m ρ

theorem frame_ref : Cert.quiescent_Reference18Ideal (hReference18Ideal := Cert.Reference18Ideal.Gen.facts) := fun m ρ _ =>
  (θ_run Cert.Reference18Ideal.defs _ _).mono
    (fun r h => ⟨fun c => (h c).2.2.2.2, sem_eq_zero_of_no_sems (by decide) r.2⟩) (Cert.Reference18Ideal.Value.run (F := Ideal) m ρ)

end Cert.Proof.Prod18

end
-- ==== Proof.Prod19.lean ====
/- The optimiser's step of one weight (1024 x 640): the kernel's tiles are those of the gradient, the weight's change and the
   two new moments, and so are the reference's arrays. -/
module

public import proofs.«01_k».proof.Defs
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam
public import Idealize.ShloMosaic.Lib.Pipeline.ValueKit

@[expose] public section

set_option maxRecDepth 16384

noncomputable section

namespace Cert.Proof.Prod19

open Cert.Kernel19Ideal Cert.Kernel19Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The four arguments: the gradient's parts, the weight, the two moments. -/
abbrev A0 : Parts 1024 640 → EReal := m ((c : Thread nD τ).loc main_arg0)
abbrev A1 : Ix 1024 640 → EReal := m ((c : Thread nD τ).loc main_arg1)
abbrev A2 : Ix 1024 640 → EReal := m ((c : Thread nD τ).loc main_arg2)
abbrev A3 : Ix 1024 640 → EReal := m ((c : Thread nD τ).loc main_arg3)

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x640 .bf16) (x1 x2 x3 : Vec Ideal S256x640 .f32) (y : Ix 256 640)

/-- The sum of the eight parts. -/
theorem pay5_at : k0_pay5 x0 x1 x2 x3 y = grad (R := 256) (C := 640) x0 y := by
  unfold k0_pay5
  refine (Cert.Kernel19Ideal.Value.piece4_0 _ _ _ _ _ _ _ _ y).trans ?_
  refine Eq.trans ?_ (grad_eight (R := 256) (C := 640) x0 y (fun k => x0 (part (R := 256) (C := 640) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 640) rfl ?_ ?_)
    · show 0 + 1 * (0 + 1 * (y 0).val) = (y 0).val
      omega
    · show 0 + 1 * (0 + 1 * (y 1).val) = (y 1).val
      omega

theorem out4_at : out0_4 x0 x1 x2 x3 y = grad (R := 256) (C := 640) x0 y := by
  frame_out
  exact pay5_at x0 x1 x2 x3 y

theorem out6_at : out0_6 x0 x1 x2 x3 y = momA (R := 256) (C := 640) x0 x2 y := by
  frame_out
  unfold k0_pay1
  exact congrArg (mom (x2 y)) (pay5_at x0 x1 x2 x3 y)

theorem out7_at : out0_7 x0 x1 x2 x3 y = sqmA (R := 256) (C := 640) x0 x3 y := by
  frame_out
  unfold k0_pay2
  exact congrArg (sqm (x3 y)) (pay5_at x0 x1 x2 x3 y)

theorem out5_at : out0_5 x0 x1 x2 x3 y = deltaA (R := 256) (C := 640) x0 x1 x2 x3 y := by
  frame_out
  unfold k0_pay3 k0_pay1 k0_pay2
  exact congrArg (fun g => delta (mom (x2 y) g) (sqm (x3 y) g) (x1 y)) (pay5_at x0 x1 x2 x3 y)

end Tile

/-! ### The kernel's arrays -/

section Point

variable (t : Fin cfg0.N) (y : Ix 256 640) (i : Ix 1024 640) (h0 : (i 0).val = t.val * 256 + (y 0).val)
  (h1 : (i 1).val = 0 + (y 1).val)

include h0 h1

theorem g_at : grad (R := 256) (C := 640) (iblk m c 0 t) y = grad (A0 m c) i := grad_slab (slab_0 m c t) y i h0 h1

theorem mom_at : momA (R := 256) (C := 640) (iblk m c 0 t) (iblk m c 2 t) y = momA (A0 m c) (A2 m c) i :=
  congrArg₂ mom ((tile_2 m c t).at y i h0 h1) (g_at m c t y i h0 h1)

theorem sqm_at : sqmA (R := 256) (C := 640) (iblk m c 0 t) (iblk m c 3 t) y = sqmA (A0 m c) (A3 m c) i :=
  congrArg₂ sqm ((tile_3 m c t).at y i h0 h1) (g_at m c t y i h0 h1)

theorem delta_at : deltaA (R := 256) (C := 640) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference19Ideal.Read

theorem ref_4 (x0 : Parts 1024 640 → EReal) : val_main_v1 (F := Ideal) x0 = grad x0 := by
  funext i
  rw [val_main_v1_apply]
  refine (congrArg₂ (· + ·) Ideal.ofBits_zero_f32 (Finset.sum_congr rfl fun k _ => ?_)).trans (zero_add _)
  exact congrArg x0 (at3 (R := 1024) (C := 640) rfl rfl rfl)

theorem ref_6 (x0 : Parts 1024 640 → EReal) (x2 : Ix 1024 640 → EReal) : val_main_v6 (F := Ideal) x0 x2 = momA x0 x2 := by
  funext i
  rw [val_main_v6_apply, val_main_v3_apply, val_main_v5_apply, val_main_v2_apply, val_main_v4_apply, ref_4]
  rfl

theorem ref_7 (x0 : Parts 1024 640 → EReal) (x3 : Ix 1024 640 → EReal) : val_main_v12 (F := Ideal) x0 x3 = sqmA x0 x3 := by
  funext i
  rw [val_main_v12_apply, val_main_v8_apply, val_main_v11_apply, val_main_v9_apply, val_main_v7_apply, val_main_v10_apply, ref_4]
  rfl

theorem ref_5 (x0 : Parts 1024 640 → EReal) (x1 x2 x3 : Ix 1024 640 → EReal) :
    val_main_v25 (F := Ideal) x0 x1 x2 x3 = deltaA x0 x1 x2 x3 := by
  funext i
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_6, ref_7]
  rfl

/-- Both runs end with the same four arrays. -/
theorem value : Cert.algebraic_Kernel19Ideal_Reference19Ideal (hKernel19Ideal := Cert.Kernel19Ideal.Gen.facts)
    (hReference19Ideal := Cert.Reference19Ideal.Gen.facts) := fun m g m' g' _ hm =>
  ⟨fun c => (dats m 0 c).arrAt 4 Cert.Kernel19Ideal.cfg0.N, fun c => (dats m 0 c).arrAt 5 Cert.Kernel19Ideal.cfg0.N,
    fun c => (dats m 0 c).arrAt 6 Cert.Kernel19Ideal.cfg0.N, fun c => (dats m 0 c).arrAt 7 Cert.Kernel19Ideal.cfg0.N,
    Cert.Kernel19Ideal.Value.run_blocks (F := Ideal) m g,
    (θ_run Cert.Reference19Ideal.defs _ _).mono (fun _ h c => by
      obtain ⟨h0, h1, h2, h3, ha⟩ := h c
      obtain ⟨e0, e1, e2, e3⟩ := hm c
      refine ⟨h0.trans ((val_main_v1_eq _).trans (Eq.trans ?_ ((ref_4 (A0 m c)).trans (arr_4 m c).symm))),
        h1.trans ((val_main_v25_eq _ _ _ _).trans (Eq.trans ?_
          ((ref_5 (A0 m c) (A1 m c) (A2 m c) (A3 m c)).trans (arr_5 m c).symm))),
        h2.trans ((val_main_v6_eq _ _).trans (Eq.trans ?_ ((ref_6 (A0 m c) (A2 m c)).trans (arr_6 m c).symm))),
        h3.trans ((val_main_v12_eq _ _).trans (Eq.trans ?_ ((ref_7 (A0 m c) (A3 m c)).trans (arr_7 m c).symm))), ha⟩
      · exact congrArg val_main_v1 e0
      · exact congr (congr (congr (congrArg val_main_v25 e0) e1) e2) e3
      · exact congr (congrArg val_main_v6 e0) e2
      · exact congr (congrArg val_main_v12 e0) e3)
      (Cert.Reference19Ideal.Value.run (F := Ideal) m' g')⟩

end Reference

/-- The frames: the kernel at the words and at the extended reals, and the reference. -/
theorem frame : Cert.quiescent_Kernel19 (hKernel19 := Cert.Kernel19.Gen.facts) := fun m ρ _ =>
  Cert.Kernel19.Gen.frame (F := Bits) m ρ

theorem frame_ideal : Cert.quiescent_Kernel19Ideal (hKernel19Ideal := Cert.Kernel19Ideal.Gen.facts) := fun m ρ _ =>
  Cert.Kernel19Ideal.Gen.frame (F := Ideal) m ρ

theorem frame_ref : Cert.quiescent_Reference19Ideal (hReference19Ideal := Cert.Reference19Ideal.Gen.facts) := fun m ρ _ =>
  (θ_run Cert.Reference19Ideal.defs _ _).mono
    (fun r h => ⟨fun c => (h c).2.2.2.2, sem_eq_zero_of_no_sems (by decide) r.2⟩) (Cert.Reference19Ideal.Value.run (F := Ideal) m ρ)

end Cert.Proof.Prod19

end
-- ==== Proof.Prod20.lean ====
/- The optimiser's step of one weight (256 x 1024): the kernel's tiles are those of the gradient, the weight's change and the
   two new moments, and so are the reference's arrays. -/
module

public import proofs.«01_k».proof.Defs
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam
public import Idealize.ShloMosaic.Lib.Pipeline.ValueKit

@[expose] public section

set_option maxRecDepth 16384

noncomputable section

namespace Cert.Proof.Prod20

open Cert.Kernel20Ideal Cert.Kernel20Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The four arguments: the gradient's parts, the weight, the two moments. -/
abbrev A0 : Parts 256 1024 → EReal := m ((c : Thread nD τ).loc main_arg0)
abbrev A1 : Ix 256 1024 → EReal := m ((c : Thread nD τ).loc main_arg1)
abbrev A2 : Ix 256 1024 → EReal := m ((c : Thread nD τ).loc main_arg2)
abbrev A3 : Ix 256 1024 → EReal := m ((c : Thread nD τ).loc main_arg3)

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x1024 .bf16) (x1 x2 x3 : Vec Ideal S256x1024 .f32) (y : Ix 256 1024)

/-- The sum of the eight parts. -/
theorem pay5_at : k0_pay5 x0 x1 x2 x3 y = grad (R := 256) (C := 1024) x0 y := by
  unfold k0_pay5
  refine (Cert.Kernel20Ideal.Value.piece4_0 _ _ _ _ _ _ _ _ y).trans ?_
  refine Eq.trans ?_ (grad_eight (R := 256) (C := 1024) x0 y (fun k => x0 (part (R := 256) (C := 1024) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 1024) rfl ?_ ?_)
    · show 0 + 1 * (0 + 1 * (y 0).val) = (y 0).val
      omega
    · show 0 + 1 * (0 + 1 * (y 1).val) = (y 1).val
      omega

theorem out4_at : out0_4 x0 x1 x2 x3 y = grad (R := 256) (C := 1024) x0 y := by
  frame_out
  exact pay5_at x0 x1 x2 x3 y

theorem out6_at : out0_6 x0 x1 x2 x3 y = momA (R := 256) (C := 1024) x0 x2 y := by
  frame_out
  unfold k0_pay1
  exact congrArg (mom (x2 y)) (pay5_at x0 x1 x2 x3 y)

theorem out7_at : out0_7 x0 x1 x2 x3 y = sqmA (R := 256) (C := 1024) x0 x3 y := by
  frame_out
  unfold k0_pay2
  exact congrArg (sqm (x3 y)) (pay5_at x0 x1 x2 x3 y)

theorem out5_at : out0_5 x0 x1 x2 x3 y = deltaA (R := 256) (C := 1024) x0 x1 x2 x3 y := by
  frame_out
  unfold k0_pay3 k0_pay1 k0_pay2
  exact congrArg (fun g => delta (mom (x2 y) g) (sqm (x3 y) g) (x1 y)) (pay5_at x0 x1 x2 x3 y)

end Tile

/-! ### The kernel's arrays -/

section Point

variable (t : Fin cfg0.N) (y : Ix 256 1024) (i : Ix 256 1024) (h0 : (i 0).val = t.val * 256 + (y 0).val)
  (h1 : (i 1).val = 0 + (y 1).val)

include h0 h1

theorem g_at : grad (R := 256) (C := 1024) (iblk m c 0 t) y = grad (A0 m c) i := grad_slab (slab_0 m c t) y i h0 h1

theorem mom_at : momA (R := 256) (C := 1024) (iblk m c 0 t) (iblk m c 2 t) y = momA (A0 m c) (A2 m c) i :=
  congrArg₂ mom ((tile_2 m c t).at y i h0 h1) (g_at m c t y i h0 h1)

theorem sqm_at : sqmA (R := 256) (C := 1024) (iblk m c 0 t) (iblk m c 3 t) y = sqmA (A0 m c) (A3 m c) i :=
  congrArg₂ sqm ((tile_3 m c t).at y i h0 h1) (g_at m c t y i h0 h1)

theorem delta_at : deltaA (R := 256) (C := 1024) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference20Ideal.Read

theorem ref_4 (x0 : Parts 256 1024 → EReal) : val_main_v1 (F := Ideal) x0 = grad x0 := by
  funext i
  rw [val_main_v1_apply]
  refine (congrArg₂ (· + ·) Ideal.ofBits_zero_f32 (Finset.sum_congr rfl fun k _ => ?_)).trans (zero_add _)
  exact congrArg x0 (at3 (R := 256) (C := 1024) rfl rfl rfl)

theorem ref_6 (x0 : Parts 256 1024 → EReal) (x2 : Ix 256 1024 → EReal) : val_main_v6 (F := Ideal) x0 x2 = momA x0 x2 := by
  funext i
  rw [val_main_v6_apply, val_main_v3_apply, val_main_v5_apply, val_main_v2_apply, val_main_v4_apply, ref_4]
  rfl

theorem ref_7 (x0 : Parts 256 1024 → EReal) (x3 : Ix 256 1024 → EReal) : val_main_v12 (F := Ideal) x0 x3 = sqmA x0 x3 := by
  funext i
  rw [val_main_v12_apply, val_main_v8_apply, val_main_v11_apply, val_main_v9_apply, val_main_v7_apply, val_main_v10_apply, ref_4]
  rfl

theorem ref_5 (x0 : Parts 256 1024 → EReal) (x1 x2 x3 : Ix 256 1024 → EReal) :
    val_main_v25 (F := Ideal) x0 x1 x2 x3 = deltaA x0 x1 x2 x3 := by
  funext i
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_6, ref_7]
  rfl

/-- Both runs end with the same four arrays. -/
theorem value : Cert.algebraic_Kernel20Ideal_Reference20Ideal (hKernel20Ideal := Cert.Kernel20Ideal.Gen.facts)
    (hReference20Ideal := Cert.Reference20Ideal.Gen.facts) := fun m g m' g' _ hm =>
  ⟨fun c => (dats m 0 c).arrAt 4 Cert.Kernel20Ideal.cfg0.N, fun c => (dats m 0 c).arrAt 5 Cert.Kernel20Ideal.cfg0.N,
    fun c => (dats m 0 c).arrAt 6 Cert.Kernel20Ideal.cfg0.N, fun c => (dats m 0 c).arrAt 7 Cert.Kernel20Ideal.cfg0.N,
    Cert.Kernel20Ideal.Value.run_blocks (F := Ideal) m g,
    (θ_run Cert.Reference20Ideal.defs _ _).mono (fun _ h c => by
      obtain ⟨h0, h1, h2, h3, ha⟩ := h c
      obtain ⟨e0, e1, e2, e3⟩ := hm c
      refine ⟨h0.trans ((val_main_v1_eq _).trans (Eq.trans ?_ ((ref_4 (A0 m c)).trans (arr_4 m c).symm))),
        h1.trans ((val_main_v25_eq _ _ _ _).trans (Eq.trans ?_
          ((ref_5 (A0 m c) (A1 m c) (A2 m c) (A3 m c)).trans (arr_5 m c).symm))),
        h2.trans ((val_main_v6_eq _ _).trans (Eq.trans ?_ ((ref_6 (A0 m c) (A2 m c)).trans (arr_6 m c).symm))),
        h3.trans ((val_main_v12_eq _ _).trans (Eq.trans ?_ ((ref_7 (A0 m c) (A3 m c)).trans (arr_7 m c).symm))), ha⟩
      · exact congrArg val_main_v1 e0
      · exact congr (congr (congr (congrArg val_main_v25 e0) e1) e2) e3
      · exact congr (congrArg val_main_v6 e0) e2
      · exact congr (congrArg val_main_v12 e0) e3)
      (Cert.Reference20Ideal.Value.run (F := Ideal) m' g')⟩

end Reference

/-- The frames: the kernel at the words and at the extended reals, and the reference. -/
theorem frame : Cert.quiescent_Kernel20 (hKernel20 := Cert.Kernel20.Gen.facts) := fun m ρ _ =>
  Cert.Kernel20.Gen.frame (F := Bits) m ρ

theorem frame_ideal : Cert.quiescent_Kernel20Ideal (hKernel20Ideal := Cert.Kernel20Ideal.Gen.facts) := fun m ρ _ =>
  Cert.Kernel20Ideal.Gen.frame (F := Ideal) m ρ

theorem frame_ref : Cert.quiescent_Reference20Ideal (hReference20Ideal := Cert.Reference20Ideal.Gen.facts) := fun m ρ _ =>
  (θ_run Cert.Reference20Ideal.defs _ _).mono
    (fun r h => ⟨fun c => (h c).2.2.2.2, sem_eq_zero_of_no_sems (by decide) r.2⟩) (Cert.Reference20Ideal.Value.run (F := Ideal) m ρ)

end Cert.Proof.Prod20

end
-- ==== Proof.Prod21.lean ====
/- The optimiser's step of one weight (352 x 1024): the kernel's tiles are those of the gradient, the weight's change and the
   two new moments, and so are the reference's arrays. -/
module

public import proofs.«01_k».proof.Defs
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Adam
public import Idealize.ShloMosaic.Lib.Pipeline.ValueKit

@[expose] public section

set_option maxRecDepth 16384

noncomputable section

namespace Cert.Proof.Prod21

open Cert.Kernel21Ideal Cert.Kernel21Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The four arguments: the gradient's parts, the weight, the two moments. -/
abbrev A0 : Parts 352 1024 → EReal := m ((c : Thread nD τ).loc main_arg0)
abbrev A1 : Ix 352 1024 → EReal := m ((c : Thread nD τ).loc main_arg1)
abbrev A2 : Ix 352 1024 → EReal := m ((c : Thread nD τ).loc main_arg2)
abbrev A3 : Ix 352 1024 → EReal := m ((c : Thread nD τ).loc main_arg3)

theorem slab_0 (t : Fin cfg0.N) : Slab (A0 m c) (iblk m c 0 t) (t.val * 176) :=
  fun z => ⟨(win0_0.blk t).view.emb z, rfl, by blk_simp [ix_0], by blk_simp [ix_0], by blk_simp [ix_0]⟩

theorem tile_1 (t : Fin cfg0.N) : Tile (A1 m c) (iblk m c 1 t) (t.val * 176) 0 :=
  fun z => ⟨(win0_1.blk t).view.emb z, rfl, by blk_simp [ix_1], by blk_simp [ix_1]⟩

theorem tile_2 (t : Fin cfg0.N) : Tile (A2 m c) (iblk m c 2 t) (t.val * 176) 0 :=
  fun z => ⟨(win0_2.blk t).view.emb z, rfl, by blk_simp [ix_2], by blk_simp [ix_2]⟩

theorem tile_3 (t : Fin cfg0.N) : Tile (A3 m c) (iblk m c 3 t) (t.val * 176) 0 :=
  fun z => ⟨(win0_3.blk t).view.emb z, rfl, by blk_simp [ix_3], by blk_simp [ix_3]⟩

/-! ### One tile's values -/

section Tile

variable (x0 : Vec Ideal S8x176x1024 .bf16) (x1 x2 x3 : Vec Ideal S176x1024 .f32) (y : Ix 176 1024)

/-- The sum of the eight parts. -/
theorem pay5_at : k0_pay5 x0 x1 x2 x3 y = grad (R := 176) (C := 1024) x0 y := by
  unfold k0_pay5
  refine (Cert.Kernel21Ideal.Value.piece4_0 _ _ _ _ _ _ _ _ y).trans ?_
  refine Eq.trans ?_ (grad_eight (R := 176) (C := 1024) x0 y (fun k => x0 (part (R := 176) (C := 1024) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 176) (C := 1024) rfl ?_ ?_)
    · show 0 + 1 * (0 + 1 * (y 0).val) = (y 0).val
      omega
    · show 0 + 1 * (0 + 1 * (y 1).val) = (y 1).val
      omega

theorem out4_at : out0_4 x0 x1 x2 x3 y = grad (R := 176) (C := 1024) x0 y := by
  frame_out
  exact pay5_at x0 x1 x2 x3 y

theorem out6_at : out0_6 x0 x1 x2 x3 y = momA (R := 176) (C := 1024) x0 x2 y := by
  frame_out
  unfold k0_pay1
  exact congrArg (mom (x2 y)) (pay5_at x0 x1 x2 x3 y)

theorem out7_at : out0_7 x0 x1 x2 x3 y = sqmA (R := 176) (C := 1024) x0 x3 y := by
  frame_out
  unfold k0_pay2
  exact congrArg (sqm (x3 y)) (pay5_at x0 x1 x2 x3 y)

theorem out5_at : out0_5 x0 x1 x2 x3 y = deltaA (R := 176) (C := 1024) x0 x1 x2 x3 y := by
  frame_out
  unfold k0_pay3 k0_pay1 k0_pay2
  exact congrArg (fun g => delta (mom (x2 y) g) (sqm (x3 y) g) (x1 y)) (pay5_at x0 x1 x2 x3 y)

end Tile

/-! ### The kernel's arrays -/

section Point

variable (t : Fin cfg0.N) (y : Ix 176 1024) (i : Ix 352 1024) (h0 : (i 0).val = t.val * 176 + (y 0).val)
  (h1 : (i 1).val = 0 + (y 1).val)

include h0 h1

theorem g_at : grad (R := 176) (C := 1024) (iblk m c 0 t) y = grad (A0 m c) i := grad_slab (slab_0 m c t) y i h0 h1

theorem mom_at : momA (R := 176) (C := 1024) (iblk m c 0 t) (iblk m c 2 t) y = momA (A0 m c) (A2 m c) i :=
  congrArg₂ mom ((tile_2 m c t).at y i h0 h1) (g_at m c t y i h0 h1)

theorem sqm_at : sqmA (R := 176) (C := 1024) (iblk m c 0 t) (iblk m c 3 t) y = sqmA (A0 m c) (A3 m c) i :=
  congrArg₂ sqm ((tile_3 m c t).at y i h0 h1) (g_at m c t y i h0 h1)

theorem delta_at : deltaA (R := 176) (C := 1024) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference21Ideal.Read

theorem ref_4 (x0 : Parts 352 1024 → EReal) : val_main_v1 (F := Ideal) x0 = grad x0 := by
  funext i
  rw [val_main_v1_apply]
  refine (congrArg₂ (· + ·) Ideal.ofBits_zero_f32 (Finset.sum_congr rfl fun k _ => ?_)).trans (zero_add _)
  exact congrArg x0 (at3 (R := 352) (C := 1024) rfl rfl rfl)

theorem ref_6 (x0 : Parts 352 1024 → EReal) (x2 : Ix 352 1024 → EReal) : val_main_v6 (F := Ideal) x0 x2 = momA x0 x2 := by
  funext i
  rw [val_main_v6_apply, val_main_v3_apply, val_main_v5_apply, val_main_v2_apply, val_main_v4_apply, ref_4]
  rfl

theorem ref_7 (x0 : Parts 352 1024 → EReal) (x3 : Ix 352 1024 → EReal) : val_main_v12 (F := Ideal) x0 x3 = sqmA x0 x3 := by
  funext i
  rw [val_main_v12_apply, val_main_v8_apply, val_main_v11_apply, val_main_v9_apply, val_main_v7_apply, val_main_v10_apply, ref_4]
  rfl

theorem ref_5 (x0 : Parts 352 1024 → EReal) (x1 x2 x3 : Ix 352 1024 → EReal) :
    val_main_v25 (F := Ideal) x0 x1 x2 x3 = deltaA x0 x1 x2 x3 := by
  funext i
  rw [val_main_v25_apply, val_main_v24_apply, val_main_v23_apply, val_main_v22_apply, val_main_v21_apply, val_main_v20_apply,
    val_main_v19_apply, val_main_v18_apply, val_main_v17_apply, val_main_v16_apply, val_main_v15_apply, val_main_v14_apply,
    val_main_v13_apply, ref_6, ref_7]
  rfl

/-- Both runs end with the same four arrays. -/
theorem value : Cert.algebraic_Kernel21Ideal_Reference21Ideal (hKernel21Ideal := Cert.Kernel21Ideal.Gen.facts)
    (hReference21Ideal := Cert.Reference21Ideal.Gen.facts) := fun m g m' g' _ hm =>
  ⟨fun c => (dats m 0 c).arrAt 4 Cert.Kernel21Ideal.cfg0.N, fun c => (dats m 0 c).arrAt 5 Cert.Kernel21Ideal.cfg0.N,
    fun c => (dats m 0 c).arrAt 6 Cert.Kernel21Ideal.cfg0.N, fun c => (dats m 0 c).arrAt 7 Cert.Kernel21Ideal.cfg0.N,
    Cert.Kernel21Ideal.Value.run_blocks (F := Ideal) m g,
    (θ_run Cert.Reference21Ideal.defs _ _).mono (fun _ h c => by
      obtain ⟨h0, h1, h2, h3, ha⟩ := h c
      obtain ⟨e0, e1, e2, e3⟩ := hm c
      refine ⟨h0.trans ((val_main_v1_eq _).trans (Eq.trans ?_ ((ref_4 (A0 m c)).trans (arr_4 m c).symm))),
        h1.trans ((val_main_v25_eq _ _ _ _).trans (Eq.trans ?_
          ((ref_5 (A0 m c) (A1 m c) (A2 m c) (A3 m c)).trans (arr_5 m c).symm))),
        h2.trans ((val_main_v6_eq _ _).trans (Eq.trans ?_ ((ref_6 (A0 m c) (A2 m c)).trans (arr_6 m c).symm))),
        h3.trans ((val_main_v12_eq _ _).trans (Eq.trans ?_ ((ref_7 (A0 m c) (A3 m c)).trans (arr_7 m c).symm))), ha⟩
      · exact congrArg val_main_v1 e0
      · exact congr (congr (congr (congrArg val_main_v25 e0) e1) e2) e3
      · exact congr (congrArg val_main_v6 e0) e2
      · exact congr (congrArg val_main_v12 e0) e3)
      (Cert.Reference21Ideal.Value.run (F := Ideal) m' g')⟩

end Reference

/-- The frames: the kernel at the words and at the extended reals, and the reference. -/
theorem frame : Cert.quiescent_Kernel21 (hKernel21 := Cert.Kernel21.Gen.facts) := fun m ρ _ =>
  Cert.Kernel21.Gen.frame (F := Bits) m ρ

theorem frame_ideal : Cert.quiescent_Kernel21Ideal (hKernel21Ideal := Cert.Kernel21Ideal.Gen.facts) := fun m ρ _ =>
  Cert.Kernel21Ideal.Gen.frame (F := Ideal) m ρ

theorem frame_ref : Cert.quiescent_Reference21Ideal (hReference21Ideal := Cert.Reference21Ideal.Gen.facts) := fun m ρ _ =>
  (θ_run Cert.Reference21Ideal.defs _ _).mono
    (fun r h => ⟨fun c => (h c).2.2.2.2, sem_eq_zero_of_no_sems (by decide) r.2⟩) (Cert.Reference21Ideal.Value.run (F := Ideal) m ρ)

end Cert.Proof.Prod21

end
-- ==== Proof.Prod22.lean ====
/- The optimiser's step of several small weights, laid one after another into one array of 256 x 128: the kernel's tiles are those of the gradient, the weight's change and the
   two new moments, and so are the reference's arrays. -/
module

public import proofs.«01_k».proof.Defs
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Adam
public import Idealize.ShloMosaic.Lib.Pipeline.ValueKit

@[expose] public section

set_option maxRecDepth 16384

noncomputable section

namespace Cert.Proof.Prod22

open Cert.Kernel22Ideal Cert.Kernel22Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The gradient's parts, and the arrays of the weights and of the two moments, laid out by the program. -/
abbrev A0 : Parts 256 128 → EReal := m ((c : Thread nD τ).loc main_arg0)
abbrev A1 : Ix 256 128 → EReal := V m c main_v7
abbrev A2 : Ix 256 128 → EReal := V m c main_v15
abbrev A3 : Ix 256 128 → EReal := V m c main_v23

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x128 .f32) (x1 x2 x3 : Vec Ideal S256x128 .f32) (y : Ix 256 128)

/-- The sum of the eight parts. -/
theorem pay5_at : k0_pay5 x0 x1 x2 x3 y = grad (R := 256) (C := 128) x0 y := by
  unfold k0_pay5
  refine (Cert.Kernel22Ideal.Value.piece4_0 _ _ _ _ _ _ _ _ y).trans ?_
  refine Eq.trans ?_ (grad_eight (R := 256) (C := 128) x0 y (fun k => x0 (part (R := 256) (C := 128) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 128) rfl ?_ ?_)
    · show 0 + 1 * (0 + 1 * (y 0).val) = (y 0).val
      omega
    · show 0 + 1 * (0 + 1 * (y 1).val) = (y 1).val
      omega

/-- The new first moment. -/
theorem pay6_at : k0_pay6 x0 x1 x2 x3 y = momA (R := 256) (C := 128) x0 x2 y := by
  unfold k0_pay6 k0_pay4
  rw [show View.ld x2 r0_8 = x2 from View.ld_unit_lit' _ x2 (by decide)]
  rw [shapeCast_self]
  exact congrArg (mom (x2 y)) (pay5_at x0 x1 x2 x3 y)

theorem out4_at : out0_4 x0 x1 x2 x3 y = grad (R := 256) (C := 128) x0 y := by
  frame_out
  exact pay5_at x0 x1 x2 x3 y

theorem out6_at : out0_6 x0 x1 x2 x3 y = momA (R := 256) (C := 128) x0 x2 y := by
  frame_out
  exact pay6_at x0 x1 x2 x3 y

theorem out7_at : out0_7 x0 x1 x2 x3 y = sqmA (R := 256) (C := 128) x0 x3 y := by
  frame_out
  unfold k0_pay1
  rw [shapeCast_self]
  exact congrArg (sqm (x3 y)) (pay5_at x0 x1 x2 x3 y)

theorem out5_at : out0_5 x0 x1 x2 x3 y = deltaA (R := 256) (C := 128) x0 x1 x2 x3 y := by
  frame_out
  unfold k0_pay2 k0_pay1
  dsimp only
  rw [shapeCast_self, shapeCast_self]
  exact congrArg₂ (fun p g => delta p (sqm (x3 y) g) (x1 y)) (pay6_at x0 x1 x2 x3 y) (pay5_at x0 x1 x2 x3 y)

end Tile

/-! ### The kernel's arrays -/

section Point

variable (t : Fin cfg0.N) (y : Ix 256 128) (i : Ix 256 128) (h0 : (i 0).val = t.val * 256 + (y 0).val)
  (h1 : (i 1).val = 0 + (y 1).val)

include h0 h1

theorem g_at : grad (R := 256) (C := 128) (iblk m c 0 t) y = grad (A0 m c) i := grad_slab (slab_0 m c t) y i h0 h1

theorem mom_at : momA (R := 256) (C := 128) (iblk m c 0 t) (iblk m c 2 t) y = momA (A0 m c) (A2 m c) i :=
  congrArg₂ mom ((tile_2 m c t).at y i h0 h1) (g_at m c t y i h0 h1)

theorem sqm_at : sqmA (R := 256) (C := 128) (iblk m c 0 t) (iblk m c 3 t) y = sqmA (A0 m c) (A3 m c) i :=
  congrArg₂ sqm ((tile_3 m c t).at y i h0 h1) (g_at m c t y i h0 h1)

theorem delta_at : deltaA (R := 256) (C := 128) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference22Ideal.Read

theorem ref_4 (x0 : Parts 256 128 → EReal) : val_main_v24 (F := Ideal) x0 = grad x0 := by
  funext i
  rw [val_main_v24_apply]
  refine (congrArg₂ (· + ·) Ideal.ofBits_zero_f32 (Finset.sum_congr rfl fun k _ => ?_)).trans (zero_add _)
  exact congrArg x0 (at3 (R := 256) (C := 128) rfl rfl rfl)

theorem ref_6 (x0 : Parts 256 128 → EReal) (x6 : Vec Ideal Cert.Kernel22Ideal.S16x128 .f32) (x7 : Vec Ideal Cert.Kernel22Ideal.S4x256 .f32) (x8 : Vec Ideal Cert.Kernel22Ideal.S3x704 .f32) (x9 : Vec Ideal Cert.Kernel22Ideal.S4x128 .f32) (x10 : Vec Ideal Cert.Kernel22Ideal.S3x704 .f32) :
    val_main_v29 (F := Ideal) x0 x6 x7 x8 x9 x10 = momA x0 (val_main_v15 (F := Ideal) x6 x7 x8 x9 x10) := by
  funext i
  rw [val_main_v29_apply, val_main_v26_apply, val_main_v28_apply, val_main_v25_apply, val_main_v27_apply, ref_4]
  rfl

theorem ref_7 (x0 : Parts 256 128 → EReal) (x11 : Vec Ideal Cert.Kernel22Ideal.S16x128 .f32) (x12 : Vec Ideal Cert.Kernel22Ideal.S4x256 .f32) (x13 : Vec Ideal Cert.Kernel22Ideal.S3x704 .f32) (x14 : Vec Ideal Cert.Kernel22Ideal.S4x128 .f32) (x15 : Vec Ideal Cert.Kernel22Ideal.S3x704 .f32) :
    val_main_v35 (F := Ideal) x0 x11 x12 x13 x14 x15 = sqmA x0 (val_main_v23 (F := Ideal) x11 x12 x13 x14 x15) := by
  funext i
  rw [val_main_v35_apply, val_main_v31_apply, val_main_v34_apply, val_main_v32_apply, val_main_v30_apply, val_main_v33_apply, ref_4]
  rfl

theorem ref_5 (x0 : Parts 256 128 → EReal) (x1 : Vec Ideal Cert.Kernel22Ideal.S16x128 .f32) (x2 : Vec Ideal Cert.Kernel22Ideal.S4x256 .f32) (x3 : Vec Ideal Cert.Kernel22Ideal.S3x704 .f32) (x4 : Vec Ideal Cert.Kernel22Ideal.S4x128 .f32) (x5 : Vec Ideal Cert.Kernel22Ideal.S3x704 .f32)
    (x6 : Vec Ideal Cert.Kernel22Ideal.S16x128 .f32) (x7 : Vec Ideal Cert.Kernel22Ideal.S4x256 .f32) (x8 : Vec Ideal Cert.Kernel22Ideal.S3x704 .f32) (x9 : Vec Ideal Cert.Kernel22Ideal.S4x128 .f32) (x10 : Vec Ideal Cert.Kernel22Ideal.S3x704 .f32)
    (x11 : Vec Ideal Cert.Kernel22Ideal.S16x128 .f32) (x12 : Vec Ideal Cert.Kernel22Ideal.S4x256 .f32) (x13 : Vec Ideal Cert.Kernel22Ideal.S3x704 .f32) (x14 : Vec Ideal Cert.Kernel22Ideal.S4x128 .f32) (x15 : Vec Ideal Cert.Kernel22Ideal.S3x704 .f32) :
    val_main_v48 (F := Ideal) x0 x1 x2 x3 x4 x5 x6 x7 x8 x9 x10 x11 x12 x13 x14 x15
      = deltaA x0 (val_main_v7 (F := Ideal) x1 x2 x3 x4 x5) (val_main_v15 (F := Ideal) x6 x7 x8 x9 x10)
        (val_main_v23 (F := Ideal) x11 x12 x13 x14 x15) := by
  funext i
  rw [val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, ref_6, ref_7]
  rfl

/-- The program lays the weights out as the reference does. -/
theorem pack_1 (m : (ℓ : Loc nD τ sig) → Buf (Elt Ideal) ℓ) (c : Dev nD) : A1 m c
    = val_main_v7 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  simp only [A1, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the first moments out as the reference does. -/
theorem pack_2 (m : (ℓ : Loc nD τ sig) → Buf (Elt Ideal) ℓ) (c : Dev nD) : A2 m c
    = val_main_v15 (F := Ideal) (m ((c : Thread nD τ).loc main_arg6)) (m ((c : Thread nD τ).loc main_arg7)) (m ((c : Thread nD τ).loc main_arg8)) (m ((c : Thread nD τ).loc main_arg9)) (m ((c : Thread nD τ).loc main_arg10)) := by
  simp only [A2, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the second moments out as the reference does. -/
theorem pack_3 (m : (ℓ : Loc nD τ sig) → Buf (Elt Ideal) ℓ) (c : Dev nD) : A3 m c
    = val_main_v23 (F := Ideal) (m ((c : Thread nD τ).loc main_arg11)) (m ((c : Thread nD τ).loc main_arg12)) (m ((c : Thread nD τ).loc main_arg13)) (m ((c : Thread nD τ).loc main_arg14)) (m ((c : Thread nD τ).loc main_arg15)) := by
  simp only [A3, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

theorem link_5 (m : (ℓ : Loc nD τ sig) → Buf (Elt Ideal) ℓ) (c : Dev nD) :
    val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) = (dats m 0 c).arrAt 5 Cert.Kernel22Ideal.cfg0.N := by
  rw [arr_5, pack_1, pack_2, pack_3]
  exact ref_5 _ _ _ _ _ _ _ _ _ _ _ _ _ _ _ _

theorem link_6 (m : (ℓ : Loc nD τ sig) → Buf (Elt Ideal) ℓ) (c : Dev nD) :
    val_main_v29 (F := Ideal) (m ((c : Thread nD τ).loc main_arg0)) (m ((c : Thread nD τ).loc main_arg6)) (m ((c : Thread nD τ).loc main_arg7)) (m ((c : Thread nD τ).loc main_arg8)) (m ((c : Thread nD τ).loc main_arg9)) (m ((c : Thread nD τ).loc main_arg10)) = (dats m 0 c).arrAt 6 Cert.Kernel22Ideal.cfg0.N := by
  rw [arr_6, pack_2]
  exact ref_6 _ _ _ _ _ _

theorem link_7 (m : (ℓ : Loc nD τ sig) → Buf (Elt Ideal) ℓ) (c : Dev nD) :
    val_main_v35 (F := Ideal) (m ((c : Thread nD τ).loc main_arg0)) (m ((c : Thread nD τ).loc main_arg11)) (m ((c : Thread nD τ).loc main_arg12)) (m ((c : Thread nD τ).loc main_arg13)) (m ((c : Thread nD τ).loc main_arg14)) (m ((c : Thread nD τ).loc main_arg15)) = (dats m 0 c).arrAt 7 Cert.Kernel22Ideal.cfg0.N := by
  rw [arr_7, pack_3]
  exact ref_7 _ _ _ _ _ _

theorem same_5 {x0 z0 : Vec Ideal Cert.Kernel22Ideal.S8x256x128 .f32} {x1 z1 : Vec Ideal Cert.Kernel22Ideal.S16x128 .f32} {x2 z2 : Vec Ideal Cert.Kernel22Ideal.S4x256 .f32} {x3 z3 : Vec Ideal Cert.Kernel22Ideal.S3x704 .f32} {x4 z4 : Vec Ideal Cert.Kernel22Ideal.S4x128 .f32} {x5 z5 : Vec Ideal Cert.Kernel22Ideal.S3x704 .f32} {x6 z6 : Vec Ideal Cert.Kernel22Ideal.S16x128 .f32} {x7 z7 : Vec Ideal Cert.Kernel22Ideal.S4x256 .f32} {x8 z8 : Vec Ideal Cert.Kernel22Ideal.S3x704 .f32} {x9 z9 : Vec Ideal Cert.Kernel22Ideal.S4x128 .f32} {x10 z10 : Vec Ideal Cert.Kernel22Ideal.S3x704 .f32} {x11 z11 : Vec Ideal Cert.Kernel22Ideal.S16x128 .f32} {x12 z12 : Vec Ideal Cert.Kernel22Ideal.S4x256 .f32} {x13 z13 : Vec Ideal Cert.Kernel22Ideal.S3x704 .f32} {x14 z14 : Vec Ideal Cert.Kernel22Ideal.S4x128 .f32} {x15 z15 : Vec Ideal Cert.Kernel22Ideal.S3x704 .f32} (e0 : x0 = z0) (e1 : x1 = z1) (e2 : x2 = z2) (e3 : x3 = z3) (e4 : x4 = z4) (e5 : x5 = z5) (e6 : x6 = z6) (e7 : x7 = z7) (e8 : x8 = z8) (e9 : x9 = z9) (e10 : x10 = z10) (e11 : x11 = z11) (e12 : x12 = z12) (e13 : x13 = z13) (e14 : x14 = z14) (e15 : x15 = z15) :
    val_main_v48 (F := Ideal) x0 x1 x2 x3 x4 x5 x6 x7 x8 x9 x10 x11 x12 x13 x14 x15 = val_main_v48 (F := Ideal) z0 z1 z2 z3 z4 z5 z6 z7 z8 z9 z10 z11 z12 z13 z14 z15 := by
  subst e0; subst e1; subst e2; subst e3; subst e4; subst e5; subst e6; subst e7; subst e8; subst e9; subst e10; subst e11; subst e12; subst e13; subst e14; subst e15; rfl

theorem same_6 {x0 z0 : Vec Ideal Cert.Kernel22Ideal.S8x256x128 .f32} {x6 z6 : Vec Ideal Cert.Kernel22Ideal.S16x128 .f32} {x7 z7 : Vec Ideal Cert.Kernel22Ideal.S4x256 .f32} {x8 z8 : Vec Ideal Cert.Kernel22Ideal.S3x704 .f32} {x9 z9 : Vec Ideal Cert.Kernel22Ideal.S4x128 .f32} {x10 z10 : Vec Ideal Cert.Kernel22Ideal.S3x704 .f32} (e0 : x0 = z0) (e6 : x6 = z6) (e7 : x7 = z7) (e8 : x8 = z8) (e9 : x9 = z9) (e10 : x10 = z10) :
    val_main_v29 (F := Ideal) x0 x6 x7 x8 x9 x10 = val_main_v29 (F := Ideal) z0 z6 z7 z8 z9 z10 := by
  subst e0; subst e6; subst e7; subst e8; subst e9; subst e10; rfl

theorem same_7 {x0 z0 : Vec Ideal Cert.Kernel22Ideal.S8x256x128 .f32} {x11 z11 : Vec Ideal Cert.Kernel22Ideal.S16x128 .f32} {x12 z12 : Vec Ideal Cert.Kernel22Ideal.S4x256 .f32} {x13 z13 : Vec Ideal Cert.Kernel22Ideal.S3x704 .f32} {x14 z14 : Vec Ideal Cert.Kernel22Ideal.S4x128 .f32} {x15 z15 : Vec Ideal Cert.Kernel22Ideal.S3x704 .f32} (e0 : x0 = z0) (e11 : x11 = z11) (e12 : x12 = z12) (e13 : x13 = z13) (e14 : x14 = z14) (e15 : x15 = z15) :
    val_main_v35 (F := Ideal) x0 x11 x12 x13 x14 x15 = val_main_v35 (F := Ideal) z0 z11 z12 z13 z14 z15 := by
  subst e0; subst e11; subst e12; subst e13; subst e14; subst e15; rfl

set_option maxHeartbeats 4000000 in
/-- Both runs end with the same four arrays. -/
theorem value : Cert.algebraic_Kernel22Ideal_Reference22Ideal (hKernel22Ideal := Cert.Kernel22Ideal.Gen.facts)
    (hReference22Ideal := Cert.Reference22Ideal.Gen.facts) := fun m g m' g' _ hm =>
  ⟨fun c => (dats m 0 c).arrAt 4 Cert.Kernel22Ideal.cfg0.N, fun c => (dats m 0 c).arrAt 5 Cert.Kernel22Ideal.cfg0.N,
    fun c => (dats m 0 c).arrAt 6 Cert.Kernel22Ideal.cfg0.N, fun c => (dats m 0 c).arrAt 7 Cert.Kernel22Ideal.cfg0.N,
    Cert.Kernel22Ideal.Value.run_blocks (F := Ideal) m g,
    (θ_run Cert.Reference22Ideal.defs _ _).mono (fun _ h c => by
      obtain ⟨h0, h1, h2, h3, ha⟩ := h c
      obtain ⟨e0, e1, e2, e3, e4, e5, e6, e7, e8, e9, e10, e11, e12, e13, e14, e15⟩ := hm c
      refine ⟨h0.trans ((val_main_v24_eq _).trans (Eq.trans ?_ ((ref_4 (A0 m c)).trans (arr_4 m c).symm))),
        h1.trans ((val_main_v48_eq _ _).trans (Eq.trans ?_ (link_5 m c))),
        h2.trans ((val_main_v29_eq _ _ _ _ _ _).trans (Eq.trans ?_ (link_6 m c))),
        h3.trans ((val_main_v35_eq _ _ _ _ _ _).trans (Eq.trans ?_ (link_7 m c))), ha⟩
      · exact congrArg val_main_v24 e0
      · exact same_5 e0 e1 e2 e3 e4 e5 e6 e7 e8 e9 e10 e11 e12 e13 e14 e15
      · exact same_6 e0 e6 e7 e8 e9 e10
      · exact same_7 e0 e11 e12 e13 e14 e15)
      (Cert.Reference22Ideal.Value.run (F := Ideal) m' g')⟩

end Reference

/-- The frames: the kernel at the words and at the extended reals, and the reference. -/
theorem frame : Cert.quiescent_Kernel22 (hKernel22 := Cert.Kernel22.Gen.facts) := fun m ρ _ =>
  Cert.Kernel22.Gen.frame (F := Bits) m ρ

theorem frame_ideal : Cert.quiescent_Kernel22Ideal (hKernel22Ideal := Cert.Kernel22Ideal.Gen.facts) := fun m ρ _ =>
  Cert.Kernel22Ideal.Gen.frame (F := Ideal) m ρ

theorem frame_ref : Cert.quiescent_Reference22Ideal (hReference22Ideal := Cert.Reference22Ideal.Gen.facts) := fun m ρ _ =>
  (θ_run Cert.Reference22Ideal.defs _ _).mono
    (fun r h => ⟨fun c => (h c).2.2.2.2, sem_eq_zero_of_no_sems (by decide) r.2⟩) (Cert.Reference22Ideal.Value.run (F := Ideal) m ρ)

end Cert.Proof.Prod22

end
-- ==== Proof.Prod23.lean ====
/- The optimiser's step of several small weights, laid one after another into one array of 2304 x 128: the kernel's tiles are those of the gradient, the weight's change and the
   two new moments, and so are the reference's arrays. -/
module

public import proofs.«01_k».proof.Defs
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Adam
public import Idealize.ShloMosaic.Lib.Pipeline.ValueKit

@[expose] public section

set_option maxRecDepth 16384

noncomputable section

namespace Cert.Proof.Prod23

open Cert.Kernel23Ideal Cert.Kernel23Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The gradient's parts, and the arrays of the weights and of the two moments, laid out by the program. -/
abbrev A0 : Parts 2304 128 → EReal := m ((c : Thread nD τ).loc main_arg0)
abbrev A1 : Ix 2304 128 → EReal := V m c main_v4
abbrev A2 : Ix 2304 128 → EReal := V m c main_v9
abbrev A3 : Ix 2304 128 → EReal := V m c main_v14

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x128 .f32) (x1 x2 x3 : Vec Ideal S256x128 .f32) (y : Ix 256 128)

/-- The sum of the eight parts. -/
theorem pay5_at : k0_pay5 x0 x1 x2 x3 y = grad (R := 256) (C := 128) x0 y := by
  unfold k0_pay5
  refine (Cert.Kernel23Ideal.Value.piece4_0 _ _ _ _ _ _ _ _ y).trans ?_
  refine Eq.trans ?_ (grad_eight (R := 256) (C := 128) x0 y (fun k => x0 (part (R := 256) (C := 128) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 128) rfl ?_ ?_)
    · show 0 + 1 * (0 + 1 * (y 0).val) = (y 0).val
      omega
    · show 0 + 1 * (0 + 1 * (y 1).val) = (y 1).val
      omega

/-- The new first moment. -/
theorem pay6_at : k0_pay6 x0 x1 x2 x3 y = momA (R := 256) (C := 128) x0 x2 y := by
  unfold k0_pay6 k0_pay4
  rw [show View.ld x2 r0_8 = x2 from View.ld_unit_lit' _ x2 (by decide)]
  rw [shapeCast_self]
  exact congrArg (mom (x2 y)) (pay5_at x0 x1 x2 x3 y)

theorem out4_at : out0_4 x0 x1 x2 x3 y = grad (R := 256) (C := 128) x0 y := by
  frame_out
  exact pay5_at x0 x1 x2 x3 y

theorem out6_at : out0_6 x0 x1 x2 x3 y = momA (R := 256) (C := 128) x0 x2 y := by
  frame_out
  exact pay6_at x0 x1 x2 x3 y

theorem out7_at : out0_7 x0 x1 x2 x3 y = sqmA (R := 256) (C := 128) x0 x3 y := by
  frame_out
  unfold k0_pay1
  rw [shapeCast_self]
  exact congrArg (sqm (x3 y)) (pay5_at x0 x1 x2 x3 y)

theorem out5_at : out0_5 x0 x1 x2 x3 y = deltaA (R := 256) (C := 128) x0 x1 x2 x3 y := by
  frame_out
  unfold k0_pay2 k0_pay1
  dsimp only
  rw [shapeCast_self, shapeCast_self]
  exact congrArg₂ (fun p g => delta p (sqm (x3 y) g) (x1 y)) (pay6_at x0 x1 x2 x3 y) (pay5_at x0 x1 x2 x3 y)

end Tile

/-! ### The kernel's arrays -/

section Point

variable (t : Fin cfg0.N) (y : Ix 256 128) (i : Ix 2304 128) (h0 : (i 0).val = t.val * 256 + (y 0).val)
  (h1 : (i 1).val = 0 + (y 1).val)

include h0 h1

theorem g_at : grad (R := 256) (C := 128) (iblk m c 0 t) y = grad (A0 m c) i := grad_slab (slab_0 m c t) y i h0 h1

theorem mom_at : momA (R := 256) (C := 128) (iblk m c 0 t) (iblk m c 2 t) y = momA (A0 m c) (A2 m c) i :=
  congrArg₂ mom ((tile_2 m c t).at y i h0 h1) (g_at m c t y i h0 h1)

theorem sqm_at : sqmA (R := 256) (C := 128) (iblk m c 0 t) (iblk m c 3 t) y = sqmA (A0 m c) (A3 m c) i :=
  congrArg₂ sqm ((tile_3 m c t).at y i h0 h1) (g_at m c t y i h0 h1)

theorem delta_at : deltaA (R := 256) (C := 128) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference23Ideal.Read

theorem ref_4 (x0 : Parts 2304 128 → EReal) : val_main_v15 (F := Ideal) x0 = grad x0 := by
  funext i
  rw [val_main_v15_apply]
  refine (congrArg₂ (· + ·) Ideal.ofBits_zero_f32 (Finset.sum_congr rfl fun k _ => ?_)).trans (zero_add _)
  exact congrArg x0 (at3 (R := 2304) (C := 128) rfl rfl rfl)

theorem ref_6 (x0 : Parts 2304 128 → EReal) (x10 : Vec Ideal Cert.Kernel23Ideal.S1024 .f32) (x11 : Vec Ideal Cert.Kernel23Ideal.S1024 .f32) (x12 : Vec Ideal Cert.Kernel23Ideal.S5632 .f32) (x13 : Vec Ideal Cert.Kernel23Ideal.S1024 .f32) (x14 : Vec Ideal Cert.Kernel23Ideal.S8x128x128 .f32) (x15 : Vec Ideal Cert.Kernel23Ideal.S1024 .f32) (x16 : Vec Ideal Cert.Kernel23Ideal.S8x128x128 .f32) (x17 : Vec Ideal Cert.Kernel23Ideal.S1024 .f32) (x18 : Vec Ideal Cert.Kernel23Ideal.S1024 .f32) :
    val_main_v20 (F := Ideal) x0 x10 x11 x12 x13 x14 x15 x16 x17 x18 = momA x0 (val_main_v9 (F := Ideal) x10 x11 x12 x13 x14 x15 x16 x17 x18) := by
  funext i
  rw [val_main_v20_apply, val_main_v17_apply, val_main_v19_apply, val_main_v16_apply, val_main_v18_apply, ref_4]
  rfl

theorem ref_7 (x0 : Parts 2304 128 → EReal) (x19 : Vec Ideal Cert.Kernel23Ideal.S1024 .f32) (x20 : Vec Ideal Cert.Kernel23Ideal.S1024 .f32) (x21 : Vec Ideal Cert.Kernel23Ideal.S5632 .f32) (x22 : Vec Ideal Cert.Kernel23Ideal.S1024 .f32) (x23 : Vec Ideal Cert.Kernel23Ideal.S8x128x128 .f32) (x24 : Vec Ideal Cert.Kernel23Ideal.S1024 .f32) (x25 : Vec Ideal Cert.Kernel23Ideal.S8x128x128 .f32) (x26 : Vec Ideal Cert.Kernel23Ideal.S1024 .f32) (x27 : Vec Ideal Cert.Kernel23Ideal.S1024 .f32) :
    val_main_v26 (F := Ideal) x0 x19 x20 x21 x22 x23 x24 x25 x26 x27 = sqmA x0 (val_main_v14 (F := Ideal) x19 x20 x21 x22 x23 x24 x25 x26 x27) := by
  funext i
  rw [val_main_v26_apply, val_main_v22_apply, val_main_v25_apply, val_main_v23_apply, val_main_v21_apply, val_main_v24_apply, ref_4]
  rfl

theorem ref_5 (x0 : Parts 2304 128 → EReal) (x1 : Vec Ideal Cert.Kernel23Ideal.S1024 .f32) (x2 : Vec Ideal Cert.Kernel23Ideal.S1024 .f32) (x3 : Vec Ideal Cert.Kernel23Ideal.S5632 .f32) (x4 : Vec Ideal Cert.Kernel23Ideal.S1024 .f32) (x5 : Vec Ideal Cert.Kernel23Ideal.S8x128x128 .f32) (x6 : Vec Ideal Cert.Kernel23Ideal.S1024 .f32) (x7 : Vec Ideal Cert.Kernel23Ideal.S8x128x128 .f32) (x8 : Vec Ideal Cert.Kernel23Ideal.S1024 .f32) (x9 : Vec Ideal Cert.Kernel23Ideal.S1024 .f32)
    (x10 : Vec Ideal Cert.Kernel23Ideal.S1024 .f32) (x11 : Vec Ideal Cert.Kernel23Ideal.S1024 .f32) (x12 : Vec Ideal Cert.Kernel23Ideal.S5632 .f32) (x13 : Vec Ideal Cert.Kernel23Ideal.S1024 .f32) (x14 : Vec Ideal Cert.Kernel23Ideal.S8x128x128 .f32) (x15 : Vec Ideal Cert.Kernel23Ideal.S1024 .f32) (x16 : Vec Ideal Cert.Kernel23Ideal.S8x128x128 .f32) (x17 : Vec Ideal Cert.Kernel23Ideal.S1024 .f32) (x18 : Vec Ideal Cert.Kernel23Ideal.S1024 .f32)
    (x19 : Vec Ideal Cert.Kernel23Ideal.S1024 .f32) (x20 : Vec Ideal Cert.Kernel23Ideal.S1024 .f32) (x21 : Vec Ideal Cert.Kernel23Ideal.S5632 .f32) (x22 : Vec Ideal Cert.Kernel23Ideal.S1024 .f32) (x23 : Vec Ideal Cert.Kernel23Ideal.S8x128x128 .f32) (x24 : Vec Ideal Cert.Kernel23Ideal.S1024 .f32) (x25 : Vec Ideal Cert.Kernel23Ideal.S8x128x128 .f32) (x26 : Vec Ideal Cert.Kernel23Ideal.S1024 .f32) (x27 : Vec Ideal Cert.Kernel23Ideal.S1024 .f32) :
    val_main_v39 (F := Ideal) x0 x1 x2 x3 x4 x5 x6 x7 x8 x9 x10 x11 x12 x13 x14 x15 x16 x17 x18 x19 x20 x21 x22 x23 x24 x25 x26 x27
      = deltaA x0 (val_main_v4 (F := Ideal) x1 x2 x3 x4 x5 x6 x7 x8 x9) (val_main_v9 (F := Ideal) x10 x11 x12 x13 x14 x15 x16 x17 x18)
        (val_main_v14 (F := Ideal) x19 x20 x21 x22 x23 x24 x25 x26 x27) := by
  funext i
  rw [val_main_v39_apply, val_main_v38_apply, val_main_v37_apply, val_main_v36_apply, val_main_v35_apply, val_main_v34_apply,
    val_main_v33_apply, val_main_v32_apply, val_main_v31_apply, val_main_v30_apply, val_main_v29_apply, val_main_v28_apply,
    val_main_v27_apply, ref_6, ref_7]
  rfl

/-- The program lays the weights out as the reference does. -/
theorem pack_1 (m : (ℓ : Loc nD τ sig) → Buf (Elt Ideal) ℓ) (c : Dev nD) : A1 m c
    = val_main_v4 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  simp only [A1, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the first moments out as the reference does. -/
theorem pack_2 (m : (ℓ : Loc nD τ sig) → Buf (Elt Ideal) ℓ) (c : Dev nD) : A2 m c
    = val_main_v9 (F := Ideal) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  simp only [A2, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the second moments out as the reference does. -/
theorem pack_3 (m : (ℓ : Loc nD τ sig) → Buf (Elt Ideal) ℓ) (c : Dev nD) : A3 m c
    = val_main_v14 (F := Ideal) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  simp only [A3, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

theorem link_5 (m : (ℓ : Loc nD τ sig) → Buf (Elt Ideal) ℓ) (c : Dev nD) :
    val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = (dats m 0 c).arrAt 5 Cert.Kernel23Ideal.cfg0.N := by
  rw [arr_5, pack_1, pack_2, pack_3]
  exact ref_5 _ _ _ _ _ _ _ _ _ _ _ _ _ _ _ _ _ _ _ _ _ _ _ _ _ _ _ _

theorem link_6 (m : (ℓ : Loc nD τ sig) → Buf (Elt Ideal) ℓ) (c : Dev nD) :
    val_main_v20 (F := Ideal) (m ((c : Thread nD τ).loc main_arg0)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) = (dats m 0 c).arrAt 6 Cert.Kernel23Ideal.cfg0.N := by
  rw [arr_6, pack_2]
  exact ref_6 _ _ _ _ _ _ _ _ _ _

theorem link_7 (m : (ℓ : Loc nD τ sig) → Buf (Elt Ideal) ℓ) (c : Dev nD) :
    val_main_v26 (F := Ideal) (m ((c : Thread nD τ).loc main_arg0)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) = (dats m 0 c).arrAt 7 Cert.Kernel23Ideal.cfg0.N := by
  rw [arr_7, pack_3]
  exact ref_7 _ _ _ _ _ _ _ _ _ _

theorem same_5 {x0 z0 : Vec Ideal Cert.Kernel23Ideal.S8x2304x128 .f32} {x1 z1 : Vec Ideal Cert.Kernel23Ideal.S1024 .f32} {x2 z2 : Vec Ideal Cert.Kernel23Ideal.S1024 .f32} {x3 z3 : Vec Ideal Cert.Kernel23Ideal.S5632 .f32} {x4 z4 : Vec Ideal Cert.Kernel23Ideal.S1024 .f32} {x5 z5 : Vec Ideal Cert.Kernel23Ideal.S8x128x128 .f32} {x6 z6 : Vec Ideal Cert.Kernel23Ideal.S1024 .f32} {x7 z7 : Vec Ideal Cert.Kernel23Ideal.S8x128x128 .f32} {x8 z8 : Vec Ideal Cert.Kernel23Ideal.S1024 .f32} {x9 z9 : Vec Ideal Cert.Kernel23Ideal.S1024 .f32} {x10 z10 : Vec Ideal Cert.Kernel23Ideal.S1024 .f32} {x11 z11 : Vec Ideal Cert.Kernel23Ideal.S1024 .f32} {x12 z12 : Vec Ideal Cert.Kernel23Ideal.S5632 .f32} {x13 z13 : Vec Ideal Cert.Kernel23Ideal.S1024 .f32} {x14 z14 : Vec Ideal Cert.Kernel23Ideal.S8x128x128 .f32} {x15 z15 : Vec Ideal Cert.Kernel23Ideal.S1024 .f32} {x16 z16 : Vec Ideal Cert.Kernel23Ideal.S8x128x128 .f32} {x17 z17 : Vec Ideal Cert.Kernel23Ideal.S1024 .f32} {x18 z18 : Vec Ideal Cert.Kernel23Ideal.S1024 .f32} {x19 z19 : Vec Ideal Cert.Kernel23Ideal.S1024 .f32} {x20 z20 : Vec Ideal Cert.Kernel23Ideal.S1024 .f32} {x21 z21 : Vec Ideal Cert.Kernel23Ideal.S5632 .f32} {x22 z22 : Vec Ideal Cert.Kernel23Ideal.S1024 .f32} {x23 z23 : Vec Ideal Cert.Kernel23Ideal.S8x128x128 .f32} {x24 z24 : Vec Ideal Cert.Kernel23Ideal.S1024 .f32} {x25 z25 : Vec Ideal Cert.Kernel23Ideal.S8x128x128 .f32} {x26 z26 : Vec Ideal Cert.Kernel23Ideal.S1024 .f32} {x27 z27 : Vec Ideal Cert.Kernel23Ideal.S1024 .f32} (e0 : x0 = z0) (e1 : x1 = z1) (e2 : x2 = z2) (e3 : x3 = z3) (e4 : x4 = z4) (e5 : x5 = z5) (e6 : x6 = z6) (e7 : x7 = z7) (e8 : x8 = z8) (e9 : x9 = z9) (e10 : x10 = z10) (e11 : x11 = z11) (e12 : x12 = z12) (e13 : x13 = z13) (e14 : x14 = z14) (e15 : x15 = z15) (e16 : x16 = z16) (e17 : x17 = z17) (e18 : x18 = z18) (e19 : x19 = z19) (e20 : x20 = z20) (e21 : x21 = z21) (e22 : x22 = z22) (e23 : x23 = z23) (e24 : x24 = z24) (e25 : x25 = z25) (e26 : x26 = z26) (e27 : x27 = z27) :
    val_main_v39 (F := Ideal) x0 x1 x2 x3 x4 x5 x6 x7 x8 x9 x10 x11 x12 x13 x14 x15 x16 x17 x18 x19 x20 x21 x22 x23 x24 x25 x26 x27 = val_main_v39 (F := Ideal) z0 z1 z2 z3 z4 z5 z6 z7 z8 z9 z10 z11 z12 z13 z14 z15 z16 z17 z18 z19 z20 z21 z22 z23 z24 z25 z26 z27 := by
  subst e0; subst e1; subst e2; subst e3; subst e4; subst e5; subst e6; subst e7; subst e8; subst e9; subst e10; subst e11; subst e12; subst e13; subst e14; subst e15; subst e16; subst e17; subst e18; subst e19; subst e20; subst e21; subst e22; subst e23; subst e24; subst e25; subst e26; subst e27; rfl

theorem same_6 {x0 z0 : Vec Ideal Cert.Kernel23Ideal.S8x2304x128 .f32} {x10 z10 : Vec Ideal Cert.Kernel23Ideal.S1024 .f32} {x11 z11 : Vec Ideal Cert.Kernel23Ideal.S1024 .f32} {x12 z12 : Vec Ideal Cert.Kernel23Ideal.S5632 .f32} {x13 z13 : Vec Ideal Cert.Kernel23Ideal.S1024 .f32} {x14 z14 : Vec Ideal Cert.Kernel23Ideal.S8x128x128 .f32} {x15 z15 : Vec Ideal Cert.Kernel23Ideal.S1024 .f32} {x16 z16 : Vec Ideal Cert.Kernel23Ideal.S8x128x128 .f32} {x17 z17 : Vec Ideal Cert.Kernel23Ideal.S1024 .f32} {x18 z18 : Vec Ideal Cert.Kernel23Ideal.S1024 .f32} (e0 : x0 = z0) (e10 : x10 = z10) (e11 : x11 = z11) (e12 : x12 = z12) (e13 : x13 = z13) (e14 : x14 = z14) (e15 : x15 = z15) (e16 : x16 = z16) (e17 : x17 = z17) (e18 : x18 = z18) :
    val_main_v20 (F := Ideal) x0 x10 x11 x12 x13 x14 x15 x16 x17 x18 = val_main_v20 (F := Ideal) z0 z10 z11 z12 z13 z14 z15 z16 z17 z18 := by
  subst e0; subst e10; subst e11; subst e12; subst e13; subst e14; subst e15; subst e16; subst e17; subst e18; rfl

theorem same_7 {x0 z0 : Vec Ideal Cert.Kernel23Ideal.S8x2304x128 .f32} {x19 z19 : Vec Ideal Cert.Kernel23Ideal.S1024 .f32} {x20 z20 : Vec Ideal Cert.Kernel23Ideal.S1024 .f32} {x21 z21 : Vec Ideal Cert.Kernel23Ideal.S5632 .f32} {x22 z22 : Vec Ideal Cert.Kernel23Ideal.S1024 .f32} {x23 z23 : Vec Ideal Cert.Kernel23Ideal.S8x128x128 .f32} {x24 z24 : Vec Ideal Cert.Kernel23Ideal.S1024 .f32} {x25 z25 : Vec Ideal Cert.Kernel23Ideal.S8x128x128 .f32} {x26 z26 : Vec Ideal Cert.Kernel23Ideal.S1024 .f32} {x27 z27 : Vec Ideal Cert.Kernel23Ideal.S1024 .f32} (e0 : x0 = z0) (e19 : x19 = z19) (e20 : x20 = z20) (e21 : x21 = z21) (e22 : x22 = z22) (e23 : x23 = z23) (e24 : x24 = z24) (e25 : x25 = z25) (e26 : x26 = z26) (e27 : x27 = z27) :
    val_main_v26 (F := Ideal) x0 x19 x20 x21 x22 x23 x24 x25 x26 x27 = val_main_v26 (F := Ideal) z0 z19 z20 z21 z22 z23 z24 z25 z26 z27 := by
  subst e0; subst e19; subst e20; subst e21; subst e22; subst e23; subst e24; subst e25; subst e26; subst e27; rfl

set_option maxHeartbeats 4000000 in
/-- Both runs end with the same four arrays. -/
theorem value : Cert.algebraic_Kernel23Ideal_Reference23Ideal (hKernel23Ideal := Cert.Kernel23Ideal.Gen.facts)
    (hReference23Ideal := Cert.Reference23Ideal.Gen.facts) := fun m g m' g' _ hm =>
  ⟨fun c => (dats m 0 c).arrAt 4 Cert.Kernel23Ideal.cfg0.N, fun c => (dats m 0 c).arrAt 5 Cert.Kernel23Ideal.cfg0.N,
    fun c => (dats m 0 c).arrAt 6 Cert.Kernel23Ideal.cfg0.N, fun c => (dats m 0 c).arrAt 7 Cert.Kernel23Ideal.cfg0.N,
    Cert.Kernel23Ideal.Value.run_blocks (F := Ideal) m g,
    (θ_run Cert.Reference23Ideal.defs _ _).mono (fun _ h c => by
      obtain ⟨h0, h1, h2, h3, ha⟩ := h c
      obtain ⟨e0, e1, e2, e3, e4, e5, e6, e7, e8, e9, e10, e11, e12, e13, e14, e15, e16, e17, e18, e19, e20, e21, e22, e23, e24, e25, e26, e27⟩ := hm c
      refine ⟨h0.trans ((val_main_v15_eq _).trans (Eq.trans ?_ ((ref_4 (A0 m c)).trans (arr_4 m c).symm))),
        h1.trans ((val_main_v39_eq _ _).trans (Eq.trans ?_ (link_5 m c))),
        h2.trans ((val_main_v20_eq _ _ _ _ _ _ _ _ _ _).trans (Eq.trans ?_ (link_6 m c))),
        h3.trans ((val_main_v26_eq _ _ _ _ _ _ _ _ _ _).trans (Eq.trans ?_ (link_7 m c))), ha⟩
      · exact congrArg val_main_v15 e0
      · exact same_5 e0 e1 e2 e3 e4 e5 e6 e7 e8 e9 e10 e11 e12 e13 e14 e15 e16 e17 e18 e19 e20 e21 e22 e23 e24 e25 e26 e27
      · exact same_6 e0 e10 e11 e12 e13 e14 e15 e16 e17 e18
      · exact same_7 e0 e19 e20 e21 e22 e23 e24 e25 e26 e27)
      (Cert.Reference23Ideal.Value.run (F := Ideal) m' g')⟩

end Reference

/-- The frames: the kernel at the words and at the extended reals, and the reference. -/
theorem frame : Cert.quiescent_Kernel23 (hKernel23 := Cert.Kernel23.Gen.facts) := fun m ρ _ =>
  Cert.Kernel23.Gen.frame (F := Bits) m ρ

theorem frame_ideal : Cert.quiescent_Kernel23Ideal (hKernel23Ideal := Cert.Kernel23Ideal.Gen.facts) := fun m ρ _ =>
  Cert.Kernel23Ideal.Gen.frame (F := Ideal) m ρ

theorem frame_ref : Cert.quiescent_Reference23Ideal (hReference23Ideal := Cert.Reference23Ideal.Gen.facts) := fun m ρ _ =>
  (θ_run Cert.Reference23Ideal.defs _ _).mono
    (fun r h => ⟨fun c => (h c).2.2.2.2, sem_eq_zero_of_no_sems (by decide) r.2⟩) (Cert.Reference23Ideal.Value.run (F := Ideal) m ρ)

end Cert.Proof.Prod23

end
-- ==== Proof.Prod24.lean ====
/- The optimiser's step of several small weights, laid one after another into one array of 256 x 128: the kernel's tiles are those of the gradient, the weight's change and the
   two new moments, and so are the reference's arrays. -/
module

public import proofs.«01_k».proof.Defs
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Adam
public import Idealize.ShloMosaic.Lib.Pipeline.ValueKit

@[expose] public section

set_option maxRecDepth 16384

noncomputable section

namespace Cert.Proof.Prod24

open Cert.Kernel24Ideal Cert.Kernel24Ideal.Gen Cert.Proof.Mul Cert.Proof.Adam
open Idealize.ShloMosaic hiding ix1 ix2 ix3
open Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg) (c : Dev nD)

theorem ix_0 : ∀ t : Fin cfg0.N, win0_0.index t = ![0, t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

/-- The gradient's parts, and the arrays of the weights and of the two moments, laid out by the program. -/
abbrev A0 : Parts 256 128 → EReal := m ((c : Thread nD τ).loc main_arg0)
abbrev A1 : Ix 256 128 → EReal := V m c main_v2
abbrev A2 : Ix 256 128 → EReal := V m c main_v5
abbrev A3 : Ix 256 128 → EReal := V m c main_v8

theorem slab_0 (t : Fin cfg0.N) : Slab (A0 m c) (iblk m c 0 t) (t.val * 256) :=
  fun z => ⟨(win0_0.blk t).view.emb z, rfl, by blk_simp [ix_0], by blk_simp [ix_0], by blk_simp [ix_0]⟩

theorem tile_1 (t : Fin cfg0.N) : Tile (A1 m c) (iblk m c 1 t) (t.val * 256) 0 :=
  fun z => ⟨(win0_1.blk t).view.emb z, rfl, by blk_simp [ix_1], by blk_simp [ix_1]⟩

theorem tile_2 (t : Fin cfg0.N) : Tile (A2 m c) (iblk m c 2 t) (t.val * 256) 0 :=
  fun z => ⟨(win0_2.blk t).view.emb z, rfl, by blk_simp [ix_2], by blk_simp [ix_2]⟩

theorem tile_3 (t : Fin cfg0.N) : Tile (A3 m c) (iblk m c 3 t) (t.val * 256) 0 :=
  fun z => ⟨(win0_3.blk t).view.emb z, rfl, by blk_simp [ix_3], by blk_simp [ix_3]⟩

/-! ### One tile's values -/

section Tile

variable (x0 : Vec Ideal S8x256x128 .f32) (x1 x2 x3 : Vec Ideal S256x128 .f32) (y : Ix 256 128)

/-- The sum of the eight parts. -/
theorem pay5_at : k0_pay5 x0 x1 x2 x3 y = grad (R := 256) (C := 128) x0 y := by
  unfold k0_pay5
  refine (Cert.Kernel24Ideal.Value.piece4_0 _ _ _ _ _ _ _ _ y).trans ?_
  refine Eq.trans ?_ (grad_eight (R := 256) (C := 128) x0 y (fun k => x0 (part (R := 256) (C := 128) k y)) fun _ => rfl)
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine congrArg x0 (at3 (R := 256) (C := 128) rfl ?_ ?_)
    · show 0 + 1 * (0 + 1 * (y 0).val) = (y 0).val
      omega
    · show 0 + 1 * (0 + 1 * (y 1).val) = (y 1).val
      omega

/-- The new first moment. -/
theorem pay6_at : k0_pay6 x0 x1 x2 x3 y = momA (R := 256) (C := 128) x0 x2 y := by
  unfold k0_pay6 k0_pay4
  rw [show View.ld x2 r0_8 = x2 from View.ld_unit_lit' _ x2 (by decide)]
  rw [shapeCast_self]
  exact congrArg (mom (x2 y)) (pay5_at x0 x1 x2 x3 y)

theorem out4_at : out0_4 x0 x1 x2 x3 y = grad (R := 256) (C := 128) x0 y := by
  frame_out
  exact pay5_at x0 x1 x2 x3 y

theorem out6_at : out0_6 x0 x1 x2 x3 y = momA (R := 256) (C := 128) x0 x2 y := by
  frame_out
  exact pay6_at x0 x1 x2 x3 y

theorem out7_at : out0_7 x0 x1 x2 x3 y = sqmA (R := 256) (C := 128) x0 x3 y := by
  frame_out
  unfold k0_pay1
  rw [shapeCast_self]
  exact congrArg (sqm (x3 y)) (pay5_at x0 x1 x2 x3 y)

theorem out5_at : out0_5 x0 x1 x2 x3 y = deltaA (R := 256) (C := 128) x0 x1 x2 x3 y := by
  frame_out
  unfold k0_pay2 k0_pay1
  dsimp only
  rw [shapeCast_self, shapeCast_self]
  exact congrArg₂ (fun p g => delta p (sqm (x3 y) g) (x1 y)) (pay6_at x0 x1 x2 x3 y) (pay5_at x0 x1 x2 x3 y)

end Tile

/-! ### The kernel's arrays -/

section Point

variable (t : Fin cfg0.N) (y : Ix 256 128) (i : Ix 256 128) (h0 : (i 0).val = t.val * 256 + (y 0).val)
  (h1 : (i 1).val = 0 + (y 1).val)

include h0 h1

theorem g_at : grad (R := 256) (C := 128) (iblk m c 0 t) y = grad (A0 m c) i := grad_slab (slab_0 m c t) y i h0 h1

theorem mom_at : momA (R := 256) (C := 128) (iblk m c 0 t) (iblk m c 2 t) y = momA (A0 m c) (A2 m c) i :=
  congrArg₂ mom ((tile_2 m c t).at y i h0 h1) (g_at m c t y i h0 h1)

theorem sqm_at : sqmA (R := 256) (C := 128) (iblk m c 0 t) (iblk m c 3 t) y = sqmA (A0 m c) (A3 m c) i :=
  congrArg₂ sqm ((tile_3 m c t).at y i h0 h1) (g_at m c t y i h0 h1)

theorem delta_at : deltaA (R := 256) (C := 128) (iblk m c 0 t) (iblk m c 1 t) (iblk m c 2 t) (iblk m c 3 t) y
    = deltaA (A0 m c) (A1 m c) (A2 m c) (A3 m c) i := by
  unfold deltaA
  exact congr (congrArg₂ delta (mom_at m c t y i h0 h1) (sqm_at m c t y i h0 h1)) ((tile_1 m c t).at y i h0 h1)

end Point

theorem arr_4 : (dats m 0 c).arrAt 4 cfg0.N = grad (A0 m c) := by
  refine (dats m 0 c).arrAt_eq_of_covers 4 _ (by decide +kernel) fun t hf y => ?_
  blk_simp
  rw [after0_4]
  exact (out4_at _ _ _ _ y).trans (g_at m c t y _ (by blk_simp [ix_4]) (by blk_simp [ix_4]))

theorem arr_5 : (dats m 0 c).arrAt 5 cfg0.N = deltaA (A0 m c) (A1 m c) (A2 m c) (A3 m c) := by
  refine (dats m 0 c).arrAt_eq_of_covers 5 _ (by decide +kernel) fun t hf y => ?_
  blk_simp
  rw [after0_5]
  exact (out5_at _ _ _ _ y).trans (delta_at m c t y _ (by blk_simp [ix_5]) (by blk_simp [ix_5]))

theorem arr_6 : (dats m 0 c).arrAt 6 cfg0.N = momA (A0 m c) (A2 m c) := by
  refine (dats m 0 c).arrAt_eq_of_covers 6 _ (by decide +kernel) fun t hf y => ?_
  blk_simp
  rw [after0_6]
  exact (out6_at _ _ _ _ y).trans (mom_at m c t y _ (by blk_simp [ix_6]) (by blk_simp [ix_6]))

theorem arr_7 : (dats m 0 c).arrAt 7 cfg0.N = sqmA (A0 m c) (A3 m c) := by
  refine (dats m 0 c).arrAt_eq_of_covers 7 _ (by decide +kernel) fun t hf y => ?_
  blk_simp
  rw [after0_7]
  exact (out7_at _ _ _ _ y).trans (sqm_at m c t y _ (by blk_simp [ix_7]) (by blk_simp [ix_7]))

section Reference

open Cert.Reference24Ideal.Read

theorem ref_4 (x0 : Parts 256 128 → EReal) : val_main_v9 (F := Ideal) x0 = grad x0 := by
  funext i
  rw [val_main_v9_apply]
  refine (congrArg₂ (· + ·) Ideal.ofBits_zero_f32 (Finset.sum_congr rfl fun k _ => ?_)).trans (zero_add _)
  exact congrArg x0 (at3 (R := 256) (C := 128) rfl rfl rfl)

theorem ref_6 (x0 : Parts 256 128 → EReal) (x11 : Vec Ideal Cert.Kernel24Ideal.S1024 .f32) (x12 : Vec Ideal Cert.Kernel24Ideal.S2048 .f32) (x13 : Vec Ideal Cert.Kernel24Ideal.S16 .f32) (x14 : Vec Ideal Cert.Kernel24Ideal.S16 .f32) (x15 : Vec Ideal Cert.Kernel24Ideal.S16 .f32) (x16 : Vec Ideal Cert.Kernel24Ideal.S1024 .f32) (x17 : Vec Ideal Cert.Kernel24Ideal.S1024 .f32) (x18 : Vec Ideal Cert.Kernel24Ideal.S1024 .f32) (x19 : Vec Ideal Cert.Kernel24Ideal.S5632 .f32) (x20 : Vec Ideal Cert.Kernel24Ideal.S1024 .f32) :
    val_main_v14 (F := Ideal) x0 x11 x12 x13 x14 x15 x16 x17 x18 x19 x20 = momA x0 (val_main_v5 (F := Ideal) x11 x12 x13 x14 x15 x16 x17 x18 x19 x20) := by
  funext i
  rw [val_main_v14_apply, val_main_v11_apply, val_main_v13_apply, val_main_v10_apply, val_main_v12_apply, ref_4]
  rfl

theorem ref_7 (x0 : Parts 256 128 → EReal) (x21 : Vec Ideal Cert.Kernel24Ideal.S1024 .f32) (x22 : Vec Ideal Cert.Kernel24Ideal.S2048 .f32) (x23 : Vec Ideal Cert.Kernel24Ideal.S16 .f32) (x24 : Vec Ideal Cert.Kernel24Ideal.S16 .f32) (x25 : Vec Ideal Cert.Kernel24Ideal.S16 .f32) (x26 : Vec Ideal Cert.Kernel24Ideal.S1024 .f32) (x27 : Vec Ideal Cert.Kernel24Ideal.S1024 .f32) (x28 : Vec Ideal Cert.Kernel24Ideal.S1024 .f32) (x29 : Vec Ideal Cert.Kernel24Ideal.S5632 .f32) (x30 : Vec Ideal Cert.Kernel24Ideal.S1024 .f32) :
    val_main_v20 (F := Ideal) x0 x21 x22 x23 x24 x25 x26 x27 x28 x29 x30 = sqmA x0 (val_main_v8 (F := Ideal) x21 x22 x23 x24 x25 x26 x27 x28 x29 x30) := by
  funext i
  rw [val_main_v20_apply, val_main_v16_apply, val_main_v19_apply, val_main_v17_apply, val_main_v15_apply, val_main_v18_apply, ref_4]
  rfl

theorem ref_5 (x0 : Parts 256 128 → EReal) (x1 : Vec Ideal Cert.Kernel24Ideal.S1024 .f32) (x2 : Vec Ideal Cert.Kernel24Ideal.S2048 .f32) (x3 : Vec Ideal Cert.Kernel24Ideal.S16 .f32) (x4 : Vec Ideal Cert.Kernel24Ideal.S16 .f32) (x5 : Vec Ideal Cert.Kernel24Ideal.S16 .f32) (x6 : Vec Ideal Cert.Kernel24Ideal.S1024 .f32) (x7 : Vec Ideal Cert.Kernel24Ideal.S1024 .f32) (x8 : Vec Ideal Cert.Kernel24Ideal.S1024 .f32) (x9 : Vec Ideal Cert.Kernel24Ideal.S5632 .f32) (x10 : Vec Ideal Cert.Kernel24Ideal.S1024 .f32)
    (x11 : Vec Ideal Cert.Kernel24Ideal.S1024 .f32) (x12 : Vec Ideal Cert.Kernel24Ideal.S2048 .f32) (x13 : Vec Ideal Cert.Kernel24Ideal.S16 .f32) (x14 : Vec Ideal Cert.Kernel24Ideal.S16 .f32) (x15 : Vec Ideal Cert.Kernel24Ideal.S16 .f32) (x16 : Vec Ideal Cert.Kernel24Ideal.S1024 .f32) (x17 : Vec Ideal Cert.Kernel24Ideal.S1024 .f32) (x18 : Vec Ideal Cert.Kernel24Ideal.S1024 .f32) (x19 : Vec Ideal Cert.Kernel24Ideal.S5632 .f32) (x20 : Vec Ideal Cert.Kernel24Ideal.S1024 .f32)
    (x21 : Vec Ideal Cert.Kernel24Ideal.S1024 .f32) (x22 : Vec Ideal Cert.Kernel24Ideal.S2048 .f32) (x23 : Vec Ideal Cert.Kernel24Ideal.S16 .f32) (x24 : Vec Ideal Cert.Kernel24Ideal.S16 .f32) (x25 : Vec Ideal Cert.Kernel24Ideal.S16 .f32) (x26 : Vec Ideal Cert.Kernel24Ideal.S1024 .f32) (x27 : Vec Ideal Cert.Kernel24Ideal.S1024 .f32) (x28 : Vec Ideal Cert.Kernel24Ideal.S1024 .f32) (x29 : Vec Ideal Cert.Kernel24Ideal.S5632 .f32) (x30 : Vec Ideal Cert.Kernel24Ideal.S1024 .f32) :
    val_main_v33 (F := Ideal) x0 x1 x2 x3 x4 x5 x6 x7 x8 x9 x10 x11 x12 x13 x14 x15 x16 x17 x18 x19 x20 x21 x22 x23 x24 x25 x26 x27 x28 x29 x30
      = deltaA x0 (val_main_v2 (F := Ideal) x1 x2 x3 x4 x5 x6 x7 x8 x9 x10) (val_main_v5 (F := Ideal) x11 x12 x13 x14 x15 x16 x17 x18 x19 x20)
        (val_main_v8 (F := Ideal) x21 x22 x23 x24 x25 x26 x27 x28 x29 x30) := by
  funext i
  rw [val_main_v33_apply, val_main_v32_apply, val_main_v31_apply, val_main_v30_apply, val_main_v29_apply, val_main_v28_apply,
    val_main_v27_apply, val_main_v26_apply, val_main_v25_apply, val_main_v24_apply, val_main_v23_apply, val_main_v22_apply,
    val_main_v21_apply, ref_6, ref_7]
  rfl

/-- The program lays the weights out as the reference does. -/
theorem pack_1 (m : (ℓ : Loc nD τ sig) → Buf (Elt Ideal) ℓ) (c : Dev nD) : A1 m c
    = val_main_v2 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  simp only [A1, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the first moments out as the reference does. -/
theorem pack_2 (m : (ℓ : Loc nD τ sig) → Buf (Elt Ideal) ℓ) (c : Dev nD) : A2 m c
    = val_main_v5 (F := Ideal) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  simp only [A2, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

/-- The program lays the second moments out as the reference does. -/
theorem pack_3 (m : (ℓ : Loc nD τ sig) → Buf (Elt Ideal) ℓ) (c : Dev nD) : A3 m c
    = val_main_v8 (F := Ideal) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  simp only [A3, V, hostOps0, hostOps0_1, hostOps0_2, hostOps0_3, hostOps0_4, hostOps0_5, hostOps0_6, List.flatten_cons,
    List.flatten_nil, List.append_nil, List.cons_append, List.nil_append, StableHlo.TRef.binary, StableHlo.TRef.unary,
    StableHlo.TRef.toBuf, StableHlo.TRef.ofBuf, cast_eq]
  after_results_simp <;> (try dsimp only [Matrix.cons_val]) <;> (try after_results_simp) <;> rfl

theorem link_5 (m : (ℓ : Loc nD τ sig) → Buf (Elt Ideal) ℓ) (c : Dev nD) :
    val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = (dats m 0 c).arrAt 5 Cert.Kernel24Ideal.cfg0.N := by
  rw [arr_5, pack_1, pack_2, pack_3]
  exact ref_5 _ _ _ _ _ _ _ _ _ _ _ _ _ _ _ _ _ _ _ _ _ _ _ _ _ _ _ _ _ _ _

theorem link_6 (m : (ℓ : Loc nD τ sig) → Buf (Elt Ideal) ℓ) (c : Dev nD) :
    val_main_v14 (F := Ideal) (m ((c : Thread nD τ).loc main_arg0)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) = (dats m 0 c).arrAt 6 Cert.Kernel24Ideal.cfg0.N := by
  rw [arr_6, pack_2]
  exact ref_6 _ _ _ _ _ _ _ _ _ _ _

theorem link_7 (m : (ℓ : Loc nD τ sig) → Buf (Elt Ideal) ℓ) (c : Dev nD) :
    val_main_v20 (F := Ideal) (m ((c : Thread nD τ).loc main_arg0)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) = (dats m 0 c).arrAt 7 Cert.Kernel24Ideal.cfg0.N := by
  rw [arr_7, pack_3]
  exact ref_7 _ _ _ _ _ _ _ _ _ _ _

theorem same_5 {x0 z0 : Vec Ideal Cert.Kernel24Ideal.S8x256x128 .f32} {x1 z1 : Vec Ideal Cert.Kernel24Ideal.S1024 .f32} {x2 z2 : Vec Ideal Cert.Kernel24Ideal.S2048 .f32} {x3 z3 : Vec Ideal Cert.Kernel24Ideal.S16 .f32} {x4 z4 : Vec Ideal Cert.Kernel24Ideal.S16 .f32} {x5 z5 : Vec Ideal Cert.Kernel24Ideal.S16 .f32} {x6 z6 : Vec Ideal Cert.Kernel24Ideal.S1024 .f32} {x7 z7 : Vec Ideal Cert.Kernel24Ideal.S1024 .f32} {x8 z8 : Vec Ideal Cert.Kernel24Ideal.S1024 .f32} {x9 z9 : Vec Ideal Cert.Kernel24Ideal.S5632 .f32} {x10 z10 : Vec Ideal Cert.Kernel24Ideal.S1024 .f32} {x11 z11 : Vec Ideal Cert.Kernel24Ideal.S1024 .f32} {x12 z12 : Vec Ideal Cert.Kernel24Ideal.S2048 .f32} {x13 z13 : Vec Ideal Cert.Kernel24Ideal.S16 .f32} {x14 z14 : Vec Ideal Cert.Kernel24Ideal.S16 .f32} {x15 z15 : Vec Ideal Cert.Kernel24Ideal.S16 .f32} {x16 z16 : Vec Ideal Cert.Kernel24Ideal.S1024 .f32} {x17 z17 : Vec Ideal Cert.Kernel24Ideal.S1024 .f32} {x18 z18 : Vec Ideal Cert.Kernel24Ideal.S1024 .f32} {x19 z19 : Vec Ideal Cert.Kernel24Ideal.S5632 .f32} {x20 z20 : Vec Ideal Cert.Kernel24Ideal.S1024 .f32} {x21 z21 : Vec Ideal Cert.Kernel24Ideal.S1024 .f32} {x22 z22 : Vec Ideal Cert.Kernel24Ideal.S2048 .f32} {x23 z23 : Vec Ideal Cert.Kernel24Ideal.S16 .f32} {x24 z24 : Vec Ideal Cert.Kernel24Ideal.S16 .f32} {x25 z25 : Vec Ideal Cert.Kernel24Ideal.S16 .f32} {x26 z26 : Vec Ideal Cert.Kernel24Ideal.S1024 .f32} {x27 z27 : Vec Ideal Cert.Kernel24Ideal.S1024 .f32} {x28 z28 : Vec Ideal Cert.Kernel24Ideal.S1024 .f32} {x29 z29 : Vec Ideal Cert.Kernel24Ideal.S5632 .f32} {x30 z30 : Vec Ideal Cert.Kernel24Ideal.S1024 .f32} (e0 : x0 = z0) (e1 : x1 = z1) (e2 : x2 = z2) (e3 : x3 = z3) (e4 : x4 = z4) (e5 : x5 = z5) (e6 : x6 = z6) (e7 : x7 = z7) (e8 : x8 = z8) (e9 : x9 = z9) (e10 : x10 = z10) (e11 : x11 = z11) (e12 : x12 = z12) (e13 : x13 = z13) (e14 : x14 = z14) (e15 : x15 = z15) (e16 : x16 = z16) (e17 : x17 = z17) (e18 : x18 = z18) (e19 : x19 = z19) (e20 : x20 = z20) (e21 : x21 = z21) (e22 : x22 = z22) (e23 : x23 = z23) (e24 : x24 = z24) (e25 : x25 = z25) (e26 : x26 = z26) (e27 : x27 = z27) (e28 : x28 = z28) (e29 : x29 = z29) (e30 : x30 = z30) :
    val_main_v33 (F := Ideal) x0 x1 x2 x3 x4 x5 x6 x7 x8 x9 x10 x11 x12 x13 x14 x15 x16 x17 x18 x19 x20 x21 x22 x23 x24 x25 x26 x27 x28 x29 x30 = val_main_v33 (F := Ideal) z0 z1 z2 z3 z4 z5 z6 z7 z8 z9 z10 z11 z12 z13 z14 z15 z16 z17 z18 z19 z20 z21 z22 z23 z24 z25 z26 z27 z28 z29 z30 := by
  subst e0; subst e1; subst e2; subst e3; subst e4; subst e5; subst e6; subst e7; subst e8; subst e9; subst e10; subst e11; subst e12; subst e13; subst e14; subst e15; subst e16; subst e17; subst e18; subst e19; subst e20; subst e21; subst e22; subst e23; subst e24; subst e25; subst e26; subst e27; subst e28; subst e29; subst e30; rfl

theorem same_6 {x0 z0 : Vec Ideal Cert.Kernel24Ideal.S8x256x128 .f32} {x11 z11 : Vec Ideal Cert.Kernel24Ideal.S1024 .f32} {x12 z12 : Vec Ideal Cert.Kernel24Ideal.S2048 .f32} {x13 z13 : Vec Ideal Cert.Kernel24Ideal.S16 .f32} {x14 z14 : Vec Ideal Cert.Kernel24Ideal.S16 .f32} {x15 z15 : Vec Ideal Cert.Kernel24Ideal.S16 .f32} {x16 z16 : Vec Ideal Cert.Kernel24Ideal.S1024 .f32} {x17 z17 : Vec Ideal Cert.Kernel24Ideal.S1024 .f32} {x18 z18 : Vec Ideal Cert.Kernel24Ideal.S1024 .f32} {x19 z19 : Vec Ideal Cert.Kernel24Ideal.S5632 .f32} {x20 z20 : Vec Ideal Cert.Kernel24Ideal.S1024 .f32} (e0 : x0 = z0) (e11 : x11 = z11) (e12 : x12 = z12) (e13 : x13 = z13) (e14 : x14 = z14) (e15 : x15 = z15) (e16 : x16 = z16) (e17 : x17 = z17) (e18 : x18 = z18) (e19 : x19 = z19) (e20 : x20 = z20) :
    val_main_v14 (F := Ideal) x0 x11 x12 x13 x14 x15 x16 x17 x18 x19 x20 = val_main_v14 (F := Ideal) z0 z11 z12 z13 z14 z15 z16 z17 z18 z19 z20 := by
  subst e0; subst e11; subst e12; subst e13; subst e14; subst e15; subst e16; subst e17; subst e18; subst e19; subst e20; rfl

theorem same_7 {x0 z0 : Vec Ideal Cert.Kernel24Ideal.S8x256x128 .f32} {x21 z21 : Vec Ideal Cert.Kernel24Ideal.S1024 .f32} {x22 z22 : Vec Ideal Cert.Kernel24Ideal.S2048 .f32} {x23 z23 : Vec Ideal Cert.Kernel24Ideal.S16 .f32} {x24 z24 : Vec Ideal Cert.Kernel24Ideal.S16 .f32} {x25 z25 : Vec Ideal Cert.Kernel24Ideal.S16 .f32} {x26 z26 : Vec Ideal Cert.Kernel24Ideal.S1024 .f32} {x27 z27 : Vec Ideal Cert.Kernel24Ideal.S1024 .f32} {x28 z28 : Vec Ideal Cert.Kernel24Ideal.S1024 .f32} {x29 z29 : Vec Ideal Cert.Kernel24Ideal.S5632 .f32} {x30 z30 : Vec Ideal Cert.Kernel24Ideal.S1024 .f32} (e0 : x0 = z0) (e21 : x21 = z21) (e22 : x22 = z22) (e23 : x23 = z23) (e24 : x24 = z24) (e25 : x25 = z25) (e26 : x26 = z26) (e27 : x27 = z27) (e28 : x28 = z28) (e29 : x29 = z29) (e30 : x30 = z30) :
    val_main_v20 (F := Ideal) x0 x21 x22 x23 x24 x25 x26 x27 x28 x29 x30 = val_main_v20 (F := Ideal) z0 z21 z22 z23 z24 z25 z26 z27 z28 z29 z30 := by
  subst e0; subst e21; subst e22; subst e23; subst e24; subst e25; subst e26; subst e27; subst e28; subst e29; subst e30; rfl

set_option maxHeartbeats 4000000 in
/-- Both runs end with the same four arrays. -/
theorem value : Cert.algebraic_Kernel24Ideal_Reference24Ideal (hKernel24Ideal := Cert.Kernel24Ideal.Gen.facts)
    (hReference24Ideal := Cert.Reference24Ideal.Gen.facts) := fun m g m' g' _ hm =>
  ⟨fun c => (dats m 0 c).arrAt 4 Cert.Kernel24Ideal.cfg0.N, fun c => (dats m 0 c).arrAt 5 Cert.Kernel24Ideal.cfg0.N,
    fun c => (dats m 0 c).arrAt 6 Cert.Kernel24Ideal.cfg0.N, fun c => (dats m 0 c).arrAt 7 Cert.Kernel24Ideal.cfg0.N,
    Cert.Kernel24Ideal.Value.run_blocks (F := Ideal) m g,
    (θ_run Cert.Reference24Ideal.defs _ _).mono (fun _ h c => by
      obtain ⟨h0, h1, h2, h3, ha⟩ := h c
      obtain ⟨e0, e1, e2, e3, e4, e5, e6, e7, e8, e9, e10, e11, e12, e13, e14, e15, e16, e17, e18, e19, e20, e21, e22, e23, e24, e25, e26, e27, e28, e29, e30⟩ := hm c
      refine ⟨h0.trans ((val_main_v9_eq _).trans (Eq.trans ?_ ((ref_4 (A0 m c)).trans (arr_4 m c).symm))),
        h1.trans ((val_main_v33_eq _ _).trans (Eq.trans ?_ (link_5 m c))),
        h2.trans ((val_main_v14_eq _ _ _ _ _ _ _ _ _ _ _).trans (Eq.trans ?_ (link_6 m c))),
        h3.trans ((val_main_v20_eq _ _ _ _ _ _ _ _ _ _ _).trans (Eq.trans ?_ (link_7 m c))), ha⟩
      · exact congrArg val_main_v9 e0
      · exact same_5 e0 e1 e2 e3 e4 e5 e6 e7 e8 e9 e10 e11 e12 e13 e14 e15 e16 e17 e18 e19 e20 e21 e22 e23 e24 e25 e26 e27 e28 e29 e30
      · exact same_6 e0 e11 e12 e13 e14 e15 e16 e17 e18 e19 e20
      · exact same_7 e0 e21 e22 e23 e24 e25 e26 e27 e28 e29 e30)
      (Cert.Reference24Ideal.Value.run (F := Ideal) m' g')⟩

end Reference

/-- The frames: the kernel at the words and at the extended reals, and the reference. -/
theorem frame : Cert.quiescent_Kernel24 (hKernel24 := Cert.Kernel24.Gen.facts) := fun m ρ _ =>
  Cert.Kernel24.Gen.frame (F := Bits) m ρ

theorem frame_ideal : Cert.quiescent_Kernel24Ideal (hKernel24Ideal := Cert.Kernel24Ideal.Gen.facts) := fun m ρ _ =>
  Cert.Kernel24Ideal.Gen.frame (F := Ideal) m ρ

theorem frame_ref : Cert.quiescent_Reference24Ideal (hReference24Ideal := Cert.Reference24Ideal.Gen.facts) := fun m ρ _ =>
  (θ_run Cert.Reference24Ideal.defs _ _).mono
    (fun r h => ⟨fun c => (h c).2.2.2.2, sem_eq_zero_of_no_sems (by decide) r.2⟩) (Cert.Reference24Ideal.Value.run (F := Ideal) m ρ)

end Cert.Proof.Prod24

end
-- ==== Proof.lean ====
/- The certificate's claim, assembled: of each program the three frames, the idealization and the value. -/
module

public import proofs.«01_k».proof.Defs
public import proofs.«01_k».proof.Proof.Gen.Kernel
public import proofs.«01_k».proof.Proof.Gen.ReferenceIdeal.Run
public import proofs.«01_k».proof.Proof.Pass
public import proofs.«01_k».proof.Proof.Same
public import proofs.«01_k».proof.Proof.Value
public import proofs.«01_k».proof.Proof.Prod2
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import proofs.«01_k».proof.Proof.Prod15
public import proofs.«01_k».proof.Proof.Prod16
public import proofs.«01_k».proof.Proof.Prod17
public import proofs.«01_k».proof.Proof.Prod18
public import proofs.«01_k».proof.Proof.Prod19
public import proofs.«01_k».proof.Proof.Prod20
public import proofs.«01_k».proof.Proof.Prod21
public import proofs.«01_k».proof.Proof.Prod22
public import proofs.«01_k».proof.Proof.Prod23
public import proofs.«01_k».proof.Proof.Prod24
public import Idealize.ShloMosaic.Lib.Claim

@[expose] public section

set_option maxHeartbeats 4000000

noncomputable section

namespace Cert.Proof

open Idealize.ShloMosaic Idealize.ShloMosaic.TcCoe
open Idealize.SL Idealize.SL.Sem

/-- The run proved at any reading of the floats, read at the words: the program and its idealization have one text. -/
theorem frame_kernel : Cert.quiescent_Kernel (hKernel := Cert.Kernel.Gen.facts) := fun m ρ _ =>
  Eq.mpr (congrArg₂ (fun D M => θ_run D (onTc (τ := Cert.Kernel.τ) M) ⟨m, fun _ => 0, ρ⟩ _) (Ret.defs_same (F := Bits))
    (Ret.main_same (F := Bits))) (Ret.frame_main (F := Bits) m ρ)

/-- The same run at the extended reals. -/
theorem frame_ideal : Cert.quiescent_KernelIdeal (hKernelIdeal := Cert.KernelIdeal.Gen.facts) := fun m ρ _ =>
  Ret.frame_main (F := Ideal) m ρ

/-- The reference runs, keeps its arguments and declares no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- What the certificate states. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    frame_kernel, frame_ideal, frame_reference,
    Prod2.frame, Prod2.frame_ideal, Prod2.frame_ref,
    Prod3.frame, Prod3.frame_ideal, Prod3.frame_ref,
    Prod4.frame, Prod4.frame_ideal, Prod4.frame_ref,
    Prod5.frame, Prod5.frame_ideal, Prod5.frame_ref,
    Prod6.frame, Prod6.frame_ideal, Prod6.frame_ref,
    Prod7.frame, Prod7.frame_ideal, Prod7.frame_ref,
    Prod8.frame, Prod8.frame_ideal, Prod8.frame_ref,
    Prod9.frame, Prod9.frame_ideal, Prod9.frame_ref,
    Prod10.frame, Prod10.frame_ideal, Prod10.frame_ref,
    Prod11.frame, Prod11.frame_ideal, Prod11.frame_ref,
    Prod12.frame, Prod12.frame_ideal, Prod12.frame_ref,
    Prod13.frame, Prod13.frame_ideal, Prod13.frame_ref,
    Prod14.frame, Prod14.frame_ideal, Prod14.frame_ref,
    Prod15.frame, Prod15.frame_ideal, Prod15.frame_ref,
    Prod16.frame, Prod16.frame_ideal, Prod16.frame_ref,
    Prod17.frame, Prod17.frame_ideal, Prod17.frame_ref,
    Prod18.frame, Prod18.frame_ideal, Prod18.frame_ref,
    Prod19.frame, Prod19.frame_ideal, Prod19.frame_ref,
    Prod20.frame, Prod20.frame_ideal, Prod20.frame_ref,
    Prod21.frame, Prod21.frame_ideal, Prod21.frame_ref,
    Prod22.frame, Prod22.frame_ideal, Prod22.frame_ref,
    Prod23.frame, Prod23.frame_ideal, Prod23.frame_ref,
    Prod24.frame, Prod24.frame_ideal, Prod24.frame_ref,
    trivial, Ret.value,
    trivial, Prod2.value,
    trivial, Prod3.value,
    trivial, Prod4.value,
    trivial, Prod5.value,
    trivial, Prod6.value,
    trivial, Prod7.value,
    trivial, Prod8.value,
    trivial, Prod9.value,
    trivial, Prod10.value,
    trivial, Prod11.value,
    trivial, Prod12.value,
    trivial, Prod13.value,
    trivial, Prod14.value,
    trivial, Prod15.value,
    trivial, Prod16.value,
    trivial, Prod17.value,
    trivial, Prod18.value,
    trivial, Prod19.value,
    trivial, Prod20.value,
    trivial, Prod21.value,
    trivial, Prod22.value,
    trivial, Prod23.value,
    trivial, Prod24.value⟩

end Cert.Proof

end
